-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24)
      ∧ r.2.mem ((c.tc : Thread Cert.Kernel15.nD Cert.Kernel15.τ).loc Cert.Kernel15.main_arg25) = m ((c.tc : Thread Cert.Kernel15.nD Cert.Kernel15.τ).loc Cert.Kernel15.main_arg25)
      ∧ r.2.mem ((c.tc : Thread Cert.Kernel15.nD Cert.Kernel15.τ).loc Cert.Kernel15.main_arg26) = m ((c.tc : Thread Cert.Kernel15.nD Cert.Kernel15.τ).loc Cert.Kernel15.main_arg26)
      ∧ r.2.mem ((c.tc : Thread Cert.Kernel15.nD Cert.Kernel15.τ).loc Cert.Kernel15.main_arg27) = m ((c.tc : Thread Cert.Kernel15.nD Cert.Kernel15.τ).loc Cert.Kernel15.main_arg27)
      ∧ r.2.mem ((c.tc : Thread Cert.Kernel15.nD Cert.Kernel15.τ).loc Cert.Kernel15.main_arg28) = m ((c.tc : Thread Cert.Kernel15.nD Cert.Kernel15.τ).loc Cert.Kernel15.main_arg28)
      ∧ r.2.mem ((c.tc : Thread Cert.Kernel15.nD Cert.Kernel15.τ).loc Cert.Kernel15.main_arg29) = m ((c.tc : Thread Cert.Kernel15.nD Cert.Kernel15.τ).loc Cert.Kernel15.main_arg29)
      ∧ r.2.mem ((c.tc : Thread Cert.Kernel15.nD Cert.Kernel15.τ).loc Cert.Kernel15.main_arg30) = m ((c.tc : Thread Cert.Kernel15.nD Cert.Kernel15.τ).loc Cert.Kernel15.main_arg30)
      ∧ r.2.mem ((c.tc : Thread Cert.Kernel15.nD Cert.Kernel15.τ).loc Cert.Kernel15.main_arg31) = m ((c.tc : Thread Cert.Kernel15.nD Cert.Kernel15.τ).loc Cert.Kernel15.main_arg31)
      ∧ r.2.mem ((c.tc : Thread Cert.Kernel15.nD Cert.Kernel15.τ).loc Cert.Kernel15.main_arg32) = m ((c.tc : Thread Cert.Kernel15.nD Cert.Kernel15.τ).loc Cert.Kernel15.main_arg32)
      ∧ r.2.mem ((c.tc : Thread Cert.Kernel15.nD Cert.Kernel15.τ).loc Cert.Kernel15.main_arg33) = m ((c.tc : Thread Cert.Kernel15.nD Cert.Kernel15.τ).loc Cert.Kernel15.main_arg33)
      ∧ r.2.mem ((c.tc : Thread Cert.Kernel15.nD Cert.Kernel15.τ).loc Cert.Kernel15.main_arg34) = m ((c.tc : Thread Cert.Kernel15.nD Cert.Kernel15.τ).loc Cert.Kernel15.main_arg34)
      ∧ r.2.mem ((c.tc : Thread Cert.Kernel15.nD Cert.Kernel15.τ).loc Cert.Kernel15.main_arg35) = m ((c.tc : Thread Cert.Kernel15.nD Cert.Kernel15.τ).loc Cert.Kernel15.main_arg35))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
      ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
      ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
      ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
      ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
      ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
      ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
      ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
      ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
      ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
      ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
      ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24)
      ∧ r.2.mem ((c.tc : Thread Cert.Reference15Ideal.nD Cert.Reference15Ideal.τ).loc Cert.Reference15Ideal.main_arg25) = m ((c.tc : Thread Cert.Reference15Ideal.nD Cert.Reference15Ideal.τ).loc Cert.Reference15Ideal.main_arg25)
      ∧ r.2.mem ((c.tc : Thread Cert.Reference15Ideal.nD Cert.Reference15Ideal.τ).loc Cert.Reference15Ideal.main_arg26) = m ((c.tc : Thread Cert.Reference15Ideal.nD Cert.Reference15Ideal.τ).loc Cert.Reference15Ideal.main_arg26)
      ∧ r.2.mem ((c.tc : Thread Cert.Reference15Ideal.nD Cert.Reference15Ideal.τ).loc Cert.Reference15Ideal.main_arg27) = m ((c.tc : Thread Cert.Reference15Ideal.nD Cert.Reference15Ideal.τ).loc Cert.Reference15Ideal.main_arg27)
      ∧ r.2.mem ((c.tc : Thread Cert.Reference15Ideal.nD Cert.Reference15Ideal.τ).loc Cert.Reference15Ideal.main_arg28) = m ((c.tc : Thread Cert.Reference15Ideal.nD Cert.Reference15Ideal.τ).loc Cert.Reference15Ideal.main_arg28)
      ∧ r.2.mem ((c.tc : Thread Cert.Reference15Ideal.nD Cert.Reference15Ideal.τ).loc Cert.Reference15Ideal.main_arg29) = m ((c.tc : Thread Cert.Reference15Ideal.nD Cert.Reference15Ideal.τ).loc Cert.Reference15Ideal.main_arg29)
      ∧ r.2.mem ((c.tc : Thread Cert.Reference15Ideal.nD Cert.Reference15Ideal.τ).loc Cert.Reference15Ideal.main_arg30) = m ((c.tc : Thread Cert.Reference15Ideal.nD Cert.Reference15Ideal.τ).loc Cert.Reference15Ideal.main_arg30)
      ∧ r.2.mem ((c.tc : Thread Cert.Reference15Ideal.nD Cert.Reference15Ideal.τ).loc Cert.Reference15Ideal.main_arg31) = m ((c.tc : Thread Cert.Reference15Ideal.nD Cert.Reference15Ideal.τ).loc Cert.Reference15Ideal.main_arg31)
      ∧ r.2.mem ((c.tc : Thread Cert.Reference15Ideal.nD Cert.Reference15Ideal.τ).loc Cert.Reference15Ideal.main_arg32) = m ((c.tc : Thread Cert.Reference15Ideal.nD Cert.Reference15Ideal.τ).loc Cert.Reference15Ideal.main_arg32)
      ∧ r.2.mem ((c.tc : Thread Cert.Reference15Ideal.nD Cert.Reference15Ideal.τ).loc Cert.Reference15Ideal.main_arg33) = m ((c.tc : Thread Cert.Reference15Ideal.nD Cert.Reference15Ideal.τ).loc Cert.Reference15Ideal.main_arg33)
      ∧ r.2.mem ((c.tc : Thread Cert.Reference15Ideal.nD Cert.Reference15Ideal.τ).loc Cert.Reference15Ideal.main_arg34) = m ((c.tc : Thread Cert.Reference15Ideal.nD Cert.Reference15Ideal.τ).loc Cert.Reference15Ideal.main_arg34)
      ∧ r.2.mem ((c.tc : Thread Cert.Reference15Ideal.nD Cert.Reference15Ideal.τ).loc Cert.Reference15Ideal.main_arg35) = m ((c.tc : Thread Cert.Reference15Ideal.nD Cert.Reference15Ideal.τ).loc Cert.Reference15Ideal.main_arg35))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_v10) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "mask" .f32 0xF149F2CA#32 ⊥

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v69_0)) (v1 : (c : Dev Cert.Kernel12Ideal.nD) → Buf (Elt Ideal) ((c.tc : Thread Cert.Kernel12Ideal.nD Cert.Kernel12Ideal.τ).loc Cert.Kernel12Ideal.main_v69_1)) (v2 : (c : Dev Cert.Kernel12Ideal.nD) → Buf (Elt Ideal) ((c.tc : Thread Cert.Kernel12Ideal.nD Cert.Kernel12Ideal.τ).loc Cert.Kernel12Ideal.main_v69_2)) (v3 : (c : Dev Cert.Kernel12Ideal.nD) → Buf (Elt Ideal) ((c.tc : Thread Cert.Kernel12Ideal.nD Cert.Kernel12Ideal.τ).loc Cert.Kernel12Ideal.main_v69_3)) (v4 : (c : Dev Cert.Kernel12Ideal.nD) → Buf (Elt Ideal) ((c.tc : Thread Cert.Kernel12Ideal.nD Cert.Kernel12Ideal.τ).loc Cert.Kernel12Ideal.main_v69_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v69_0) = v0 c
          ∧ r.2.mem ((c.tc : Thread Cert.Kernel12Ideal.nD Cert.Kernel12Ideal.τ).loc Cert.Kernel12Ideal.main_v69_1) = v1 c
          ∧ r.2.mem ((c.tc : Thread Cert.Kernel12Ideal.nD Cert.Kernel12Ideal.τ).loc Cert.Kernel12Ideal.main_v69_2) = v2 c
          ∧ r.2.mem ((c.tc : Thread Cert.Kernel12Ideal.nD Cert.Kernel12Ideal.τ).loc Cert.Kernel12Ideal.main_v69_3) = v3 c
          ∧ r.2.mem ((c.tc : Thread Cert.Kernel12Ideal.nD Cert.Kernel12Ideal.τ).loc Cert.Kernel12Ideal.main_v69_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v175) = v0 c
          ∧ r.2.mem ((c.tc : Thread Cert.Reference12Ideal.nD Cert.Reference12Ideal.τ).loc Cert.Reference12Ideal.main_v177) = v1 c
          ∧ r.2.mem ((c.tc : Thread Cert.Reference12Ideal.nD Cert.Reference12Ideal.τ).loc Cert.Reference12Ideal.main_v179) = v2 c
          ∧ r.2.mem ((c.tc : Thread Cert.Reference12Ideal.nD Cert.Reference12Ideal.τ).loc Cert.Reference12Ideal.main_v181) = v3 c
          ∧ r.2.mem ((c.tc : Thread Cert.Reference12Ideal.nD Cert.Reference12Ideal.τ).loc Cert.Reference12Ideal.main_v183) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)) (v3 : (c : Dev Cert.Kernel13Ideal.nD) → Buf (Elt Ideal) ((c.tc : Thread Cert.Kernel13Ideal.nD Cert.Kernel13Ideal.τ).loc Cert.Kernel13Ideal.main_v4_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_v4_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_v27) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)
      ∧ m' ((c.tc : Thread Cert.Reference15Ideal.nD Cert.Reference15Ideal.τ).loc Cert.Reference15Ideal.main_arg25) = m ((c.tc : Thread Cert.Kernel15Ideal.nD Cert.Kernel15Ideal.τ).loc Cert.Kernel15Ideal.main_arg25)
      ∧ m' ((c.tc : Thread Cert.Reference15Ideal.nD Cert.Reference15Ideal.τ).loc Cert.Reference15Ideal.main_arg26) = m ((c.tc : Thread Cert.Kernel15Ideal.nD Cert.Kernel15Ideal.τ).loc Cert.Kernel15Ideal.main_arg26)
      ∧ m' ((c.tc : Thread Cert.Reference15Ideal.nD Cert.Reference15Ideal.τ).loc Cert.Reference15Ideal.main_arg27) = m ((c.tc : Thread Cert.Kernel15Ideal.nD Cert.Kernel15Ideal.τ).loc Cert.Kernel15Ideal.main_arg27)
      ∧ m' ((c.tc : Thread Cert.Reference15Ideal.nD Cert.Reference15Ideal.τ).loc Cert.Reference15Ideal.main_arg28) = m ((c.tc : Thread Cert.Kernel15Ideal.nD Cert.Kernel15Ideal.τ).loc Cert.Kernel15Ideal.main_arg28)
      ∧ m' ((c.tc : Thread Cert.Reference15Ideal.nD Cert.Reference15Ideal.τ).loc Cert.Reference15Ideal.main_arg29) = m ((c.tc : Thread Cert.Kernel15Ideal.nD Cert.Kernel15Ideal.τ).loc Cert.Kernel15Ideal.main_arg29)
      ∧ m' ((c.tc : Thread Cert.Reference15Ideal.nD Cert.Reference15Ideal.τ).loc Cert.Reference15Ideal.main_arg30) = m ((c.tc : Thread Cert.Kernel15Ideal.nD Cert.Kernel15Ideal.τ).loc Cert.Kernel15Ideal.main_arg30)
      ∧ m' ((c.tc : Thread Cert.Reference15Ideal.nD Cert.Reference15Ideal.τ).loc Cert.Reference15Ideal.main_arg31) = m ((c.tc : Thread Cert.Kernel15Ideal.nD Cert.Kernel15Ideal.τ).loc Cert.Kernel15Ideal.main_arg31)
      ∧ m' ((c.tc : Thread Cert.Reference15Ideal.nD Cert.Reference15Ideal.τ).loc Cert.Reference15Ideal.main_arg32) = m ((c.tc : Thread Cert.Kernel15Ideal.nD Cert.Kernel15Ideal.τ).loc Cert.Kernel15Ideal.main_arg32)
      ∧ m' ((c.tc : Thread Cert.Reference15Ideal.nD Cert.Reference15Ideal.τ).loc Cert.Reference15Ideal.main_arg33) = m ((c.tc : Thread Cert.Kernel15Ideal.nD Cert.Kernel15Ideal.τ).loc Cert.Kernel15Ideal.main_arg33)
      ∧ m' ((c.tc : Thread Cert.Reference15Ideal.nD Cert.Reference15Ideal.τ).loc Cert.Reference15Ideal.main_arg34) = m ((c.tc : Thread Cert.Kernel15Ideal.nD Cert.Kernel15Ideal.τ).loc Cert.Kernel15Ideal.main_arg34)
      ∧ m' ((c.tc : Thread Cert.Reference15Ideal.nD Cert.Reference15Ideal.τ).loc Cert.Reference15Ideal.main_arg35) = m ((c.tc : Thread Cert.Kernel15Ideal.nD Cert.Kernel15Ideal.τ).loc Cert.Kernel15Ideal.main_arg35)) →
    ∃ (v0 : (c : Dev Cert.Kernel15Ideal.nD) → Buf (Elt Ideal) ((c.tc : Thread Cert.Kernel15Ideal.nD Cert.Kernel15Ideal.τ).loc Cert.Kernel15Ideal.main_v44_0)) (v1 : (c : Dev Cert.Kernel15Ideal.nD) → Buf (Elt Ideal) ((c.tc : Thread Cert.Kernel15Ideal.nD Cert.Kernel15Ideal.τ).loc Cert.Kernel15Ideal.main_v44_1)) (v2 : (c : Dev Cert.Kernel15Ideal.nD) → Buf (Elt Ideal) ((c.tc : Thread Cert.Kernel15Ideal.nD Cert.Kernel15Ideal.τ).loc Cert.Kernel15Ideal.main_v44_2)) (v3 : (c : Dev Cert.Kernel15Ideal.nD) → Buf (Elt Ideal) ((c.tc : Thread Cert.Kernel15Ideal.nD Cert.Kernel15Ideal.τ).loc Cert.Kernel15Ideal.main_v44_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v44_0) = v0 c
          ∧ r.2.mem ((c.tc : Thread Cert.Kernel15Ideal.nD Cert.Kernel15Ideal.τ).loc Cert.Kernel15Ideal.main_v44_1) = v1 c
          ∧ r.2.mem ((c.tc : Thread Cert.Kernel15Ideal.nD Cert.Kernel15Ideal.τ).loc Cert.Kernel15Ideal.main_v44_2) = v2 c
          ∧ r.2.mem ((c.tc : Thread Cert.Kernel15Ideal.nD Cert.Kernel15Ideal.τ).loc Cert.Kernel15Ideal.main_v44_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24)
          ∧ r.2.mem ((c.tc : Thread Cert.Kernel15Ideal.nD Cert.Kernel15Ideal.τ).loc Cert.Kernel15Ideal.main_arg25) = m ((c.tc : Thread Cert.Kernel15Ideal.nD Cert.Kernel15Ideal.τ).loc Cert.Kernel15Ideal.main_arg25)
          ∧ r.2.mem ((c.tc : Thread Cert.Kernel15Ideal.nD Cert.Kernel15Ideal.τ).loc Cert.Kernel15Ideal.main_arg26) = m ((c.tc : Thread Cert.Kernel15Ideal.nD Cert.Kernel15Ideal.τ).loc Cert.Kernel15Ideal.main_arg26)
          ∧ r.2.mem ((c.tc : Thread Cert.Kernel15Ideal.nD Cert.Kernel15Ideal.τ).loc Cert.Kernel15Ideal.main_arg27) = m ((c.tc : Thread Cert.Kernel15Ideal.nD Cert.Kernel15Ideal.τ).loc Cert.Kernel15Ideal.main_arg27)
          ∧ r.2.mem ((c.tc : Thread Cert.Kernel15Ideal.nD Cert.Kernel15Ideal.τ).loc Cert.Kernel15Ideal.main_arg28) = m ((c.tc : Thread Cert.Kernel15Ideal.nD Cert.Kernel15Ideal.τ).loc Cert.Kernel15Ideal.main_arg28)
          ∧ r.2.mem ((c.tc : Thread Cert.Kernel15Ideal.nD Cert.Kernel15Ideal.τ).loc Cert.Kernel15Ideal.main_arg29) = m ((c.tc : Thread Cert.Kernel15Ideal.nD Cert.Kernel15Ideal.τ).loc Cert.Kernel15Ideal.main_arg29)
          ∧ r.2.mem ((c.tc : Thread Cert.Kernel15Ideal.nD Cert.Kernel15Ideal.τ).loc Cert.Kernel15Ideal.main_arg30) = m ((c.tc : Thread Cert.Kernel15Ideal.nD Cert.Kernel15Ideal.τ).loc Cert.Kernel15Ideal.main_arg30)
          ∧ r.2.mem ((c.tc : Thread Cert.Kernel15Ideal.nD Cert.Kernel15Ideal.τ).loc Cert.Kernel15Ideal.main_arg31) = m ((c.tc : Thread Cert.Kernel15Ideal.nD Cert.Kernel15Ideal.τ).loc Cert.Kernel15Ideal.main_arg31)
          ∧ r.2.mem ((c.tc : Thread Cert.Kernel15Ideal.nD Cert.Kernel15Ideal.τ).loc Cert.Kernel15Ideal.main_arg32) = m ((c.tc : Thread Cert.Kernel15Ideal.nD Cert.Kernel15Ideal.τ).loc Cert.Kernel15Ideal.main_arg32)
          ∧ r.2.mem ((c.tc : Thread Cert.Kernel15Ideal.nD Cert.Kernel15Ideal.τ).loc Cert.Kernel15Ideal.main_arg33) = m ((c.tc : Thread Cert.Kernel15Ideal.nD Cert.Kernel15Ideal.τ).loc Cert.Kernel15Ideal.main_arg33)
          ∧ r.2.mem ((c.tc : Thread Cert.Kernel15Ideal.nD Cert.Kernel15Ideal.τ).loc Cert.Kernel15Ideal.main_arg34) = m ((c.tc : Thread Cert.Kernel15Ideal.nD Cert.Kernel15Ideal.τ).loc Cert.Kernel15Ideal.main_arg34)
          ∧ r.2.mem ((c.tc : Thread Cert.Kernel15Ideal.nD Cert.Kernel15Ideal.τ).loc Cert.Kernel15Ideal.main_arg35) = m ((c.tc : Thread Cert.Kernel15Ideal.nD Cert.Kernel15Ideal.τ).loc Cert.Kernel15Ideal.main_arg35))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v226) = v0 c
          ∧ r.2.mem ((c.tc : Thread Cert.Reference15Ideal.nD Cert.Reference15Ideal.τ).loc Cert.Reference15Ideal.main_v237) = v1 c
          ∧ r.2.mem ((c.tc : Thread Cert.Reference15Ideal.nD Cert.Reference15Ideal.τ).loc Cert.Reference15Ideal.main_v248) = v2 c
          ∧ r.2.mem ((c.tc : Thread Cert.Reference15Ideal.nD Cert.Reference15Ideal.τ).loc Cert.Reference15Ideal.main_v259) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24)
          ∧ r.2.mem ((c.tc : Thread Cert.Reference15Ideal.nD Cert.Reference15Ideal.τ).loc Cert.Reference15Ideal.main_arg25) = m' ((c.tc : Thread Cert.Reference15Ideal.nD Cert.Reference15Ideal.τ).loc Cert.Reference15Ideal.main_arg25)
          ∧ r.2.mem ((c.tc : Thread Cert.Reference15Ideal.nD Cert.Reference15Ideal.τ).loc Cert.Reference15Ideal.main_arg26) = m' ((c.tc : Thread Cert.Reference15Ideal.nD Cert.Reference15Ideal.τ).loc Cert.Reference15Ideal.main_arg26)
          ∧ r.2.mem ((c.tc : Thread Cert.Reference15Ideal.nD Cert.Reference15Ideal.τ).loc Cert.Reference15Ideal.main_arg27) = m' ((c.tc : Thread Cert.Reference15Ideal.nD Cert.Reference15Ideal.τ).loc Cert.Reference15Ideal.main_arg27)
          ∧ r.2.mem ((c.tc : Thread Cert.Reference15Ideal.nD Cert.Reference15Ideal.τ).loc Cert.Reference15Ideal.main_arg28) = m' ((c.tc : Thread Cert.Reference15Ideal.nD Cert.Reference15Ideal.τ).loc Cert.Reference15Ideal.main_arg28)
          ∧ r.2.mem ((c.tc : Thread Cert.Reference15Ideal.nD Cert.Reference15Ideal.τ).loc Cert.Reference15Ideal.main_arg29) = m' ((c.tc : Thread Cert.Reference15Ideal.nD Cert.Reference15Ideal.τ).loc Cert.Reference15Ideal.main_arg29)
          ∧ r.2.mem ((c.tc : Thread Cert.Reference15Ideal.nD Cert.Reference15Ideal.τ).loc Cert.Reference15Ideal.main_arg30) = m' ((c.tc : Thread Cert.Reference15Ideal.nD Cert.Reference15Ideal.τ).loc Cert.Reference15Ideal.main_arg30)
          ∧ r.2.mem ((c.tc : Thread Cert.Reference15Ideal.nD Cert.Reference15Ideal.τ).loc Cert.Reference15Ideal.main_arg31) = m' ((c.tc : Thread Cert.Reference15Ideal.nD Cert.Reference15Ideal.τ).loc Cert.Reference15Ideal.main_arg31)
          ∧ r.2.mem ((c.tc : Thread Cert.Reference15Ideal.nD Cert.Reference15Ideal.τ).loc Cert.Reference15Ideal.main_arg32) = m' ((c.tc : Thread Cert.Reference15Ideal.nD Cert.Reference15Ideal.τ).loc Cert.Reference15Ideal.main_arg32)
          ∧ r.2.mem ((c.tc : Thread Cert.Reference15Ideal.nD Cert.Reference15Ideal.τ).loc Cert.Reference15Ideal.main_arg33) = m' ((c.tc : Thread Cert.Reference15Ideal.nD Cert.Reference15Ideal.τ).loc Cert.Reference15Ideal.main_arg33)
          ∧ r.2.mem ((c.tc : Thread Cert.Reference15Ideal.nD Cert.Reference15Ideal.τ).loc Cert.Reference15Ideal.main_arg34) = m' ((c.tc : Thread Cert.Reference15Ideal.nD Cert.Reference15Ideal.τ).loc Cert.Reference15Ideal.main_arg34)
          ∧ r.2.mem ((c.tc : Thread Cert.Reference15Ideal.nD Cert.Reference15Ideal.τ).loc Cert.Reference15Ideal.main_arg35) = m' ((c.tc : Thread Cert.Reference15Ideal.nD Cert.Reference15Ideal.τ).loc Cert.Reference15Ideal.main_arg35))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v38) = v1 c
          ∧ r.2.mem ((c.tc : Thread Cert.Reference16Ideal.nD Cert.Reference16Ideal.τ).loc Cert.Reference16Ideal.main_v42) = v2 c
          ∧ r.2.mem ((c.tc : Thread Cert.Reference16Ideal.nD Cert.Reference16Ideal.τ).loc Cert.Reference16Ideal.main_v46) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v38) = v1 c
          ∧ r.2.mem ((c.tc : Thread Cert.Reference17Ideal.nD Cert.Reference17Ideal.τ).loc Cert.Reference17Ideal.main_v42) = v2 c
          ∧ r.2.mem ((c.tc : Thread Cert.Reference17Ideal.nD Cert.Reference17Ideal.τ).loc Cert.Reference17Ideal.main_v46) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v34) = v0 c
          ∧ r.2.mem ((c.tc : Thread Cert.Reference18Ideal.nD Cert.Reference18Ideal.τ).loc Cert.Reference18Ideal.main_v38) = v1 c
          ∧ r.2.mem ((c.tc : Thread Cert.Reference18Ideal.nD Cert.Reference18Ideal.τ).loc Cert.Reference18Ideal.main_v42) = v2 c
          ∧ r.2.mem ((c.tc : Thread Cert.Reference18Ideal.nD Cert.Reference18Ideal.τ).loc Cert.Reference18Ideal.main_v46) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v34) = v0 c
          ∧ r.2.mem ((c.tc : Thread Cert.Reference19Ideal.nD Cert.Reference19Ideal.τ).loc Cert.Reference19Ideal.main_v38) = v1 c
          ∧ r.2.mem ((c.tc : Thread Cert.Reference19Ideal.nD Cert.Reference19Ideal.τ).loc Cert.Reference19Ideal.main_v42) = v2 c
          ∧ r.2.mem ((c.tc : Thread Cert.Reference19Ideal.nD Cert.Reference19Ideal.τ).loc Cert.Reference19Ideal.main_v46) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite11 : Cert.Pre_finite11.Facts) (hPre_finite12 : Cert.Pre_finite12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite11.lean ====
abbrev S8192x1024 : Shape := ⟨2, ![8192, 1024]⟩
abbrev S8192x13824 : Shape := ⟨2, ![8192, 13824]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1024 .bf16) (main_arg1 : FVec F S8192x1024 .bf16) (main_arg2 : FVec F S8192x13824 .bf16) : IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : IVec S8192x1024 1 := andi main_v3 main_v7
  main_v8
-- ==== Pre_finite12.lean ====
abbrev S8192x13824 : Shape := ⟨2, ![8192, 13824]⟩
abbrev S16 : Shape := ⟨1, ![16]⟩
abbrev S8192x1024 : Shape := ⟨2, ![8192, 1024]⟩
abbrev S8192x2560 : Shape := ⟨2, ![8192, 2560]⟩
abbrev S_ : Shape := ⟨0, ![]⟩

class Facts : Prop where
  slices_S8192x13824_S8192x2560_0_2048 : S8192x13824.Slices ![0, 2048] S8192x2560
  bitsLt_bf16_f32 : FTy.bits .bf16 < FTy.bits .f32
  bcast_S_S8192x2560 : S_.BroadcastsInDim S8192x2560 (![] : Fin 0 → Fin S8192x2560.rank)
  bcast_S_S16 : S_.BroadcastsInDim S16 (![] : Fin 0 → Fin S16.rank)
  bcast_S_S8192x1024 : S_.BroadcastsInDim S8192x1024 (![] : Fin 0 → Fin S8192x1024.rank)

variable [Facts]

def fn {F : FTy → Type} [FloatOps F] (main_arg0 : FVec F S8192x13824 .bf16) (main_arg1 : FVec F S16 .f32) (main_arg2 : FVec F S8192x1024 .bf16) : IVec S8192x2560 1 × IVec S16 1 × IVec S8192x1024 1 :=
  let main_v0 : FVec F S8192x2560 .bf16 := (extractStridedSlice S8192x2560 ![0, 2048] · slices_S8192x13824_S8192x2560_0_2048) main_arg0
  let main_v1 : FVec F S8192x2560 .f32 := (extf .f32 · bitsLt_bf16_f32) main_v0
  let main_v2 : FVec F S8192x2560 .f32 := Host.absf main_v1
  let main_cst : FVec F S_ .f32 := constant S_ .f32 0x7F800000#32
  let main_v3 : FVec F S8192x2560 .f32 := broadcastInDim S8192x2560 ![] bcast_S_S8192x2560 main_cst
  let main_v4 : IVec S8192x2560 1 := cmpf .olt main_v2 main_v3
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  (main_v4, main_v7, main_v11)
-- ==== Kernel.lean ====
abbrev S8192x2048 : Shape := ⟨2, ![8192, 2048]⟩
abbrev S8192x13824 : Shape := ⟨2, ![8192, 13824]⟩
abbrev S1024x512 : Shape := ⟨2, ![1024, 512]⟩

abbrev nBuf : Space → Nat
  | .hbm => 11
  | .vmem => 26
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x13824, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.addi c23_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8192x2048 : Shape := ⟨2, ![8192, 2048]⟩
abbrev S8192x13824 : Shape := ⟨2, ![8192, 13824]⟩
abbrev S8192x7680 : Shape := ⟨2, ![8192, 7680]⟩
abbrev S8192x6144 : Shape := ⟨2, ![8192, 6144]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x13824, .bf16⟩
  | .hbm, ⟨5, _⟩ => ⟨S8192x13824, .f32⟩
  | .hbm, ⟨6, _⟩ => ⟨S8192x7680, .f32⟩
  | .hbm, ⟨7, _⟩ => ⟨S8192x6144, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x6144, .f32⟩
  | .hbm, ⟨12, _⟩ => ⟨S8192x6144, .f32⟩
  | .hbm, ⟨13, _⟩ => ⟨S_, .f32⟩
  | .hbm, ⟨14, _⟩ => ⟨S8192x6144, .f32⟩
  | .hbm, ⟨15, _⟩ => ⟨S8192x6144, .f32⟩
  | .hbm, ⟨16, _⟩ => ⟨S_, .f32⟩
  | .hbm, ⟨17, _⟩ => ⟨S8192x6144, .f32⟩
  | .hbm, ⟨18, _⟩ => ⟨S8192x6144, .f32⟩
  | .hbm, ⟨19, _⟩ => ⟨S_, .f32⟩
  | .hbm, ⟨20, _⟩ => ⟨S8192x6144, .f32⟩
  | .hbm, ⟨21, _⟩ => ⟨S8192x6144, .f32⟩
  | .hbm, ⟨22, _⟩ => ⟨S8192x6144, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x6144, .f32⟩
  | .hbm, ⟨39, _⟩ => ⟨S8192x6144, .f32⟩
  | .hbm, ⟨40, _⟩ => ⟨S8192x2048, .bf16⟩
  | .hbm, ⟨41, _⟩ => ⟨S8192x2048, .bf16⟩
  | .hbm, ⟨42, _⟩ => ⟨S8192x2048, .bf16⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | .hbm, ⟨47, _⟩ => ⟨S8192x2048, .bf16⟩
  | .hbm, ⟨48, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Kernel2.lean ====
abbrev S8192x13824 : Shape := ⟨2, ![8192, 13824]⟩
abbrev S1x2048x13824 : Shape := ⟨3, ![1, 2048, 13824]⟩
abbrev S8192x2048 : Shape := ⟨2, ![8192, 2048]⟩
abbrev S2048x1536 : Shape := ⟨2, ![2048, 1536]⟩
abbrev S1x1024x1536 : Shape := ⟨3, ![1, 1024, 1536]⟩
abbrev S2048x1024 : Shape := ⟨2, ![2048, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x13824, .bf16⟩
  | .hbm, ⟨1, _⟩ => ⟨S1x2048x13824, .bf16⟩
  | .hbm, ⟨2, _⟩ => ⟨S8192x2048, .bf16⟩
  | .local _ .vmem, ⟨0, _⟩ => ⟨S2048x1536, .bf16⟩
  | .local _ .vmem, ⟨1, _⟩ => ⟨S2048x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def k0_cond2 (i : grid0.Coords) : BitVec 1 :=
  let arg2 : BitVec 32 := BitVec.ofNat 32 (i 2).val
  let c8_i32 : BitVec 32 := 8#32
  let v12 : BitVec 1 := Scalar.cmpi .eq arg2 c8_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x13824 : Shape := ⟨2, ![8192, 13824]⟩
abbrev S1x2048x13824 : Shape := ⟨3, ![1, 2048, 13824]⟩
abbrev S2048x13824 : Shape := ⟨2, ![2048, 13824]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x13824, .bf16⟩
  | .hbm, ⟨1, _⟩ => ⟨S1x2048x13824, .bf16⟩
  | .hbm, ⟨2, _⟩ => ⟨S2048x13824, .bf16⟩
  | .hbm, ⟨3, _⟩ => ⟨S2048x13824, .f32⟩
  | .hbm, ⟨4, _⟩ => ⟨S_, .f32⟩
  | .hbm, ⟨5, _⟩ => ⟨S8192x2048, .f32⟩
  | .hbm, ⟨6, _⟩ => ⟨S8192x13824, .f32⟩
  | .hbm, ⟨7, _⟩ => ⟨S8192x13824, .f32⟩
  | .hbm, ⟨8, _⟩ => ⟨S8192x2048, .f32⟩
  | .hbm, ⟨9, _⟩ => ⟨S8192x2048, .bf16⟩
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2048 : Shape := ⟨2, ![8192, 2048]⟩
abbrev S8192x13824 : Shape := ⟨2, ![8192, 13824]⟩
abbrev S2048x13824 : Shape := ⟨2, ![2048, 13824]⟩
abbrev S2048x2048 : Shape := ⟨2, ![2048, 2048]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x13824, .bf16⟩
  | .hbm, ⟨2, _⟩ => ⟨S2048x13824, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 18, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x13824 : Shape := ⟨2, ![8192, 13824]⟩
abbrev S_ : Shape := ⟨0, ![]⟩
abbrev S2048x13824 : Shape := ⟨2, ![2048, 13824]⟩
abbrev S13824x2048 : Shape := ⟨2, ![13824, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x13824, .bf16⟩
  | .hbm, ⟨2, _⟩ => ⟨S8192x2048, .f32⟩
  | .hbm, ⟨3, _⟩ => ⟨S_, .f32⟩
  | .hbm, ⟨4, _⟩ => ⟨S2048x13824, .f32⟩
  | .hbm, ⟨5, _⟩ => ⟨S8192x13824, .f32⟩
  | .hbm, ⟨6, _⟩ => ⟨S8192x13824, .f32⟩
  | .hbm, ⟨7, _⟩ => ⟨S13824x2048, .f32⟩
  | .hbm, ⟨8, _⟩ => ⟨S2048x13824, .f32⟩
  | .hbm, ⟨9, _⟩ => ⟨S2048x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x2048 : Shape := ⟨2, ![8192, 2048]⟩
abbrev S1x1024x2048 : Shape := ⟨3, ![1, 1024, 2048]⟩
abbrev S8192x1024 : Shape := ⟨2, ![8192, 1024]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S8192x1024, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .bf16⟩
  | .local _ .vmem, ⟨3, _⟩ => ⟨S2048x1024, .bf16⟩
  | .local _ .vmem, ⟨4, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S1x1024x2048 : Shape := ⟨3, ![1, 1024, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x1024x2048, .bf16⟩
  | .hbm, ⟨2, _⟩ => ⟨S1024x2048, .bf16⟩
  | .hbm, ⟨3, _⟩ => ⟨S1024x2048, .f32⟩
  | .hbm, ⟨4, _⟩ => ⟨S_, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S1x2048x13824 : Shape := ⟨3, ![1, 2048, 13824]⟩
abbrev S8192x13824 : Shape := ⟨2, ![8192, 13824]⟩
abbrev S2048x2048 : Shape := ⟨2, ![2048, 2048]⟩
abbrev S1x2048x768 : Shape := ⟨3, ![1, 2048, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x13824, .bf16⟩
  | .hbm, ⟨2, _⟩ => ⟨S8192x13824, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S2048x768, .bf16⟩
  | .local _ .vmem, ⟨5, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S1x2048x13824 : Shape := ⟨3, ![1, 2048, 13824]⟩
abbrev S2048x13824 : Shape := ⟨2, ![2048, 13824]⟩
abbrev S8192x13824 : Shape := ⟨2, ![8192, 13824]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x13824, .bf16⟩
  | .hbm, ⟨2, _⟩ => ⟨S8192x2048, .f32⟩
  | .hbm, ⟨3, _⟩ => ⟨S2048x13824, .bf16⟩
  | .hbm, ⟨4, _⟩ => ⟨S2048x13824, .f32⟩
  | .hbm, ⟨5, _⟩ => ⟨S8192x13824, .f32⟩
  | .hbm, ⟨6, _⟩ => ⟨S8192x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S8192x13824 : Shape := ⟨2, ![8192, 13824]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x13824, .bf16⟩
  | .hbm, ⟨3, _⟩ => ⟨S8192x1024, .bf16⟩
  | .hbm, ⟨4, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x1024 : Shape := ⟨2, ![8192, 1024]⟩
abbrev S8192x13824 : Shape := ⟨2, ![8192, 13824]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x13824, .bf16⟩
  | .hbm, ⟨3, _⟩ => ⟨S8192x13824, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== Kernel12.lean ====
abbrev S8192x13824 : Shape := ⟨2, ![8192, 13824]⟩
abbrev S16 : Shape := ⟨1, ![16]⟩
abbrev S8192x1024 : Shape := ⟨2, ![8192, 1024]⟩
abbrev S8192x2560 : Shape := ⟨2, ![8192, 2560]⟩
abbrev S1x8192x2560 : Shape := ⟨3, ![1, 8192, 2560]⟩
abbrev S1x8192x1024 : Shape := ⟨3, ![1, 8192, 1024]⟩
abbrev S1x8192x256 : Shape := ⟨3, ![1, 8192, 256]⟩
abbrev S1x8192x16x64 : Shape := ⟨4, ![1, 8192, 16, 64]⟩
abbrev S1x8192x4x64 : Shape := ⟨4, ![1, 8192, 4, 64]⟩
abbrev S1x128x64x4x4x64 : Shape := ⟨6, ![1, 128, 64, 4, 4, 64]⟩
abbrev S_ : Shape := ⟨0, ![]⟩
abbrev S1x128x4x64 : Shape := ⟨4, ![1, 128, 4, 64]⟩
abbrev S1x8320x4x64 : Shape := ⟨4, ![1, 8320, 4, 64]⟩
abbrev S1x130x64x4x64 : Shape := ⟨5, ![1, 130, 64, 4, 64]⟩
abbrev S1x128x64x4x64 : Shape := ⟨5, ![1, 128, 64, 4, 64]⟩
abbrev S1x128x192x4x64 : Shape := ⟨5, ![1, 128, 192, 4, 64]⟩
abbrev S1x128x4x192x64x4 : Shape := ⟨6, ![1, 128, 4, 192, 64, 4]⟩
abbrev S1x128x4x4x64x192 : Shape := ⟨6, ![1, 128, 4, 4, 64, 192]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S1x128x1x1x1x192 : Shape := ⟨6, ![1, 128, 1, 1, 1, 192]⟩
abbrev S1x1x4x4x1x1 : Shape := ⟨6, ![1, 1, 4, 4, 1, 1]⟩
abbrev S1x128x4x4x64 : Shape := ⟨5, ![1, 128, 4, 4, 64]⟩
abbrev S1x128x4x4x64x1 : Shape := ⟨6, ![1, 128, 4, 4, 64, 1]⟩
abbrev S1x128x4x64x4x64 : Shape := ⟨6, ![1, 128, 4, 64, 4, 64]⟩
abbrev S1x128x64x4x4x1 : Shape := ⟨6, ![1, 128, 64, 4, 4, 1]⟩
abbrev S8192x16 : Shape := ⟨2, ![8192, 16]⟩
abbrev S8192x128 : Shape := ⟨2, ![8192, 128]⟩
abbrev S8192x256 : Shape := ⟨2, ![8192, 256]⟩
abbrev S1x128 : Shape := ⟨2, ![1, 128]⟩
abbrev S256x1024 : Shape := ⟨2, ![256, 1024]⟩
abbrev S256x256 : Shape := ⟨2, ![256, 256]⟩
abbrev S128x256 : Shape := ⟨2, ![128, 256]⟩
abbrev S256x512 : Shape := ⟨2, ![256, 512]⟩
abbrev S256x128 : Shape := ⟨2, ![256, 128]⟩
abbrev S384x256 : Shape := ⟨2, ![384, 256]⟩
abbrev S256x384 : Shape := ⟨2, ![256, 384]⟩
abbrev S384x64 : Shape := ⟨2, ![384, 64]⟩
abbrev S256x64 : Shape := ⟨2, ![256, 64]⟩
abbrev S256 : Shape := ⟨1, ![256]⟩
abbrev S256x1 : Shape := ⟨2, ![256, 1]⟩
abbrev S1 : Shape := ⟨1, ![1]⟩
abbrev S1x1 : Shape := ⟨2, ![1, 1]⟩
abbrev S128x64 : Shape := ⟨2, ![128, 64]⟩

abbrev nBuf : Space → Nat
  | .hbm => 107
  | .vmem => 31
  | .smem => 1
  | _ => 0

abbrev bufTy : (tb : Table) → Fin (tcTables nBuf tb) → BufTy
  | .hbm, ⟨0, _⟩ => ⟨S8192x13824, .bf16⟩
  | .hbm, ⟨1, _⟩ => ⟨S16, .f32⟩
  | .hbm, ⟨2, _⟩ => ⟨S8192x1024, .bf16⟩
  | .hbm, ⟨3, _⟩ => ⟨S8192x13824, .f32⟩
  | .hbm, ⟨4, _⟩ => ⟨S8192x2560, .f32⟩
  | .hbm, ⟨5, _⟩ => ⟨S1x8192x2560, .f32⟩
  | .hbm, ⟨6, _⟩ => ⟨S1x8192x1024, .f32⟩
  | .hbm, ⟨7, _⟩ => ⟨S1x8192x256, .f32⟩
  | .hbm, ⟨8, _⟩ => ⟨S1x8192x256, .f32⟩
  | .hbm, ⟨9, _⟩ => ⟨S1x8192x1024, .f32⟩
  | .hbm, ⟨10, _⟩ => ⟨S1x8192x16x64, .f32⟩
  | .hbm, ⟨11, _⟩ => ⟨S1x8192x4x64, .f32⟩
  | .hbm, ⟨12, _⟩ => ⟨S1x8192x4x64, .f32⟩
  | .hbm, ⟨13, _⟩ => ⟨S1x128x64x4x4x64, .f32⟩
  | .hbm, ⟨14, _⟩ => ⟨S_, .f32⟩
  | .hbm, ⟨15, _⟩ => ⟨S1x128x4x64, .f32⟩
  | .hbm, ⟨16, _⟩ => ⟨S1x8320x4x64, .f32⟩
  | .hbm, ⟨17, _⟩ => ⟨S1x130x64x4x64, .f32⟩
  | .hbm, ⟨18, _⟩ => ⟨S1x128x64x4x64, .f32⟩
  | .hbm, ⟨19, _⟩ => ⟨S1x128x64x4x64, .f32⟩
  | .hbm, ⟨20, _⟩ => ⟨S1x128x64x4x64, .f32⟩
  | .hbm, ⟨21, _⟩ => ⟨S1x128x192x4x64, .f32⟩
  | .hbm, ⟨22, _⟩ => ⟨S_, .f32⟩
  | .hbm, ⟨23, _⟩ => ⟨S1x128x4x64, .f32⟩
  | .hbm, ⟨24, _⟩ => ⟨S1x8320x4x64, .f32⟩
  | .hbm, ⟨25, _⟩ => ⟨S1x130x64x4x64, .f32⟩
  | .hbm, ⟨26, _⟩ => ⟨S1x128x64x4x64, .f32⟩
  | .hbm, ⟨27, _⟩ => ⟨S1x128x64x4x64, .f32⟩
  | .hbm, ⟨28, _⟩ => ⟨S1x128x64x4x64, .f32⟩
  | .hbm, ⟨29, _⟩ => ⟨S1x128x192x4x64, .f32⟩
  | .hbm, ⟨30, _⟩ => ⟨S1x128x4x192x64x4, .f32⟩
  | .hbm, ⟨31, _⟩ => ⟨S1x128x4x4x64x192, .f32⟩
  | .hbm, ⟨32, _⟩ => ⟨S_, .f32⟩
  | .hbm, ⟨33, _⟩ => ⟨S1x128x4x4x64x192, .f32⟩
  | .hbm, ⟨34, _⟩ => ⟨S1x128x4x4x64x192, .f32⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S192, .i32⟩
  | .hbm, ⟨41, _⟩ => ⟨S1x192, .i32⟩
  | .hbm, ⟨42, _⟩ => ⟨S_, .i32⟩
  | .hbm, ⟨43, _⟩ => ⟨S_, .i32⟩
  | .hbm, ⟨44, _⟩ => ⟨S1x192, .i32⟩
  | .hbm, ⟨45, _⟩ => ⟨S1x192, .i32⟩
  | .hbm, ⟨46, _⟩ => ⟨S1x192, .i32⟩
  | .hbm, ⟨47, _⟩ => ⟨S_, .i32⟩
  | .hbm, ⟨48, _⟩ => ⟨S1x192, .i32⟩
  | .hbm, ⟨49, _⟩ => ⟨S1x192, .i1⟩
  | .hbm, ⟨50, _⟩ => ⟨S1x192, .i32⟩
  | .hbm, ⟨51, _⟩ => ⟨S1x192, .i32⟩
  | .hbm, ⟨52, _⟩ => ⟨S_, .i32⟩
  | .hbm, ⟨53, _⟩ => ⟨S1x192, .i32⟩
  | .hbm, ⟨54, _⟩ => ⟨S1x192, .i1⟩
  | .hbm, ⟨55, _⟩ => ⟨S1x192, .i1⟩
  | .hbm, ⟨56, _⟩ => ⟨S_, .i32⟩
  | .hbm, ⟨57, _⟩ => ⟨S1x192, .i32⟩
  | .hbm, ⟨58, _⟩ => ⟨S1x192, .i32⟩
  | .hbm, ⟨59, _⟩ => ⟨S1x192, .i32⟩
  | .hbm, ⟨60, _⟩ => ⟨S128x192, .i32⟩
  | .hbm, ⟨61, _⟩ => ⟨S128x192, .i32⟩
  | .hbm, ⟨62, _⟩ => ⟨S128x192, .i32⟩
  | .hbm, ⟨63, _⟩ => ⟨S_, .i32⟩
  | .hbm, ⟨64, _⟩ => ⟨S128x192, .i32⟩
  | .hbm, ⟨65, _⟩ => ⟨S128x192, .i1⟩
  | .hbm, ⟨66, _⟩ => ⟨S1x128x1x1x1x192, .i1⟩
  | .hbm, ⟨67, _⟩ => ⟨S_, .f32⟩
  | .hbm, ⟨68, _⟩ => ⟨S_, .f32⟩
  | .hbm, ⟨69, _⟩ => ⟨S1x128x4x4x64x192, .i1⟩
  | .hbm, ⟨70, _⟩ => ⟨S1x128x4x4x64x192, .f32⟩
  | .hbm, ⟨71, _⟩ => ⟨S1x128x4x4x64x192, .f32⟩
  | .hbm, ⟨72, _⟩ => ⟨S1x1x4x4x1x1, .f32⟩
  | .hbm, ⟨73, _⟩ => ⟨S_, .f32⟩
  | .hbm, ⟨74, _⟩ => ⟨S1x128x4x4x64, .f32⟩
  | .hbm, ⟨75, _⟩ => ⟨S1x128x4x4x64x1, .f32⟩
  | .hbm, ⟨76, _⟩ => ⟨S1x128x4x4x64x1, .f32⟩
  | .hbm, ⟨77, _⟩ => ⟨S1x128x4x4x64x1, .f32⟩
  | .hbm, ⟨78, _⟩ => ⟨S1x128x4x4x64x192, .f32⟩
  | .hbm, ⟨79, _⟩ => ⟨S1x128x4x4x64x192, .f32⟩
  | .hbm, ⟨80, _⟩ => ⟨S1x128x4x4x64x192, .f32⟩
  | .hbm, ⟨81, _⟩ => ⟨S_, .f32⟩
  | .hbm, ⟨82, _⟩ => ⟨S1x128x4x4x64, .f32⟩
  | .hbm, ⟨83, _⟩ => ⟨S1x128x4x4x64x1, .f32⟩
  | .hbm, ⟨84, _⟩ => ⟨S1x128x4x4x64x1, .f32⟩
  | .hbm, ⟨85, _⟩ => ⟨S1x128x4x4x64x1, .f32⟩
  | .hbm, ⟨86, _⟩ => ⟨S1x128x4x4x64x1, .f32⟩
  | .hbm, ⟨87, _⟩ => ⟨S1x128x4x4x64x1, .f32⟩
  | .hbm, ⟨88, _⟩ => ⟨S1x128x4x4x64x192, .f32⟩
  | .hbm, ⟨89, _⟩ => ⟨S1x128x4x4x64x192, .f32⟩
  | .hbm, ⟨90, _⟩ => ⟨S1x128x4x64x4x64, .f32⟩
  | .hbm, ⟨91, _⟩ => ⟨S1x128x64x4x4x64, .f32⟩
  | .hbm, ⟨92, _⟩ => ⟨S1x8192x1024, .f32⟩
  | .hbm, ⟨93, _⟩ => ⟨S1x128x4x4x64x1, .f32⟩
  | .hbm, ⟨94, _⟩ => ⟨S1x128x4x4x64x1, .f32⟩
  | .hbm, ⟨95, _⟩ => ⟨S1x128x64x4x4x1, .f32⟩
  | .hbm, ⟨96, _⟩ => ⟨S8192x16, .f32⟩
  | .hbm, ⟨97, _⟩ => ⟨S8192x1024, .f32⟩
  | .hbm, ⟨98, _⟩ => ⟨S8192x1024, .bf16⟩
  | .hbm, ⟨99, _⟩ => ⟨S_, .i32⟩
  | .hbm, ⟨100, _⟩ => ⟨S_, .f32⟩
  | .hbm, ⟨101, _⟩ => ⟨S8192x128, .f32⟩
  | .hbm, ⟨102, _⟩ => ⟨S8192x1024, .bf16⟩
  | .hbm, ⟨103, _⟩ => ⟨S8192x256, .bf16⟩
  | .hbm, ⟨104, _⟩ => ⟨S8192x256, .bf16⟩
  | .hbm, ⟨105, _⟩ => ⟨S8192x1024, .bf16⟩
  | .hbm, ⟨106, _⟩ => ⟨S1x128, .f32⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S256x256, .bf16⟩
  | .local _ .vmem, ⟨8, _⟩ => ⟨S128x256, .bf16⟩
  | .local _ .vmem, ⟨9, _⟩ => ⟨S128x256, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | .local _ .vmem, ⟨16, _⟩ => ⟨S256x128, .f32⟩
  | .local _ .vmem, ⟨17, _⟩ => ⟨S256x128, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x1024, .bf16⟩
  | .local _ .vmem, ⟨27, _⟩ => ⟨S256x1024, .bf16⟩
  | .local _ .vmem, ⟨28, _⟩ => ⟨S1x128, .f32⟩
  | .local _ .vmem, ⟨29, _⟩ => ⟨S128x256, .f32⟩
  | .local _ .vmem, ⟨30, _⟩ => ⟨S128x256, .f32⟩
  | .local _ .smem, ⟨0, _⟩ => ⟨S16, .f32⟩
  | _, _ => ⟨S8192x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_7 : Ref sig .tc := ⟨.hbm, 99, rfl⟩
abbrev main_call2_v0 : Ref sig .tc := ⟨.hbm, 100, rfl⟩
abbrev main_v68 : Ref sig .tc := ⟨.hbm, 101, rfl⟩
abbrev main_v69_0 : Ref sig .tc := ⟨.hbm, 102, rfl⟩
abbrev main_v69_1 : Ref sig .tc := ⟨.hbm, 103, rfl⟩
abbrev main_v69_2 : Ref sig .tc := ⟨.hbm, 104, rfl⟩
abbrev main_v69_3 : Ref sig .tc := ⟨.hbm, 105, rfl⟩
abbrev main_v69_4 : Ref sig .tc := ⟨.hbm, 106, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_scratch0 : Ref sig .tc := ⟨.vmem, 29, rfl⟩
abbrev cc0_scratch1 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_500 : BitVec 32 := 0#32
  let v1329 : BitVec 1 := Scalar.cmpi .eq arg0 c0_i32_500
  let v1330 : BitVec 32 := Scalar.extui v1329
  let c0_i32_501 : BitVec 32 := 0#32
  let v1331 : BitVec 1 := Scalar.cmpi .ne v1330 c0_i32_501
  v1331

def k0_cond2 (i : grid0.Coords) : BitVec 1 :=
  let arg0 : BitVec 32 := BitVec.ofNat 32 (i 0).val
  let c0_i32_502 : BitVec 32 := 0#32
  let v1332 : BitVec 1 := Scalar.cmpi .sgt arg0 c0_i32_502
  let v1333 : BitVec 32 := Scalar.extui v1332
  let c0_i32_503 : BitVec 32 := 0#32
  let v1334 : BitVec 1 := Scalar.cmpi .ne v1333 c0_i32_503
  v1334

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c12_i32 : BitVec 32 := 12#32
  let c0_i32 : BitVec 32 := 0#32
  ![v0.toNat, c12_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let v1 : BitVec 32 := Scalar.muli v0 c2_i32
  let c1_i32 : BitVec 32 := 1#32
  let v2 : BitVec 32 := Scalar.subi v1 c1_i32
  let c0_i32 : BitVec 32 := 0#32
  let v3 : BitVec 32 := Scalar.maxsi v2 c0_i32
  let c12_i32 : BitVec 32 := 12#32
  let c0_i32_0 : BitVec 32 := 0#32
  ![v3.toNat, c12_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c13_i32 : BitVec 32 := 13#32
  let c0_i32 : BitVec 32 := 0#32
  ![v0.toNat, c13_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let v1 : BitVec 32 := Scalar.muli v0 c2_i32
  let c1_i32 : BitVec 32 := 1#32
  let v2 : BitVec 32 := Scalar.subi v1 c1_i32
  let c0_i32 : BitVec 32 := 0#32
  let v3 : BitVec 32 := Scalar.maxsi v2 c0_i32
  let c13_i32 : BitVec 32 := 13#32
  let c0_i32_0 : BitVec 32 := 0#32
  ![v3.toNat, c13_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c7_i32 : BitVec 32 := 7#32
  let c0_i32 : BitVec 32 := 0#32
  ![v0.toNat, c7_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  ![v0.toNat, c8_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel12Ideal.lean ====
variable {F : FTy → Type} [FloatOps F] [Named F]
def κ : String → Option EReal := fun
  | "mask" => some ⊥
  | _ => none
-- ==== Reference12Ideal.lean ====
abbrev S8192x13824 : Shape := ⟨2, ![8192, 13824]⟩
abbrev S16 : Shape := ⟨1, ![16]⟩
abbrev S8192x1024 : Shape := ⟨2, ![8192, 1024]⟩
abbrev S1x8192x16x64 : Shape := ⟨4, ![1, 8192, 16, 64]⟩
abbrev S8192x256 : Shape := ⟨2, ![8192, 256]⟩
abbrev S1x8192x4x64 : Shape := ⟨4, ![1, 8192, 4, 64]⟩
abbrev S1x8192x1024 : Shape := ⟨3, ![1, 8192, 1024]⟩
abbrev S_ : Shape := ⟨0, ![]⟩
abbrev S1x128x64x4x4x64 : Shape := ⟨6, ![1, 128, 64, 4, 4, 64]⟩
abbrev S1x128x4x64 : Shape := ⟨4, ![1, 128, 4, 64]⟩
abbrev S1x8320x4x64 : Shape := ⟨4, ![1, 8320, 4, 64]⟩
abbrev S1x130x64x4x64 : Shape := ⟨5, ![1, 130, 64, 4, 64]⟩
abbrev S1x128x64x4x64 : Shape := ⟨5, ![1, 128, 64, 4, 64]⟩
abbrev S1x128x192x4x64 : Shape := ⟨5, ![1, 128, 192, 4, 64]⟩
abbrev S1x128x4x192x64x4 : Shape := ⟨6, ![1, 128, 4, 192, 64, 4]⟩
abbrev S1x128x4x4x64x192 : Shape := ⟨6, ![1, 128, 4, 4, 64, 192]⟩
abbrev S128 : Shape := ⟨1, ![128]⟩
abbrev S128x1 : Shape := ⟨2, ![128, 1]⟩
abbrev S192 : Shape := ⟨1, ![192]⟩
abbrev S1x192 : Shape := ⟨2, ![1, 192]⟩
abbrev S128x192 : Shape := ⟨2, ![128, 192]⟩
abbrev S1x128x1x1x1x192 : Shape := ⟨6, ![1, 128, 1, 1, 1, 192]⟩
abbrev S1x1x4x4x1x1 : Shape := ⟨6, ![1, 1, 4, 4, 1, 1]⟩
abbrev S1x128x4x4x64 : Shape := ⟨5, ![1, 128, 4, 4, 64]⟩
abbrev S1x128x4x4x64x1 : Shape := ⟨6, ![1, 128, 4, 4, 64, 1]⟩
abbrev S1x128x4x64x4x64 : Shape := ⟨6, ![1, 128, 4, 64, 4, 64]⟩
abbrev S1x128x4x64x192 : Shape := ⟨5, ![1, 128, 4, 64, 192]⟩
abbrev S1x4x4x1 : Shape := ⟨4, ![1, 4, 4, 1]⟩
abbrev S128x4x4x64 : Shape := ⟨4, ![128, 4, 4, 64]⟩
abbrev S1x128x4x192x64 : Shape := ⟨5, ![1, 128, 4, 192, 64]⟩
abbrev S1x128 : Shape := ⟨2, ![1, 128]⟩

abbrev nBuf : Space → Nat
  | .hbm => 261
  | .vmem => 0
  | .smem => 0
  | _ => 0

abbrev hbmTy0_0 (i : Nat) : BufTy := match i % 128 with
  | 0 => ⟨S8192x13824, .bf16⟩
  | 1 => ⟨S16, .f32⟩
  | 2 => ⟨S8192x1024, .bf16⟩
  | 3 => ⟨S8192x1024, .bf16⟩
  | 4 => ⟨S8192x1024, .f32⟩
  | 5 => ⟨S1x8192x16x64, .f32⟩
  | 6 => ⟨S8192x256, .bf16⟩
  | 7 => ⟨S8192x256, .f32⟩
  | 8 => ⟨S1x8192x4x64, .f32⟩
  | 9 => ⟨S8192x256, .bf16⟩
  | 10 => ⟨S8192x256, .f32⟩
  | 11 => ⟨S1x8192x4x64, .f32⟩
  | 12 => ⟨S8192x1024, .bf16⟩
  | 13 => ⟨S8192x1024, .f32⟩
  | 14 => ⟨S1x8192x1024, .f32⟩
  | 15 => ⟨S_, .f32⟩
  | 16 => ⟨S16, .f32⟩
  | 17 => ⟨S16, .f32⟩
  | 18 => ⟨S1x128x64x4x4x64, .f32⟩
  | 19 => ⟨S_, .f32⟩
  | 20 => ⟨S1x128x4x64, .f32⟩
  | 21 => ⟨S1x8320x4x64, .f32⟩
  | 22 => ⟨S_, .f32⟩
  | 23 => ⟨S1x128x4x64, .f32⟩
  | 24 => ⟨S1x130x64x4x64, .f32⟩
  | 25 => ⟨S1x128x64x4x64, .f32⟩
  | 26 => ⟨S1x128x64x4x64, .f32⟩
  | 27 => ⟨S1x128x64x4x64, .f32⟩
  | 28 => ⟨S1x128x192x4x64, .f32⟩
  | 29 => ⟨S_, .f32⟩
  | 30 => ⟨S1x128x4x64, .f32⟩
  | 31 => ⟨S1x8320x4x64, .f32⟩
  | 32 => ⟨S_, .f32⟩
  | 33 => ⟨S1x128x4x64, .f32⟩
  | 34 => ⟨S1x130x64x4x64, .f32⟩
  | 35 => ⟨S1x128x64x4x64, .f32⟩
  | 36 => ⟨S1x128x64x4x64, .f32⟩
  | 37 => ⟨S1x128x64x4x64, .f32⟩
  | 38 => ⟨S1x128x192x4x64, .f32⟩
  | 39 => ⟨S1x128x4x192x64x4, .f32⟩
  | 40 => ⟨S1x128x4x4x64x192, .f32⟩
  | 41 => ⟨S_, .f32⟩
  | 42 => ⟨S1x128x4x4x64x192, .f32⟩
  | 43 => ⟨S1x128x4x4x64x192, .f32⟩
  | 44 => ⟨S128, .i32⟩
  | 45 => ⟨S128x1, .i32⟩
  | 46 => ⟨S_, .i32⟩
  | 47 => ⟨S128x1, .i32⟩
  | 48 => ⟨S128x1, .i32⟩
  | 49 => ⟨S192, .i32⟩
  | 50 => ⟨S1x192, .i32⟩
  | 51 => ⟨S_, .i32⟩
  | 52 => ⟨S_, .i32⟩
  | 53 => ⟨S1x192, .i32⟩
  | 54 => ⟨S1x192, .i32⟩
  | 55 => ⟨S1x192, .i32⟩
  | 56 => ⟨S_, .i32⟩
  | 57 => ⟨S1x192, .i32⟩
  | 58 => ⟨S1x192, .i1⟩
  | 59 => ⟨S1x192, .i32⟩
  | 60 => ⟨S1x192, .i32⟩
  | 61 => ⟨S_, .i32⟩
  | 62 => ⟨S1x192, .i32⟩
  | 63 => ⟨S1x192, .i1⟩
  | 64 => ⟨S1x192, .i1⟩
  | 65 => ⟨S_, .i32⟩
  | 66 => ⟨S1x192, .i32⟩
  | 67 => ⟨S1x192, .i32⟩
  | 68 => ⟨S1x192, .i32⟩
  | 69 => ⟨S128x192, .i32⟩
  | 70 => ⟨S128x192, .i32⟩
  | 71 => ⟨S128x192, .i32⟩
  | 72 => ⟨S_, .i32⟩
  | 73 => ⟨S128x192, .i32⟩
  | 74 => ⟨S128x192, .i1⟩
  | 75 => ⟨S1x128x1x1x1x192, .i1⟩
  | 76 => ⟨S_, .f32⟩
  | 77 => ⟨S_, .f32⟩
  | 78 => ⟨S1x128x4x4x64x192, .i1⟩
  | 79 => ⟨S1x128x4x4x64x192, .f32⟩
  | 80 => ⟨S1x128x4x4x64x192, .f32⟩
  | 81 => ⟨S_, .f32⟩
  | 82 => ⟨S1x128x4x4x64x192, .f32⟩
  | 83 => ⟨S1x1x4x4x1x1, .f32⟩
  | 84 => ⟨S_, .f32⟩
  | 85 => ⟨S1x128x4x4x64, .f32⟩
  | 86 => ⟨S1x128x4x4x64x1, .f32⟩
  | 87 => ⟨S1x128x4x4x64x192, .f32⟩
  | 88 => ⟨S1x128x4x4x64x192, .i1⟩
  | 89 => ⟨S1x128x4x4x64x192, .f32⟩
  | 90 => ⟨S_, .f32⟩
  | 91 => ⟨S1x128x4x4x64, .f32⟩
  | 92 => ⟨S1x128x4x4x64x1, .f32⟩
  | 93 => ⟨S1x128x4x4x64x1, .f32⟩
  | 94 => ⟨S1x128x4x4x64x1, .f32⟩
  | 95 => ⟨S1x128x4x4x64x1, .f32⟩
  | 96 => ⟨S1x128x4x4x64x1, .i1⟩
  | 97 => ⟨S1x128x4x4x64x1, .f32⟩
  | 98 => ⟨S1x128x4x4x64x1, .i1⟩
  | 99 => ⟨S_, .f32⟩
  | 100 => ⟨S1x128x4x4x64x1, .f32⟩
  | 101 => ⟨S_, .f32⟩
  | 102 => ⟨S1x128x4x4x64x1, .f32⟩
  | 103 => ⟨S_, .f32⟩
  | 104 => ⟨S1x128x4x4x64x1, .f32⟩
  | 105 => ⟨S1x128x4x4x64x1, .f32⟩
  | 106 => ⟨S1x128x4x4x64x1, .f32⟩
  | 107 => ⟨S1x128x4x4x64x1, .f32⟩
  | 108 => ⟨S1x128x4x4x64x1, .i1⟩
  | 109 => ⟨S1x128x4x4x64x1, .f32⟩
  | 110 => ⟨S1x128x4x4x64x1, .i1⟩
  | 111 => ⟨S_, .f32⟩
  | 112 => ⟨S1x128x4x4x64x1, .f32⟩
  | 113 => ⟨S_, .f32⟩
  | 114 => ⟨S1x128x4x4x64x1, .f32⟩
  | 115 => ⟨S_, .f32⟩
  | 116 => ⟨S1x128x4x4x64x1, .f32⟩
  | 117 => ⟨S1x128x4x4x64x1, .f32⟩
  | 118 => ⟨S1x128x4x4x64x1, .f32⟩
  | 119 => ⟨S1x128x4x4x64x192, .f32⟩
  | 120 => ⟨S1x128x4x4x64x192, .f32⟩
  | 121 => ⟨S1x128x4x4x64x192, .f32⟩
  | 122 => ⟨S_, .f32⟩
  | 123 => ⟨S1x128x4x4x64, .f32⟩
  | 124 => ⟨S1x128x4x4x64x1, .f32⟩
  | 125 => ⟨S1x128x4x4x64x1, .f32⟩
  | 126 => ⟨S1x128x4x4x64x1, .f32⟩
  | 127 => ⟨S1x128x4x4x64x1, .f32⟩
  | _ => ⟨S8192x13824, .bf16⟩

abbrev hbmTy0_1 (i : Nat) : BufTy := match i % 128 with
  | 0 => ⟨S1x128x4x4x64x1, .f32⟩
  | 1 => ⟨S1x128x4x4x64x192, .f32⟩
  | 2 => ⟨S1x128x4x4x64x192, .f32⟩
  | 3 => ⟨S1x128x4x4x64x1, .f32⟩
  | 4 => ⟨S_, .f32⟩
  | 5 => ⟨S1x128x4x4x64x1, .f32⟩
  | 6 => ⟨S1x128x4x4x64x1, .f32⟩
  | 7 => ⟨S1x128x4x64x4x64, .f32⟩
  | 8 => ⟨S1x128x64x4x4x64, .f32⟩
  | 9 => ⟨S1x8192x1024, .f32⟩
  | 10 => ⟨S1x128x4x4x64x1, .f32⟩
  | 11 => ⟨S1x128x4x4x64x1, .f32⟩
  | 12 => ⟨S1x8192x1024, .f32⟩
  | 13 => ⟨S1x8192x1024, .f32⟩
  | 14 => ⟨S_, .f32⟩
  | 15 => ⟨S1x8192x1024, .f32⟩
  | 16 => ⟨S1x8192x1024, .f32⟩
  | 17 => ⟨S_, .f32⟩
  | 18 => ⟨S1x8192x1024, .f32⟩
  | 19 => ⟨S1x8192x1024, .f32⟩
  | 20 => ⟨S_, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S8192x1024, .f32⟩
  | 27 => ⟨S1x8192x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S1x8192x1024, .f32⟩
  | 33 => ⟨S1x8192x1024, .f32⟩
  | 34 => ⟨S1x128x64x4x4x64, .f32⟩
  | 35 => ⟨S1x128x4x64x4x64, .f32⟩
  | 36 => ⟨S1x128x4x4x64x192, .f32⟩
  | 37 => ⟨S1x128x4x64x192, .f32⟩
  | 38 => ⟨S1x128x192x4x64, .f32⟩
  | 39 => ⟨S1x128x4x4x64x192, .f32⟩
  | 40 => ⟨S1x128x4x4x64x192, .f32⟩
  | 41 => ⟨S1x128x4x4x64x192, .f32⟩
  | 42 => ⟨S_, .f32⟩
  | 43 => ⟨S1x128x4x4x64, .f32⟩
  | 44 => ⟨S1x128x4x4x64x1, .f32⟩
  | 45 => ⟨S1x128x4x4x64x1, .f32⟩
  | 46 => ⟨S1x128x4x4x64x192, .f32⟩
  | 47 => ⟨S1x128x4x4x64x192, .f32⟩
  | 48 => ⟨S1x128x4x4x64x1, .f32⟩
  | 49 => ⟨S_, .f32⟩
  | 50 => ⟨S1x4x4x1, .f32⟩
  | 51 => ⟨S1x1x4x4x1x1, .f32⟩
  | 52 => ⟨S1x128x4x4x64x1, .f32⟩
  | 53 => ⟨S_, .f32⟩
  | 54 => ⟨S128x4x4x64, .f32⟩
  | 55 => ⟨S1x128x4x4x64, .f32⟩
  | 56 => ⟨S1x128x4x4x64x192, .f32⟩
  | 57 => ⟨S1x128x4x4x64x192, .f32⟩
  | 58 => ⟨S1x128x4x4x64x192, .f32⟩
  | 59 => ⟨S1x128x4x4x64x192, .f32⟩
  | 60 => ⟨S_, .f32⟩
  | 61 => ⟨S1x128x4x4x64, .f32⟩
  | 62 => ⟨S1x128x4x4x64x1, .f32⟩
  | 63 => ⟨S1x128x4x4x64x1, .f32⟩
  | 64 => ⟨S1x128x4x4x64x1, .f32⟩
  | 65 => ⟨S_, .f32⟩
  | 66 => ⟨S1x4x4x1, .f32⟩
  | 67 => ⟨S1x1x4x4x1x1, .f32⟩
  | 68 => ⟨S1x1x4x4x1x1, .f32⟩
  | 69 => ⟨S1x128x4x4x64x1, .f32⟩
  | 70 => ⟨S_, .f32⟩
  | 71 => ⟨S128x4x4x64, .f32⟩
  | 72 => ⟨S1x128x4x4x64, .f32⟩
  | 73 => ⟨S1x128x4x4x64, .f32⟩
  | 74 => ⟨S1x128x4x4x64x192, .f32⟩
  | 75 => ⟨S1x128x4x4x64x192, .f32⟩
  | 76 => ⟨S1x128x4x4x64x192, .f32⟩
  | 77 => ⟨S16, .f32⟩
  | 78 => ⟨S_, .f32⟩
  | 79 => ⟨S1x128x4x4x64x192, .f32⟩
  | 80 => ⟨S1x128x4x4x64x192, .f32⟩
  | 81 => ⟨S_, .f32⟩
  | 82 => ⟨S1x128x4x4x64x192, .f32⟩
  | 83 => ⟨S1x128x4x4x64x192, .f32⟩
  | 84 => ⟨S1x128x4x192x64x4, .f32⟩
  | 85 => ⟨S1x128x4x64x4x64, .f32⟩
  | 86 => ⟨S1x128x64x4x4x64, .f32⟩
  | 87 => ⟨S1x128x4x192x64, .f32⟩
  | 88 => ⟨S1x128x192x4x64, .f32⟩
  | 89 => ⟨S1x128x64x4x64, .f32⟩
  | 90 => ⟨S1x128x64x4x64, .f32⟩
  | 91 => ⟨S1x128x64x4x64, .f32⟩
  | 92 => ⟨S_, .f32⟩
  | 93 => ⟨S1x130x64x4x64, .f32⟩
  | 94 => ⟨S_, .f32⟩
  | 95 => ⟨S1x130x64x4x64, .f32⟩
  | 96 => ⟨S1x130x64x4x64, .f32⟩
  | 97 => ⟨S_, .f32⟩
  | 98 => ⟨S1x130x64x4x64, .f32⟩
  | 99 => ⟨S1x130x64x4x64, .f32⟩
  | 100 => ⟨S1x8320x4x64, .f32⟩
  | 101 => ⟨S1x128x4x64, .f32⟩
  | 102 => ⟨S1x8192x4x64, .f32⟩
  | 103 => ⟨S1x128x64x4x64, .f32⟩
  | 104 => ⟨S1x128x64x4x64, .f32⟩
  | 105 => ⟨S1x128x64x4x64, .f32⟩
  | 106 => ⟨S_, .f32⟩
  | 107 => ⟨S1x130x64x4x64, .f32⟩
  | 108 => ⟨S_, .f32⟩
  | 109 => ⟨S1x130x64x4x64, .f32⟩
  | 110 => ⟨S1x130x64x4x64, .f32⟩
  | 111 => ⟨S_, .f32⟩
  | 112 => ⟨S1x130x64x4x64, .f32⟩
  | 113 => ⟨S1x130x64x4x64, .f32⟩
  | 114 => ⟨S1x8320x4x64, .f32⟩
  | 115 => ⟨S1x128x4x64, .f32⟩
  | 116 => ⟨S1x8192x4x64, .f32⟩
  | 117 => ⟨S1x8192x16x64, .f32⟩
  | 118 => ⟨S_, .f32⟩
  | 119 => ⟨S16, .f32⟩
  | 120 => ⟨S16, .f32⟩
  | 121 => ⟨S8192x1024, .f32⟩
  | 122 => ⟨S8192x1024, .bf16⟩
  | 123 => ⟨S8192x256, .f32⟩
  | 124 => ⟨S8192x256, .bf16⟩
  | 125 => ⟨S8192x256, .f32⟩
  | 126 => ⟨S8192x256, .bf16⟩
  | 127 => ⟨S8192x1024, .f32⟩
  | _ => ⟨S8192x13824, .bf16⟩

abbrev hbmTy0_2 (i : Nat) : BufTy := match i % 128 with
  | 0 => ⟨S8192x1024, .bf16⟩
  | 1 => ⟨S_, .i32⟩
  | 2 => ⟨S_, .f32⟩
  | 3 => ⟨S128, .f32⟩
  | 4 => ⟨S1x128, .f32⟩
  | _ => ⟨S8192x13824, .bf16⟩

abbrev hbmTy (i : Nat) : BufTy := match i / 128 with
  | 0 => hbmTy0_0 i
  | 1 => hbmTy0_1 i
  | 2 => hbmTy0_2 i
  | _ => ⟨S8192x13824, .bf16⟩

abbrev bufTy : (tb : Table) → Fin (tcTables nBuf tb) → BufTy
  | .hbm, ⟨i, _⟩ => hbmTy i
  | _, _ => ⟨S8192x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_call1_v0 : Ref sig .tc := ⟨.hbm, 77, rfl⟩
abbrev main_v48_1 : Ref sig .tc := ⟨.hbm, 78, rfl⟩
abbrev main_call1_v2 : Ref sig .tc := ⟨.hbm, 79, rfl⟩
abbrev main_v48_0 : Ref sig .tc := ⟨.hbm, 80, rfl⟩
abbrev main_call1_cst : Ref sig .tc := ⟨.hbm, 81, rfl⟩
abbrev main_v48_2 : Ref sig .tc := ⟨.hbm, 82, rfl⟩
abbrev main_v49 : Ref sig .tc := ⟨.hbm, 83, rfl⟩
abbrev main_cst_8 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_10 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_13 : Ref sig .tc := ⟨.hbm, 111, rfl⟩
abbrev main_v72 : Ref sig .tc := ⟨.hbm, 112, rfl⟩
abbrev main_cst_14 : Ref sig .tc := ⟨.hbm, 113, rfl⟩
abbrev main_v73 : Ref sig .tc := ⟨.hbm, 114, rfl⟩
abbrev main_cst_15 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_16 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_call2_v0 : Ref sig .tc := ⟨.hbm, 140, rfl⟩
abbrev main_call2_v1 : Ref sig .tc := ⟨.hbm, 141, rfl⟩
abbrev main_call2_cst : Ref sig .tc := ⟨.hbm, 142, rfl⟩
abbrev main_call2_v2 : Ref sig .tc := ⟨.hbm, 143, rfl⟩
abbrev main_call2_v3 : Ref sig .tc := ⟨.hbm, 144, rfl⟩
abbrev main_call2_cst_0 : Ref sig .tc := ⟨.hbm, 145, rfl⟩
abbrev main_call2_v4 : Ref sig .tc := ⟨.hbm, 146, rfl⟩
abbrev main_v96_2 : Ref sig .tc := ⟨.hbm, 147, rfl⟩
abbrev main_call2_cst_1 : Ref sig .tc := ⟨.hbm, 148, rfl⟩
abbrev main_call2_v6 : Ref sig .tc := ⟨.hbm, 149, rfl⟩
abbrev main_call2_v7 : Ref sig .tc := ⟨.hbm, 150, rfl⟩
abbrev main_v96_1 : Ref sig .tc := ⟨.hbm, 151, rfl⟩
abbrev main_v96_0 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_18 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_19 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_cst_20 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_21 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_22 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_23 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_call4_cst : Ref sig .tc := ⟨.hbm, 206, rfl⟩
abbrev main_call4_v0 : Ref sig .tc := ⟨.hbm, 207, rfl⟩
abbrev main_v141 : Ref sig .tc := ⟨.hbm, 208, rfl⟩
abbrev main_cst_24 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_cst_25 : Ref sig .tc := ⟨.hbm, 220, rfl⟩
abbrev main_v152 : Ref sig .tc := ⟨.hbm, 221, rfl⟩
abbrev main_cst_26 : Ref sig .tc := ⟨.hbm, 222, rfl⟩
abbrev main_v153 : Ref sig .tc := ⟨.hbm, 223, rfl⟩
abbrev main_v154 : Ref sig .tc := ⟨.hbm, 224, rfl⟩
abbrev main_cst_27 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_cst_28 : Ref sig .tc := ⟨.hbm, 234, rfl⟩
abbrev main_v163 : Ref sig .tc := ⟨.hbm, 235, rfl⟩
abbrev main_cst_29 : Ref sig .tc := ⟨.hbm, 236, rfl⟩
abbrev main_v164 : Ref sig .tc := ⟨.hbm, 237, rfl⟩
abbrev main_v165 : Ref sig .tc := ⟨.hbm, 238, rfl⟩
abbrev main_cst_30 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_cst_31 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_c_32 : Ref sig .tc := ⟨.hbm, 257, rfl⟩
abbrev main_call5_v0 : Ref sig .tc := ⟨.hbm, 258, rfl⟩
abbrev main_v182 : Ref sig .tc := ⟨.hbm, 259, rfl⟩
abbrev main_v183 : Ref sig .tc := ⟨.hbm, 260, rfl⟩

abbrev nD : Nat := 1
abbrev τ : Topo := Topo.v7x

variable {F : FTy → Type} [FloatOps F]
-- ==== Kernel13.lean ====
abbrev S4x2048x1536 : Shape := ⟨3, ![4, 2048, 1536]⟩
abbrev S8192x1536 : Shape := ⟨2, ![8192, 1536]⟩
abbrev S128x1536 : Shape := ⟨2, ![128, 1536]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1536, .f32⟩
  | .hbm, ⟨1, _⟩ => ⟨S4x2048x1536, .f32⟩
  | .hbm, ⟨2, _⟩ => ⟨S4x2048x1536, .f32⟩
  | .hbm, ⟨3, _⟩ => ⟨S4x2048x1536, .f32⟩
  | .hbm, ⟨4, _⟩ => ⟨S8192x1536, .f32⟩
  | .hbm, ⟨5, _⟩ => ⟨S8192x1536, .f32⟩
  | .hbm, ⟨6, _⟩ => ⟨S8192x1536, .f32⟩
  | .hbm, ⟨7, _⟩ => ⟨S8192x1536, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S8192x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4x2048x1536 : Shape := ⟨3, ![4, 2048, 1536]⟩
abbrev S_ : Shape := ⟨0, ![]⟩
abbrev S8192x1536 : Shape := ⟨2, ![8192, 1536]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1536, .f32⟩
  | .hbm, ⟨1, _⟩ => ⟨S4x2048x1536, .f32⟩
  | .hbm, ⟨2, _⟩ => ⟨S4x2048x1536, .f32⟩
  | .hbm, ⟨3, _⟩ => ⟨S4x2048x1536, .f32⟩
  | .hbm, ⟨4, _⟩ => ⟨S_, .f32⟩
  | .hbm, ⟨5, _⟩ => ⟨S4x2048x1536, .f32⟩
  | .hbm, ⟨6, _⟩ => ⟨S4x2048x1536, .f32⟩
  | .hbm, ⟨7, _⟩ => ⟨S_, .f32⟩
  | .hbm, ⟨8, _⟩ => ⟨S4x2048x1536, .f32⟩
  | .hbm, ⟨9, _⟩ => ⟨S4x2048x1536, .f32⟩
  | .hbm, ⟨10, _⟩ => ⟨S4x2048x1536, .f32⟩
  | .hbm, ⟨11, _⟩ => ⟨S_, .f32⟩
  | .hbm, ⟨12, _⟩ => ⟨S4x2048x1536, .f32⟩
  | .hbm, ⟨13, _⟩ => ⟨S4x2048x1536, .f32⟩
  | .hbm, ⟨14, _⟩ => ⟨S4x2048x1536, .f32⟩
  | .hbm, ⟨15, _⟩ => ⟨S_, .f32⟩
  | .hbm, ⟨16, _⟩ => ⟨S4x2048x1536, .f32⟩
  | .hbm, ⟨17, _⟩ => ⟨S4x2048x1536, .f32⟩
  | .hbm, ⟨18, _⟩ => ⟨S4x2048x1536, .f32⟩
  | .hbm, ⟨19, _⟩ => ⟨S_, .f32⟩
  | .hbm, ⟨20, _⟩ => ⟨S4x2048x1536, .f32⟩
  | .hbm, ⟨21, _⟩ => ⟨S4x2048x1536, .f32⟩
  | .hbm, ⟨22, _⟩ => ⟨S_, .f32⟩
  | .hbm, ⟨23, _⟩ => ⟨S4x2048x1536, .f32⟩
  | .hbm, ⟨24, _⟩ => ⟨S4x2048x1536, .f32⟩
  | .hbm, ⟨25, _⟩ => ⟨S4x2048x1536, .f32⟩
  | .hbm, ⟨26, _⟩ => ⟨S_, .f32⟩
  | .hbm, ⟨27, _⟩ => ⟨S4x2048x1536, .f32⟩
  | .hbm, ⟨28, _⟩ => ⟨S4x2048x1536, .f32⟩
  | .hbm, ⟨29, _⟩ => ⟨S4x2048x1536, .f32⟩
  | .hbm, ⟨30, _⟩ => ⟨S_, .f32⟩
  | .hbm, ⟨31, _⟩ => ⟨S4x2048x1536, .f32⟩
  | .hbm, ⟨32, _⟩ => ⟨S4x2048x1536, .f32⟩
  | .hbm, ⟨33, _⟩ => ⟨S4x2048x1536, .f32⟩
  | .hbm, ⟨34, _⟩ => ⟨S_, .f32⟩
  | .hbm, ⟨35, _⟩ => ⟨S4x2048x1536, .f32⟩
  | .hbm, ⟨36, _⟩ => ⟨S4x2048x1536, .f32⟩
  | .hbm, ⟨37, _⟩ => ⟨S8192x1536, .f32⟩
  | .hbm, ⟨38, _⟩ => ⟨S8192x1536, .f32⟩
  | .hbm, ⟨39, _⟩ => ⟨S8192x1536, .f32⟩
  | .hbm, ⟨40, _⟩ => ⟨S8192x1536, .f32⟩
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel14.lean ====
abbrev S8x2048 : Shape := ⟨2, ![8, 2048]⟩
abbrev S4x8x1536 : Shape := ⟨3, ![4, 8, 1536]⟩
abbrev S2048x8 : Shape := ⟨2, ![2048, 8]⟩
abbrev S4x2048x1536 : Shape := ⟨3, ![4, 2048, 1536]⟩
abbrev S512x8 : Shape := ⟨2, ![512, 8]⟩
abbrev S1x8x512 : Shape := ⟨3, ![1, 8, 512]⟩
abbrev S1x512x512 : Shape := ⟨3, ![1, 512, 512]⟩
abbrev S8x512 : Shape := ⟨2, ![8, 512]⟩
abbrev S512x1 : Shape := ⟨2, ![512, 1]⟩
abbrev S1x512 : Shape := ⟨2, ![1, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S2048x8, .f32⟩
  | .hbm, ⟨3, _⟩ => ⟨S4x2048x1536, .f32⟩
  | .local _ .vmem, ⟨0, _⟩ => ⟨S512x8, .f32⟩
  | .local _ .vmem, ⟨1, _⟩ => ⟨S512x8, .f32⟩
  | .local _ .vmem, ⟨2, _⟩ => ⟨S1x8x512, .f32⟩
  | .local _ .vmem, ⟨3, _⟩ => ⟨S1x8x512, .f32⟩
  | .local _ .vmem, ⟨4, _⟩ => ⟨S1x512x512, .f32⟩
  | .local _ .vmem, ⟨5, _⟩ => ⟨S1x512x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference14Ideal.lean ====
abbrev S8x2048 : Shape := ⟨2, ![8, 2048]⟩
abbrev S4x8x1536 : Shape := ⟨3, ![4, 8, 1536]⟩
abbrev S_ : Shape := ⟨0, ![]⟩
abbrev S4x2048x1536 : Shape := ⟨3, ![4, 2048, 1536]⟩
abbrev S4x1536x8 : Shape := ⟨3, ![4, 1536, 8]⟩
abbrev S4x1536x2048 : Shape := ⟨3, ![4, 1536, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x8x1536, .f32⟩
  | .hbm, ⟨2, _⟩ => ⟨S_, .f32⟩
  | .hbm, ⟨3, _⟩ => ⟨S4x2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S4x1536x8, .f32⟩
  | .hbm, ⟨14, _⟩ => ⟨S4x8x1536, .f32⟩
  | .hbm, ⟨15, _⟩ => ⟨S4x1536x8, .f32⟩
  | .hbm, ⟨16, _⟩ => ⟨S4x1536x2048, .f32⟩
  | .hbm, ⟨17, _⟩ => ⟨S4x2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel15.lean ====
abbrev S4x2048 : Shape := ⟨2, ![4, 2048]⟩
abbrev S4x6144 : Shape := ⟨2, ![4, 6144]⟩
abbrev S4x1024 : Shape := ⟨2, ![4, 1024]⟩
abbrev S4x16 : Shape := ⟨2, ![4, 16]⟩
abbrev S4x31x256 : Shape := ⟨3, ![4, 31, 256]⟩
abbrev S2048 : Shape := ⟨1, ![2048]⟩
abbrev S8192 : Shape := ⟨1, ![8192]⟩
abbrev S24576 : Shape := ⟨1, ![24576]⟩
abbrev S4096 : Shape := ⟨1, ![4096]⟩
abbrev S64 : Shape := ⟨1, ![64]⟩
abbrev S31744 : Shape := ⟨1, ![31744]⟩
abbrev S83008 : Shape := ⟨1, ![83008]⟩
abbrev S_ : Shape := ⟨0, ![]⟩
abbrev S83968 : Shape := ⟨1, ![83968]⟩
abbrev S8x10496 : Shape := ⟨2, ![8, 10496]⟩

abbrev nBuf : Space → Nat
  | .hbm => 92
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x6144, .f32⟩
  | .hbm, ⟨2, _⟩ => ⟨S4x1024, .f32⟩
  | .hbm, ⟨3, _⟩ => ⟨S4x16, .f32⟩
  | .hbm, ⟨4, _⟩ => ⟨S4x31x256, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S2048, .f32⟩
  | .hbm, ⟨9, _⟩ => ⟨S4x2048, .f32⟩
  | .hbm, ⟨10, _⟩ => ⟨S4x6144, .f32⟩
  | .hbm, ⟨11, _⟩ => ⟨S4x1024, .f32⟩
  | .hbm, ⟨12, _⟩ => ⟨S4x16, .f32⟩
  | .hbm, ⟨13, _⟩ => ⟨S4x31x256, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S2048, .f32⟩
  | .hbm, ⟨18, _⟩ => ⟨S4x2048, .f32⟩
  | .hbm, ⟨19, _⟩ => ⟨S4x6144, .f32⟩
  | .hbm, ⟨20, _⟩ => ⟨S4x1024, .f32⟩
  | .hbm, ⟨21, _⟩ => ⟨S4x16, .f32⟩
  | .hbm, ⟨22, _⟩ => ⟨S4x31x256, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S2048, .f32⟩
  | .hbm, ⟨27, _⟩ => ⟨S4x2048, .f32⟩
  | .hbm, ⟨28, _⟩ => ⟨S4x6144, .f32⟩
  | .hbm, ⟨29, _⟩ => ⟨S4x1024, .f32⟩
  | .hbm, ⟨30, _⟩ => ⟨S4x16, .f32⟩
  | .hbm, ⟨31, _⟩ => ⟨S4x31x256, .f32⟩
  | .hbm, ⟨32, _⟩ => ⟨S4x1024, .f32⟩
  | .hbm, ⟨33, _⟩ => ⟨S4x1024, .f32⟩
  | .hbm, ⟨34, _⟩ => ⟨S4x1024, .f32⟩
  | .hbm, ⟨35, _⟩ => ⟨S2048, .f32⟩
  | .hbm, ⟨36, _⟩ => ⟨S8192, .f32⟩
  | .hbm, ⟨37, _⟩ => ⟨S24576, .f32⟩
  | .hbm, ⟨38, _⟩ => ⟨S4096, .f32⟩
  | .hbm, ⟨39, _⟩ => ⟨S64, .f32⟩
  | .hbm, ⟨40, _⟩ => ⟨S31744, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S83008, .f32⟩
  | .hbm, ⟨45, _⟩ => ⟨S_, .i32⟩
  | .hbm, ⟨46, _⟩ => ⟨S_, .f32⟩
  | .hbm, ⟨47, _⟩ => ⟨S83968, .f32⟩
  | .hbm, ⟨48, _⟩ => ⟨S8x10496, .f32⟩
  | .hbm, ⟨49, _⟩ => ⟨S8192, .f32⟩
  | .hbm, ⟨50, _⟩ => ⟨S24576, .f32⟩
  | .hbm, ⟨51, _⟩ => ⟨S4096, .f32⟩
  | .hbm, ⟨52, _⟩ => ⟨S64, .f32⟩
  | .hbm, ⟨53, _⟩ => ⟨S31744, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S83008, .f32⟩
  | .hbm, ⟨58, _⟩ => ⟨S_, .i32⟩
  | .hbm, ⟨59, _⟩ => ⟨S_, .f32⟩
  | .hbm, ⟨60, _⟩ => ⟨S83968, .f32⟩
  | .hbm, ⟨61, _⟩ => ⟨S8x10496, .f32⟩
  | .hbm, ⟨62, _⟩ => ⟨S8192, .f32⟩
  | .hbm, ⟨63, _⟩ => ⟨S24576, .f32⟩
  | .hbm, ⟨64, _⟩ => ⟨S4096, .f32⟩
  | .hbm, ⟨65, _⟩ => ⟨S64, .f32⟩
  | .hbm, ⟨66, _⟩ => ⟨S31744, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S83008, .f32⟩
  | .hbm, ⟨71, _⟩ => ⟨S_, .i32⟩
  | .hbm, ⟨72, _⟩ => ⟨S_, .f32⟩
  | .hbm, ⟨73, _⟩ => ⟨S83968, .f32⟩
  | .hbm, ⟨74, _⟩ => ⟨S8x10496, .f32⟩
  | .hbm, ⟨75, _⟩ => ⟨S8192, .f32⟩
  | .hbm, ⟨76, _⟩ => ⟨S24576, .f32⟩
  | .hbm, ⟨77, _⟩ => ⟨S4096, .f32⟩
  | .hbm, ⟨78, _⟩ => ⟨S64, .f32⟩
  | .hbm, ⟨79, _⟩ => ⟨S31744, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S83008, .f32⟩
  | .hbm, ⟨84, _⟩ => ⟨S_, .i32⟩
  | .hbm, ⟨85, _⟩ => ⟨S_, .f32⟩
  | .hbm, ⟨86, _⟩ => ⟨S83968, .f32⟩
  | .hbm, ⟨87, _⟩ => ⟨S8x10496, .f32⟩
  | .hbm, ⟨88, _⟩ => ⟨S8x10496, .f32⟩
  | .hbm, ⟨89, _⟩ => ⟨S8x10496, .f32⟩
  | .hbm, ⟨90, _⟩ => ⟨S8x10496, .f32⟩
  | .hbm, ⟨91, _⟩ => ⟨S8x10496, .f32⟩
  | .local _ .vmem, ⟨0, _⟩ => ⟨S8x10496, .f32⟩
  | .local _ .vmem, ⟨1, _⟩ => ⟨S8x10496, .f32⟩
  | .local _ .vmem, ⟨2, _⟩ => ⟨S8x10496, .f32⟩
  | .local _ .vmem, ⟨3, _⟩ => ⟨S8x10496, .f32⟩
  | .local _ .vmem, ⟨4, _⟩ => ⟨S8x10496, .f32⟩
  | .local _ .vmem, ⟨5, _⟩ => ⟨S8x10496, .f32⟩
  | .local _ .vmem, ⟨6, _⟩ => ⟨S8x10496, .f32⟩
  | .local _ .vmem, ⟨7, _⟩ => ⟨S8x10496, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_c : Ref sig .tc := ⟨.hbm, 45, rfl⟩
abbrev main_call0_v0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_0 : Ref sig .tc := ⟨.hbm, 58, rfl⟩
abbrev main_call1_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_1 : Ref sig .tc := ⟨.hbm, 71, rfl⟩
abbrev main_call2_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_2 : Ref sig .tc := ⟨.hbm, 84, rfl⟩
abbrev main_call3_v0 : Ref sig .tc := ⟨.hbm, 85, rfl⟩
abbrev main_v42 : Ref sig .tc := ⟨.hbm, 86, rfl⟩
abbrev main_v43 : Ref sig .tc := ⟨.hbm, 87, rfl⟩
abbrev main_v44_0 : Ref sig .tc := ⟨.hbm, 88, rfl⟩
abbrev main_v44_1 : Ref sig .tc := ⟨.hbm, 89, rfl⟩
abbrev main_v44_2 : Ref sig .tc := ⟨.hbm, 90, rfl⟩
abbrev main_v44_3 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x10496 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x10496 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x10496 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x10496 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x10496 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x10496 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x10496 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x10496 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S4x2048 : Shape := ⟨2, ![4, 2048]⟩
abbrev S4x6144 : Shape := ⟨2, ![4, 6144]⟩
abbrev S4x1024 : Shape := ⟨2, ![4, 1024]⟩
abbrev S4x16 : Shape := ⟨2, ![4, 16]⟩
abbrev S4x31x256 : Shape := ⟨3, ![4, 31, 256]⟩
abbrev S2048 : Shape := ⟨1, ![2048]⟩
abbrev S_ : Shape := ⟨0, ![]⟩
abbrev S8192 : Shape := ⟨1, ![8192]⟩
abbrev S24576 : Shape := ⟨1, ![24576]⟩
abbrev S4096 : Shape := ⟨1, ![4096]⟩
abbrev S64 : Shape := ⟨1, ![64]⟩
abbrev S31744 : Shape := ⟨1, ![31744]⟩
abbrev S960 : Shape := ⟨1, ![960]⟩
abbrev S83968 : Shape := ⟨1, ![83968]⟩
abbrev S8x10496 : Shape := ⟨2, ![8, 10496]⟩

abbrev nBuf : Space → Nat
  | .hbm => 381
  | .vmem => 0
  | .smem => 0
  | _ => 0

abbrev hbmTy0_0 (i : Nat) : BufTy := match i % 128 with
  | 0 => ⟨S4x2048, .f32⟩
  | 1 => ⟨S4x6144, .f32⟩
  | 2 => ⟨S4x1024, .f32⟩
  | 3 => ⟨S4x16, .f32⟩
  | 4 => ⟨S4x31x256, .f32⟩
  | 5 => ⟨S4x1024, .f32⟩
  | 6 => ⟨S4x1024, .f32⟩
  | 7 => ⟨S4x1024, .f32⟩
  | 8 => ⟨S2048, .f32⟩
  | 9 => ⟨S4x2048, .f32⟩
  | 10 => ⟨S4x6144, .f32⟩
  | 11 => ⟨S4x1024, .f32⟩
  | 12 => ⟨S4x16, .f32⟩
  | 13 => ⟨S4x31x256, .f32⟩
  | 14 => ⟨S4x1024, .f32⟩
  | 15 => ⟨S4x1024, .f32⟩
  | 16 => ⟨S4x1024, .f32⟩
  | 17 => ⟨S2048, .f32⟩
  | 18 => ⟨S4x2048, .f32⟩
  | 19 => ⟨S4x6144, .f32⟩
  | 20 => ⟨S4x1024, .f32⟩
  | 21 => ⟨S4x16, .f32⟩
  | 22 => ⟨S4x31x256, .f32⟩
  | 23 => ⟨S4x1024, .f32⟩
  | 24 => ⟨S4x1024, .f32⟩
  | 25 => ⟨S4x1024, .f32⟩
  | 26 => ⟨S2048, .f32⟩
  | 27 => ⟨S4x2048, .f32⟩
  | 28 => ⟨S4x6144, .f32⟩
  | 29 => ⟨S4x1024, .f32⟩
  | 30 => ⟨S4x16, .f32⟩
  | 31 => ⟨S4x31x256, .f32⟩
  | 32 => ⟨S4x1024, .f32⟩
  | 33 => ⟨S4x1024, .f32⟩
  | 34 => ⟨S4x1024, .f32⟩
  | 35 => ⟨S2048, .f32⟩
  | 36 => ⟨S_, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S4x2048, .f32⟩
  | 51 => ⟨S_, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S4x2048, .f32⟩
  | 66 => ⟨S_, .f32⟩
  | 67 => ⟨S4x2048, .f32⟩
  | 68 => ⟨S4x2048, .f32⟩
  | 69 => ⟨S_, .f32⟩
  | 70 => ⟨S4x6144, .f32⟩
  | 71 => ⟨S4x6144, .f32⟩
  | 72 => ⟨S_, .f32⟩
  | 73 => ⟨S4x6144, .f32⟩
  | 74 => ⟨S4x6144, .f32⟩
  | 75 => ⟨S4x6144, .f32⟩
  | 76 => ⟨S_, .f32⟩
  | 77 => ⟨S4x6144, .f32⟩
  | 78 => ⟨S4x6144, .f32⟩
  | 79 => ⟨S4x6144, .f32⟩
  | 80 => ⟨S_, .f32⟩
  | 81 => ⟨S4x6144, .f32⟩
  | 82 => ⟨S4x6144, .f32⟩
  | 83 => ⟨S4x6144, .f32⟩
  | 84 => ⟨S_, .f32⟩
  | 85 => ⟨S4x6144, .f32⟩
  | 86 => ⟨S4x6144, .f32⟩
  | 87 => ⟨S_, .f32⟩
  | 88 => ⟨S4x6144, .f32⟩
  | 89 => ⟨S4x6144, .f32⟩
  | 90 => ⟨S4x6144, .f32⟩
  | 91 => ⟨S_, .f32⟩
  | 92 => ⟨S4x6144, .f32⟩
  | 93 => ⟨S4x6144, .f32⟩
  | 94 => ⟨S4x6144, .f32⟩
  | 95 => ⟨S_, .f32⟩
  | 96 => ⟨S4x6144, .f32⟩
  | 97 => ⟨S4x6144, .f32⟩
  | 98 => ⟨S4x6144, .f32⟩
  | 99 => ⟨S_, .f32⟩
  | 100 => ⟨S4x6144, .f32⟩
  | 101 => ⟨S4x6144, .f32⟩
  | 102 => ⟨S_, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S4x1024, .f32⟩
  | 117 => ⟨S_, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S4x2048, .f32⟩

abbrev hbmTy0_1 (i : Nat) : BufTy := match i % 128 with
  | 0 => ⟨S_, .f32⟩
  | 1 => ⟨S4x1024, .f32⟩
  | 2 => ⟨S4x1024, .f32⟩
  | 3 => ⟨S4x1024, .f32⟩
  | 4 => ⟨S_, .f32⟩
  | 5 => ⟨S4x1024, .f32⟩
  | 6 => ⟨S4x1024, .f32⟩
  | 7 => ⟨S_, .f32⟩
  | 8 => ⟨S4x16, .f32⟩
  | 9 => ⟨S4x16, .f32⟩
  | 10 => ⟨S_, .f32⟩
  | 11 => ⟨S4x16, .f32⟩
  | 12 => ⟨S4x16, .f32⟩
  | 13 => ⟨S4x16, .f32⟩
  | 14 => ⟨S_, .f32⟩
  | 15 => ⟨S4x16, .f32⟩
  | 16 => ⟨S4x16, .f32⟩
  | 17 => ⟨S4x16, .f32⟩
  | 18 => ⟨S_, .f32⟩
  | 19 => ⟨S4x16, .f32⟩
  | 20 => ⟨S4x16, .f32⟩
  | 21 => ⟨S4x16, .f32⟩
  | 22 => ⟨S_, .f32⟩
  | 23 => ⟨S4x16, .f32⟩
  | 24 => ⟨S4x16, .f32⟩
  | 25 => ⟨S_, .f32⟩
  | 26 => ⟨S4x16, .f32⟩
  | 27 => ⟨S4x16, .f32⟩
  | 28 => ⟨S4x16, .f32⟩
  | 29 => ⟨S_, .f32⟩
  | 30 => ⟨S4x16, .f32⟩
  | 31 => ⟨S4x16, .f32⟩
  | 32 => ⟨S4x16, .f32⟩
  | 33 => ⟨S_, .f32⟩
  | 34 => ⟨S4x16, .f32⟩
  | 35 => ⟨S4x16, .f32⟩
  | 36 => ⟨S4x16, .f32⟩
  | 37 => ⟨S_, .f32⟩
  | 38 => ⟨S4x16, .f32⟩
  | 39 => ⟨S4x16, .f32⟩
  | 40 => ⟨S_, .f32⟩
  | 41 => ⟨S4x31x256, .f32⟩
  | 42 => ⟨S4x31x256, .f32⟩
  | 43 => ⟨S_, .f32⟩
  | 44 => ⟨S4x31x256, .f32⟩
  | 45 => ⟨S4x31x256, .f32⟩
  | 46 => ⟨S4x31x256, .f32⟩
  | 47 => ⟨S_, .f32⟩
  | 48 => ⟨S4x31x256, .f32⟩
  | 49 => ⟨S4x31x256, .f32⟩
  | 50 => ⟨S4x31x256, .f32⟩
  | 51 => ⟨S_, .f32⟩
  | 52 => ⟨S4x31x256, .f32⟩
  | 53 => ⟨S4x31x256, .f32⟩
  | 54 => ⟨S4x31x256, .f32⟩
  | 55 => ⟨S_, .f32⟩
  | 56 => ⟨S4x31x256, .f32⟩
  | 57 => ⟨S4x31x256, .f32⟩
  | 58 => ⟨S_, .f32⟩
  | 59 => ⟨S4x31x256, .f32⟩
  | 60 => ⟨S4x31x256, .f32⟩
  | 61 => ⟨S4x31x256, .f32⟩
  | 62 => ⟨S_, .f32⟩
  | 63 => ⟨S4x31x256, .f32⟩
  | 64 => ⟨S4x31x256, .f32⟩
  | 65 => ⟨S4x31x256, .f32⟩
  | 66 => ⟨S_, .f32⟩
  | 67 => ⟨S4x31x256, .f32⟩
  | 68 => ⟨S4x31x256, .f32⟩
  | 69 => ⟨S4x31x256, .f32⟩
  | 70 => ⟨S_, .f32⟩
  | 71 => ⟨S4x31x256, .f32⟩
  | 72 => ⟨S4x31x256, .f32⟩
  | 73 => ⟨S_, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S4x1024, .f32⟩
  | 88 => ⟨S_, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S4x1024, .f32⟩
  | 103 => ⟨S_, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S4x1024, .f32⟩
  | 117 => ⟨S_, .f32⟩
  | 118 => ⟨S4x1024, .f32⟩
  | 119 => ⟨S4x1024, .f32⟩
  | 120 => ⟨S4x1024, .f32⟩
  | 121 => ⟨S_, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S4x2048, .f32⟩

abbrev hbmTy0_2 (i : Nat) : BufTy := match i % 128 with
  | 0 => ⟨S_, .f32⟩
  | 1 => ⟨S4x1024, .f32⟩
  | 2 => ⟨S4x1024, .f32⟩
  | 3 => ⟨S4x1024, .f32⟩
  | 4 => ⟨S_, .f32⟩
  | 5 => ⟨S4x1024, .f32⟩
  | 6 => ⟨S4x1024, .f32⟩
  | 7 => ⟨S4x1024, .f32⟩
  | 8 => ⟨S_, .f32⟩
  | 9 => ⟨S4x1024, .f32⟩
  | 10 => ⟨S4x1024, .f32⟩
  | 11 => ⟨S_, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S4x1024, .f32⟩
  | 26 => ⟨S_, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S4x1024, .f32⟩
  | 41 => ⟨S_, .f32⟩
  | 42 => ⟨S4x1024, .f32⟩
  | 43 => ⟨S4x1024, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | 77 => ⟨S8192, .f32⟩
  | 78 => ⟨S24576, .f32⟩
  | 79 => ⟨S4096, .f32⟩
  | 80 => ⟨S64, .f32⟩
  | 81 => ⟨S31744, .f32⟩
  | 82 => ⟨S4096, .f32⟩
  | 83 => ⟨S4096, .f32⟩
  | 84 => ⟨S4096, .f32⟩
  | 85 => ⟨S_, .f32⟩
  | 86 => ⟨S960, .f32⟩
  | 87 => ⟨S83968, .f32⟩
  | 88 => ⟨S8x10496, .f32⟩
  | 89 => ⟨S8192, .f32⟩
  | 90 => ⟨S24576, .f32⟩
  | 91 => ⟨S4096, .f32⟩
  | 92 => ⟨S64, .f32⟩
  | 93 => ⟨S31744, .f32⟩
  | 94 => ⟨S4096, .f32⟩
  | 95 => ⟨S4096, .f32⟩
  | 96 => ⟨S4096, .f32⟩
  | 97 => ⟨S_, .f32⟩
  | 98 => ⟨S960, .f32⟩
  | 99 => ⟨S83968, .f32⟩
  | 100 => ⟨S8x10496, .f32⟩
  | 101 => ⟨S8192, .f32⟩
  | 102 => ⟨S24576, .f32⟩
  | 103 => ⟨S4096, .f32⟩
  | 104 => ⟨S64, .f32⟩
  | 105 => ⟨S31744, .f32⟩
  | 106 => ⟨S4096, .f32⟩
  | 107 => ⟨S4096, .f32⟩
  | 108 => ⟨S4096, .f32⟩
  | 109 => ⟨S_, .f32⟩
  | 110 => ⟨S960, .f32⟩
  | 111 => ⟨S83968, .f32⟩
  | 112 => ⟨S8x10496, .f32⟩
  | 113 => ⟨S8192, .f32⟩
  | 114 => ⟨S24576, .f32⟩
  | 115 => ⟨S4096, .f32⟩
  | 116 => ⟨S64, .f32⟩
  | 117 => ⟨S31744, .f32⟩
  | 118 => ⟨S4096, .f32⟩
  | 119 => ⟨S4096, .f32⟩
  | 120 => ⟨S4096, .f32⟩
  | 121 => ⟨S_, .f32⟩
  | 122 => ⟨S960, .f32⟩
  | 123 => ⟨S83968, .f32⟩
  | 124 => ⟨S8x10496, .f32⟩
  | _ => ⟨S4x2048, .f32⟩

abbrev hbmTy (i : Nat) : BufTy := match i / 128 with
  | 0 => hbmTy0_0 i
  | 1 => hbmTy0_1 i
  | 2 => hbmTy0_2 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_cst_80 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_cst_81 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_cst_82 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_cst_83 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩

abbrev nD : Nat := 1
abbrev τ : Topo := Topo.v7x

variable {F : FTy → Type} [FloatOps F]
-- ==== Kernel16.lean ====
abbrev S4x1024x512 : Shape := ⟨3, ![4, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
abbrev S4x1024x512 : Shape := ⟨3, ![4, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4x1024x512 : Shape := ⟨3, ![4, 1024, 512]⟩
abbrev S1024x512 : Shape := ⟨2, ![1024, 512]⟩
abbrev S1x1024x512 : Shape := ⟨3, ![1, 1024, 512]⟩
abbrev S_ : Shape := ⟨0, ![]⟩
abbrev S0x1024x512 : Shape := ⟨3, ![0, 1024, 512]⟩
abbrev S3x1024x512 : Shape := ⟨3, ![3, 1024, 512]⟩

abbrev nBuf : Space → Nat
  | .hbm => 65
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S1024x512, .f32⟩
  | .hbm, ⟨10, _⟩ => ⟨S1x1024x512, .f32⟩
  | .hbm, ⟨11, _⟩ => ⟨S1024x512, .f32⟩
  | .hbm, ⟨12, _⟩ => ⟨S1x1024x512, .f32⟩
  | .hbm, ⟨13, _⟩ => ⟨S1024x512, .f32⟩
  | .hbm, ⟨14, _⟩ => ⟨S1x1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S0x1024x512, .f32⟩
  | .hbm, ⟨50, _⟩ => ⟨S1x1024x512, .f32⟩
  | .hbm, ⟨51, _⟩ => ⟨S3x1024x512, .f32⟩
  | .hbm, ⟨52, _⟩ => ⟨S4x1024x512, .f32⟩
  | .hbm, ⟨53, _⟩ => ⟨S0x1024x512, .f32⟩
  | .hbm, ⟨54, _⟩ => ⟨S1x1024x512, .f32⟩
  | .hbm, ⟨55, _⟩ => ⟨S3x1024x512, .f32⟩
  | .hbm, ⟨56, _⟩ => ⟨S4x1024x512, .f32⟩
  | .hbm, ⟨57, _⟩ => ⟨S0x1024x512, .f32⟩
  | .hbm, ⟨58, _⟩ => ⟨S1x1024x512, .f32⟩
  | .hbm, ⟨59, _⟩ => ⟨S3x1024x512, .f32⟩
  | .hbm, ⟨60, _⟩ => ⟨S4x1024x512, .f32⟩
  | .hbm, ⟨61, _⟩ => ⟨S0x1024x512, .f32⟩
  | .hbm, ⟨62, _⟩ => ⟨S1x1024x512, .f32⟩
  | .hbm, ⟨63, _⟩ => ⟨S3x1024x512, .f32⟩
  | .hbm, ⟨64, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel17.lean ====
abbrev S4x1024x512 : Shape := ⟨3, ![4, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel17Ideal.lean ====
abbrev S4x1024x512 : Shape := ⟨3, ![4, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S4x1024x512 : Shape := ⟨3, ![4, 1024, 512]⟩
abbrev S1024x512 : Shape := ⟨2, ![1024, 512]⟩
abbrev S1x1024x512 : Shape := ⟨3, ![1, 1024, 512]⟩
abbrev S_ : Shape := ⟨0, ![]⟩
abbrev S2x1024x512 : Shape := ⟨3, ![2, 1024, 512]⟩

abbrev nBuf : Space → Nat
  | .hbm => 65
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S1024x512, .f32⟩
  | .hbm, ⟨10, _⟩ => ⟨S1x1024x512, .f32⟩
  | .hbm, ⟨11, _⟩ => ⟨S1024x512, .f32⟩
  | .hbm, ⟨12, _⟩ => ⟨S1x1024x512, .f32⟩
  | .hbm, ⟨13, _⟩ => ⟨S1024x512, .f32⟩
  | .hbm, ⟨14, _⟩ => ⟨S1x1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S1x1024x512, .f32⟩
  | .hbm, ⟨50, _⟩ => ⟨S1x1024x512, .f32⟩
  | .hbm, ⟨51, _⟩ => ⟨S2x1024x512, .f32⟩
  | .hbm, ⟨52, _⟩ => ⟨S4x1024x512, .f32⟩
  | .hbm, ⟨53, _⟩ => ⟨S1x1024x512, .f32⟩
  | .hbm, ⟨54, _⟩ => ⟨S1x1024x512, .f32⟩
  | .hbm, ⟨55, _⟩ => ⟨S2x1024x512, .f32⟩
  | .hbm, ⟨56, _⟩ => ⟨S4x1024x512, .f32⟩
  | .hbm, ⟨57, _⟩ => ⟨S1x1024x512, .f32⟩
  | .hbm, ⟨58, _⟩ => ⟨S1x1024x512, .f32⟩
  | .hbm, ⟨59, _⟩ => ⟨S2x1024x512, .f32⟩
  | .hbm, ⟨60, _⟩ => ⟨S4x1024x512, .f32⟩
  | .hbm, ⟨61, _⟩ => ⟨S1x1024x512, .f32⟩
  | .hbm, ⟨62, _⟩ => ⟨S1x1024x512, .f32⟩
  | .hbm, ⟨63, _⟩ => ⟨S2x1024x512, .f32⟩
  | .hbm, ⟨64, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel18.lean ====
abbrev S4x1024x512 : Shape := ⟨3, ![4, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
abbrev S4x1024x512 : Shape := ⟨3, ![4, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S4x1024x512 : Shape := ⟨3, ![4, 1024, 512]⟩
abbrev S1024x512 : Shape := ⟨2, ![1024, 512]⟩
abbrev S1x1024x512 : Shape := ⟨3, ![1, 1024, 512]⟩
abbrev S_ : Shape := ⟨0, ![]⟩
abbrev S2x1024x512 : Shape := ⟨3, ![2, 1024, 512]⟩

abbrev nBuf : Space → Nat
  | .hbm => 65
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S1024x512, .f32⟩
  | .hbm, ⟨10, _⟩ => ⟨S1x1024x512, .f32⟩
  | .hbm, ⟨11, _⟩ => ⟨S1024x512, .f32⟩
  | .hbm, ⟨12, _⟩ => ⟨S1x1024x512, .f32⟩
  | .hbm, ⟨13, _⟩ => ⟨S1024x512, .f32⟩
  | .hbm, ⟨14, _⟩ => ⟨S1x1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S2x1024x512, .f32⟩
  | .hbm, ⟨50, _⟩ => ⟨S1x1024x512, .f32⟩
  | .hbm, ⟨51, _⟩ => ⟨S1x1024x512, .f32⟩
  | .hbm, ⟨52, _⟩ => ⟨S4x1024x512, .f32⟩
  | .hbm, ⟨53, _⟩ => ⟨S2x1024x512, .f32⟩
  | .hbm, ⟨54, _⟩ => ⟨S1x1024x512, .f32⟩
  | .hbm, ⟨55, _⟩ => ⟨S1x1024x512, .f32⟩
  | .hbm, ⟨56, _⟩ => ⟨S4x1024x512, .f32⟩
  | .hbm, ⟨57, _⟩ => ⟨S2x1024x512, .f32⟩
  | .hbm, ⟨58, _⟩ => ⟨S1x1024x512, .f32⟩
  | .hbm, ⟨59, _⟩ => ⟨S1x1024x512, .f32⟩
  | .hbm, ⟨60, _⟩ => ⟨S4x1024x512, .f32⟩
  | .hbm, ⟨61, _⟩ => ⟨S2x1024x512, .f32⟩
  | .hbm, ⟨62, _⟩ => ⟨S1x1024x512, .f32⟩
  | .hbm, ⟨63, _⟩ => ⟨S1x1024x512, .f32⟩
  | .hbm, ⟨64, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel19.lean ====
abbrev S4x1024x512 : Shape := ⟨3, ![4, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 13
  | .vmem => 18
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S4x1024x512 : Shape := ⟨3, ![4, 1024, 512]⟩
abbrev S1024x512 : Shape := ⟨2, ![1024, 512]⟩
abbrev S1x1024x512 : Shape := ⟨3, ![1, 1024, 512]⟩
abbrev S_ : Shape := ⟨0, ![]⟩
abbrev S3x1024x512 : Shape := ⟨3, ![3, 1024, 512]⟩
abbrev S0x1024x512 : Shape := ⟨3, ![0, 1024, 512]⟩

abbrev nBuf : Space → Nat
  | .hbm => 65
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S1024x512, .f32⟩
  | .hbm, ⟨4, _⟩ => ⟨S1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S1024x512, .f32⟩
  | .hbm, ⟨10, _⟩ => ⟨S1x1024x512, .f32⟩
  | .hbm, ⟨11, _⟩ => ⟨S1024x512, .f32⟩
  | .hbm, ⟨12, _⟩ => ⟨S1x1024x512, .f32⟩
  | .hbm, ⟨13, _⟩ => ⟨S1024x512, .f32⟩
  | .hbm, ⟨14, _⟩ => ⟨S1x1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S3x1024x512, .f32⟩
  | .hbm, ⟨50, _⟩ => ⟨S1x1024x512, .f32⟩
  | .hbm, ⟨51, _⟩ => ⟨S0x1024x512, .f32⟩
  | .hbm, ⟨52, _⟩ => ⟨S4x1024x512, .f32⟩
  | .hbm, ⟨53, _⟩ => ⟨S3x1024x512, .f32⟩
  | .hbm, ⟨54, _⟩ => ⟨S1x1024x512, .f32⟩
  | .hbm, ⟨55, _⟩ => ⟨S0x1024x512, .f32⟩
  | .hbm, ⟨56, _⟩ => ⟨S4x1024x512, .f32⟩
  | .hbm, ⟨57, _⟩ => ⟨S3x1024x512, .f32⟩
  | .hbm, ⟨58, _⟩ => ⟨S1x1024x512, .f32⟩
  | .hbm, ⟨59, _⟩ => ⟨S0x1024x512, .f32⟩
  | .hbm, ⟨60, _⟩ => ⟨S4x1024x512, .f32⟩
  | .hbm, ⟨61, _⟩ => ⟨S3x1024x512, .f32⟩
  | .hbm, ⟨62, _⟩ => ⟨S1x1024x512, .f32⟩
  | .hbm, ⟨63, _⟩ => ⟨S0x1024x512, .f32⟩
  | .hbm, ⟨64, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.MergeGrad.lean ====
/- The gradient of the branch merge `Σ sigmoid(gate) · branch`: each of the six result arrays of the call is the
   reference's derivative, element by element. -/
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The reference's term: the derivative in branch 0. -/
def REF7 (DM BP BA BC : FVec Ideal S8192x2048 .bf16) (PR : FVec Ideal S8192x13824 .bf16) : FVec Ideal S8192x2048 .bf16 :=
  truncf .bf16 (mulf (extractStridedSlice Cert.ReferenceIdeal.S8192x2048 ![0, 0] (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680))))) Cert.ReferenceIdeal.Gen.slices_S8192x6144_S8192x2048_0_0) (extf .f32 DM Cert.ReferenceIdeal.Gen.bitsLt_bf16_f32)) Cert.ReferenceIdeal.Gen.bitsLt_bf16_f32

/-- The reference's term: the derivative in branch 1. -/
def REF8 (DM BP BA BC : FVec Ideal S8192x2048 .bf16) (PR : FVec Ideal S8192x13824 .bf16) : FVec Ideal S8192x2048 .bf16 :=
  truncf .bf16 (mulf (extractStridedSlice Cert.ReferenceIdeal.S8192x2048 ![0, 2048] (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680))))) Cert.ReferenceIdeal.Gen.slices_S8192x6144_S8192x2048_0_2048) (extf .f32 DM Cert.ReferenceIdeal.Gen.bitsLt_bf16_f32)) Cert.ReferenceIdeal.Gen.bitsLt_bf16_f32

/-- The reference's term: the derivative in branch 2. -/
def REF9 (DM BP BA BC : FVec Ideal S8192x2048 .bf16) (PR : FVec Ideal S8192x13824 .bf16) : FVec Ideal S8192x2048 .bf16 :=
  truncf .bf16 (mulf (extractStridedSlice Cert.ReferenceIdeal.S8192x2048 ![0, 4096] (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680))))) Cert.ReferenceIdeal.Gen.slices_S8192x6144_S8192x2048_0_4096) (extf .f32 DM Cert.ReferenceIdeal.Gen.bitsLt_bf16_f32)) Cert.ReferenceIdeal.Gen.bitsLt_bf16_f32

/-- The reference's term: the derivative in gate 0. -/
def REF10 (DM BP BA BC : FVec Ideal S8192x2048 .bf16) (PR : FVec Ideal S8192x13824 .bf16) : FVec Ideal S8192x2048 .bf16 :=
  truncf .bf16 (extractStridedSlice Cert.ReferenceIdeal.S8192x2048 ![0, 0] (mulf ((concatenate Cert.ReferenceIdeal.S8192x6144 1 [⟨Cert.ReferenceIdeal.S8192x2048, ((mulf (extf .f32 DM Cert.ReferenceIdeal.Gen.bitsLt_bf16_f32) (extf .f32 BP Cert.ReferenceIdeal.Gen.bitsLt_bf16_f32)) : (⟨Cert.ReferenceIdeal.S8192x2048, .f32⟩ : BufTy).Contents (Elt Ideal))⟩, ⟨Cert.ReferenceIdeal.S8192x2048, ((mulf (extf .f32 DM Cert.ReferenceIdeal.Gen.bitsLt_bf16_f32) (extf .f32 BA Cert.ReferenceIdeal.Gen.bitsLt_bf16_f32)) : (⟨Cert.ReferenceIdeal.S8192x2048, .f32⟩ : BufTy).Contents (Elt Ideal))⟩, ⟨Cert.ReferenceIdeal.S8192x2048, ((mulf (extf .f32 DM Cert.ReferenceIdeal.Gen.bitsLt_bf16_f32) (extf .f32 BC Cert.ReferenceIdeal.Gen.bitsLt_bf16_f32)) : (⟨Cert.ReferenceIdeal.S8192x2048, .f32⟩ : BufTy).Contents (Elt Ideal))⟩] Cert.ReferenceIdeal.Gen.concatenates_S8192x2048_S8192x2048_S8192x2048_S8192x6144_d1 : (⟨Cert.ReferenceIdeal.S8192x6144, .f32⟩ : BufTy).Contents (Elt Ideal))) (mulf (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680))))) (subf (broadcastInDim Cert.ReferenceIdeal.S8192x6144 ![] Cert.ReferenceIdeal.Gen.bcast_S_S8192x6144 (constant Cert.ReferenceIdeal.S_ .f32 0x3F800000#32)) (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680)))))))) Cert.ReferenceIdeal.Gen.slices_S8192x6144_S8192x2048_0_0) Cert.ReferenceIdeal.Gen.bitsLt_bf16_f32

/-- The reference's term: the derivative in gate 1. -/
def REF11 (DM BP BA BC : FVec Ideal S8192x2048 .bf16) (PR : FVec Ideal S8192x13824 .bf16) : FVec Ideal S8192x2048 .bf16 :=
  truncf .bf16 (extractStridedSlice Cert.ReferenceIdeal.S8192x2048 ![0, 2048] (mulf ((concatenate Cert.ReferenceIdeal.S8192x6144 1 [⟨Cert.ReferenceIdeal.S8192x2048, ((mulf (extf .f32 DM Cert.ReferenceIdeal.Gen.bitsLt_bf16_f32) (extf .f32 BP Cert.ReferenceIdeal.Gen.bitsLt_bf16_f32)) : (⟨Cert.ReferenceIdeal.S8192x2048, .f32⟩ : BufTy).Contents (Elt Ideal))⟩, ⟨Cert.ReferenceIdeal.S8192x2048, ((mulf (extf .f32 DM Cert.ReferenceIdeal.Gen.bitsLt_bf16_f32) (extf .f32 BA Cert.ReferenceIdeal.Gen.bitsLt_bf16_f32)) : (⟨Cert.ReferenceIdeal.S8192x2048, .f32⟩ : BufTy).Contents (Elt Ideal))⟩, ⟨Cert.ReferenceIdeal.S8192x2048, ((mulf (extf .f32 DM Cert.ReferenceIdeal.Gen.bitsLt_bf16_f32) (extf .f32 BC Cert.ReferenceIdeal.Gen.bitsLt_bf16_f32)) : (⟨Cert.ReferenceIdeal.S8192x2048, .f32⟩ : BufTy).Contents (Elt Ideal))⟩] Cert.ReferenceIdeal.Gen.concatenates_S8192x2048_S8192x2048_S8192x2048_S8192x6144_d1 : (⟨Cert.ReferenceIdeal.S8192x6144, .f32⟩ : BufTy).Contents (Elt Ideal))) (mulf (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680))))) (subf (broadcastInDim Cert.ReferenceIdeal.S8192x6144 ![] Cert.ReferenceIdeal.Gen.bcast_S_S8192x6144 (constant Cert.ReferenceIdeal.S_ .f32 0x3F800000#32)) (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680)))))))) Cert.ReferenceIdeal.Gen.slices_S8192x6144_S8192x2048_0_2048) Cert.ReferenceIdeal.Gen.bitsLt_bf16_f32

/-- The reference's term: the derivative in gate 2. -/
def REF12 (DM BP BA BC : FVec Ideal S8192x2048 .bf16) (PR : FVec Ideal S8192x13824 .bf16) : FVec Ideal S8192x2048 .bf16 :=
  truncf .bf16 (extractStridedSlice Cert.ReferenceIdeal.S8192x2048 ![0, 4096] (mulf ((concatenate Cert.ReferenceIdeal.S8192x6144 1 [⟨Cert.ReferenceIdeal.S8192x2048, ((mulf (extf .f32 DM Cert.ReferenceIdeal.Gen.bitsLt_bf16_f32) (extf .f32 BP Cert.ReferenceIdeal.Gen.bitsLt_bf16_f32)) : (⟨Cert.ReferenceIdeal.S8192x2048, .f32⟩ : BufTy).Contents (Elt Ideal))⟩, ⟨Cert.ReferenceIdeal.S8192x2048, ((mulf (extf .f32 DM Cert.ReferenceIdeal.Gen.bitsLt_bf16_f32) (extf .f32 BA Cert.ReferenceIdeal.Gen.bitsLt_bf16_f32)) : (⟨Cert.ReferenceIdeal.S8192x2048, .f32⟩ : BufTy).Contents (Elt Ideal))⟩, ⟨Cert.ReferenceIdeal.S8192x2048, ((mulf (extf .f32 DM Cert.ReferenceIdeal.Gen.bitsLt_bf16_f32) (extf .f32 BC Cert.ReferenceIdeal.Gen.bitsLt_bf16_f32)) : (⟨Cert.ReferenceIdeal.S8192x2048, .f32⟩ : BufTy).Contents (Elt Ideal))⟩] Cert.ReferenceIdeal.Gen.concatenates_S8192x2048_S8192x2048_S8192x2048_S8192x6144_d1 : (⟨Cert.ReferenceIdeal.S8192x6144, .f32⟩ : BufTy).Contents (Elt Ideal))) (mulf (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680))))) (subf (broadcastInDim Cert.ReferenceIdeal.S8192x6144 ![] Cert.ReferenceIdeal.Gen.bcast_S_S8192x6144 (constant Cert.ReferenceIdeal.S_ .f32 0x3F800000#32)) (Host.divf (broadcastInDim Cert.ReferenceIdeal.S8192x6144 ![] Cert.ReferenceIdeal.Gen.bcast_S_S8192x6144 (constant Cert.ReferenceIdeal.S_ .f32 0x3F800000#32)) (addf (broadcastInDim Cert.ReferenceIdeal.S8192x6144 ![] Cert.ReferenceIdeal.Gen.bcast_S_S8192x6144 (constant Cert.ReferenceIdeal.S_ .f32 0x3F800000#32)) (Host.exp (Host.negf (extractStridedSlice Cert.ReferenceIdeal.S8192x6144 ![0, 7680] (extf .f32 PR Cert.ReferenceIdeal.Gen.bitsLt_bf16_f32) Cert.ReferenceIdeal.Gen.slices_S8192x13824_S8192x6144_0_7680)))))))) Cert.ReferenceIdeal.Gen.slices_S8192x6144_S8192x2048_0_4096) Cert.ReferenceIdeal.Gen.bitsLt_bf16_f32

theorem ref7_at (DM BP BA BC : FVec Ideal S8192x2048 .bf16) (PR : FVec Ideal S8192x13824 .bf16) (j : S8192x2048.Idx) :
    REF7 DM BP BA BC PR j = DM j * (Ideal.logistic (PR (ix2 (j 0) ⟨7680 + (j 1).val, by have : (j 1).val < 2048 := (j 1).isLt; omega⟩))) := by
  idx_vars j
  pointwise [REF7]
  exact mul_comm _ _

theorem ref8_at (DM BP BA BC : FVec Ideal S8192x2048 .bf16) (PR : FVec Ideal S8192x13824 .bf16) (j : S8192x2048.Idx) :
    REF8 DM BP BA BC PR j = DM j * (Ideal.logistic (PR (ix2 (j 0) ⟨7680 + (2048 + (j 1).val), by have : (j 1).val < 2048 := (j 1).isLt; omega⟩))) := by
  idx_vars j
  pointwise [REF8]
  exact mul_comm _ _

theorem ref9_at (DM BP BA BC : FVec Ideal S8192x2048 .bf16) (PR : FVec Ideal S8192x13824 .bf16) (j : S8192x2048.Idx) :
    REF9 DM BP BA BC PR j = DM j * (Ideal.logistic (PR (ix2 (j 0) ⟨7680 + (4096 + (j 1).val), by have : (j 1).val < 2048 := (j 1).isLt; omega⟩))) := by
  idx_vars j
  pointwise [REF9]
  exact mul_comm _ _

theorem ref10_at (DM BP BA BC : FVec Ideal S8192x2048 .bf16) (PR : FVec Ideal S8192x13824 .bf16) (j : S8192x2048.Idx) :
    REF10 DM BP BA BC PR j = DM j * BP j * (Ideal.logistic (PR (ix2 (j 0) ⟨7680 + (j 1).val, by have : (j 1).val < 2048 := (j 1).isLt; omega⟩))) * (1 - (Ideal.logistic (PR (ix2 (j 0) ⟨7680 + (j 1).val, by have : (j 1).val < 2048 := (j 1).isLt; omega⟩)))) := by
  idx_vars j
  pointwise [REF10]
  exact (mul_assoc (_ : EReal) _ _).symm

theorem ref11_at (DM BP BA BC : FVec Ideal S8192x2048 .bf16) (PR : FVec Ideal S8192x13824 .bf16) (j : S8192x2048.Idx) :
    REF11 DM BP BA BC PR j = DM j * BA j * (Ideal.logistic (PR (ix2 (j 0) ⟨7680 + (2048 + (j 1).val), by have : (j 1).val < 2048 := (j 1).isLt; omega⟩))) * (1 - (Ideal.logistic (PR (ix2 (j 0) ⟨7680 + (2048 + (j 1).val), by have : (j 1).val < 2048 := (j 1).isLt; omega⟩)))) := by
  idx_vars j
  pointwise [REF11]
  exact (mul_assoc (_ : EReal) _ _).symm

theorem ref12_at (DM BP BA BC : FVec Ideal S8192x2048 .bf16) (PR : FVec Ideal S8192x13824 .bf16) (j : S8192x2048.Idx) :
    REF12 DM BP BA BC PR j = DM j * BC j * (Ideal.logistic (PR (ix2 (j 0) ⟨7680 + (4096 + (j 1).val), by have : (j 1).val < 2048 := (j 1).isLt; omega⟩))) * (1 - (Ideal.logistic (PR (ix2 (j 0) ⟨7680 + (4096 + (j 1).val), by have : (j 1).val < 2048 := (j 1).isLt; omega⟩)))) := by
  idx_vars j
  pointwise [REF12]
  rw [dif_neg (by omega), dif_neg (by omega)]
  have e : 4096 + j1.val - 2048 - 2048 = j1.val := by omega
  simp only [e, Fin.eta]
  exact (mul_assoc (_ : EReal) _ _).symm

theorem idx : ∀ t : Fin cfg0.N, win0_0.index t = ![t.val / 4, t.val % 4] ∧ win0_1.index t = ![t.val / 4, t.val % 4] ∧ win0_2.index t = ![t.val / 4, t.val % 4] ∧ win0_3.index t = ![t.val / 4, t.val % 4] ∧ win0_7.index t = ![t.val / 4, t.val % 4] ∧ win0_8.index t = ![t.val / 4, t.val % 4] ∧ win0_9.index t = ![t.val / 4, t.val % 4] ∧ win0_10.index t = ![t.val / 4, t.val % 4] ∧ win0_11.index t = ![t.val / 4, t.val % 4] ∧ win0_12.index t = ![t.val / 4, t.val % 4] ∧ win0_4.index t = ![t.val / 4, 15 + t.val % 4] ∧ win0_5.index t = ![t.val / 4, 19 + t.val % 4] ∧ win0_6.index t = ![t.val / 4, 23 + t.val % 4] :=
  (by decide +kernel : ∀ t : Fin grid0.N, _)

theorem final7 (c : Dev nD) : (dats m 0 c).arrAt 7 (cfgs 0).N = REF7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, ref7_at]
  frame_out
  pointwise [k0_pay1, k0_pay2, k0_pay3, k0_pay4, k0_pay5, k0_pay6, k0_pay7, k0_pay8, k0_pay9, k0_pay10, k0_pay11]
  blk_point [iblk, V, idx t]

theorem final8 (c : Dev nD) : (dats m 0 c).arrAt 8 (cfgs 0).N = REF8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, ref8_at]
  frame_out
  pointwise [k0_pay1, k0_pay2, k0_pay3, k0_pay4, k0_pay5, k0_pay6, k0_pay7, k0_pay8, k0_pay9, k0_pay10, k0_pay11]
  blk_point [iblk, V, idx t]

theorem final9 (c : Dev nD) : (dats m 0 c).arrAt 9 (cfgs 0).N = REF9 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, ref9_at]
  frame_out
  pointwise [k0_pay1, k0_pay2, k0_pay3, k0_pay4, k0_pay5, k0_pay6, k0_pay7, k0_pay8, k0_pay9, k0_pay10, k0_pay11]
  blk_point [iblk, V, idx t]

theorem final10 (c : Dev nD) : (dats m 0 c).arrAt 10 (cfgs 0).N = REF10 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10, ref10_at]
  frame_out
  pointwise [k0_pay1, k0_pay2, k0_pay3, k0_pay4, k0_pay5, k0_pay6, k0_pay7, k0_pay8, k0_pay9, k0_pay10, k0_pay11]
  blk_point [iblk, V, idx t]

theorem final11 (c : Dev nD) : (dats m 0 c).arrAt 11 (cfgs 0).N = REF11 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp
  rw [after0_11, ref11_at]
  frame_out
  pointwise [k0_pay1, k0_pay2, k0_pay3, k0_pay4, k0_pay5, k0_pay6, k0_pay7, k0_pay8, k0_pay9, k0_pay10, k0_pay11]
  blk_point [iblk, V, idx t]

theorem final12 (c : Dev nD) : (dats m 0 c).arrAt 12 (cfgs 0).N = REF12 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t hf y => ?_
  blk_simp
  rw [after0_12, ref12_at]
  frame_out
  pointwise [k0_pay1, k0_pay2, k0_pay3, k0_pay4, k0_pay5, k0_pay6, k0_pay7, k0_pay8, k0_pay9, k0_pay10, k0_pay11]
  blk_point [iblk, V, idx t]

end Cert.KernelIdeal.Own

end
-- ==== Proof.ProjGrad.lean ====
/- The gradient of the input projection in its left factor: `dh = dproj · w_inᵀ`, nine blocks of the
   contraction added up in the scratch, is the derivative of `h ↦ h @ w_in` at `dproj`. -/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.Own

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The derivative as the reference computes it. -/
def REF (D : FVec Ideal S8192x13824 .bf16) (W : FVec Ideal S1x2048x13824 .bf16) : FVec Ideal S8192x2048 .bf16 :=
  truncf .bf16 (Host.dotGeneral Cert.Reference2Ideal.dot_S8192x13824_S2048x13824_S8192x2048_1_1_0_0_n_n none
    (extf .f32 D Cert.Reference2Ideal.Gen.bitsLt_bf16_f32)
    (extf .f32 (shapeCast _ W Cert.Reference2Ideal.Gen.shapeCasts_S1x2048x13824_S2048x13824) Cert.Reference2Ideal.Gen.bitsLt_bf16_f32))
    Cert.Reference2Ideal.Gen.bitsLt_bf16_f32

theorem ref_at (D : FVec Ideal S8192x13824 .bf16) (W : FVec Ideal S1x2048x13824 .bf16) (j : S8192x2048.Idx) :
    REF D W j = ∑ k : Fin 13824, D (ix2 (j 0) k) * W (ix3 0 (j 1) k) := by
  pointwise [REF]

theorem zero_at (j : S2048x1024.Idx) : k0_pay1 (F := Ideal) j = 0 := by pointwise [k0_pay1]

theorem step_at (acc : FVec Ideal S2048x1024 .f32) (a : FVec Ideal S2048x1536 .bf16) (b : FVec Ideal S1x1024x1536 .bf16)
    (j : S2048x1024.Idx) :
    k0_pay2 (F := Ideal) acc a b j = acc j + ∑ k : Fin 1536, a (ix2 (j 0) k) * b (ix3 0 (j 1) k) := by
  pointwise [k0_pay2]

theorem out_at (acc : FVec Ideal S2048x1024 .f32) (j : S2048x1024.Idx) : k0_pay3 (F := Ideal) acc j = acc j := by
  pointwise [k0_pay3]

theorem idx : ∀ t : Fin cfg0.N, win0_0.index t = ![t.val / 18, t.val % 9] ∧ win0_1.index t = ![0, t.val / 9 % 2, t.val % 9]
    ∧ win0_2.index t = ![t.val / 18, t.val / 9 % 2] :=
  (by decide +kernel : ∀ t : Fin grid0.N, _)

/-- What a grid point adds to its block. -/
def part (c : Dev nD) (p : Fin cfg0.N) (j : S2048x1024.Idx) : EReal :=
  ∑ k : Fin 1536, (show FVec Ideal S2048x1536 .bf16 from iblk m c 0 p) (ix2 (j 0) k)
    * (show FVec Ideal S1x1024x1536 .bf16 from iblk m c 1 p) (ix3 0 (j 1) k)

/-- The scratch, written and read whole. -/
theorem kept (c : Dev nD) (n : ℕ) (h : n < cfg0.N) (j : S2048x1024.Idx) :
    View.read (Elt Ideal) (View.whole cc0_scratch0) ((Memref.isWhole_whole cc0_scratch0).unread (outsAt0 m c n h).2) j
      = (outsAt0 m c n h).2 j :=
  congrFun ((Memref.isWhole_whole cc0_scratch0).read_unread (outsAt0 m c n h).2) j

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h8 : t.val % 9 = 8 := (flush0_2 t).mp hf
  have e : (outsAt0 m c t.val t.isLt).1 y = (outsAt0 m c t.val t.isLt).2 y := by
    rw [outsAt0_C m c t (by omega) h8]; frame_out; rw [out_at]
  rw [after0_2, e, Pipeline.eq_sum_fin_of_reset_step_apply_of_flush (fun n h => (outsAt0 m c n h).2) 9 (fun _ => (0 : EReal)) (part m c)
    (fun t h j => by rw [outsAt0_A m c t h (by omega)]; frame_out; rw [step_at, zero_at]; rfl)
    (fun t h j => by
      by_cases h1 : t.val % 9 = 8
      · rw [outsAt0_C m c t h h1]; frame_out; rw [step_at]; exact congrArg (· + part m c t j) (kept m c _ _ j)
      · rw [outsAt0_B m c t h h1]; frame_out; rw [step_at]; exact congrArg (· + part m c t j) (kept m c _ _ j))
    t ((flush0_2 t).mp hf) _, zero_add, ref_at]
  unfold part
  refine Fin.sum_mul_add_congr fun s k hl => ?_
  have hp := idx ⟨_, Pipeline.run_point_lt_of_flush t ((flush0_2 t).mp hf) s⟩
  blk_point [iblk, V, idx t, hp]

end Cert.Kernel2Ideal.Own

end
-- ==== Proof.WinGrad.lean ====
/- The gradient of the input projection in its right factor: `g_win = hᵀ · dproj`, four blocks of the
   contraction over the tokens added up in the scratch, is the derivative of `w ↦ h @ w` at `dproj`. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.Own

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The derivative as the reference computes it. -/
def REF (X : FVec Ideal S8192x2048 .bf16) (D : FVec Ideal S8192x13824 .bf16) : FVec Ideal S2048x13824 .bf16 :=
  truncf .bf16 (transpose S2048x13824 [1, 0] (Host.dotGeneral Cert.Reference3Ideal.dot_S8192x13824_S8192x2048_S13824x2048_0_0_1_1_n_n none
    (extf .f32 D Cert.Reference3Ideal.Gen.bitsLt_bf16_f32) (extf .f32 X Cert.Reference3Ideal.Gen.bitsLt_bf16_f32))
    Cert.Reference3Ideal.Gen.transposes_S13824x2048_S2048x13824_1_0) Cert.Reference3Ideal.Gen.bitsLt_bf16_f32

theorem ref_at (X : FVec Ideal S8192x2048 .bf16) (D : FVec Ideal S8192x13824 .bf16) (j : S2048x13824.Idx) :
    REF X D j = ∑ k : Fin 8192, X (ix2 k (j 0)) * D (ix2 k (j 1)) := by
  pointwise [REF]
  exact Finset.sum_congr rfl fun k _ => mul_comm _ _

theorem zero_at (j : S2048x768.Idx) : k0_pay1 (F := Ideal) j = 0 := by pointwise [k0_pay1]

theorem step_at (acc : FVec Ideal S2048x768 .f32) (a : FVec Ideal S2048x2048 .bf16) (b : FVec Ideal S2048x768 .bf16)
    (j : S2048x768.Idx) :
    k0_pay2 (F := Ideal) acc a b j = acc j + ∑ k : Fin 2048, a (ix2 k (j 0)) * b (ix2 k (j 1)) := by
  pointwise [k0_pay2]

theorem out_at (acc : FVec Ideal S2048x768 .f32) (j : S2048x768.Idx) : k0_pay3 (F := Ideal) acc j = acc j := by
  pointwise [k0_pay3]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- What a grid point adds to its block. -/
def part (c : Dev nD) (p : Fin cfg0.N) (j : S2048x768.Idx) : EReal :=
  ∑ k : Fin 2048, (show FVec Ideal S2048x2048 .bf16 from iblk m c 0 p) (ix2 k (j 0))
    * (show FVec Ideal S2048x768 .bf16 from iblk m c 1 p) (ix2 k (j 1))

/-- The scratch, written and read whole. -/
theorem kept (c : Dev nD) (n : ℕ) (h : n < cfg0.N) (j : S2048x768.Idx) :
    View.read (Elt Ideal) (View.whole cc0_scratch0) ((Memref.isWhole_whole cc0_scratch0).unread (outsAt0 m c n h).2) j
      = (outsAt0 m c n h).2 j :=
  congrFun ((Memref.isWhole_whole cc0_scratch0).read_unread (outsAt0 m c n h).2) j

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have e : (outsAt0 m c t.val t.isLt).1 y = (outsAt0 m c t.val t.isLt).2 y := by
    rw [outsAt0_C m c t (by omega) h3]; frame_out; rw [out_at]
  rw [after0_2, e, Pipeline.eq_sum_fin_of_reset_step_apply_of_flush (fun n h => (outsAt0 m c n h).2) 4 (fun _ => (0 : EReal)) (part m c)
    (fun t h j => by rw [outsAt0_A m c t h (by omega)]; frame_out; rw [step_at, zero_at]; rfl)
    (fun t h j => by
      by_cases h1 : t.val % 4 = 3
      · rw [outsAt0_C m c t h h1]; frame_out; rw [step_at]; exact congrArg (· + part m c t j) (kept m c _ _ j)
      · rw [outsAt0_B m c t h h1]; frame_out; rw [step_at]; exact congrArg (· + part m c t j) (kept m c _ _ j))
    t ((flush0_2 t).mp hf) _, zero_add, ref_at]
  unfold part
  refine Fin.sum_mul_add_congr fun s k hl => ?_
  have hp := idx ⟨_, Pipeline.run_point_lt_of_flush t ((flush0_2 t).mp hf) s⟩
  blk_point [iblk, V, idx t, hp]

end Cert.Kernel3Ideal.Own

end
-- ==== Proof.OutGrad.lean ====
/- The gradient of the output projection in its input: `dmerged = dmo · w_outᵀ`, a tile a grid point, is the
   derivative of `merged ↦ merged @ w_out` at `dmo`. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Own

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- What the reference computes. -/
def REF (X : FVec Ideal S8192x2048 .bf16) (W : FVec Ideal S1x2048x2048 .bf16) : FVec Ideal S8192x2048 .bf16 :=
  truncf .bf16 (Host.dotGeneral Cert.Reference4Ideal.dot_S8192x2048_S2048x2048_S8192x2048_1_1_0_0_n_n none (extf .f32 X Cert.Reference4Ideal.Gen.bitsLt_bf16_f32)
    (extf .f32 (shapeCast _ W Cert.Reference4Ideal.Gen.shapeCasts_S1x2048x2048_S2048x2048) Cert.Reference4Ideal.Gen.bitsLt_bf16_f32)) Cert.Reference4Ideal.Gen.bitsLt_bf16_f32

theorem ref_at (X : FVec Ideal S8192x2048 .bf16) (W : FVec Ideal S1x2048x2048 .bf16) (j : S8192x2048.Idx) :
    REF X W j = ∑ k : Fin 2048, X (ix2 (j 0) k) * W (ix3 0 (j 1) k) := by
  pointwise [REF]

theorem pay_at (a : FVec Ideal S2048x2048 .bf16) (b : FVec Ideal S1x1024x2048 .bf16) (j : S2048x1024.Idx) :
    k0_pay1 (F := Ideal) a b j = ∑ k : Fin 2048, a (ix2 (j 0) k) * b (ix3 0 (j 1) k) := by
  pointwise [k0_pay1]

theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, ref_at]
  frame_out
  rw [pay_at]
  refine Finset.sum_congr (M := EReal) rfl fun k _ => ?_
  blk_point [iblk, V, idx t]

end Cert.Kernel4Ideal.Own

end
-- ==== Proof.OutWeightGrad.lean ====
/- The gradient of the output projection in its weight: `g_wout = mergedᵀ · dmo`, four blocks of the contraction
   over the tokens added up in the scratch, is the derivative of `w ↦ merged @ w` at `dmo`. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Kernel5Ideal.Own

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- The derivative as the reference computes it. -/
def REF (X : FVec Ideal S8192x2048 .bf16) (D : FVec Ideal S8192x2048 .bf16) : FVec Ideal S2048x2048 .bf16 :=
  truncf .bf16 (transpose S2048x2048 [1, 0] (Host.dotGeneral Cert.Reference5Ideal.dot_S8192x2048_S8192x2048_S2048x2048_0_0_1_1_n_n none
    (extf .f32 D Cert.Reference5Ideal.Gen.bitsLt_bf16_f32) (extf .f32 X Cert.Reference5Ideal.Gen.bitsLt_bf16_f32))
    Cert.Reference5Ideal.Gen.transposes_S2048x2048_S2048x2048_1_0) Cert.Reference5Ideal.Gen.bitsLt_bf16_f32

theorem ref_at (X : FVec Ideal S8192x2048 .bf16) (D : FVec Ideal S8192x2048 .bf16) (j : S2048x2048.Idx) :
    REF X D j = ∑ k : Fin 8192, X (ix2 k (j 0)) * D (ix2 k (j 1)) := by
  pointwise [REF]
  exact Finset.sum_congr rfl fun k _ => mul_comm _ _

theorem zero_at (j : S2048x1024.Idx) : k0_pay1 (F := Ideal) j = 0 := by pointwise [k0_pay1]

theorem step_at (acc : FVec Ideal S2048x1024 .f32) (a : FVec Ideal S2048x2048 .bf16) (b : FVec Ideal S2048x1024 .bf16)
    (j : S2048x1024.Idx) :
    k0_pay2 (F := Ideal) acc a b j = acc j + ∑ k : Fin 2048, a (ix2 k (j 0)) * b (ix2 k (j 1)) := by
  pointwise [k0_pay2]

theorem out_at (acc : FVec Ideal S2048x1024 .f32) (j : S2048x1024.Idx) : k0_pay3 (F := Ideal) acc j = acc j := by
  pointwise [k0_pay3]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- What a grid point adds to its block. -/
def part (c : Dev nD) (p : Fin cfg0.N) (j : S2048x1024.Idx) : EReal :=
  ∑ k : Fin 2048, (show FVec Ideal S2048x2048 .bf16 from iblk m c 0 p) (ix2 k (j 0))
    * (show FVec Ideal S2048x1024 .bf16 from iblk m c 1 p) (ix2 k (j 1))

/-- The scratch, written and read whole. -/
theorem kept (c : Dev nD) (n : ℕ) (h : n < cfg0.N) (j : S2048x1024.Idx) :
    View.read (Elt Ideal) (View.whole cc0_scratch0) ((Memref.isWhole_whole cc0_scratch0).unread (outsAt0 m c n h).2) j
      = (outsAt0 m c n h).2 j :=
  congrFun ((Memref.isWhole_whole cc0_scratch0).read_unread (outsAt0 m c n h).2) j

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have e : (outsAt0 m c t.val t.isLt).1 y = (outsAt0 m c t.val t.isLt).2 y := by
    rw [outsAt0_C m c t (by omega) h3]; frame_out; rw [out_at]
  rw [after0_2, e, Pipeline.eq_sum_fin_of_reset_step_apply_of_flush (fun n h => (outsAt0 m c n h).2) 4 (fun _ => (0 : EReal)) (part m c)
    (fun t h j => by rw [outsAt0_A m c t h (by omega)]; frame_out; rw [step_at, zero_at]; rfl)
    (fun t h j => by
      by_cases h1 : t.val % 4 = 3
      · rw [outsAt0_C m c t h h1]; frame_out; rw [step_at]; exact congrArg (· + part m c t j) (kept m c _ _ j)
      · rw [outsAt0_B m c t h h1]; frame_out; rw [step_at]; exact congrArg (· + part m c t j) (kept m c _ _ j))
    t ((flush0_2 t).mp hf) _, zero_add, ref_at]
  unfold part
  refine Fin.sum_mul_add_congr fun s k hl => ?_
  have hp := idx ⟨_, Pipeline.run_point_lt_of_flush t ((flush0_2 t).mp hf) s⟩
  blk_point [iblk, V, idx t, hp]

end Cert.Kernel5Ideal.Own

end
-- ==== Proof.BranchGrad.lean ====
/- The gradient of a branch's projection in its input: `dy = db · w_branchᵀ`, a tile a grid point, is the
   derivative of `y ↦ y @ w_branch` at `db`. -/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Own

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-- What the reference computes. -/
def REF (X : FVec Ideal S8192x2048 .bf16) (W : FVec Ideal S1x1024x2048 .bf16) : FVec Ideal S8192x1024 .bf16 :=
  truncf .bf16 (Host.dotGeneral Cert.Reference6Ideal.dot_S8192x2048_S1024x2048_S8192x1024_1_1_0_0_n_n none (extf .f32 X Cert.Reference6Ideal.Gen.bitsLt_bf16_f32)
    (extf .f32 (shapeCast _ W Cert.Reference6Ideal.Gen.shapeCasts_S1x1024x2048_S1024x2048) Cert.Reference6Ideal.Gen.bitsLt_bf16_f32)) Cert.Reference6Ideal.Gen.bitsLt_bf16_f32

theorem ref_at (X : FVec Ideal S8192x2048 .bf16) (W : FVec Ideal S1x1024x2048 .bf16) (j : S8192x1024.Idx) :
    REF X W j = ∑ k : Fin 2048, X (ix2 (j 0) k) * W (ix3 0 (j 1) k) := by
  pointwise [REF]

theorem pay_at (a : FVec Ideal S2048x2048 .bf16) (b : FVec Ideal S1x1024x2048 .bf16) (j : S2048x1024.Idx) :
    k0_pay1 (F := Ideal) a b j = ∑ k : Fin 2048, a (ix2 (j 0) k) * b (ix3 0 (j 1) k) := by
  pointwise [k0_pay1]

theorem idx : ∀ t : Fin cfg0.N, win0_0.index t = ![t.val / 1, 0] ∧ win0_1.index t = ![0, t.val % 1, 0]
    ∧ win0_2.index t = ![t.val / 1, t.val % 1] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, ref_at]
  frame_out
  rw [pay_at]
  refine Finset.sum_congr (M := EReal) rfl fun k _ => ?_
  blk_point [iblk, V, idx t]

end Cert.Kernel6Ideal.Own

end
-- ==== Proof.BranchWeightGrad.lean ====
/- The gradient of a branch's projection in its weight: `g_wb = yᵀ · db`, four blocks of the contraction over
   the tokens added up in the scratch, is the derivative of `w ↦ y @ w` at `db`. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Own

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- The derivative as the reference computes it. -/
def REF (X : FVec Ideal S8192x1024 .bf16) (D : FVec Ideal S8192x2048 .bf16) : FVec Ideal S1024x2048 .bf16 :=
  truncf .bf16 (transpose S1024x2048 [1, 0] (Host.dotGeneral Cert.Reference7Ideal.dot_S8192x2048_S8192x1024_S2048x1024_0_0_1_1_n_n none
    (extf .f32 D Cert.Reference7Ideal.Gen.bitsLt_bf16_f32) (extf .f32 X Cert.Reference7Ideal.Gen.bitsLt_bf16_f32))
    Cert.Reference7Ideal.Gen.transposes_S2048x1024_S1024x2048_1_0) Cert.Reference7Ideal.Gen.bitsLt_bf16_f32

theorem ref_at (X : FVec Ideal S8192x1024 .bf16) (D : FVec Ideal S8192x2048 .bf16) (j : S1024x2048.Idx) :
    REF X D j = ∑ k : Fin 8192, X (ix2 k (j 0)) * D (ix2 k (j 1)) := by
  pointwise [REF]
  exact Finset.sum_congr rfl fun k _ => mul_comm _ _

theorem zero_at (j : S1024x1024.Idx) : k0_pay1 (F := Ideal) j = 0 := by pointwise [k0_pay1]

theorem step_at (acc : FVec Ideal S1024x1024 .f32) (a : FVec Ideal S2048x1024 .bf16) (b : FVec Ideal S2048x1024 .bf16)
    (j : S1024x1024.Idx) :
    k0_pay2 (F := Ideal) acc a b j = acc j + ∑ k : Fin 2048, a (ix2 k (j 0)) * b (ix2 k (j 1)) := by
  pointwise [k0_pay2]

theorem out_at (acc : FVec Ideal S1024x1024 .f32) (j : S1024x1024.Idx) : k0_pay3 (F := Ideal) acc j = acc j := by
  pointwise [k0_pay3]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- What a grid point adds to its block. -/
def part (c : Dev nD) (p : Fin cfg0.N) (j : S1024x1024.Idx) : EReal :=
  ∑ k : Fin 2048, (show FVec Ideal S2048x1024 .bf16 from iblk m c 0 p) (ix2 k (j 0))
    * (show FVec Ideal S2048x1024 .bf16 from iblk m c 1 p) (ix2 k (j 1))

/-- The scratch, written and read whole. -/
theorem kept (c : Dev nD) (n : ℕ) (h : n < cfg0.N) (j : S1024x1024.Idx) :
    View.read (Elt Ideal) (View.whole cc0_scratch0) ((Memref.isWhole_whole cc0_scratch0).unread (outsAt0 m c n h).2) j
      = (outsAt0 m c n h).2 j :=
  congrFun ((Memref.isWhole_whole cc0_scratch0).read_unread (outsAt0 m c n h).2) j

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have e : (outsAt0 m c t.val t.isLt).1 y = (outsAt0 m c t.val t.isLt).2 y := by
    rw [outsAt0_C m c t (by omega) h3]; frame_out; rw [out_at]
  rw [after0_2, e, Pipeline.eq_sum_fin_of_reset_step_apply_of_flush (fun n h => (outsAt0 m c n h).2) 4 (fun _ => (0 : EReal)) (part m c)
    (fun t h j => by rw [outsAt0_A m c t h (by omega)]; frame_out; rw [step_at, zero_at]; rfl)
    (fun t h j => by
      by_cases h1 : t.val % 4 = 3
      · rw [outsAt0_C m c t h h1]; frame_out; rw [step_at]; exact congrArg (· + part m c t j) (kept m c _ _ j)
      · rw [outsAt0_B m c t h h1]; frame_out; rw [step_at]; exact congrArg (· + part m c t j) (kept m c _ _ j))
    t ((flush0_2 t).mp hf) _, zero_add, ref_at]
  unfold part
  refine Fin.sum_mul_add_congr fun s k hl => ?_
  have hp := idx ⟨_, Pipeline.run_point_lt_of_flush t ((flush0_2 t).mp hf) s⟩
  blk_point [iblk, V, idx t, hp]

end Cert.Kernel7Ideal.Own

end
-- ==== Proof.PointwiseGrad.lean ====
/- The gradient of the pointwise product in its input: `ds = dc · w_pwᵀ`, a tile a grid point, is the
   derivative of `s ↦ s @ w_pw` at `dc`. -/
module

public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Own

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ)

/-- What the reference computes. -/
def REF (X : FVec Ideal S8192x1024 .bf16) (W : FVec Ideal S1x1024x1024 .bf16) : FVec Ideal S8192x1024 .bf16 :=
  truncf .bf16 (Host.dotGeneral Cert.Reference8Ideal.dot_S8192x1024_S1024x1024_S8192x1024_1_1_0_0_n_n none (extf .f32 X Cert.Reference8Ideal.Gen.bitsLt_bf16_f32)
    (extf .f32 (shapeCast _ W Cert.Reference8Ideal.Gen.shapeCasts_S1x1024x1024_S1024x1024) Cert.Reference8Ideal.Gen.bitsLt_bf16_f32)) Cert.Reference8Ideal.Gen.bitsLt_bf16_f32

theorem ref_at (X : FVec Ideal S8192x1024 .bf16) (W : FVec Ideal S1x1024x1024 .bf16) (j : S8192x1024.Idx) :
    REF X W j = ∑ k : Fin 1024, X (ix2 (j 0) k) * W (ix3 0 (j 1) k) := by
  pointwise [REF]

theorem pay_at (a : FVec Ideal S2048x1024 .bf16) (b : FVec Ideal S1x1024x1024 .bf16) (j : S2048x1024.Idx) :
    k0_pay1 (F := Ideal) a b j = ∑ k : Fin 1024, a (ix2 (j 0) k) * b (ix3 0 (j 1) k) := by
  pointwise [k0_pay1]

theorem idx : ∀ t : Fin cfg0.N, win0_0.index t = ![t.val / 1, 0] ∧ win0_1.index t = ![0, t.val % 1, 0]
    ∧ win0_2.index t = ![t.val / 1, t.val % 1] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, ref_at]
  frame_out
  rw [pay_at]
  refine Finset.sum_congr (M := EReal) rfl fun k _ => ?_
  blk_point [iblk, V, idx t]

end Cert.Kernel8Ideal.Own

end
-- ==== Proof.PointwiseWeightGrad.lean ====
/- The gradient of the pointwise product in its weight: `g_cpw = sᵀ · dc`, four blocks of the contraction over
   the tokens added up in the scratch, is the derivative of `w ↦ s @ w` at `dc`. -/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Kernel9Ideal.Own

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- The derivative as the reference computes it. -/
def REF (X : FVec Ideal S8192x1024 .bf16) (D : FVec Ideal S8192x1024 .bf16) : FVec Ideal S1024x1024 .bf16 :=
  truncf .bf16 (transpose S1024x1024 [1, 0] (Host.dotGeneral Cert.Reference9Ideal.dot_S8192x1024_S8192x1024_S1024x1024_0_0_1_1_n_n none
    (extf .f32 D Cert.Reference9Ideal.Gen.bitsLt_bf16_f32) (extf .f32 X Cert.Reference9Ideal.Gen.bitsLt_bf16_f32))
    Cert.Reference9Ideal.Gen.transposes_S1024x1024_S1024x1024_1_0) Cert.Reference9Ideal.Gen.bitsLt_bf16_f32

theorem ref_at (X : FVec Ideal S8192x1024 .bf16) (D : FVec Ideal S8192x1024 .bf16) (j : S1024x1024.Idx) :
    REF X D j = ∑ k : Fin 8192, X (ix2 k (j 0)) * D (ix2 k (j 1)) := by
  pointwise [REF]
  exact Finset.sum_congr rfl fun k _ => mul_comm _ _

theorem zero_at (j : S1024x1024.Idx) : k0_pay1 (F := Ideal) j = 0 := by pointwise [k0_pay1]

theorem step_at (acc : FVec Ideal S1024x1024 .f32) (a : FVec Ideal S2048x1024 .bf16) (b : FVec Ideal S2048x1024 .bf16)
    (j : S1024x1024.Idx) :
    k0_pay2 (F := Ideal) acc a b j = acc j + ∑ k : Fin 2048, a (ix2 k (j 0)) * b (ix2 k (j 1)) := by
  pointwise [k0_pay2]

theorem out_at (acc : FVec Ideal S1024x1024 .f32) (j : S1024x1024.Idx) : k0_pay3 (F := Ideal) acc j = acc j := by
  pointwise [k0_pay3]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- What a grid point adds to its block. -/
def part (c : Dev nD) (p : Fin cfg0.N) (j : S1024x1024.Idx) : EReal :=
  ∑ k : Fin 2048, (show FVec Ideal S2048x1024 .bf16 from iblk m c 0 p) (ix2 k (j 0))
    * (show FVec Ideal S2048x1024 .bf16 from iblk m c 1 p) (ix2 k (j 1))

/-- The scratch, written and read whole. -/
theorem kept (c : Dev nD) (n : ℕ) (h : n < cfg0.N) (j : S1024x1024.Idx) :
    View.read (Elt Ideal) (View.whole cc0_scratch0) ((Memref.isWhole_whole cc0_scratch0).unread (outsAt0 m c n h).2) j
      = (outsAt0 m c n h).2 j :=
  congrFun ((Memref.isWhole_whole cc0_scratch0).read_unread (outsAt0 m c n h).2) j

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have e : (outsAt0 m c t.val t.isLt).1 y = (outsAt0 m c t.val t.isLt).2 y := by
    rw [outsAt0_C m c t (by omega) h3]; frame_out; rw [out_at]
  rw [after0_2, e, Pipeline.eq_sum_fin_of_reset_step_apply_of_flush (fun n h => (outsAt0 m c n h).2) 4 (fun _ => (0 : EReal)) (part m c)
    (fun t h j => by rw [outsAt0_A m c t h (by omega)]; frame_out; rw [step_at, zero_at]; rfl)
    (fun t h j => by
      by_cases h1 : t.val % 4 = 3
      · rw [outsAt0_C m c t h h1]; frame_out; rw [step_at]; exact congrArg (· + part m c t j) (kept m c _ _ j)
      · rw [outsAt0_B m c t h h1]; frame_out; rw [step_at]; exact congrArg (· + part m c t j) (kept m c _ _ j))
    t ((flush0_2 t).mp hf) _, zero_add, ref_at]
  unfold part
  refine Fin.sum_mul_add_congr fun s k hl => ?_
  have hp := idx ⟨_, Pipeline.run_point_lt_of_flush t ((flush0_2 t).mp hf) s⟩
  blk_point [iblk, V, idx t, hp]

end Cert.Kernel9Ideal.Own

end
-- ==== Proof.Proj.lean ====
/- The input projection: `h @ w_in`, a tile a grid point. -/
module

public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.Own

open Cert.Kernel10Ideal Cert.Kernel10Ideal.Gen
open Idealize.ShloMosaic Idealize.ShloMosaic.TcCoe Idealize.SL.Sem
open Idealize.ShloMosaic.Pipeline (Dat)

variable (m : (ℓ : Loc nD τ sig) → Buf (Elt Ideal) ℓ)

/-- What the reference computes. -/
def REF (X : FVec Ideal S8192x2048 .bf16) (W : FVec Ideal S1x2048x13824 .bf16) : FVec Ideal S8192x13824 .bf16 :=
  truncf .bf16 (Host.dotGeneral Cert.Reference10Ideal.dot_S8192x2048_S2048x13824_S8192x13824_1_0_0_1_n_n none (extf .f32 X Cert.Reference10Ideal.Gen.bitsLt_bf16_f32)
    (extf .f32 (shapeCast _ W Cert.Reference10Ideal.Gen.shapeCasts_S1x2048x13824_S2048x13824) Cert.Reference10Ideal.Gen.bitsLt_bf16_f32)) Cert.Reference10Ideal.Gen.bitsLt_bf16_f32

theorem ref_at (X : FVec Ideal S8192x2048 .bf16) (W : FVec Ideal S1x2048x13824 .bf16) (j : S8192x13824.Idx) :
    REF X W j = ∑ k : Fin 2048, X (ix2 (j 0) k) * W (ix3 0 k (j 1)) := by
  pointwise [REF]

theorem pay_at (a : FVec Ideal S2048x2048 .bf16) (b : FVec Ideal S1x2048x768 .bf16) (j : S2048x768.Idx) :
    k0_pay1 (F := Ideal) a b j = ∑ k : Fin 2048, a (ix2 (j 0) k) * b (ix3 0 k (j 1)) := by
  pointwise [k0_pay1]

theorem idx : ∀ t : Fin cfg0.N, win0_0.index t = ![t.val / 18, 0] ∧ win0_1.index t = ![0, 0, t.val % 18]
    ∧ win0_2.index t = ![t.val / 18, t.val % 18] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, ref_at]
  frame_out
  rw [pay_at]
  refine Finset.sum_congr (M := EReal) rfl fun k _ => ?_
  blk_point [iblk, V, idx t]

end Cert.Kernel10Ideal.Own

end
-- ==== Proof.Finite.lean ====
/- Reals among the extended reals: what a comparison with infinity says, and arithmetic that stays real. -/
module

public import Idealize.ShloMosaic.PureOps.Ideal
public import Idealize.ShloMosaic.Lib.Pointwise

@[expose] public section

noncomputable section

namespace Cert.Own

open Idealize.ShloMosaic

/-- An element whose absolute value compares below infinity is a real number. -/
theorem real_of_lt {x : EReal} (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- Both bits of a conjunction are set. -/
theorem bits_of_and {a b : BitVec 1} (h : a &&& b = 1#1) : a = 1#1 ∧ b = 1#1 := by
  revert a b; decide

end Cert.Own

end
-- ==== Proof.GateGrad.lean ====
/- The gradient of the convolution branch's gate `c * silu z`, a tile a grid point, in `c` and in `z`. -/
module

public import proofs.«01_k».proof.Proof.Gen.Kernel11Ideal.Frame
public import proofs.«01_k».proof.Proof.Gen.Reference11Ideal.Run
public import proofs.«01_k».proof.Proof.Finite
public import proofs.«01_k».proof.Proof.Gen.Pre_finite11
public import Idealize.ShloMosaic.Lib.Pipeline.ValueKit
public import Idealize.ShloMosaic.Lib.Pointwise

@[expose] public section

set_option maxRecDepth 16384

noncomputable section

namespace Cert.Kernel11Ideal.Own

open Cert.Kernel11Ideal Cert.Kernel11Ideal.Gen
open Idealize.ShloMosaic Idealize.ShloMosaic.TcCoe Idealize.SL.Sem
open Idealize.ShloMosaic.Pipeline (Dat)

variable (m : (ℓ : Loc nD τ sig) → Buf (Elt Ideal) ℓ)

/-- The reference's term: the derivative in `c`. -/
def REF3 (DY C : FVec Ideal S8192x1024 .bf16) (PR : FVec Ideal S8192x13824 .bf16) : FVec Ideal S8192x1024 .bf16 :=
  truncf .bf16 (mulf (extf .f32 DY Cert.Reference11Ideal.Gen.bitsLt_bf16_f32) (mulf (extractStridedSlice Cert.Reference11Ideal.S8192x1024 ![0, 6656] (extf .f32 PR Cert.Reference11Ideal.Gen.bitsLt_bf16_f32) Cert.Reference11Ideal.Gen.slices_S8192x13824_S8192x1024_0_6656) (Host.divf (broadcastInDim Cert.Reference11Ideal.S8192x1024 ![] Cert.Reference11Ideal.Gen.bcast_S_S8192x1024 (constant Cert.Reference11Ideal.S_ .f32 0x3F800000#32)) (addf (broadcastInDim Cert.Reference11Ideal.S8192x1024 ![] Cert.Reference11Ideal.Gen.bcast_S_S8192x1024 (constant Cert.Reference11Ideal.S_ .f32 0x3F800000#32)) (Host.exp (Host.negf (extractStridedSlice Cert.Reference11Ideal.S8192x1024 ![0, 6656] (extf .f32 PR Cert.Reference11Ideal.Gen.bitsLt_bf16_f32) Cert.Reference11Ideal.Gen.slices_S8192x13824_S8192x1024_0_6656))))))) Cert.Reference11Ideal.Gen.bitsLt_bf16_f32

/-- The reference's term: the derivative in `z`. -/
def REF4 (DY C : FVec Ideal S8192x1024 .bf16) (PR : FVec Ideal S8192x13824 .bf16) : FVec Ideal S8192x1024 .bf16 :=
  truncf .bf16 (addf (mulf (mulf (extf .f32 C Cert.Reference11Ideal.Gen.bitsLt_bf16_f32) (extf .f32 DY Cert.Reference11Ideal.Gen.bitsLt_bf16_f32)) (Host.divf (broadcastInDim Cert.Reference11Ideal.S8192x1024 ![] Cert.Reference11Ideal.Gen.bcast_S_S8192x1024 (constant Cert.Reference11Ideal.S_ .f32 0x3F800000#32)) (addf (broadcastInDim Cert.Reference11Ideal.S8192x1024 ![] Cert.Reference11Ideal.Gen.bcast_S_S8192x1024 (constant Cert.Reference11Ideal.S_ .f32 0x3F800000#32)) (Host.exp (Host.negf (extractStridedSlice Cert.Reference11Ideal.S8192x1024 ![0, 6656] (extf .f32 PR Cert.Reference11Ideal.Gen.bitsLt_bf16_f32) Cert.Reference11Ideal.Gen.slices_S8192x13824_S8192x1024_0_6656)))))) (mulf (mulf (extractStridedSlice Cert.Reference11Ideal.S8192x1024 ![0, 6656] (extf .f32 PR Cert.Reference11Ideal.Gen.bitsLt_bf16_f32) Cert.Reference11Ideal.Gen.slices_S8192x13824_S8192x1024_0_6656) (mulf (extf .f32 C Cert.Reference11Ideal.Gen.bitsLt_bf16_f32) (extf .f32 DY Cert.Reference11Ideal.Gen.bitsLt_bf16_f32))) (mulf (Host.divf (broadcastInDim Cert.Reference11Ideal.S8192x1024 ![] Cert.Reference11Ideal.Gen.bcast_S_S8192x1024 (constant Cert.Reference11Ideal.S_ .f32 0x3F800000#32)) (addf (broadcastInDim Cert.Reference11Ideal.S8192x1024 ![] Cert.Reference11Ideal.Gen.bcast_S_S8192x1024 (constant Cert.Reference11Ideal.S_ .f32 0x3F800000#32)) (Host.exp (Host.negf (extractStridedSlice Cert.Reference11Ideal.S8192x1024 ![0, 6656] (extf .f32 PR Cert.Reference11Ideal.Gen.bitsLt_bf16_f32) Cert.Reference11Ideal.Gen.slices_S8192x13824_S8192x1024_0_6656))))) (subf (broadcastInDim Cert.Reference11Ideal.S8192x1024 ![] Cert.Reference11Ideal.Gen.bcast_S_S8192x1024 (constant Cert.Reference11Ideal.S_ .f32 0x3F800000#32)) (Host.divf (broadcastInDim Cert.Reference11Ideal.S8192x1024 ![] Cert.Reference11Ideal.Gen.bcast_S_S8192x1024 (constant Cert.Reference11Ideal.S_ .f32 0x3F800000#32)) (addf (broadcastInDim Cert.Reference11Ideal.S8192x1024 ![] Cert.Reference11Ideal.Gen.bcast_S_S8192x1024 (constant Cert.Reference11Ideal.S_ .f32 0x3F800000#32)) (Host.exp (Host.negf (extractStridedSlice Cert.Reference11Ideal.S8192x1024 ![0, 6656] (extf .f32 PR Cert.Reference11Ideal.Gen.bitsLt_bf16_f32) Cert.Reference11Ideal.Gen.slices_S8192x13824_S8192x1024_0_6656))))))))) Cert.Reference11Ideal.Gen.bitsLt_bf16_f32

/-- A gate's pre-activation. -/
def gate (PR : FVec Ideal S8192x13824 .bf16) (j : S8192x1024.Idx) : EReal :=
  PR (ix2 (j 0) ⟨6656 + (j 1).val, by have : (j 1).val < 1024 := (j 1).isLt; omega⟩)

theorem ref3_at (DY C : FVec Ideal S8192x1024 .bf16) (PR : FVec Ideal S8192x13824 .bf16) (j : S8192x1024.Idx) :
    REF3 DY C PR j = DY j * (gate PR j * Ideal.logistic (gate PR j)) := by
  idx_vars j
  pointwise [REF3, gate]
  rfl

theorem ref4_at (DY C : FVec Ideal S8192x1024 .bf16) (PR : FVec Ideal S8192x13824 .bf16) (j : S8192x1024.Idx) :
    REF4 DY C PR j = C j * DY j * Ideal.logistic (gate PR j)
      + gate PR j * (C j * DY j) * (Ideal.logistic (gate PR j) * (1 - Ideal.logistic (gate PR j))) := by
  idx_vars j
  pointwise [REF4, gate]
  rfl

/-- Where the product of the branch and its gradient is real, the kernel's factored form is the sum. -/
theorem factored (w : ℝ) (z : EReal) :
    (w : EReal) * (Ideal.logistic z * (1 + z * (1 - Ideal.logistic z)))
      = w * Ideal.logistic z + z * w * (Ideal.logistic z * (1 - Ideal.logistic z)) := by
  induction z using EReal.rec with
  | bot => simp
  | top =>
    have h : (1 : EReal) - 1 = 0 := by rw [← EReal.coe_one, ← EReal.coe_sub, sub_self, EReal.coe_zero]
    simp [h]
  | coe z =>
    rw [Ideal.logistic_coe]
    generalize (1 + Real.exp (-z))⁻¹ = s
    norm_cast
    ring

theorem idx : ∀ t : Fin cfg0.N, win0_0.index t = ![t.val / 2, t.val % 2] ∧ win0_1.index t = ![t.val / 2, t.val % 2]
    ∧ win0_2.index t = ![t.val / 2, 13 + t.val % 2] ∧ win0_3.index t = ![t.val / 2, t.val % 2] ∧ win0_4.index t = ![t.val / 2, t.val % 2] :=
  (by decide +kernel : ∀ t : Fin grid0.N, _)

theorem final3 (c : Dev nD) : (dats m 0 c).arrAt 3 (cfgs 0).N
    = REF3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, ref3_at]
  frame_out
  pointwise [k0_pay1, k0_pay2, k0_pay3, gate]
  blk_point [iblk, V, idx t]

theorem ref4_factored (DY C : FVec Ideal S8192x1024 .bf16) (PR : FVec Ideal S8192x13824 .bf16) (h : Cert.Pre_finite11.fn (F := Ideal) DY C PR = fun _ => 1#1) (j : S8192x1024.Idx) :
    REF4 DY C PR j = DY j * C j * (Ideal.logistic (gate PR j) * (1 + gate PR j * (1 - Ideal.logistic (gate PR j)))) := by
  have hj := congrFun h j
  pointwise [Cert.Pre_finite11.fn] at hj
  obtain ⟨hd, hc⟩ := Cert.Own.bits_of_and hj
  obtain ⟨d, hd⟩ := Cert.Own.real_of_lt hd
  obtain ⟨e, hc⟩ := Cert.Own.real_of_lt hc
  rw [ref4_at, hd, hc, mul_comm (e : EReal), ← EReal.coe_mul, factored]

theorem final4 (c : Dev nD)
    (h : Cert.Pre_finite11.fn (F := Ideal) (m ((c : Thread nD τ).loc main_arg0)) (m ((c : Thread nD τ).loc main_arg1))
      (m ((c : Thread nD τ).loc main_arg2)) = fun _ => 1#1) : (dats m 0 c).arrAt 4 (cfgs 0).N
    = REF4 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, ref4_factored _ _ _ h]
  frame_out
  pointwise [k0_pay1, k0_pay2, k0_pay4, gate]
  blk_point [iblk, V, idx t]

end Cert.Kernel11Ideal.Own

end
-- ==== Proof.AttnRunBits.lean ====
/- The attention's backward call on machine words: its body runs from any contents of the buffers it writes, and what it leaves there isn't named. -/
module

public import proofs.«01_k».proof.Proof.Gen.Kernel12
public import proofs.«01_k».proof.Proof.Gen.Kernel12.Skeleton
public import proofs.«01_k».proof.Proof.Gen.Kernel12.Frame

@[expose] public section

set_option maxRecDepth 16384

noncomputable section

namespace Cert.Own.AttnBits

open Cert.Kernel12 Cert.Kernel12.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := k0_cond1 i = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ 1 ≤ t.val :=
  (by decide +kernel : ∀ t : Fin grid0.N, cond0_1 (grid0.coords t) ↔ 1 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev scM0_0 : Memref sig .tc .vmem S128x256 .f32 := Memref.whole cc0_scratch0
abbrev scM0_1 : Memref sig .tc .vmem S128x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1600000 in
/-- The body at the first point. -/
theorem kernelRun0_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec F S16 .f32) (x1 : Vec F S256x1024 .bf16) (x2 : Vec F S256x256 .bf16) (x3 : Vec F S128x256 .bf16) (x4 : Vec F S256x256 .bf16) (x5 : Vec F S128x256 .bf16) (x6 : Vec F S256x512 .bf16) (x7 : Vec F S256x512 .bf16) (x8 : Vec F S256x1024 .bf16) (x9 : Vec F S256x128 .f32) (x10 : Vec F S256x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    iexists _, _; isplitr; swap; · iexact HS1
    ipureintro; rfl

set_option maxHeartbeats 1600000 in
/-- The body at a later point. -/
theorem kernelRun0_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec F S16 .f32) (x1 : Vec F S256x1024 .bf16) (x2 : Vec F S256x256 .bf16) (x3 : Vec F S128x256 .bf16) (x4 : Vec F S256x256 .bf16) (x5 : Vec F S128x256 .bf16) (x6 : Vec F S256x512 .bf16) (x7 : Vec F S256x512 .bf16) (x8 : Vec F S256x1024 .bf16) (x9 : Vec F S256x128 .f32) (x10 : Vec F S256x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    iexists _, _; isplitr; swap; · iexact HS1
    ipureintro; rfl

end Cert.Own.AttnBits

end
-- ==== Proof.AttnFrameBits.lean ====
/- The attention's backward call on machine words: every run ends, the arguments unchanged. -/
module

public import proofs.«01_k».proof.Proof.AttnRunBits
public import Idealize.ShloMosaic.Lib.Claim

@[expose] public section

set_option maxRecDepth 16384

noncomputable section

namespace Cert.Own.AttnBits

open Cert.Kernel12 Cert.Kernel12.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 7 rfl).trans ((hA c 7).trans (V_main_arg0 m c)),
      (Pipeline.RDat.FramePost.arr_in h c 0 rfl).trans ((hA c 0).trans (V_main_arg1 m c)),
      (Pipeline.RDat.FramePost.arr_in h c 10 rfl).trans ((hA c 10).trans (V_main_arg2 m c))⟩) h

def forgets0 : Fin 16 → Bool := fun w => w.val == 11 || w.val == 12 || w.val == 13 || w.val == 14 || w.val == 15

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Own.AttnBits

end
-- ==== Proof.AttnKit.lean ====
/- The attention's backward call: where the body's two conditions hold, and the buffers it is called with. -/
module

public import proofs.«01_k».proof.Proof.Gen.Kernel12Ideal
public import proofs.«01_k».proof.Proof.Gen.Kernel12Ideal.Skeleton
public import proofs.«01_k».proof.Proof.Gen.Kernel12Ideal.Frame

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond0_0 (i : grid0.Coords) : Prop := k0_cond1 i = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

abbrev cond0_1 (i : grid0.Coords) : Prop := k0_cond2 i = 1#1
theorem hcond0_1 : ∀ t : Fin cfg0.N, cond0_1 (grid0.coords t) ↔ 1 ≤ t.val :=
  (by decide +kernel : ∀ t : Fin grid0.N, cond0_1 (grid0.coords t) ↔ 1 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev scM0_0 : Memref sig .tc .vmem S128x256 .f32 := Memref.whole cc0_scratch0
abbrev scM0_1 : Memref sig .tc .vmem S128x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Own.Attn

end
-- ==== Proof.AttnRunA.lean ====
/- The attention's backward call: the body's run at the first point, with the pieces it stores. -/
module

public import proofs.«01_k».proof.Proof.AttnKit

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3200000 in
/-- The body at the first point: the pieces it leaves in each buffer it writes. -/
noncomputable def kernelRun0_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec F S16 .f32) (x1 : Vec F S256x1024 .bf16) (x2 : Vec F S256x256 .bf16) (x3 : Vec F S128x256 .bf16) (x4 : Vec F S256x256 .bf16) (x5 : Vec F S128x256 .bf16) (x6 : Vec F S256x512 .bf16) (x7 : Vec F S256x512 .bf16) (x8 : Vec F S256x1024 .bf16) (x9 : Vec F S256x128 .f32) (x10 : Vec F S256x1024 .bf16) (xs0 : Vec F S128x256 .f32) (xs1 : Vec F S128x256 .f32) :
    Σ' (L11 : List (View.Piece (Elt F) S256x1024 .bf16)) (L12 : List (View.Piece (Elt F) S256x256 .bf16)) (L13 : List (View.Piece (Elt F) S256x256 .bf16)) (L14 : List (View.Piece (Elt F) S256x1024 .bf16)) (L15 : List (View.Piece (Elt F) S1x128 .f32)) (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hfs0; obtain rfl := harg18.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    iexists _; iexact HS1

end Cert.Own.Attn

end
-- ==== Proof.AttnRunB.lean ====
/- The attention's backward call: the body's run at a later point, with the pieces it stores. -/
module

public import proofs.«01_k».proof.Proof.AttnRunA

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3200000 in
/-- The body at a later point: the pieces it leaves in each buffer it writes. -/
noncomputable def kernelRun0_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec F S16 .f32) (x1 : Vec F S256x1024 .bf16) (x2 : Vec F S256x256 .bf16) (x3 : Vec F S128x256 .bf16) (x4 : Vec F S256x256 .bf16) (x5 : Vec F S128x256 .bf16) (x6 : Vec F S256x512 .bf16) (x7 : Vec F S256x512 .bf16) (x8 : Vec F S256x1024 .bf16) (x9 : Vec F S256x128 .f32) (x10 : Vec F S256x1024 .bf16) (xs0 : Vec F S128x256 .f32) (xs1 : Vec F S128x256 .f32) (x15 : Vec F S1x128 .f32) :
    Σ' (L11 : List (View.Piece (Elt F) S256x1024 .bf16)) (L12 : List (View.Piece (Elt F) S256x256 .bf16)) (L13 : List (View.Piece (Elt F) S256x256 .bf16)) (L14 : List (View.Piece (Elt F) S256x1024 .bf16)) (L15 : List (View.Piece (Elt F) S1x128 .f32)) (LS0 : List (View.Piece (Elt F) S128x256 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x15 ∗ owns (c : Thread nD τ) arg17 fullShare xs0 ∗ owns (c : Thread nD τ) arg18 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hfs0; obtain rfl := harg18.eq_unread hfs1; obtain rfl := harg16.eq_unread hf15
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexists _; iexact HS0
    iexists _; iexact HS1

end Cert.Own.Attn

end
-- ==== Proof.AttnBlock.lean ====
/- The attention's gradient of one block of 256 queries against its 384 keys, head by head: the scores, the
   probabilities, and the derivatives the body computes from them, as sums of extended reals. -/
module

public import proofs.«01_k».proof.Kernel12Ideal
public import Idealize.ShloMosaic.Lib.Pipeline.ValueKit
public import Idealize.ShloMosaic.Lib.Pointwise

@[expose] public section

noncomputable section

namespace Cert.Own.Attn

open Cert.Kernel12Ideal
open Idealize.ShloMosaic Idealize.ShloMosaic.TcCoe Idealize.SL.Sem

/-- Whether query `r` of block `b` sees key `j` of the block's 384: the key is in the query's chunk of 64 or in one
    of the two before it, and isn't before the sequence's first row. -/
def live (b r j : ℕ) : Prop := r / 64 ≤ j / 64 ∧ j / 64 ≤ r / 64 + 2 ∧ 2 ≤ j / 64 + 4 * b

instance (b r j : ℕ) : Decidable (live b r j) := by unfold live; infer_instance

/-- The block's keys (or values): the last 128 rows of the block before, then its own 256. -/
def rows (P : FVec Ideal S128x256 .bf16) (C : FVec Ideal S256x256 .bf16) (j : Fin 384) (d : Fin 256) : EReal :=
  if h : j.val < 128 then P (ix2 ⟨j.val, h⟩ d) else C (ix2 ⟨j.val - 128, by omega⟩ d)

/-- The sum `k + d`, as `d` itself where `k` is nothing. -/
def off (k d : ℕ) : ℕ := if k = 0 then d else k + d
theorem off_eq (k d : ℕ) : off k d = k + d := by unfold off; split <;> omega

/-- Column `d` of head `h` among the 1024 query columns. -/
def qcol (h : Fin 16) (d : Fin 64) : Fin 1024 := ⟨off (64 * h.val) d.val, by rw [off_eq]; omega⟩
/-- Column `d` of head `h`'s key head among the 256 key columns. -/
def kcol (h : Fin 16) (d : Fin 64) : Fin 256 := ⟨off (64 * (h.val / 4)) d.val, by rw [off_eq]; omega⟩
/-- Column `d` of head `h` among the 512 columns of its half of the gates. -/
def zcol (h : Fin 16) (d : Fin 64) : Fin 512 := ⟨off (64 * (h.val % 8)) d.val, by rw [off_eq]; omega⟩
/-- Head `h`'s lane among 128. -/
def lane (h : Fin 16) : Fin 128 := ⟨h.val, by omega⟩

/-- Column `d` of key head `g` among the 256 key columns. -/
def ocol (g : Fin 4) (d : Fin 64) : Fin 256 := ⟨off (64 * g.val) d.val, by rw [off_eq]; omega⟩
/-- The `k`-th of the four heads that share key head `g`. -/
def head (g k : Fin 4) : Fin 16 := ⟨4 * g.val + k.val, by omega⟩

/-- The call's block at one grid point: what the body reads. -/
structure Blk where
  b : ℕ
  sink : FVec Ideal S16 .f32
  q : FVec Ideal S256x1024 .bf16
  kc : FVec Ideal S256x256 .bf16
  kp : FVec Ideal S128x256 .bf16
  vc : FVec Ideal S256x256 .bf16
  vp : FVec Ideal S128x256 .bf16
  z0 : FVec Ideal S256x512 .bf16
  z1 : FVec Ideal S256x512 .bf16
  o : FVec Ideal S256x1024 .bf16
  lse : FVec Ideal S256x128 .f32
  dy : FVec Ideal S256x1024 .bf16

namespace Blk

variable (B : Blk)

/-- The score of query `r` against key `j`, before the scale. -/
def score (h : Fin 16) (r : Fin 256) (j : Fin 384) : EReal :=
  ∑ d : Fin 64, B.q (ix2 r (qcol h d)) * rows B.kp B.kc j (kcol h d)
/-- The probability, from the saved log-sum. -/
def prob (h : Fin 16) (r : Fin 256) (j : Fin 384) : EReal :=
  Ideal.exp ((if live B.b r j then B.score h r j * Ideal.ofBits .f32 0x3E000000#32 else ⊥) - B.lse (ix2 r (lane h)))
/-- The gate's pre-activation. -/
def z (h : Fin 16) (r : Fin 256) (d : Fin 64) : EReal :=
  if h.val < 8 then B.z0 (ix2 r (zcol h d)) else B.z1 (ix2 r (zcol h d))
/-- The gradient of the head's output. -/
def do' (h : Fin 16) (r : Fin 256) (d : Fin 64) : EReal :=
  B.dy (ix2 r (qcol h d)) * (B.z h r d * Ideal.logistic (B.z h r d))
/-- The row's sum of output times its gradient. -/
def drow (h : Fin 16) (r : Fin 256) : EReal := ∑ d : Fin 64, B.do' h r d * B.o (ix2 r (qcol h d))
/-- The gradient of a probability. -/
def dp (h : Fin 16) (r : Fin 256) (j : Fin 384) : EReal :=
  ∑ d : Fin 64, B.do' h r d * rows B.vp B.vc j (kcol h d)
/-- The gradient of a score. -/
def ds (h : Fin 16) (r : Fin 256) (j : Fin 384) : EReal := B.prob h r j * (B.dp h r j - B.drow h r)

/-- The gradient of the queries. -/
def dq (h : Fin 16) (r : Fin 256) (d : Fin 64) : EReal :=
  (∑ j : Fin 384, B.ds h r j * rows B.kp B.kc j (kcol h d)) * Ideal.ofBits .f32 0x3E000000#32
/-- The gradient of the gate's pre-activation. -/
def dz (h : Fin 16) (r : Fin 256) (d : Fin 64) : EReal :=
  B.dy (ix2 r (qcol h d)) * B.o (ix2 r (qcol h d))
    * (Ideal.logistic (B.z h r d) * (1 + B.z h r d * (1 - Ideal.logistic (B.z h r d))))
/-- One head's part of the gradient of key row `j`. -/
def partK (h : Fin 16) (j : Fin 384) (d : Fin 64) : EReal :=
  (∑ r : Fin 256, B.ds h r j * B.q (ix2 r (qcol h d))) * Ideal.ofBits .f32 0x3E000000#32
/-- One head's part of the gradient of value row `j`. -/
def partV (h : Fin 16) (j : Fin 384) (d : Fin 64) : EReal := ∑ r : Fin 256, B.prob h r j * B.do' h r d
/-- The gradient of key row `j` from the four heads that share it. -/
def accK (g : Fin 4) (j : Fin 384) (d : Fin 64) : EReal :=
  B.partK (head g 0) j d + B.partK (head g 1) j d + B.partK (head g 2) j d + B.partK (head g 3) j d
/-- The gradient of value row `j` from the four heads that share it. -/
def accV (g : Fin 4) (j : Fin 384) (d : Fin 64) : EReal :=
  B.partV (head g 0) j d + B.partV (head g 1) j d + B.partV (head g 2) j d + B.partV (head g 3) j d
/-- The gradient of the sinks, on 128 lanes. -/
def dsink (l : Fin 128) : EReal :=
  if h : l.val < 16 then
    0 - ∑ r : Fin 256, Ideal.exp (B.sink (ix1 ⟨l.val, h⟩) - B.lse (ix2 r (lane ⟨l.val, h⟩))) * B.drow ⟨l.val, h⟩ r
  else 0

end Blk

end Cert.Own.Attn

end
-- ==== Proof.AttnMask.lean ====
/- The attention's backward call: what the body's mask and its loads hold, read at an index. -/
module

public import proofs.«01_k».proof.Proof.AttnRunA
public import proofs.«01_k».proof.Proof.AttnRunB
public import proofs.«01_k».proof.Proof.AttnBlock
public import Idealize.ShloMosaic.Lib.Pipeline.ValueKit
public import Idealize.ShloMosaic.Lib.Pointwise

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem query_chunk (r : Fin 256) (j : Fin 384) : k0_pay5 (ix2 r j) = BitVec.ofNat 32 (r.val / 64) := by
  pointwise [k0_pay5]
  revert r; decide +kernel

theorem key_chunk (j : Fin 384) : (Scalar.select
              (IntOp.andi
                (IntOp.cmpi CmpIPredicate.ne
                  (IntOp.subi (BitVec.setWidth 32 (IntOp.cmpi CmpIPredicate.sgt (BitVec.ofNat 32 ↑j) 0#32))
                    (BitVec.setWidth 32 (IntOp.cmpi CmpIPredicate.slt (BitVec.ofNat 32 ↑j) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 ↑j) 64#32) 0#32))
              (IntOp.subi (IntOp.divsi ArithUnit.vector (BitVec.ofNat 32 ↑j) 64#32) 1#32)
              (IntOp.divsi ArithUnit.vector (BitVec.ofNat 32 ↑j) 64#32)) = BitVec.ofNat 32 (j.val / 64) := by
  revert j; decide +kernel

theorem chunks (b : Fin 32) (q : Fin 4) (k : Fin 6) :
    IntOp.andi
      (IntOp.andi (IntOp.cmpi CmpIPredicate.sle (IntOp.subi (BitVec.ofNat 32 k.val) 2#32) (BitVec.ofNat 32 q.val))
        (IntOp.cmpi CmpIPredicate.sge (IntOp.subi (BitVec.ofNat 32 k.val) 2#32) (IntOp.subi (BitVec.ofNat 32 q.val) 2#32)))
      (IntOp.cmpi CmpIPredicate.sge (IntOp.addi (IntOp.subi (BitVec.ofNat 32 k.val) 2#32) (Scalar.muli (BitVec.ofNat 32 b.val) 4#32)) 0#32)
      = if q.val ≤ k.val ∧ k.val ≤ q.val + 2 ∧ 2 ≤ k.val + 4 * b.val then 1#1 else 0#1 := by
  revert b q k; decide +kernel

/-- The mask of block `b`. -/
theorem mask_at (b : Fin 32) (r : Fin 256) (j : Fin 384) :
    k0_pay8 (BitVec.ofNat 32 b.val) k0_pay5 (iota .tc S256x384 32 [1] iota_S256x384_d1_w32) 64#32 k0_pay6 k0_pay7 (ix2 r j)
      = if live b r j then 1#1 else 0#1 := by
  pointwise [k0_pay8, query_chunk, k0_pay6, k0_pay7]
  rw [key_chunk]
  exact chunks b ⟨r.val / 64, by omega⟩ ⟨j.val / 64, by omega⟩

/-- The word the body reads as its block's number. -/
theorem block_word : ∀ i : grid0.Coords, kernelRun0_A.sl.v0 i = BitVec.ofNat 32 (31 - (i 0).val) := by
  intro i
  have h : (i 0).val < 32 := (i 0).isLt
  generalize e : i 0 = k at h ⊢
  unfold kernelRun0_A.sl.v0
  rw [e]; clear e
  revert k; decide +kernel

theorem rows_at (p : FVec Ideal S128x256 .bf16) (cu : FVec Ideal S256x256 .bf16) (j : Fin 384) (d : Fin 256) :
    k0_pay3 (F := Ideal) p cu (ix2 j d) = rows p cu j d := by
  pointwise [k0_pay3, rows]

theorem vrows_at (p : FVec Ideal S128x256 .bf16) (cu : FVec Ideal S256x256 .bf16) (j : Fin 384) (d : Fin 256) :
    k0_pay4 (F := Ideal) p cu (ix2 j d) = rows p cu j d := by
  pointwise [k0_pay4, rows]

theorem mask_i (i : grid0.Coords) (b : ℕ) (hb : b = 31 - (i 0).val) (r : Fin 256) (j : Fin 384) :
    k0_pay8 (Scalar.subi 31#32 (BitVec.ofNat 32 (i 0).val)) k0_pay5 (iota .tc S256x384 32 [1] iota_S256x384_d1_w32) 64#32 k0_pay6 k0_pay7 (ix2 r j)
      = if live b r j then 1#1 else 0#1 := by
  subst hb
  have h : (i 0).val < 32 := (i 0).isLt
  rw [show Scalar.subi 31#32 (BitVec.ofNat 32 (i 0).val) = BitVec.ofNat 32 (31 - (i 0).val) from block_word i]
  exact mask_at ⟨31 - (i 0).val, by omega⟩ r j

theorem select_mask (p : Prop) [Decidable p] (a b : EReal) : Scalar.select (if p then 1#1 else 0#1) a b = if p then a else b := by
  by_cases h : p <;> simp [h, Scalar.select]

/-- The chain of selects on a lane's number. -/
theorem lane_chain (f : Fin 16 → EReal) (l : Fin 128) :
    Scalar.select (IntOp.cmpi CmpIPredicate.eq (BitVec.ofNat 32 l.val) 15#32) (f 15) (Scalar.select (IntOp.cmpi CmpIPredicate.eq (BitVec.ofNat 32 l.val) 14#32) (f 14) (Scalar.select (IntOp.cmpi CmpIPredicate.eq (BitVec.ofNat 32 l.val) 13#32) (f 13) (Scalar.select (IntOp.cmpi CmpIPredicate.eq (BitVec.ofNat 32 l.val) 12#32) (f 12) (Scalar.select (IntOp.cmpi CmpIPredicate.eq (BitVec.ofNat 32 l.val) 11#32) (f 11) (Scalar.select (IntOp.cmpi CmpIPredicate.eq (BitVec.ofNat 32 l.val) 10#32) (f 10) (Scalar.select (IntOp.cmpi CmpIPredicate.eq (BitVec.ofNat 32 l.val) 9#32) (f 9) (Scalar.select (IntOp.cmpi CmpIPredicate.eq (BitVec.ofNat 32 l.val) 8#32) (f 8) (Scalar.select (IntOp.cmpi CmpIPredicate.eq (BitVec.ofNat 32 l.val) 7#32) (f 7) (Scalar.select (IntOp.cmpi CmpIPredicate.eq (BitVec.ofNat 32 l.val) 6#32) (f 6) (Scalar.select (IntOp.cmpi CmpIPredicate.eq (BitVec.ofNat 32 l.val) 5#32) (f 5) (Scalar.select (IntOp.cmpi CmpIPredicate.eq (BitVec.ofNat 32 l.val) 4#32) (f 4) (Scalar.select (IntOp.cmpi CmpIPredicate.eq (BitVec.ofNat 32 l.val) 3#32) (f 3) (Scalar.select (IntOp.cmpi CmpIPredicate.eq (BitVec.ofNat 32 l.val) 2#32) (f 2) (Scalar.select (IntOp.cmpi CmpIPredicate.eq (BitVec.ofNat 32 l.val) 1#32) (f 1) (Scalar.select (IntOp.cmpi CmpIPredicate.eq (BitVec.ofNat 32 l.val) 0#32) (f 0) (0))))))))))))))))
      = if h : l.val < 16 then f ⟨l.val, h⟩ else 0 := by
  fin_cases l <;> rfl

theorem first_i (i : grid0.Coords) :
    Scalar.cmpi .eq (BitVec.ofNat 32 (i 0).val) 0#32 = if (i 0).val = 0 then 1#1 else 0#1 := by
  have h : (i 0).val < 32 := (i 0).isLt
  generalize e : i 0 = k at h ⊢
  clear e
  revert k; decide +kernel

end Cert.Own.Attn

end
-- ==== Proof.AttnPiecesA.lean ====
/- The attention's backward call at a grid point, the first one: what the body leaves in each window and in its two carries, read at an index. -/
module

public import proofs.«01_k».proof.Proof.AttnMask

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 6400000 in
theorem dq_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) (h : Fin 16) (r : Fin 256) (d : Fin 64) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).1 (ix2 r (qcol h d))
      = (Blk.mk b x0 x1 x2 x3 x4 x5 x6 x7 x8 x9 x10).dq h r d := by
  unfold kernelRun0_A
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece15 => obtain rfl : h = 0 := Fin.ext (by change h.val = 0; omega)
  case' piece14 => obtain rfl : h = 1 := Fin.ext (by change h.val = 1; omega)
  case' piece13 => obtain rfl : h = 2 := Fin.ext (by change h.val = 2; omega)
  case' piece12 => obtain rfl : h = 3 := Fin.ext (by change h.val = 3; omega)
  case' piece11 => obtain rfl : h = 4 := Fin.ext (by change h.val = 4; omega)
  case' piece10 => obtain rfl : h = 5 := Fin.ext (by change h.val = 5; omega)
  case' piece9 => obtain rfl : h = 6 := Fin.ext (by change h.val = 6; omega)
  case' piece8 => obtain rfl : h = 7 := Fin.ext (by change h.val = 7; omega)
  case' piece7 => obtain rfl : h = 8 := Fin.ext (by change h.val = 8; omega)
  case' piece6 => obtain rfl : h = 9 := Fin.ext (by change h.val = 9; omega)
  case' piece5 => obtain rfl : h = 10 := Fin.ext (by change h.val = 10; omega)
  case' piece4 => obtain rfl : h = 11 := Fin.ext (by change h.val = 11; omega)
  case' piece3 => obtain rfl : h = 12 := Fin.ext (by change h.val = 12; omega)
  case' piece2 => obtain rfl : h = 13 := Fin.ext (by change h.val = 13; omega)
  case' piece1 => obtain rfl : h = 14 := Fin.ext (by change h.val = 14; omega)
  case' piece0 => obtain rfl : h = 15 := Fin.ext (by change h.val = 15; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [hm, select_mask, rows_at, vrows_at]
      rfl

set_option maxHeartbeats 6400000 in
theorem dz_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) (h : Fin 16) (r : Fin 256) (d : Fin 64) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.1 (ix2 r (qcol h d))
      = (Blk.mk b x0 x1 x2 x3 x4 x5 x6 x7 x8 x9 x10).dz h r d := by
  unfold kernelRun0_A
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece15 => obtain rfl : h = 0 := Fin.ext (by change h.val = 0; omega)
  case' piece14 => obtain rfl : h = 1 := Fin.ext (by change h.val = 1; omega)
  case' piece13 => obtain rfl : h = 2 := Fin.ext (by change h.val = 2; omega)
  case' piece12 => obtain rfl : h = 3 := Fin.ext (by change h.val = 3; omega)
  case' piece11 => obtain rfl : h = 4 := Fin.ext (by change h.val = 4; omega)
  case' piece10 => obtain rfl : h = 5 := Fin.ext (by change h.val = 5; omega)
  case' piece9 => obtain rfl : h = 6 := Fin.ext (by change h.val = 6; omega)
  case' piece8 => obtain rfl : h = 7 := Fin.ext (by change h.val = 7; omega)
  case' piece7 => obtain rfl : h = 8 := Fin.ext (by change h.val = 8; omega)
  case' piece6 => obtain rfl : h = 9 := Fin.ext (by change h.val = 9; omega)
  case' piece5 => obtain rfl : h = 10 := Fin.ext (by change h.val = 10; omega)
  case' piece4 => obtain rfl : h = 11 := Fin.ext (by change h.val = 11; omega)
  case' piece3 => obtain rfl : h = 12 := Fin.ext (by change h.val = 12; omega)
  case' piece2 => obtain rfl : h = 13 := Fin.ext (by change h.val = 13; omega)
  case' piece1 => obtain rfl : h = 14 := Fin.ext (by change h.val = 14; omega)
  case' piece0 => obtain rfl : h = 15 := Fin.ext (by change h.val = 15; omega)
  all_goals
      clear h0 h1 x0_lt x1_lt
      frame_out
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      rfl

set_option maxHeartbeats 6400000 in
theorem dsink_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (l : Fin 128) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.1 (ix2 0 l) = (Blk.mk b x0 x1 x2 x3 x4 x5 x6 x7 x8 x9 x10).dsink l := by
  unfold kernelRun0_A
  dsimp only
  canon_tiles x h
  case piece0 =>
    obtain rfl : x = ix2 0 l := by
      funext a
      match a with
      | ⟨0, _⟩ => exact Subsingleton.elim (α := Fin 1) _ _
      | ⟨1, _⟩ => exact Fin.ext h1.symm
    frame_out
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
    exact (lane_chain (fun h => 0 - ∑ r : Fin 256, Ideal.exp (x0 (ix1 h) - x9 (ix2 r (lane h))) * (Blk.mk b x0 x1 x2 x3 x4 x5 x6 x7 x8 x9 x10).drow h r) l)

set_option maxHeartbeats 6400000 in
theorem dk_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) (h : Fin 4) (r : Fin 256) (d : Fin 64) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.1 (ix2 r (ocol h d))
      = if hr : r.val < 128 then (Blk.mk b x0 x1 x2 x3 x4 x5 x6 x7 x8 x9 x10).accK h ⟨128 + r.val, by omega⟩ d
        else (Blk.mk b x0 x1 x2 x3 x4 x5 x6 x7 x8 x9 x10).accK h ⟨256 + (r.val - 128), by omega⟩ d + if (i 0).val = 0 then 0 else xs0 (ix2 ⟨r.val - 128, by omega⟩ (ocol h d)) := by
  unfold kernelRun0_A
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      have he := first_i i
      generalize BitVec.ofNat 32 (i 0).val = w at he ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [he, hm, select_mask, rows_at, vrows_at]
      rfl

set_option maxHeartbeats 6400000 in
theorem dv_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) (h : Fin 4) (r : Fin 256) (d : Fin 64) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.1 (ix2 r (ocol h d))
      = if hr : r.val < 128 then (Blk.mk b x0 x1 x2 x3 x4 x5 x6 x7 x8 x9 x10).accV h ⟨128 + r.val, by omega⟩ d
        else (Blk.mk b x0 x1 x2 x3 x4 x5 x6 x7 x8 x9 x10).accV h ⟨256 + (r.val - 128), by omega⟩ d + if (i 0).val = 0 then 0 else xs1 (ix2 ⟨r.val - 128, by omega⟩ (ocol h d)) := by
  unfold kernelRun0_A
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      have he := first_i i
      generalize BitVec.ofNat 32 (i 0).val = w at he ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [he, hm, select_mask, rows_at, vrows_at]
      rfl

set_option maxHeartbeats 6400000 in
theorem sk_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) (h : Fin 4) (r : Fin 128) (d : Fin 64) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.2.1 (ix2 r (ocol h d))
      = (Blk.mk b x0 x1 x2 x3 x4 x5 x6 x7 x8 x9 x10).accK h ⟨r.val, by omega⟩ d := by
  unfold kernelRun0_A
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [hm, select_mask, rows_at, vrows_at]
      rfl

set_option maxHeartbeats 6400000 in
theorem sv_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) (h : Fin 4) (r : Fin 128) (d : Fin 64) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.2.2.1 (ix2 r (ocol h d))
      = (Blk.mk b x0 x1 x2 x3 x4 x5 x6 x7 x8 x9 x10).accV h ⟨r.val, by omega⟩ d := by
  unfold kernelRun0_A
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [hm, select_mask, rows_at, vrows_at]
      rfl

end Cert.Own.Attn

end
-- ==== Proof.AttnPiecesB.lean ====
/- The attention's backward call at a grid point after the first: what the body leaves in each window and in its two carries, read at an index. -/
module

public import proofs.«01_k».proof.Proof.AttnMask

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxHeartbeats 6400000 in
theorem dq_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) (h : Fin 16) (r : Fin 256) (d : Fin 64) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).1 (ix2 r (qcol h d))
      = (Blk.mk b x0 x1 x2 x3 x4 x5 x6 x7 x8 x9 x10).dq h r d := by
  unfold kernelRun0_B
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece15 => obtain rfl : h = 0 := Fin.ext (by change h.val = 0; omega)
  case' piece14 => obtain rfl : h = 1 := Fin.ext (by change h.val = 1; omega)
  case' piece13 => obtain rfl : h = 2 := Fin.ext (by change h.val = 2; omega)
  case' piece12 => obtain rfl : h = 3 := Fin.ext (by change h.val = 3; omega)
  case' piece11 => obtain rfl : h = 4 := Fin.ext (by change h.val = 4; omega)
  case' piece10 => obtain rfl : h = 5 := Fin.ext (by change h.val = 5; omega)
  case' piece9 => obtain rfl : h = 6 := Fin.ext (by change h.val = 6; omega)
  case' piece8 => obtain rfl : h = 7 := Fin.ext (by change h.val = 7; omega)
  case' piece7 => obtain rfl : h = 8 := Fin.ext (by change h.val = 8; omega)
  case' piece6 => obtain rfl : h = 9 := Fin.ext (by change h.val = 9; omega)
  case' piece5 => obtain rfl : h = 10 := Fin.ext (by change h.val = 10; omega)
  case' piece4 => obtain rfl : h = 11 := Fin.ext (by change h.val = 11; omega)
  case' piece3 => obtain rfl : h = 12 := Fin.ext (by change h.val = 12; omega)
  case' piece2 => obtain rfl : h = 13 := Fin.ext (by change h.val = 13; omega)
  case' piece1 => obtain rfl : h = 14 := Fin.ext (by change h.val = 14; omega)
  case' piece0 => obtain rfl : h = 15 := Fin.ext (by change h.val = 15; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [hm, select_mask, rows_at, vrows_at]
      rfl

set_option maxHeartbeats 6400000 in
theorem dz_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) (h : Fin 16) (r : Fin 256) (d : Fin 64) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.1 (ix2 r (qcol h d))
      = (Blk.mk b x0 x1 x2 x3 x4 x5 x6 x7 x8 x9 x10).dz h r d := by
  unfold kernelRun0_B
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece15 => obtain rfl : h = 0 := Fin.ext (by change h.val = 0; omega)
  case' piece14 => obtain rfl : h = 1 := Fin.ext (by change h.val = 1; omega)
  case' piece13 => obtain rfl : h = 2 := Fin.ext (by change h.val = 2; omega)
  case' piece12 => obtain rfl : h = 3 := Fin.ext (by change h.val = 3; omega)
  case' piece11 => obtain rfl : h = 4 := Fin.ext (by change h.val = 4; omega)
  case' piece10 => obtain rfl : h = 5 := Fin.ext (by change h.val = 5; omega)
  case' piece9 => obtain rfl : h = 6 := Fin.ext (by change h.val = 6; omega)
  case' piece8 => obtain rfl : h = 7 := Fin.ext (by change h.val = 7; omega)
  case' piece7 => obtain rfl : h = 8 := Fin.ext (by change h.val = 8; omega)
  case' piece6 => obtain rfl : h = 9 := Fin.ext (by change h.val = 9; omega)
  case' piece5 => obtain rfl : h = 10 := Fin.ext (by change h.val = 10; omega)
  case' piece4 => obtain rfl : h = 11 := Fin.ext (by change h.val = 11; omega)
  case' piece3 => obtain rfl : h = 12 := Fin.ext (by change h.val = 12; omega)
  case' piece2 => obtain rfl : h = 13 := Fin.ext (by change h.val = 13; omega)
  case' piece1 => obtain rfl : h = 14 := Fin.ext (by change h.val = 14; omega)
  case' piece0 => obtain rfl : h = 15 := Fin.ext (by change h.val = 15; omega)
  all_goals
      clear h0 h1 x0_lt x1_lt
      frame_out
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      rfl

set_option maxHeartbeats 6400000 in
theorem dsink_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (l : Fin 128) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.1 (ix2 0 l) = x15 (ix2 0 l) + (Blk.mk b x0 x1 x2 x3 x4 x5 x6 x7 x8 x9 x10).dsink l := by
  unfold kernelRun0_B
  dsimp only
  canon_tiles x h
  case piece0 =>
    obtain rfl : x = ix2 0 l := by
      funext a
      match a with
      | ⟨0, _⟩ => exact Subsingleton.elim (α := Fin 1) _ _
      | ⟨1, _⟩ => exact Fin.ext h1.symm
    frame_out
    pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
    exact congrArg _ (lane_chain (fun h => 0 - ∑ r : Fin 256, Ideal.exp (x0 (ix1 h) - x9 (ix2 r (lane h))) * (Blk.mk b x0 x1 x2 x3 x4 x5 x6 x7 x8 x9 x10).drow h r) l)

set_option maxHeartbeats 6400000 in
theorem dk_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) (h : Fin 4) (r : Fin 256) (d : Fin 64) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.1 (ix2 r (ocol h d))
      = if hr : r.val < 128 then (Blk.mk b x0 x1 x2 x3 x4 x5 x6 x7 x8 x9 x10).accK h ⟨128 + r.val, by omega⟩ d
        else (Blk.mk b x0 x1 x2 x3 x4 x5 x6 x7 x8 x9 x10).accK h ⟨256 + (r.val - 128), by omega⟩ d + if (i 0).val = 0 then 0 else xs0 (ix2 ⟨r.val - 128, by omega⟩ (ocol h d)) := by
  unfold kernelRun0_B
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      have he := first_i i
      generalize BitVec.ofNat 32 (i 0).val = w at he ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [he, hm, select_mask, rows_at, vrows_at]
      rfl

set_option maxHeartbeats 6400000 in
theorem dv_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) (h : Fin 4) (r : Fin 256) (d : Fin 64) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.1 (ix2 r (ocol h d))
      = if hr : r.val < 128 then (Blk.mk b x0 x1 x2 x3 x4 x5 x6 x7 x8 x9 x10).accV h ⟨128 + r.val, by omega⟩ d
        else (Blk.mk b x0 x1 x2 x3 x4 x5 x6 x7 x8 x9 x10).accV h ⟨256 + (r.val - 128), by omega⟩ d + if (i 0).val = 0 then 0 else xs1 (ix2 ⟨r.val - 128, by omega⟩ (ocol h d)) := by
  unfold kernelRun0_B
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      have he := first_i i
      generalize BitVec.ofNat 32 (i 0).val = w at he ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [he, hm, select_mask, rows_at, vrows_at]
      rfl

set_option maxHeartbeats 6400000 in
theorem sk_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) (h : Fin 4) (r : Fin 128) (d : Fin 64) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.2.1 (ix2 r (ocol h d))
      = (Blk.mk b x0 x1 x2 x3 x4 x5 x6 x7 x8 x9 x10).accK h ⟨r.val, by omega⟩ d := by
  unfold kernelRun0_B
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [hm, select_mask, rows_at, vrows_at]
      rfl

set_option maxHeartbeats 6400000 in
theorem sv_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) (h : Fin 4) (r : Fin 128) (d : Fin 64) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.2.2.1 (ix2 r (ocol h d))
      = (Blk.mk b x0 x1 x2 x3 x4 x5 x6 x7 x8 x9 x10).accV h ⟨r.val, by omega⟩ d := by
  unfold kernelRun0_B
  dsimp only
  canon_tiles x h
  all_goals
    change r.val = _ at h0
    change off (64 * h.val) d.val = _ at h1
    rw [off_eq] at h1
    obtain rfl : x = ix2 r d := by
      funext a
      match a with
      | ⟨0, _⟩ => exact Fin.ext h0.symm
      | ⟨1, _⟩ => exact Fin.ext (by change (x 1).val = d.val; omega)
  case' piece3 => obtain rfl : h = 0 := Fin.ext (by change h.val = 0; omega)
  case' piece2 => obtain rfl : h = 1 := Fin.ext (by change h.val = 1; omega)
  case' piece1 => obtain rfl : h = 2 := Fin.ext (by change h.val = 2; omega)
  case' piece0 => obtain rfl : h = 3 := Fin.ext (by change h.val = 3; omega)
  all_goals
      clear h0 h1 x0_lt x1_lt
      frame_out
      have hm := mask_i i b hb
      generalize k0_pay8 (Scalar.subi 31#32 (BitVec.ofNat 32 (i 0).val)) k0_pay5 (iota .tc S256x384 32 [1] iota_S256x384_d1_w32) 64#32 k0_pay6 k0_pay7 = M at hm ⊢
      pointwise [k0_pay1, k0_pay2, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289]
      simp only [hm, select_mask, rows_at, vrows_at]
      rfl

end Cert.Own.Attn

end
-- ==== Proof.AttnReads.lean ====
/- The attention's backward call: what one grid point leaves in each window and in its two carries, as functions of the point's block. -/
module

public import proofs.«01_k».proof.Proof.AttnPiecesA
public import proofs.«01_k».proof.Proof.AttnPiecesB

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The head of a query column, and the column within the head. -/
def qhead (n : Fin 1024) : Fin 16 := ⟨n.val / 64, by omega⟩
def khead (n : Fin 256) : Fin 4 := ⟨n.val / 64, by omega⟩
def within (n : ℕ) : Fin 64 := ⟨n % 64, by omega⟩

theorem qcol_split (n : Fin 1024) : qcol (qhead n) (within n.val) = n :=
  Fin.ext (by change off (64 * (n.val / 64)) (n.val % 64) = n.val; rw [off_eq]; omega)
theorem ocol_split (n : Fin 256) : ocol (khead n) (within n.val) = n :=
  Fin.ext (by change off (64 * (n.val / 64)) (n.val % 64) = n.val; rw [off_eq]; omega)

/-- What the point leaves in the windows of the queries' and the gates' gradients. -/
def outQ (B : Blk) : Vec Ideal S256x1024 .bf16 := fun y => B.dq (qhead (y 1)) (y 0) (within (y 1).val)
def outZ (B : Blk) : Vec Ideal S256x1024 .bf16 := fun y => B.dz (qhead (y 1)) (y 0) (within (y 1).val)
/-- What it leaves in the two carries: the gradients of the 128 keys of the block before. -/
def carK (B : Blk) : Vec Ideal S128x256 .f32 := fun y => B.accK (khead (y 1)) ⟨(y 0).val, Nat.lt_trans (y 0).isLt (by decide)⟩ (within (y 1).val)
def carV (B : Blk) : Vec Ideal S128x256 .f32 := fun y => B.accV (khead (y 1)) ⟨(y 0).val, Nat.lt_trans (y 0).isLt (by decide)⟩ (within (y 1).val)
/-- What it leaves in the windows of the keys' and the values' gradients, `C` the carry of the point before. -/
def rowK (B : Blk) (first : Prop) [Decidable first] (C : Vec Ideal S128x256 .f32) (r : Fin 256) (n : Fin 256) : EReal :=
  if hr : r.val < 128 then B.accK (khead n) ⟨128 + r.val, by omega⟩ (within n.val)
  else B.accK (khead n) ⟨256 + (r.val - 128), by omega⟩ (within n.val) + if first then 0 else C (ix2 ⟨r.val - 128, by omega⟩ n)
def rowV (B : Blk) (first : Prop) [Decidable first] (C : Vec Ideal S128x256 .f32) (r : Fin 256) (n : Fin 256) : EReal :=
  if hr : r.val < 128 then B.accV (khead n) ⟨128 + r.val, by omega⟩ (within n.val)
  else B.accV (khead n) ⟨256 + (r.val - 128), by omega⟩ (within n.val) + if first then 0 else C (ix2 ⟨r.val - 128, by omega⟩ n)
def outK (B : Blk) (first : Prop) [Decidable first] (C : Vec Ideal S128x256 .f32) : Vec Ideal S256x256 .bf16 := fun y => rowK B first C (y 0) (y 1)
def outV (B : Blk) (first : Prop) [Decidable first] (C : Vec Ideal S128x256 .f32) : Vec Ideal S256x256 .bf16 := fun y => rowV B first C (y 0) (y 1)

theorem ix_eq {n k : ℕ} (y : (⟨2, ![n, k]⟩ : Shape).Idx) : ix2 (y 0) (y 1) = y := by
  funext a
  match a with
  | ⟨0, _⟩ => rfl
  | ⟨1, _⟩ => rfl

set_option maxHeartbeats 3200000 in
theorem readQ_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) {κ : Kind} {sp : Space} (v : View sig κ sp S256x1024 .bf16) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).1) = outQ (Blk.mk b x0 x1 x2 x3 x4 x5 x6 x7 x8 x9 x10) := by
  rw [View.read_writes_eq_canon v f _ (fun y => View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).1 (![256, 64] : Fin 2 → ℕ) (by sl_kernel_rfl) y)]
  funext y
  obtain ⟨r, n, rfl⟩ : ∃ r n, y = ix2 r n := ⟨y 0, y 1, (ix_eq y).symm⟩
  have e := dq_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 b hb (qhead n) r (within n.val)
  rw [qcol_split] at e
  exact e

set_option maxHeartbeats 3200000 in
theorem readZ_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) {κ : Kind} {sp : Space} (v : View sig κ sp S256x1024 .bf16) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.1) = outZ (Blk.mk b x0 x1 x2 x3 x4 x5 x6 x7 x8 x9 x10) := by
  rw [View.read_writes_eq_canon v f _ (fun y => View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.1 (![256, 64] : Fin 2 → ℕ) (by sl_kernel_rfl) y)]
  funext y
  obtain ⟨r, n, rfl⟩ : ∃ r n, y = ix2 r n := ⟨y 0, y 1, (ix_eq y).symm⟩
  have e := dz_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 b hb (qhead n) r (within n.val)
  rw [qcol_split] at e
  exact e

set_option maxHeartbeats 3200000 in
theorem readK_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) {κ : Kind} {sp : Space} (v : View sig κ sp S256x256 .bf16) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.1) = outK (Blk.mk b x0 x1 x2 x3 x4 x5 x6 x7 x8 x9 x10) ((i 0).val = 0) xs0 := by
  rw [View.read_writes_eq_canon v f _ (fun y => View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.1 (![256, 64] : Fin 2 → ℕ) (by sl_kernel_rfl) y)]
  funext y
  obtain ⟨r, n, rfl⟩ : ∃ r n, y = ix2 r n := ⟨y 0, y 1, (ix_eq y).symm⟩
  have e := dk_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 b hb (khead n) r (within n.val)
  rw [ocol_split] at e
  exact e

set_option maxHeartbeats 3200000 in
theorem readV_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) {κ : Kind} {sp : Space} (v : View sig κ sp S256x256 .bf16) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.1) = outV (Blk.mk b x0 x1 x2 x3 x4 x5 x6 x7 x8 x9 x10) ((i 0).val = 0) xs1 := by
  rw [View.read_writes_eq_canon v f _ (fun y => View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.1 (![256, 64] : Fin 2 → ℕ) (by sl_kernel_rfl) y)]
  funext y
  obtain ⟨r, n, rfl⟩ : ∃ r n, y = ix2 r n := ⟨y 0, y 1, (ix_eq y).symm⟩
  have e := dv_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 b hb (khead n) r (within n.val)
  rw [ocol_split] at e
  exact e

set_option maxHeartbeats 3200000 in
theorem readSK_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) {κ : Kind} {sp : Space} (v : View sig κ sp S128x256 .f32) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.2.1) = carK (Blk.mk b x0 x1 x2 x3 x4 x5 x6 x7 x8 x9 x10) := by
  rw [View.read_writes_eq_canon v f _ (fun y => View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.2.1 (![128, 64] : Fin 2 → ℕ) (by sl_kernel_rfl) y)]
  funext y
  obtain ⟨r, n, rfl⟩ : ∃ r n, y = ix2 r n := ⟨y 0, y 1, (ix_eq y).symm⟩
  have e := sk_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 b hb (khead n) r (within n.val)
  rw [ocol_split] at e
  exact e

set_option maxHeartbeats 3200000 in
theorem readSV_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) {κ : Kind} {sp : Space} (v : View sig κ sp S128x256 .f32) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.2.2.1) = carV (Blk.mk b x0 x1 x2 x3 x4 x5 x6 x7 x8 x9 x10) := by
  rw [View.read_writes_eq_canon v f _ (fun y => View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.2.2.1 (![128, 64] : Fin 2 → ℕ) (by sl_kernel_rfl) y)]
  funext y
  obtain ⟨r, n, rfl⟩ : ∃ r n, y = ix2 r n := ⟨y 0, y 1, (ix_eq y).symm⟩
  have e := sv_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 b hb (khead n) r (within n.val)
  rw [ocol_split] at e
  exact e

set_option maxHeartbeats 3200000 in
theorem readD_A (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : cond0_0 i) (hc1 : ¬cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32)  (b : ℕ) (hb : b = 31 - (i 0).val) {κ : Kind} {sp : Space} (v : View sig κ sp S1x128 .f32) (f : v.ty.Contents (Elt Ideal)) :
    v.read (Elt Ideal) (v.writes (Elt Ideal) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.1) = fun y => (Blk.mk b x0 x1 x2 x3 x4 x5 x6 x7 x8 x9 x10).dsink (y 1) := by
  rw [View.read_writes_eq_canon v f _ (fun y => View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1).2.2.2.2.1 (![1, 128] : Fin 2 → ℕ) (by sl_kernel_rfl) y)]
  funext y
  obtain ⟨l, rfl⟩ : ∃ l : Fin 128, y = ix2 0 l := ⟨y 1, by
    funext a
    match a with
    | ⟨0, _⟩ => exact Subsingleton.elim (α := Fin 1) _ _
    | ⟨1, _⟩ => rfl⟩
  exact dsink_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 b l

set_option maxHeartbeats 3200000 in
theorem readQ_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) {κ : Kind} {sp : Space} (v : View sig κ sp S256x1024 .bf16) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).1) = outQ (Blk.mk b x0 x1 x2 x3 x4 x5 x6 x7 x8 x9 x10) := by
  rw [View.read_writes_eq_canon v f _ (fun y => View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).1 (![256, 64] : Fin 2 → ℕ) (by sl_kernel_rfl) y)]
  funext y
  obtain ⟨r, n, rfl⟩ : ∃ r n, y = ix2 r n := ⟨y 0, y 1, (ix_eq y).symm⟩
  have e := dq_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15 b hb (qhead n) r (within n.val)
  rw [qcol_split] at e
  exact e

set_option maxHeartbeats 3200000 in
theorem readZ_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) {κ : Kind} {sp : Space} (v : View sig κ sp S256x1024 .bf16) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.1) = outZ (Blk.mk b x0 x1 x2 x3 x4 x5 x6 x7 x8 x9 x10) := by
  rw [View.read_writes_eq_canon v f _ (fun y => View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.1 (![256, 64] : Fin 2 → ℕ) (by sl_kernel_rfl) y)]
  funext y
  obtain ⟨r, n, rfl⟩ : ∃ r n, y = ix2 r n := ⟨y 0, y 1, (ix_eq y).symm⟩
  have e := dz_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15 b hb (qhead n) r (within n.val)
  rw [qcol_split] at e
  exact e

set_option maxHeartbeats 3200000 in
theorem readK_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) {κ : Kind} {sp : Space} (v : View sig κ sp S256x256 .bf16) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.1) = outK (Blk.mk b x0 x1 x2 x3 x4 x5 x6 x7 x8 x9 x10) ((i 0).val = 0) xs0 := by
  rw [View.read_writes_eq_canon v f _ (fun y => View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.1 (![256, 64] : Fin 2 → ℕ) (by sl_kernel_rfl) y)]
  funext y
  obtain ⟨r, n, rfl⟩ : ∃ r n, y = ix2 r n := ⟨y 0, y 1, (ix_eq y).symm⟩
  have e := dk_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15 b hb (khead n) r (within n.val)
  rw [ocol_split] at e
  exact e

set_option maxHeartbeats 3200000 in
theorem readV_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) {κ : Kind} {sp : Space} (v : View sig κ sp S256x256 .bf16) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.1) = outV (Blk.mk b x0 x1 x2 x3 x4 x5 x6 x7 x8 x9 x10) ((i 0).val = 0) xs1 := by
  rw [View.read_writes_eq_canon v f _ (fun y => View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.1 (![256, 64] : Fin 2 → ℕ) (by sl_kernel_rfl) y)]
  funext y
  obtain ⟨r, n, rfl⟩ : ∃ r n, y = ix2 r n := ⟨y 0, y 1, (ix_eq y).symm⟩
  have e := dv_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15 b hb (khead n) r (within n.val)
  rw [ocol_split] at e
  exact e

set_option maxHeartbeats 3200000 in
theorem readSK_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) {κ : Kind} {sp : Space} (v : View sig κ sp S128x256 .f32) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.2.1) = carK (Blk.mk b x0 x1 x2 x3 x4 x5 x6 x7 x8 x9 x10) := by
  rw [View.read_writes_eq_canon v f _ (fun y => View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.2.1 (![128, 64] : Fin 2 → ℕ) (by sl_kernel_rfl) y)]
  funext y
  obtain ⟨r, n, rfl⟩ : ∃ r n, y = ix2 r n := ⟨y 0, y 1, (ix_eq y).symm⟩
  have e := sk_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15 b hb (khead n) r (within n.val)
  rw [ocol_split] at e
  exact e

set_option maxHeartbeats 3200000 in
theorem readSV_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) {κ : Kind} {sp : Space} (v : View sig κ sp S128x256 .f32) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.2.2.1) = carV (Blk.mk b x0 x1 x2 x3 x4 x5 x6 x7 x8 x9 x10) := by
  rw [View.read_writes_eq_canon v f _ (fun y => View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.2.2.1 (![128, 64] : Fin 2 → ℕ) (by sl_kernel_rfl) y)]
  funext y
  obtain ⟨r, n, rfl⟩ : ∃ r n, y = ix2 r n := ⟨y 0, y 1, (ix_eq y).symm⟩
  have e := sv_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15 b hb (khead n) r (within n.val)
  rw [ocol_split] at e
  exact e

set_option maxHeartbeats 3200000 in
theorem readD_B (c : Dev nD) (i : grid0.Coords) (arg1 : Memref sig .tc .smem S16 .f32) (harg1 : arg1.IsWhole) (arg2 : Memref sig .tc .vmem S256x1024 .bf16) (harg2 : arg2.IsWhole) (arg3 : Memref sig .tc .vmem S256x256 .bf16) (harg3 : arg3.IsWhole) (arg4 : Memref sig .tc .vmem S128x256 .bf16) (harg4 : arg4.IsWhole) (arg5 : Memref sig .tc .vmem S256x256 .bf16) (harg5 : arg5.IsWhole) (arg6 : Memref sig .tc .vmem S128x256 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x1024 .bf16) (harg9 : arg9.IsWhole) (arg10 : Memref sig .tc .vmem S256x128 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x256 .bf16) (harg13 : arg13.IsWhole) (arg14 : Memref sig .tc .vmem S256x256 .bf16) (harg14 : arg14.IsWhole) (arg15 : Memref sig .tc .vmem S256x1024 .bf16) (harg15 : arg15.IsWhole) (arg16 : Memref sig .tc .vmem S1x128 .f32) (harg16 : arg16.IsWhole) (arg17 : Memref sig .tc .vmem S128x256 .f32) (harg17 : arg17.IsWhole) (arg18 : Memref sig .tc .vmem S128x256 .f32) (harg18 : arg18.IsWhole) (hc0 : ¬cond0_0 i) (hc1 : cond0_1 i)
    (x0 : Vec Ideal S16 .f32) (x1 : Vec Ideal S256x1024 .bf16) (x2 : Vec Ideal S256x256 .bf16) (x3 : Vec Ideal S128x256 .bf16) (x4 : Vec Ideal S256x256 .bf16) (x5 : Vec Ideal S128x256 .bf16) (x6 : Vec Ideal S256x512 .bf16) (x7 : Vec Ideal S256x512 .bf16) (x8 : Vec Ideal S256x1024 .bf16) (x9 : Vec Ideal S256x128 .f32) (x10 : Vec Ideal S256x1024 .bf16) (xs0 : Vec Ideal S128x256 .f32) (xs1 : Vec Ideal S128x256 .f32) (x15 : Vec Ideal S1x128 .f32) (b : ℕ) (hb : b = 31 - (i 0).val) {κ : Kind} {sp : Space} (v : View sig κ sp S1x128 .f32) (f : v.ty.Contents (Elt Ideal)) :
    v.read (Elt Ideal) (v.writes (Elt Ideal) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.1) = fun y => x15 (ix2 0 (y 1)) + (Blk.mk b x0 x1 x2 x3 x4 x5 x6 x7 x8 x9 x10).dsink (y 1) := by
  rw [View.read_writes_eq_canon v f _ (fun y => View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15).2.2.2.2.1 (![1, 128] : Fin 2 → ℕ) (by sl_kernel_rfl) y)]
  funext y
  obtain ⟨l, rfl⟩ : ∃ l : Fin 128, y = ix2 0 l := ⟨y 1, by
    funext a
    match a with
    | ⟨0, _⟩ => exact Subsingleton.elim (α := Fin 1) _ _
    | ⟨1, _⟩ => rfl⟩
  exact dsink_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 x15 b l

end Cert.Own.Attn

end
-- ==== Proof.AttnFrame.lean ====
/- The attention's backward call over the extended reals: every run ends with the arguments unchanged and each
   window's array at what the grid's points left in it. -/
module

public import proofs.«01_k».proof.Proof.AttnReads
public import Idealize.ShloMosaic.Lib.Claim

@[expose] public section

set_option maxRecDepth 16384

noncomputable section

namespace Cert.Own.Attn

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block the body reads at point `t`. -/
def blkAt (c : Dev nD) (t : Fin cfg0.N) : Blk :=
  Blk.mk (31 - (grid0.coords t 0).val) (iblk m c 0 t) (X0_1 m c t) (iblk m c 2 t) (iblk m c 3 t) (iblk m c 4 t) (iblk m c 5 t) (iblk m c 6 t) (iblk m c 7 t) (iblk m c 8 t) (iblk m c 9 t) (iblk m c 10 t)

/-- The point before (the first point for the first). -/
def prev (t : Fin cfg0.N) : Fin cfg0.N := ⟨t.val - 1, Nat.lt_of_le_of_lt (Nat.sub_le _ _) t.isLt⟩

/-- The gradient of the sinks, added up over the points so far. -/
def sinks (c : Dev nD) : (n : ℕ) → n < cfg0.N → Fin 128 → EReal
  | 0, h, l => (blkAt m c ⟨0, h⟩).dsink l
  | n + 1, h, l => sinks c n (Nat.lt_of_succ_lt h) l + (blkAt m c ⟨n + 1, h⟩).dsink l

theorem coord_val (t : Fin cfg0.N) : (grid0.coords t 0).val = t.val := by
  have ht : t.val < 32 := Nat.lt_of_lt_of_eq t.isLt N_0
  have e0 : (grid0.coords t 0).val = t.val / 1 % 32 := Pipeline.Grid.coords_val t 0 (by decide) rfl
  rw [e0]; omega

def afterQ (c : Dev nD) (t : Fin cfg0.N) : Vec Ideal S256x1024 .bf16 := outQ (blkAt m c t)
def afterZ (c : Dev nD) (t : Fin cfg0.N) : Vec Ideal S256x1024 .bf16 := outZ (blkAt m c t)
def afterK (c : Dev nD) (t : Fin cfg0.N) : Vec Ideal S256x256 .bf16 := outK (blkAt m c t) ((grid0.coords t 0).val = 0) (carK (blkAt m c (prev t)))
def afterV (c : Dev nD) (t : Fin cfg0.N) : Vec Ideal S256x256 .bf16 := outV (blkAt m c t) ((grid0.coords t 0).val = 0) (carV (blkAt m c (prev t)))
def afterD (c : Dev nD) (t : Fin cfg0.N) : Vec Ideal S1x128 .f32 := fun y => sinks m c t.val t.isLt (y 1)

/-- The invariant before position `n`: before the first point the scratch at anything, afterwards each carry at what
    the point before left. -/
def PhiS (c : Dev nD) : (n : ℕ) → n ≤ cfg0.N → sProp 𝕄
  | 0, _ => Pipeline.ΦA spec0 c
  | n + 1, hn => iprop(iprop(owns (c : Thread nD τ) scM0_0 fullShare (carK (blkAt m c ⟨n, hn⟩)) ∗ owns (c : Thread nD τ) scM0_1 fullShare (carV (blkAt m c ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (carK (blkAt m c t)) ∗ owns (c : Thread nD τ) scM0_1 fullShare (carV (blkAt m c t))) ∗ (∃ r, prngReg c r)) := rfl

theorem PhiS_pos (c : Dev nD) (n : ℕ) (h : n ≤ cfg0.N) (hz : n ≠ 0) :
    PhiS m c n h = iprop(iprop(owns (c : Thread nD τ) scM0_0 fullShare (carK (blkAt m c ⟨n - 1, by omega⟩)) ∗ owns (c : Thread nD τ) scM0_1 fullShare (carV (blkAt m c ⟨n - 1, by omega⟩))) ∗ (∃ r, prngReg c r)) := by
  cases n with
  | zero => exact absurd rfl hz
  | succ n => rfl

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => afterQ m c t
    | ⟨12, _⟩ => afterK m c t
    | ⟨13, _⟩ => afterV m c t
    | ⟨14, _⟩ => afterZ m c t
    | ⟨15, _⟩ => afterD m c t
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = afterQ m c t := by dsimp only [dats]
theorem after0_12 (c : Dev nD) (t : Fin cfg0.N) : (dats m 0 c).after 12 t = afterK m c t := by dsimp only [dats]
theorem after0_13 (c : Dev nD) (t : Fin cfg0.N) : (dats m 0 c).after 13 t = afterV m c t := by dsimp only [dats]
theorem after0_14 (c : Dev nD) (t : Fin cfg0.N) : (dats m 0 c).after 14 t = afterZ m c t := by dsimp only [dats]
theorem after0_15 (c : Dev nD) (t : Fin cfg0.N) : (dats m 0 c).after 15 t = afterD m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem live_points : ∀ t : Fin grid0.N, (!(k0_cond1 (grid0.coords t) == 1#1) && !(k0_cond2 (grid0.coords t) == 1#1)) = false := by decide +kernel

theorem idle0_15 (i : grid0.Coords) : cfg0.idle 15 i = false := by
  have hi : (i 0).val < 32 := (i 0).isLt
  have e : i = grid0.coords ⟨(i 0).val, hi⟩ := by
    funext a
    obtain rfl : a = 0 := Subsingleton.elim (α := Fin 1) a 0
    exact Fin.ext (coord_val ⟨(i 0).val, Nat.lt_of_lt_of_eq hi N_0.symm⟩).symm
  rw [e]
  exact live_points _

theorem liveAt0_15 (t : Fin cfg0.N) : cfg0.idle 15 (grid0.coords t) = false := idle0_15 _

/-- After the first point the sinks' window holds what the point before left: it isn't written back between. -/
theorem before0_15 (c : Dev nD) (t : Fin cfg0.N) (h : 1 ≤ t.val) (d) : (dats m 0 c).before 15 t d = afterD m c (prev t) := by
  have ht : t.val < 32 := Nat.lt_of_lt_of_eq t.isLt N_0
  rw [Dat.before_out_kept _ 15 rfl t (by omega) (Bool.eq_false_iff.mpr fun e => by have e' := (flush0_15 _).mp e; dsimp only at e'; omega)
    idle0_15 (fun _ _ => rfl)]
  exact after0_15 m c (prev t)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl

theorem rowK_first (B : Blk) (p : Prop) [Decidable p] (hp : p) (C C' : Vec Ideal S128x256 .f32) (r n : Fin 256) : rowK B p C r n = rowK B p C' r n := by
  unfold rowK; simp only [if_pos hp]
theorem outK_first (B : Blk) (p : Prop) [Decidable p] (hp : p) (C C' : Vec Ideal S128x256 .f32) : outK B p C = outK B p C' :=
  funext fun y => rowK_first B p hp C C' (y 0) (y 1)
theorem rowV_first (B : Blk) (p : Prop) [Decidable p] (hp : p) (C C' : Vec Ideal S128x256 .f32) (r n : Fin 256) : rowV B p C r n = rowV B p C' r n := by
  unfold rowV; simp only [if_pos hp]
theorem outV_first (B : Blk) (p : Prop) [Decidable p] (hp : p) (C C' : Vec Ideal S128x256 .f32) : outV B p C = outV B p C' :=
  funext fun y => rowV_first B p hp C C' (y 0) (y 1)
theorem afterK_A (c : Dev nD) (t : Fin cfg0.N) (hz : t.val = 0) (C : Vec Ideal S128x256 .f32) :
    outK (blkAt m c t) ((grid0.coords t 0).val = 0) C = afterK m c t := outK_first _ _ ((coord_val t).trans hz) _ _
theorem afterV_A (c : Dev nD) (t : Fin cfg0.N) (hz : t.val = 0) (C : Vec Ideal S128x256 .f32) :
    outV (blkAt m c t) ((grid0.coords t 0).val = 0) C = afterV m c t := outV_first _ _ ((coord_val t).trans hz) _ _
theorem afterD_A (c : Dev nD) (t : Fin cfg0.N) (hz : t.val = 0) :
    (fun y : S1x128.Idx => (blkAt m c t).dsink (y 1)) = afterD m c t := by
  obtain ⟨n, hn⟩ := t
  obtain rfl : n = 0 := hz
  rfl
theorem afterD_B (c : Dev nD) (t : Fin cfg0.N) (h1 : 1 ≤ t.val) :
    (fun y : S1x128.Idx => afterD m c (prev t) (ix2 0 (y 1)) + (blkAt m c t).dsink (y 1)) = afterD m c t := by
  obtain ⟨n, hn⟩ := t
  cases n with
  | zero => exact absurd h1 (Nat.not_succ_le_zero 0)
  | succ n => rfl

set_option maxHeartbeats 6400000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases hz : t.val = 0
  · have h0 : t.val % 32 = 0 := by omega
    have h1 : ¬ 1 ≤ t.val := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [PhiS_castSucc m c t, PhiS_zero m c _ _ hz, PhiA0_eq]
    iintro ⟨⟨⟨⟨%xs0, HS0⟩, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    iintro ⟨H0, H1, H2, H3, H4, H5, H6, H7, H8, H9, H10, ⟨%e11, H11⟩, ⟨%e12, H12⟩, ⟨%e13, H13⟩, ⟨%e14, H14⟩, ⟨%e15, H15⟩, ⟨%es0, HS0⟩, ⟨%es1, HS1⟩⟩
    isplitl [HS0 HS1 Hg]
    · isplitl [HS0 HS1]
      · isplitl [HS0]
        · unfold owns; iexists _; isplitr
          swap; · iexact HS0
          ipureintro; exact readSK_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1 _ rfl _ _
        · unfold owns; iexists _; isplitr
          swap; · iexact HS1
          ipureintro; exact readSV_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1 _ rfl _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact readQ_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1 _ rfl _ _
    isplitl [H12]
    · unfold owns; iexists _; isplitr
      swap; · iexact H12
      ipureintro; exact (readK_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1 _ rfl _ _).trans (afterK_A m c t hz _)
    isplitl [H13]
    · unfold owns; iexists _; isplitr
      swap; · iexact H13
      ipureintro; exact (readV_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1 _ rfl _ _).trans (afterV_A m c t hz _)
    isplitl [H14]
    · unfold owns; iexists _; isplitr
      swap; · iexact H14
      ipureintro; exact readZ_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1 _ rfl _ _
    · unfold owns; iexists _; isplitr
      swap; · iexact H15
      ipureintro; exact (readD_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) xs0 xs1 _ rfl _ _).trans (afterD_A m c t hz)
  · have h0 : ¬ t.val % 32 = 0 := by omega
    have h1 : 1 ≤ t.val := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    simp only [before0_15 m c t h1]
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t))).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexact H15
    isplitl [HS0]; · iexact HS0
    isplitl [HS1]; · iexact HS1
    iintro ⟨H0, H1, H2, H3, H4, H5, H6, H7, H8, H9, H10, ⟨%e11, H11⟩, ⟨%e12, H12⟩, ⟨%e13, H13⟩, ⟨%e14, H14⟩, ⟨%e15, H15⟩, ⟨%es0, HS0⟩, ⟨%es1, HS1⟩⟩
    isplitl [HS0 HS1 Hg]
    · isplitl [HS0 HS1]
      · isplitl [HS0]
        · unfold owns; iexists _; isplitr
          swap; · iexact HS0
          ipureintro; exact readSK_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t)) _ rfl _ _
        · unfold owns; iexists _; isplitr
          swap; · iexact HS1
          ipureintro; exact readSV_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t)) _ rfl _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact readQ_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t)) _ rfl _ _
    isplitl [H12]
    · unfold owns; iexists _; isplitr
      swap; · iexact H12
      ipureintro; exact readK_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t)) _ rfl _ _
    isplitl [H13]
    · unfold owns; iexists _; isplitr
      swap; · iexact H13
      ipureintro; exact readV_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t)) _ rfl _ _
    isplitl [H14]
    · unfold owns; iexists _; isplitr
      swap; · iexact H14
      ipureintro; exact readZ_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t)) _ rfl _ _
    · unfold owns; iexists _; isplitr
      swap; · iexact H15
      ipureintro; exact (readD_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (carK (blkAt m c (prev t))) (carV (blkAt m c (prev t))) (afterD m c (prev t)) _ rfl _ _).trans (afterD_B m c t h1)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)

-- `θ_run_frame_track`'s implicit arguments are found by unifying its conclusion with this one, which takes unfolding plain
-- definitions in a metavariable's type
set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Own.Attn

end
-- ==== Proof.AttnReal.lean ====
/- The windowed attention with sinks and its gradient over the reals, on one sequence of 8192 rows: 16 query heads, four
   to a key head, 64 lanes each. Keys and values are indexed by the padded row (128 rows of zeros, then the sequence);
   row `t` sees the 192 padded rows from `64 (t / 64)` on, the padding's masked. -/
module

public import Idealize.ShloMosaic.PureOps.Ideal

@[expose] public section

noncomputable section

namespace Cert.Own.Attn

open Finset

/-- The call's inputs over the reals, and each row's maximum `μ`. -/
structure Data where
  q : ℕ → ℕ → ℕ → ℝ
  k : ℕ → ℕ → ℕ → ℝ
  v : ℕ → ℕ → ℕ → ℝ
  z : ℕ → ℕ → ℕ → ℝ
  dy : ℕ → ℕ → ℕ → ℝ
  s : ℕ → ℝ
  μ : ℕ → ℕ → ℝ

/-- The `j`-th padded row that row `t` sees. -/
def key (t j : ℕ) : ℕ := 64 * (t / 64) + j

/-- Whether row `t` sees padded row `p`. -/
def sees (t p : ℕ) : Prop := t / 64 ≤ p / 64 ∧ p / 64 ≤ t / 64 + 2
instance (t p : ℕ) : Decidable (sees t p) := by unfold sees; infer_instance

namespace Data
variable (X : Data)

def score (t h p : ℕ) : ℝ := (∑ d : Fin 64, X.k p (h / 4) d.val * X.q t h d.val) * (1 / 8)
def P (t h p : ℕ) : ℝ := if 128 ≤ p then Real.exp (X.score t h p - X.μ t h) else 0
def E (t h : ℕ) : ℝ := Real.exp (X.s h - X.μ t h)
def S (t h : ℕ) : ℝ := ∑ j : Fin 192, X.P t h (key t j.val)
def D (t h : ℕ) : ℝ := X.S t h + X.E t h
def O (t h d : ℕ) : ℝ := ∑ j : Fin 192, X.v (key t j.val) (h / 4) d * (X.P t h (key t j.val) / X.D t h)
def L (t h : ℕ) : ℝ := X.μ t h + Real.log (X.D t h)
def sg (t h d : ℕ) : ℝ := 1 / (1 + Real.exp (-X.z t h d))
def g (t h d : ℕ) : ℝ := X.dy t h d * (X.z t h d * X.sg t h d)
def dP (t h p : ℕ) : ℝ := ∑ d : Fin 64, X.g t h d.val * X.v p (h / 4) d.val
def gden (t h : ℕ) : ℝ := -∑ j : Fin 192, X.dP t h (key t j.val) * (1 / (X.D t h * X.D t h)) * X.P t h (key t j.val)
/-- The gradient of the scaled score, the scale included. -/
def ds (t h p : ℕ) : ℝ := if 128 ≤ p then (X.dP t h p / X.D t h + X.gden t h) * X.P t h p * (1 / 8) else 0
def dq (t h d : ℕ) : ℝ := ∑ j : Fin 192, X.ds t h (key t j.val) * X.k (key t j.val) (h / 4) d
def dz (t h d : ℕ) : ℝ := X.O t h d * X.dy t h d * X.sg t h d + X.z t h d * (X.O t h d * X.dy t h d) * (X.sg t h d * (1 - X.sg t h d))
def dk (p g d : ℕ) : ℝ := ∑ t : Fin 8192, if sees t.val p then ∑ i : Fin 4, X.ds t.val (4 * g + i.val) p * X.q t.val (4 * g + i.val) d else 0
def dv (p g d : ℕ) : ℝ := ∑ t : Fin 8192, if sees t.val p then ∑ i : Fin 4, X.g t.val (4 * g + i.val) d * (X.P t.val (4 * g + i.val) p / X.D t.val (4 * g + i.val)) else 0
def dsink (h : ℕ) : ℝ := ∑ t : Fin 8192, X.gden t.val h * X.E t.val h

theorem P_nonneg (t h p : ℕ) : 0 ≤ X.P t h p := by unfold P; split <;> positivity
theorem S_nonneg (t h : ℕ) : 0 ≤ X.S t h := Finset.sum_nonneg fun _ _ => X.P_nonneg _ _ _
theorem D_pos (t h : ℕ) : 0 < X.D t h := add_pos_of_nonneg_of_pos (X.S_nonneg t h) (Real.exp_pos _)
theorem D_ne (t h : ℕ) : X.D t h ≠ 0 := (X.D_pos t h).ne'

/-- A probability from the saved log-sum. -/
theorem exp_sub_L (t h : ℕ) (x : ℝ) : Real.exp (x - X.L t h) = Real.exp (x - X.μ t h) / X.D t h := by
  unfold L
  rw [← sub_sub, Real.exp_sub, Real.exp_log (X.D_pos t h)]

theorem prob_eq (t h p : ℕ) (hp : 128 ≤ p) : Real.exp (X.score t h p - X.L t h) = X.P t h p / X.D t h := by
  rw [exp_sub_L, P, if_pos hp]

/-- A row's sum of output times its gradient. -/
def drow (t h : ℕ) : ℝ := ∑ d : Fin 64, X.g t h d.val * X.O t h d.val

theorem drow_eq (t h : ℕ) : X.drow t h = ∑ j : Fin 192, X.dP t h (key t j.val) * (X.P t h (key t j.val) / X.D t h) := by
  unfold drow O dP
  simp only [Finset.mul_sum, Finset.sum_mul]
  rw [Finset.sum_comm]
  exact Finset.sum_congr rfl fun j _ => Finset.sum_congr rfl fun d _ => by ring

theorem gden_eq (t h : ℕ) : X.gden t h = -(X.drow t h / X.D t h) := by
  rw [drow_eq, Finset.sum_div, gden, neg_inj]
  refine Finset.sum_congr rfl fun j _ => ?_
  have := X.D_ne t h
  field_simp

/-- The kernel's form of a score's gradient. -/
theorem ds_eq (t h p : ℕ) (hp : 128 ≤ p) : X.P t h p / X.D t h * (X.dP t h p - X.drow t h) * (1 / 8) = X.ds t h p := by
  rw [ds, if_pos hp, gden_eq]
  have := X.D_ne t h
  field_simp
  ring

theorem ds_masked (t h p : ℕ) (hp : ¬128 ≤ p) : X.ds t h p = 0 := if_neg hp
theorem P_masked (t h p : ℕ) (hp : ¬128 ≤ p) : X.P t h p = 0 := if_neg hp

/-- The gradient that would reach the row's maximum is nothing. -/
theorem max_grad (t h : ℕ) :
    -(X.gden t h * X.E t h) + ∑ j : Fin 192, -((X.dP t h (key t j.val) / X.D t h + X.gden t h) * X.P t h (key t j.val)) = 0 := by
  rw [Finset.sum_neg_distrib]
  have e : ∑ j : Fin 192, (X.dP t h (key t j.val) / X.D t h + X.gden t h) * X.P t h (key t j.val) = X.drow t h + X.gden t h * X.S t h := by
    rw [drow_eq, S, Finset.mul_sum, ← Finset.sum_add_distrib]
    exact Finset.sum_congr rfl fun j _ => by ring
  rw [e, gden_eq]
  have hD : X.D t h = X.S t h + X.E t h := rfl
  have := X.D_ne t h
  have h2 : X.drow t h / X.D t h * X.E t h + X.drow t h / X.D t h * X.S t h = X.drow t h := by
    rw [← mul_add, add_comm (X.E t h), ← hD, div_mul_cancel₀ _ this]
  linarith

end Data

/-- A sum over a block's 384 padded rows of what row `r` sees is the sum over the row's own 192. -/
theorem sum_block (b : ℕ) (r : ℕ) (hr : r < 256) (f : ℕ → ℝ) :
    (∑ j : Fin 384, if sees (256 * b + r) (256 * b + j.val) then f (256 * b + j.val) else 0)
      = ∑ j : Fin 192, f (key (256 * b + r) j.val) := by
  rw [Fin.sum_univ_eq_sum_range (fun j => if sees (256 * b + r) (256 * b + j) then f (256 * b + j) else 0) 384,
    Fin.sum_univ_eq_sum_range (fun j => f (key (256 * b + r) j)) 192, ← Finset.sum_filter]
  refine (Finset.sum_nbij' (fun j => j - 64 * (r / 64)) (fun j => j + 64 * (r / 64)) ?_ ?_ ?_ ?_ ?_)
  · intro j hj
    simp only [Finset.mem_filter, Finset.mem_range] at hj ⊢
    simp only [sees] at hj
    omega
  · intro j hj
    simp only [Finset.mem_filter, Finset.mem_range] at hj ⊢
    simp only [sees] at hj ⊢
    omega
  · intro j hj
    simp only [Finset.mem_filter, Finset.mem_range] at hj ⊢
    simp only [sees] at hj
    omega
  · intro j hj
    simp only [Finset.mem_filter, Finset.mem_range] at hj ⊢
    omega
  · intro j hj
    simp only [Finset.mem_filter, Finset.mem_range] at hj ⊢
    simp only [sees] at hj
    simp only [key]
    congr 1
    omega

/-- The sum over the rows that see padded row `p`, block of 256 by block: the row's own block and, from the block's
    128th row on, the next. -/
theorem sum_rows_blocks (f : ℕ → ℝ) (b j : ℕ) (hb : b < 32) (hj : 128 ≤ j) (hj' : j < 384) :
    (∑ t : Fin 8192, if sees t.val (256 * b + j) then f t.val else 0)
      = (∑ r : Fin 256, if sees (256 * b + r.val) (256 * b + j) then f (256 * b + r.val) else 0)
        + if b + 1 < 32 then ∑ r : Fin 256, if sees (256 * (b + 1) + r.val) (256 * b + j) then f (256 * (b + 1) + r.val) else 0 else 0 := by
  simp only [Fin.sum_univ_eq_sum_range (fun t => if sees t (256 * b + j) then f t else 0) 8192,
    Fin.sum_univ_eq_sum_range (fun r => if sees (256 * b + r) (256 * b + j) then f (256 * b + r) else 0) 256,
    Fin.sum_univ_eq_sum_range (fun r => if sees (256 * (b + 1) + r) (256 * b + j) then f (256 * (b + 1) + r) else 0) 256]
  have split : ∀ n : ℕ, 256 * b + 512 ≤ n → (∑ t ∈ range n, if sees t (256 * b + j) then f t else 0)
      = (∑ r ∈ range 256, if sees (256 * b + r) (256 * b + j) then f (256 * b + r) else 0)
        + ∑ r ∈ range 256, if sees (256 * (b + 1) + r) (256 * b + j) then f (256 * (b + 1) + r) else 0 := by
    intro n hn
    obtain ⟨k, rfl⟩ := Nat.exists_eq_add_of_le hn
    rw [Finset.sum_range_add, Finset.sum_range_add (n := 256 * b) (m := 512), Finset.sum_range_add (n := 256) (m := 256)]
    rw [Finset.sum_eq_zero (s := range (256 * b)) fun t ht => if_neg (by simp only [mem_range, sees] at ht ⊢; omega),
      Finset.sum_eq_zero (s := range k) fun t ht => if_neg (by simp only [mem_range, sees] at ht ⊢; omega), zero_add, add_zero]
    congr 1
  split
  · exact split 8192 (by omega)
  · have h31 : b = 31 := by omega
    subst h31
    rw [add_zero, show (8192 : ℕ) = 256 * 31 + 256 from rfl, Finset.sum_range_add,
      Finset.sum_eq_zero (s := range (256 * 31)) fun t ht => if_neg (by simp only [mem_range, sees] at ht ⊢; omega), zero_add]

/-- … the next block sees nothing of the block's own first 128 rows. -/
theorem sum_next_none (f : ℕ → ℝ) (b j : ℕ) (hj : j < 256) :
    (∑ r : Fin 256, if sees (256 * (b + 1) + r.val) (256 * b + j) then f (256 * (b + 1) + r.val) else 0) = 0 :=
  Finset.sum_eq_zero fun r _ => if_neg (by have := r.isLt; simp only [sees]; omega)

/-- The same sum chunk of 64 by chunk: `p`'s own chunk and the two before, those that lie in the sequence. -/
theorem sum_rows_chunks (f : ℕ → ℝ) (p : ℕ) :
    (∑ t : Fin 8192, if sees t.val p then f t.val else 0)
      = (if 2 ≤ p / 64 ∧ p / 64 - 2 < 128 then ∑ r : Fin 64, f (64 * (p / 64 - 2) + r.val) else 0)
        + (if 1 ≤ p / 64 ∧ p / 64 - 1 < 128 then ∑ r : Fin 64, f (64 * (p / 64 - 1) + r.val) else 0)
        + (if p / 64 < 128 then ∑ r : Fin 64, f (64 * (p / 64) + r.val) else 0) := by
  rw [Fin.sum_univ_eq_sum_range (fun t => if sees t p then f t else 0) 8192, ← Finset.sum_filter]
  have hc : ∀ c : ℕ, c < 128 → ∑ r : Fin 64, f (64 * c + r.val) = ∑ t ∈ (range 8192).filter (fun t => t / 64 = c), f t := by
    intro c hcl
    rw [Fin.sum_univ_eq_sum_range (fun r => f (64 * c + r)) 64]
    refine Finset.sum_nbij' (fun r => 64 * c + r) (fun t => t - 64 * c) ?_ ?_ ?_ ?_ ?_ <;> intro r hr <;>
        simp only [mem_filter, mem_range] at hr ⊢ <;> first | rfl | omega
  have h3 : ∀ (c : ℕ) (q : Prop) [Decidable q], (q → c < 128) → (if q then ∑ r : Fin 64, f (64 * c + r.val) else 0)
      = ∑ t ∈ (range 8192).filter (fun t => q ∧ t / 64 = c), f t := by
    intro c q _ hq
    split
    · rename_i h
      rw [hc c (hq h)]
      exact Finset.sum_congr (Finset.filter_congr fun t _ => ⟨fun e => ⟨h, e⟩, fun e => e.2⟩) fun _ _ => rfl
    · rename_i h
      exact (Finset.sum_eq_zero fun t ht => absurd (Finset.mem_filter.mp ht).2.1 h).symm
  rw [h3 _ _ fun e => e.2, h3 _ _ fun e => e.2, h3 _ _ fun e => e, ← Finset.sum_union, ← Finset.sum_union]
  · refine Finset.sum_congr ?_ fun _ _ => rfl
    ext t
    simp only [mem_union, mem_filter, mem_range]
    simp only [sees]
    constructor <;> intro h <;> omega
  · rw [Finset.disjoint_left]
    intro t
    simp only [mem_union, mem_filter, mem_range]
    omega
  · rw [Finset.disjoint_left]
    intro t
    simp only [mem_filter, mem_range]
    omega

end Cert.Own.Attn

end
-- ==== Proof.AttnRefIn.lean ====
/- The reference's stages over the reals, up to the output and the row's log-sum: at real inputs, each operation's element is
   a term of the model (AttnReal). A row is 64 times its chunk plus its place, a query head 4 times its key head plus its
   place, a padded row 64 times the chunk plus its place in the band. -/
module

public import proofs.«01_k».proof.Proof.Gen.Reference12Ideal.Read
public import proofs.«01_k».proof.Proof.AttnReal
public import Idealize.ShloMosaic.Lib.Pointwise
public import Idealize.ShloMosaic.Lib.KernelVsHost
public import Idealize.ShloMosaic.Lib.IdealHost

@[expose] public section

set_option maxRecDepth 8192

noncomputable section

namespace Cert.Own.Attn.Ref

open Idealize.ShloMosaic Idealize.ShloMosaic.ValueIdx
open Cert.Reference12Ideal Cert.Reference12Ideal.Gen Cert.Reference12Ideal.Read

/-! ## Extended reals that are real -/

theorem coe_sum {ι : Type} [Fintype ι] (f : ι → ℝ) : ∑ i, ((f i : ℝ) : EReal) = ((∑ i, f i : ℝ) : EReal) := by
  classical
  induction (Finset.univ : Finset ι) using Finset.induction with
  | empty => simp
  | insert a s ha ih => rw [Finset.sum_insert ha, Finset.sum_insert ha, EReal.coe_add, ih]

theorem div_real (x y : ℝ) (h : y ≠ 0) : Ideal.div (x : EReal) (y : EReal) = ((x / y : ℝ) : EReal) := by
  rw [Ideal.div_coe h, ← EReal.coe_mul, mul_one_div]

theorem one_f32 : Ideal.ofBits .f32 0x3F800000#32 = ((1 : ℝ) : EReal) := by
  rw [Ideal.ofBits_one_f32, EReal.coe_one]

theorem eighth_f32 : Ideal.ofBits .f32 0x3E000000#32 = ((1 / 8 : ℝ) : EReal) := by
  simp [Ideal.ofBits, Ideal.ieee, -EReal.coe_mul]
  norm_num

theorem zero_f32 : Ideal.ofBits .f32 0x00000000#32 = ((0 : ℝ) : EReal) := by
  simp [Ideal.ofBits, Ideal.ieee]

theorem ninf_f32 : Ideal.ofBits .f32 0xFF800000#32 = ⊥ := by
  simp [Ideal.ofBits, Ideal.ieee]

/-- An index of rank 6 from its coordinates. -/
def ix6 {d : Fin 6 → Nat} (a : Fin (d 0)) (b : Fin (d 1)) (c : Fin (d 2)) (e : Fin (d 3)) (f : Fin (d 4)) (g : Fin (d 5)) :
    (⟨6, d⟩ : Shape).Idx := fun x => match x with
  | ⟨0, _⟩ => a
  | ⟨1, _⟩ => b
  | ⟨2, _⟩ => c
  | ⟨3, _⟩ => e
  | ⟨4, _⟩ => f
  | ⟨5, _⟩ => g

/-- Row-major position at rank 6. -/
theorem rowMajor_six {d : Fin 6 → Nat} (i : (⟨6, d⟩ : Shape).Idx) :
    ((⟨6, d⟩ : Shape).rowMajor i).val
      = (((((i 0).val * d 1 + (i 1).val) * d 2 + (i 2).val) * d 3 + (i 3).val) * d 4 + (i 4).val) * d 5 + (i 5).val := by
  rw [Shape.rowMajor_val_succ, Shape.rowMajor_val_five]
  simp [Shape.numel, Fin.prod_univ_succ, Nat.add_mul, Nat.mul_assoc, Nat.add_assoc]

/-! ## The inputs -/

variable {a0 : (⟨S8192x13824, .bf16⟩ : BufTy).Contents (Elt Ideal)} {a1 : (⟨S16, .f32⟩ : BufTy).Contents (Elt Ideal)}
  {a2 : (⟨S8192x1024, .bf16⟩ : BufTy).Contents (Elt Ideal)}

/-- The projection's element at a row and a column, over the reals. -/
def rd (a0 : (⟨S8192x13824, .bf16⟩ : BufTy).Contents (Elt Ideal)) (r c : ℕ) : ℝ :=
  if h : r < 8192 ∧ c < 13824 then EReal.toReal (a0 (ValueIdx.ix2 ⟨r, h.1⟩ ⟨c, h.2⟩)) else 0
/-- The gradient's. -/
def rdy (a2 : (⟨S8192x1024, .bf16⟩ : BufTy).Contents (Elt Ideal)) (r c : ℕ) : ℝ :=
  if h : r < 8192 ∧ c < 1024 then EReal.toReal (a2 (ValueIdx.ix2 ⟨r, h.1⟩ ⟨c, h.2⟩)) else 0
/-- A head's sink. -/
def rds (a1 : (⟨S16, .f32⟩ : BufTy).Contents (Elt Ideal)) (n : ℕ) : ℝ :=
  if h : n < 16 then EReal.toReal (a1 (ValueIdx.ix1 ⟨n, h⟩)) else 0

def row6 (c g m r : ℕ) (hc : c < 128) (hg : g < 4) (hm : m < 4) (hr : r < 64) : S1x128x4x4x64x1.Idx := fun a => match a with
  | ⟨0, _⟩ => ⟨0, Nat.one_pos⟩
  | ⟨1, _⟩ => ⟨c, hc⟩
  | ⟨2, _⟩ => ⟨g, hg⟩
  | ⟨3, _⟩ => ⟨m, hm⟩
  | ⟨4, _⟩ => ⟨r, hr⟩
  | ⟨5, _⟩ => ⟨0, Nat.one_pos⟩

/-- A row's maximum, the sink's included. -/
def mu (a0 : (⟨S8192x13824, .bf16⟩ : BufTy).Contents (Elt Ideal)) (a1 : (⟨S16, .f32⟩ : BufTy).Contents (Elt Ideal)) (t h : ℕ) : ℝ :=
  if e : t < 8192 ∧ h < 16 then EReal.toReal (val_main_v58 (F := Ideal) a0 a1
    (row6 (t / 64) (h / 4) (h % 4) (t % 64) (by omega) (by omega) (by omega) (by omega))) else 0

/-- The model's inputs. -/
def data (a0 : (⟨S8192x13824, .bf16⟩ : BufTy).Contents (Elt Ideal)) (a1 : (⟨S16, .f32⟩ : BufTy).Contents (Elt Ideal))
    (a2 : (⟨S8192x1024, .bf16⟩ : BufTy).Contents (Elt Ideal)) : Data where
  q t h d := rd a0 t (2048 + (64 * h + d))
  k p g d := if 128 ≤ p then rd a0 (p - 128) (3072 + (64 * g + d)) else 0
  v p g d := if 128 ≤ p then rd a0 (p - 128) (3328 + (64 * g + d)) else 0
  z t h d := rd a0 t (3584 + (64 * h + d))
  dy t h d := rdy a2 t (64 * h + d)
  s h := rds a1 h
  μ t h := mu a0 a1 t h

/-- The inputs the call reads are real numbers. -/
structure Reals (a0 : (⟨S8192x13824, .bf16⟩ : BufTy).Contents (Elt Ideal)) (a1 : (⟨S16, .f32⟩ : BufTy).Contents (Elt Ideal))
    (a2 : (⟨S8192x1024, .bf16⟩ : BufTy).Contents (Elt Ideal)) : Prop where
  proj : ∀ i, 2048 ≤ (i 1).val → (i 1).val < 4608 → ∃ r : ℝ, a0 i = (r : EReal)
  sink : ∀ i, ∃ r : ℝ, a1 i = (r : EReal)
  dy : ∀ i, ∃ r : ℝ, a2 i = (r : EReal)

theorem rd_eq (h : Reals a0 a1 a2) (i : S8192x13824.Idx) (lo : 2048 ≤ (i 1).val) (hi : (i 1).val < 4608) :
    a0 i = ((rd a0 (i 0).val (i 1).val : ℝ) : EReal) := by
  obtain ⟨r, e⟩ := h.proj i lo hi
  have ei : (ValueIdx.ix2 ⟨(i 0).val, (i 0).isLt⟩ ⟨(i 1).val, (i 1).isLt⟩ : S8192x13824.Idx) = i :=
    funext fun a => by match a with | ⟨0, _⟩ => rfl | ⟨1, _⟩ => rfl
  unfold rd
  rw [dif_pos ⟨(i 0).isLt, (i 1).isLt⟩]
  show a0 i = ((EReal.toReal (a0 (ValueIdx.ix2 ⟨(i 0).val, (i 0).isLt⟩ ⟨(i 1).val, (i 1).isLt⟩ : S8192x13824.Idx)) : ℝ) : EReal)
  rw [ei, e, EReal.toReal_coe]

theorem rdy_eq (h : Reals a0 a1 a2) (i : S8192x1024.Idx) : a2 i = ((rdy a2 (i 0).val (i 1).val : ℝ) : EReal) := by
  obtain ⟨r, e⟩ := h.dy i
  have ei : (ValueIdx.ix2 ⟨(i 0).val, (i 0).isLt⟩ ⟨(i 1).val, (i 1).isLt⟩ : S8192x1024.Idx) = i :=
    funext fun a => by match a with | ⟨0, _⟩ => rfl | ⟨1, _⟩ => rfl
  unfold rdy
  rw [dif_pos ⟨(i 0).isLt, (i 1).isLt⟩]
  show a2 i = ((EReal.toReal (a2 (ValueIdx.ix2 ⟨(i 0).val, (i 0).isLt⟩ ⟨(i 1).val, (i 1).isLt⟩ : S8192x1024.Idx)) : ℝ) : EReal)
  rw [ei, e, EReal.toReal_coe]

theorem rds_eq (h : Reals a0 a1 a2) (i : S16.Idx) : a1 i = ((rds a1 (i 0).val : ℝ) : EReal) := by
  obtain ⟨r, e⟩ := h.sink i
  have ei : (ValueIdx.ix1 ⟨(i 0).val, (i 0).isLt⟩ : S16.Idx) = i := funext fun a => by match a with | ⟨0, _⟩ => rfl
  unfold rds
  rw [dif_pos (show (i 0).val < 16 from (i 0).isLt)]
  show a1 i = ((EReal.toReal (a1 (ValueIdx.ix1 ⟨(i 0).val, (i 0).isLt⟩ : S16.Idx)) : ℝ) : EReal)
  rw [ei, e, EReal.toReal_coe]

section Stages
variable (h : Reals a0 a1 a2)
include h

theorem v1 (i : S8192x1024.Idx) : val_main_v1 (F := Ideal) a0 i = ((rd a0 (i 0).val (2048 + (i 1).val) : ℝ) : EReal) := by
  have e : (i 1).val < 1024 := (i 1).isLt
  rw [val_main_v1_apply, val_main_v0_apply]
  exact rd_eq h _ (by show 2048 ≤ 2048 + (i 1).val; omega) (by show 2048 + (i 1).val < 4608; omega)
theorem v4 (i : S8192x256.Idx) : val_main_v4 (F := Ideal) a0 i = ((rd a0 (i 0).val (3072 + (i 1).val) : ℝ) : EReal) := by
  have e : (i 1).val < 256 := (i 1).isLt
  rw [val_main_v4_apply, val_main_v3_apply]
  exact rd_eq h _ (by show 2048 ≤ 3072 + (i 1).val; omega) (by show 3072 + (i 1).val < 4608; omega)
theorem v7 (i : S8192x256.Idx) : val_main_v7 (F := Ideal) a0 i = ((rd a0 (i 0).val (3328 + (i 1).val) : ℝ) : EReal) := by
  have e : (i 1).val < 256 := (i 1).isLt
  rw [val_main_v7_apply, val_main_v6_apply]
  exact rd_eq h _ (by show 2048 ≤ 3328 + (i 1).val; omega) (by show 3328 + (i 1).val < 4608; omega)
theorem v10 (i : S8192x1024.Idx) : val_main_v10 (F := Ideal) a0 i = ((rd a0 (i 0).val (3584 + (i 1).val) : ℝ) : EReal) := by
  have e : (i 1).val < 1024 := (i 1).isLt
  rw [val_main_v10_apply, val_main_v9_apply]
  exact rd_eq h _ (by show 2048 ≤ 3584 + (i 1).val; omega) (by show 3584 + (i 1).val < 4608; omega)

theorem v2 (i : S1x8192x16x64.Idx) : val_main_v2 (F := Ideal) a0 i = (((data a0 a1 a2).q (i 1).val (i 2).val (i 3).val : ℝ) : EReal) := by
  have h0 : (i 0).val < 1 := (i 0).isLt
  have h1 : (i 1).val < 8192 := (i 1).isLt
  have h2 : (i 2).val < 16 := (i 2).isLt
  have h3 : (i 3).val < 64 := (i 3).isLt
  have e0 : ((idx_main_v2 i) 0).val = (i 1).val := by show _ / _ = _; omega
  have e1 : ((idx_main_v2 i) 1).val = 64 * (i 2).val + (i 3).val := by show _ % 1024 = _; omega
  rw [val_main_v2_apply, v1 h, e0, e1]
  rfl
theorem v5 (i : S1x8192x4x64.Idx) : val_main_v5 (F := Ideal) a0 i = ((rd a0 (i 1).val (3072 + (64 * (i 2).val + (i 3).val)) : ℝ) : EReal) := by
  have h0 : (i 0).val < 1 := (i 0).isLt
  have h1 : (i 1).val < 8192 := (i 1).isLt
  have h2 : (i 2).val < 4 := (i 2).isLt
  have h3 : (i 3).val < 64 := (i 3).isLt
  have e0 : ((idx_main_v5 i) 0).val = (i 1).val := by show _ / _ = _; omega
  have e1 : ((idx_main_v5 i) 1).val = 64 * (i 2).val + (i 3).val := by show _ % 256 = _; omega
  rw [val_main_v5_apply, v4 h, e0, e1]
theorem v8 (i : S1x8192x4x64.Idx) : val_main_v8 (F := Ideal) a0 i = ((rd a0 (i 1).val (3328 + (64 * (i 2).val + (i 3).val)) : ℝ) : EReal) := by
  have h0 : (i 0).val < 1 := (i 0).isLt
  have h1 : (i 1).val < 8192 := (i 1).isLt
  have h2 : (i 2).val < 4 := (i 2).isLt
  have h3 : (i 3).val < 64 := (i 3).isLt
  have e0 : ((idx_main_v8 i) 0).val = (i 1).val := by show _ / _ = _; omega
  have e1 : ((idx_main_v8 i) 1).val = 64 * (i 2).val + (i 3).val := by show _ % 256 = _; omega
  rw [val_main_v8_apply, v7 h, e0, e1]
theorem v11 (i : S1x8192x1024.Idx) :
    val_main_v11 (F := Ideal) a0 i = (((data a0 a1 a2).z (i 1).val ((i 2).val / 64) ((i 2).val % 64) : ℝ) : EReal) := by
  have h0 : (i 0).val < 1 := (i 0).isLt
  have h1 : (i 1).val < 8192 := (i 1).isLt
  have h2 : (i 2).val < 1024 := (i 2).isLt
  have e0 : ((idx_main_v11 i) 0).val = (i 1).val := by show _ / _ = _; omega
  have e1 : ((idx_main_v11 i) 1).val = 64 * ((i 2).val / 64) + (i 2).val % 64 := by show _ % 1024 = _; omega
  rw [val_main_v11_apply, v10 h, e0, e1]
  rfl
theorem v13 (i : S16.Idx) : val_main_v13 (F := Ideal) a1 i = (((data a0 a1 a2).s (i 0).val : ℝ) : EReal) := by
  rw [val_main_v13_apply, val_main_v12_apply]
  show Ideal.ofBits .f32 0x3F800000#32 * a1 i = _
  rw [one_f32, rds_eq h, EReal.coe_one, one_mul]
  rfl

theorem v14 (i : S1x128x64x4x4x64.Idx) : val_main_v14 (F := Ideal) a0 i
    = (((data a0 a1 a2).q (64 * (i 1).val + (i 2).val) (4 * (i 3).val + (i 4).val) (i 5).val : ℝ) : EReal) := by
  have h0 : (i 0).val < 1 := (i 0).isLt
  have h1 : (i 1).val < 128 := (i 1).isLt
  have h2 : (i 2).val < 64 := (i 2).isLt
  have h3 : (i 3).val < 4 := (i 3).isLt
  have h4 : (i 4).val < 4 := (i 4).isLt
  have h5 : (i 5).val < 64 := (i 5).isLt
  unfold val_main_v14
  rw [shapeCast_apply (t := S1x128x64x4x4x64) (s := S1x8192x16x64) _ _ i
    (ValueIdx.ix4 ⟨0, Nat.one_pos⟩ ⟨64 * (i 1).val + (i 2).val, by omega⟩ ⟨4 * (i 3).val + (i 4).val, by omega⟩ ⟨(i 5).val, h5⟩)
    (by
      rw [Shape.rowMajor_val_four, rowMajor_six]
      show ((0 * 8192 + (64 * (i 1).val + (i 2).val)) * 16 + (4 * (i 3).val + (i 4).val)) * 64 + (i 5).val
        = (((((i 0).val * 128 + (i 1).val) * 64 + (i 2).val) * 4 + (i 3).val) * 4 + (i 4).val) * 64 + (i 5).val
      omega), v2 h]

theorem v16 (i : S1x8320x4x64.Idx) : val_main_v16 (F := Ideal) a0 i = (((data a0 a1 a2).k (i 1).val (i 2).val (i 3).val : ℝ) : EReal) := by
  have h1 : (i 1).val < 8320 := (i 1).isLt
  unfold val_main_v16
  by_cases hp : (i 1).val < 128
  · refine Eq.trans (concatenate_pair_apply_left (t := S1x8320x4x64) 1 (val_main_v15 (F := Ideal)) (val_main_v5 (F := Ideal) a0) _ i rfl
      (ValueIdx.ix4 ⟨0, Nat.one_pos⟩ ⟨(i 1).val, hp⟩ ⟨(i 2).val, (i 2).isLt⟩ ⟨(i 3).val, (i 3).isLt⟩ : S1x128x4x64.Idx)
      (fun b => by match b with | ⟨0, _⟩ => exact (Nat.lt_one_iff.mp (i 0).isLt).symm | ⟨1, _⟩ => rfl | ⟨2, _⟩ => rfl | ⟨3, _⟩ => rfl)) ?_
    rw [val_main_v15_apply]
    show Ideal.ofBits .f32 0x00000000#32 = (((if 128 ≤ (i 1).val then _ else 0) : ℝ) : EReal)
    rw [zero_f32, if_neg (by omega)]
  · refine Eq.trans (concatenate_pair_apply_right (t := S1x8320x4x64) 1 (val_main_v15 (F := Ideal)) (val_main_v5 (F := Ideal) a0) _ i rfl rfl
      (ValueIdx.ix4 ⟨0, Nat.one_pos⟩ ⟨(i 1).val - 128, by omega⟩ ⟨(i 2).val, (i 2).isLt⟩ ⟨(i 3).val, (i 3).isLt⟩ : S1x8192x4x64.Idx)
      (fun b hb => by match b with | ⟨0, _⟩ => exact (Nat.lt_one_iff.mp (i 0).isLt).symm | ⟨1, _⟩ => exact absurd rfl hb | ⟨2, _⟩ => rfl | ⟨3, _⟩ => rfl)
      (by show (i 1).val - 128 + 128 = (i 1).val; omega)) ?_
    rw [v5 h]
    show _ = (((if 128 ≤ (i 1).val then _ else 0) : ℝ) : EReal)
    rw [if_pos (by omega)]
theorem v24 (i : S1x8320x4x64.Idx) : val_main_v24 (F := Ideal) a0 i = (((data a0 a1 a2).v (i 1).val (i 2).val (i 3).val : ℝ) : EReal) := by
  have h1 : (i 1).val < 8320 := (i 1).isLt
  unfold val_main_v24
  by_cases hp : (i 1).val < 128
  · refine Eq.trans (concatenate_pair_apply_left (t := S1x8320x4x64) 1 (val_main_v23 (F := Ideal)) (val_main_v8 (F := Ideal) a0) _ i rfl
      (ValueIdx.ix4 ⟨0, Nat.one_pos⟩ ⟨(i 1).val, hp⟩ ⟨(i 2).val, (i 2).isLt⟩ ⟨(i 3).val, (i 3).isLt⟩ : S1x128x4x64.Idx)
      (fun b => by match b with | ⟨0, _⟩ => exact (Nat.lt_one_iff.mp (i 0).isLt).symm | ⟨1, _⟩ => rfl | ⟨2, _⟩ => rfl | ⟨3, _⟩ => rfl)) ?_
    rw [val_main_v23_apply]
    show Ideal.ofBits .f32 0x00000000#32 = (((if 128 ≤ (i 1).val then _ else 0) : ℝ) : EReal)
    rw [zero_f32, if_neg (by omega)]
  · refine Eq.trans (concatenate_pair_apply_right (t := S1x8320x4x64) 1 (val_main_v23 (F := Ideal)) (val_main_v8 (F := Ideal) a0) _ i rfl rfl
      (ValueIdx.ix4 ⟨0, Nat.one_pos⟩ ⟨(i 1).val - 128, by omega⟩ ⟨(i 2).val, (i 2).isLt⟩ ⟨(i 3).val, (i 3).isLt⟩ : S1x8192x4x64.Idx)
      (fun b hb => by match b with | ⟨0, _⟩ => exact (Nat.lt_one_iff.mp (i 0).isLt).symm | ⟨1, _⟩ => exact absurd rfl hb | ⟨2, _⟩ => rfl | ⟨3, _⟩ => rfl)
      (by show (i 1).val - 128 + 128 = (i 1).val; omega)) ?_
    rw [v8 h]
    show _ = (((if 128 ≤ (i 1).val then _ else 0) : ℝ) : EReal)
    rw [if_pos (by omega)]

theorem v18 (i : S1x130x64x4x64.Idx) : val_main_v18 (F := Ideal) a0 i
    = (((data a0 a1 a2).k (64 * (i 1).val + (i 2).val) (i 3).val (i 4).val : ℝ) : EReal) := by
  have h0 : (i 0).val < 1 := (i 0).isLt
  have h1 : (i 1).val < 130 := (i 1).isLt
  have h2 : (i 2).val < 64 := (i 2).isLt
  have h3 : (i 3).val < 4 := (i 3).isLt
  have h4 : (i 4).val < 64 := (i 4).isLt
  have e1 : ((idx_main_v18 i) 1).val = 64 * (i 1).val + (i 2).val := by show _ % 8320 = _; omega
  have e2 : ((idx_main_v18 i) 2).val = (i 3).val := by show _ % 4 = _; omega
  have e3 : ((idx_main_v18 i) 3).val = (i 4).val := by show _ % 64 = _; omega
  rw [val_main_v18_apply, v16 h, e1, e2, e3]
theorem v26 (i : S1x130x64x4x64.Idx) : val_main_v26 (F := Ideal) a0 i
    = (((data a0 a1 a2).v (64 * (i 1).val + (i 2).val) (i 3).val (i 4).val : ℝ) : EReal) := by
  have h0 : (i 0).val < 1 := (i 0).isLt
  have h1 : (i 1).val < 130 := (i 1).isLt
  have h2 : (i 2).val < 64 := (i 2).isLt
  have h3 : (i 3).val < 4 := (i 3).isLt
  have h4 : (i 4).val < 64 := (i 4).isLt
  have e1 : ((idx_main_v26 i) 1).val = 64 * (i 1).val + (i 2).val := by show _ % 8320 = _; omega
  have e2 : ((idx_main_v26 i) 2).val = (i 3).val := by show _ % 4 = _; omega
  have e3 : ((idx_main_v26 i) 3).val = (i 4).val := by show _ % 64 = _; omega
  rw [val_main_v26_apply, v24 h, e1, e2, e3]

theorem v22 (i : S1x128x192x4x64.Idx) : val_main_v22 (F := Ideal) a0 i
    = (((data a0 a1 a2).k (64 * (i 1).val + (i 2).val) (i 3).val (i 4).val : ℝ) : EReal) := by
  have h1 : (i 1).val < 128 := (i 1).isLt
  have h2 : (i 2).val < 192 := (i 2).isLt
  unfold val_main_v22
  by_cases c0 : (i 2).val < 64
  · refine Eq.trans (concatenate_apply_piece (2 : Fin S1x128x192x4x64.rank) _ _ i 0 (by show (0 : ℕ) < 3; omega) S1x128x64x4x64 (val_main_v19 (F := Ideal) a0) rfl rfl 0 rfl
      (ValueIdx.ix5 ⟨(i 0).val, (i 0).isLt⟩ ⟨(i 1).val, h1⟩ ⟨(i 2).val, by omega⟩ ⟨(i 3).val, (i 3).isLt⟩ ⟨(i 4).val, (i 4).isLt⟩)
      (fun b hb => by match b with | ⟨0, _⟩ => rfl | ⟨1, _⟩ => rfl | ⟨2, _⟩ => exact absurd rfl hb | ⟨3, _⟩ => rfl | ⟨4, _⟩ => rfl)
      (by show 0 + ((i 2).val) = (i 2).val; omega)) ?_
    rw [val_main_v19_apply, v18 h]
  by_cases c1 : (i 2).val < 128
  · refine Eq.trans (concatenate_apply_piece (2 : Fin S1x128x192x4x64.rank) _ _ i 1 (by show (1 : ℕ) < 3; omega) S1x128x64x4x64 (val_main_v20 (F := Ideal) a0) rfl rfl 64 rfl
      (ValueIdx.ix5 ⟨(i 0).val, (i 0).isLt⟩ ⟨(i 1).val, h1⟩ ⟨(i 2).val - 64, by omega⟩ ⟨(i 3).val, (i 3).isLt⟩ ⟨(i 4).val, (i 4).isLt⟩)
      (fun b hb => by match b with | ⟨0, _⟩ => rfl | ⟨1, _⟩ => rfl | ⟨2, _⟩ => exact absurd rfl hb | ⟨3, _⟩ => rfl | ⟨4, _⟩ => rfl)
      (by show 64 + ((i 2).val - 64) = (i 2).val; omega)) ?_
    rw [val_main_v20_apply, v18 h]
    show (((data a0 a1 a2).k (64 * (1 + (i 1).val) + ((i 2).val - 64)) (i 3).val (i 4).val : ℝ) : EReal) = _
    rw [show 64 * (1 + (i 1).val) + ((i 2).val - 64) = 64 * (i 1).val + (i 2).val from by omega]
  · refine Eq.trans (concatenate_apply_piece (2 : Fin S1x128x192x4x64.rank) _ _ i 2 (by show (2 : ℕ) < 3; omega) S1x128x64x4x64 (val_main_v21 (F := Ideal) a0) rfl rfl 128 rfl
      (ValueIdx.ix5 ⟨(i 0).val, (i 0).isLt⟩ ⟨(i 1).val, h1⟩ ⟨(i 2).val - 128, by omega⟩ ⟨(i 3).val, (i 3).isLt⟩ ⟨(i 4).val, (i 4).isLt⟩)
      (fun b hb => by match b with | ⟨0, _⟩ => rfl | ⟨1, _⟩ => rfl | ⟨2, _⟩ => exact absurd rfl hb | ⟨3, _⟩ => rfl | ⟨4, _⟩ => rfl)
      (by show 128 + ((i 2).val - 128) = (i 2).val; omega)) ?_
    rw [val_main_v21_apply, v18 h]
    show (((data a0 a1 a2).k (64 * (2 + (i 1).val) + ((i 2).val - 128)) (i 3).val (i 4).val : ℝ) : EReal) = _
    rw [show 64 * (2 + (i 1).val) + ((i 2).val - 128) = 64 * (i 1).val + (i 2).val from by omega]
theorem v30 (i : S1x128x192x4x64.Idx) : val_main_v30 (F := Ideal) a0 i
    = (((data a0 a1 a2).v (64 * (i 1).val + (i 2).val) (i 3).val (i 4).val : ℝ) : EReal) := by
  have h1 : (i 1).val < 128 := (i 1).isLt
  have h2 : (i 2).val < 192 := (i 2).isLt
  unfold val_main_v30
  by_cases c0 : (i 2).val < 64
  · refine Eq.trans (concatenate_apply_piece (2 : Fin S1x128x192x4x64.rank) _ _ i 0 (by show (0 : ℕ) < 3; omega) S1x128x64x4x64 (val_main_v27 (F := Ideal) a0) rfl rfl 0 rfl
      (ValueIdx.ix5 ⟨(i 0).val, (i 0).isLt⟩ ⟨(i 1).val, h1⟩ ⟨(i 2).val, by omega⟩ ⟨(i 3).val, (i 3).isLt⟩ ⟨(i 4).val, (i 4).isLt⟩)
      (fun b hb => by match b with | ⟨0, _⟩ => rfl | ⟨1, _⟩ => rfl | ⟨2, _⟩ => exact absurd rfl hb | ⟨3, _⟩ => rfl | ⟨4, _⟩ => rfl)
      (by show 0 + ((i 2).val) = (i 2).val; omega)) ?_
    rw [val_main_v27_apply, v26 h]
  by_cases c1 : (i 2).val < 128
  · refine Eq.trans (concatenate_apply_piece (2 : Fin S1x128x192x4x64.rank) _ _ i 1 (by show (1 : ℕ) < 3; omega) S1x128x64x4x64 (val_main_v28 (F := Ideal) a0) rfl rfl 64 rfl
      (ValueIdx.ix5 ⟨(i 0).val, (i 0).isLt⟩ ⟨(i 1).val, h1⟩ ⟨(i 2).val - 64, by omega⟩ ⟨(i 3).val, (i 3).isLt⟩ ⟨(i 4).val, (i 4).isLt⟩)
      (fun b hb => by match b with | ⟨0, _⟩ => rfl | ⟨1, _⟩ => rfl | ⟨2, _⟩ => exact absurd rfl hb | ⟨3, _⟩ => rfl | ⟨4, _⟩ => rfl)
      (by show 64 + ((i 2).val - 64) = (i 2).val; omega)) ?_
    rw [val_main_v28_apply, v26 h]
    show (((data a0 a1 a2).v (64 * (1 + (i 1).val) + ((i 2).val - 64)) (i 3).val (i 4).val : ℝ) : EReal) = _
    rw [show 64 * (1 + (i 1).val) + ((i 2).val - 64) = 64 * (i 1).val + (i 2).val from by omega]
  · refine Eq.trans (concatenate_apply_piece (2 : Fin S1x128x192x4x64.rank) _ _ i 2 (by show (2 : ℕ) < 3; omega) S1x128x64x4x64 (val_main_v29 (F := Ideal) a0) rfl rfl 128 rfl
      (ValueIdx.ix5 ⟨(i 0).val, (i 0).isLt⟩ ⟨(i 1).val, h1⟩ ⟨(i 2).val - 128, by omega⟩ ⟨(i 3).val, (i 3).isLt⟩ ⟨(i 4).val, (i 4).isLt⟩)
      (fun b hb => by match b with | ⟨0, _⟩ => rfl | ⟨1, _⟩ => rfl | ⟨2, _⟩ => exact absurd rfl hb | ⟨3, _⟩ => rfl | ⟨4, _⟩ => rfl)
      (by show 128 + ((i 2).val - 128) = (i 2).val; omega)) ?_
    rw [val_main_v29_apply, v26 h]
    show (((data a0 a1 a2).v (64 * (2 + (i 1).val) + ((i 2).val - 128)) (i 3).val (i 4).val : ℝ) : EReal) = _
    rw [show 64 * (2 + (i 1).val) + ((i 2).val - 128) = 64 * (i 1).val + (i 2).val from by omega]

end Stages

end Cert.Own.Attn.Ref

end
-- ==== Proof.AttnRefFwd.lean ====
/- The reference's stages over the reals, from the scores to the output and the row's log-sum (AttnRefIn, AttnReal). -/
module

public import proofs.«01_k».proof.Proof.AttnRefIn

@[expose] public section

set_option maxRecDepth 8192

noncomputable section

namespace Cert.Own.Attn.Ref

open Idealize.ShloMosaic Idealize.ShloMosaic.ValueIdx
open Cert.Reference12Ideal Cert.Reference12Ideal.Gen Cert.Reference12Ideal.Read

variable {a0 : (⟨S8192x13824, .bf16⟩ : BufTy).Contents (Elt Ideal)} {a1 : (⟨S16, .f32⟩ : BufTy).Contents (Elt Ideal)}
  {a2 : (⟨S8192x1024, .bf16⟩ : BufTy).Contents (Elt Ideal)}

/-! ## The mask -/

/-- A word's sign. -/
def signWord (x : BitVec 32) : BitVec 32 := if x = 0 then 0 else if x.msb then -1 else 1

/-- The chunk of a position in the band, by the reference's floor division. -/
def bandWord (x : BitVec 32) : BitVec 32 :=
  Scalar.select (IntOp.andi (IntOp.cmpi .ne (signWord x) (signWord 64#32)) (IntOp.cmpi .ne (IntOp.remsi .host x 64#32) 0#32))
    (IntOp.subi (IntOp.divsi .host x 64#32) 1#32) (IntOp.divsi .host x 64#32)

theorem bandWord_eq : ∀ j : Fin 192, bandWord (BitVec.ofNat 32 j.val) = BitVec.ofNat 32 (j.val / 64) := by decide +kernel

theorem inside_word : ∀ (c : Fin 128) (b : Fin 3),
    IntOp.cmpi .sge (IntOp.addi (IntOp.subi (BitVec.ofNat 32 c.val) 2#32) (BitVec.ofNat 32 b.val)) 0#32
      = if 2 ≤ c.val + b.val then 1#1 else 0#1 := by decide +kernel

theorem v41 (i : S1x192.Idx) : val_main_v41 (F := Ideal) i = BitVec.ofNat 32 ((i 1).val / 64) := by
  refine Eq.trans ?_ (bandWord_eq (i 1))
  rw [val_main_v41_apply, val_main_call0_v11_apply, val_main_call0_v6_apply, val_main_call0_v10_apply,
    val_main_call0_v13_apply, val_main_call0_v2_apply, val_main_call0_v8_apply, val_main_call0_v12_apply,
    val_main_call0_v9_apply, val_main_call0_v7_apply, val_main_call0_v1_apply, val_main_call0_v5_apply]
  have e : val_main_call0_v3 (F := Ideal) i = signWord (BitVec.ofNat 32 (i 1).val) := by
    have e0 : val_main_v40 (F := Ideal) i = BitVec.ofNat 32 (i 1).val := by
      rw [val_main_v40_apply, val_main_v39_apply]
    rw [← e0]
    rfl
  rw [e, val_main_v40_apply, val_main_v39_apply]
  rfl

theorem v48_1 (i : S1x128x4x4x64x192.Idx) :
    val_main_v48_1 (F := Ideal) i = if 128 ≤ 64 * (i 1).val + (i 5).val then 1#1 else 0#1 := by
  have h1 : (i 1).val < 128 := (i 1).isLt
  have h5 : (i 5).val < 192 := (i 5).isLt
  rw [val_main_v48_1_apply, val_main_v47_apply, val_main_v46_apply, val_main_v44_apply, val_main_v45_apply,
    val_main_v42_apply, val_main_v38_apply, val_main_v36_apply, val_main_v35_apply, val_main_v37_apply, val_main_v43_apply, v41]
  refine (inside_word ⟨(i 1).val, h1⟩ ⟨(i 5).val / 64, by omega⟩).trans ?_
  show (if 2 ≤ (i 1).val + (i 5).val / 64 then 1#1 else 0#1) = _
  by_cases c : 2 ≤ (i 1).val + (i 5).val / 64
  · rw [if_pos c, if_pos (by omega)]
  · rw [if_neg c, if_neg (by omega)]

theorem exp_sub (x y : ℝ) :
    FloatOps.hostUnary (F := Ideal) (φ := .f32) .exp (FloatOps.subf (F := Ideal) (φ := .f32) (x : EReal) (y : EReal)) = ((Real.exp (x - y) : ℝ) : EReal) := by
  have e : FloatOps.subf (F := Ideal) (φ := .f32) (x : EReal) (y : EReal) = ((x - y : ℝ) : EReal) := (EReal.coe_sub x y).symm
  rw [e]
  exact Ideal.exp_coe _

theorem add_log (x y : ℝ) (hy : 0 < y) :
    FloatOps.addf (F := Ideal) (φ := .f32) (x : EReal) (FloatOps.hostUnary (F := Ideal) (φ := .f32) .log (y : EReal)) = ((x + Real.log y : ℝ) : EReal) := by
  have e : FloatOps.hostUnary (F := Ideal) (φ := .f32) .log (y : EReal) = ((Real.log y : ℝ) : EReal) :=
    (Ideal.log_coe y).trans (if_neg (not_le.mpr hy))
  rw [e]
  exact (EReal.coe_add _ _).symm

/-! ## The scores -/

section Stages
variable (h : Reals a0 a1 a2)
include h

theorem v31 (i : S1x128x4x192x64x4.Idx) : val_main_v31 (F := Ideal) a0 i
    = ((∑ d : Fin 64, (data a0 a1 a2).k (64 * (i 1).val + (i 3).val) (i 2).val d.val
        * (data a0 a1 a2).q (64 * (i 1).val + (i 4).val) (4 * (i 2).val + (i 5).val) d.val : ℝ) : EReal) := by
  rw [val_main_v31_apply]
  exact (Finset.sum_congr rfl fun d _ => (congrArg₂ (fun x y : EReal => x * y) (v22 h _) (v14 h _)).trans (EReal.coe_mul _ _).symm).trans (coe_sum _)

theorem v34 (i : S1x128x4x4x64x192.Idx) : val_main_v34 (F := Ideal) a0 i
    = (((data a0 a1 a2).score (64 * (i 1).val + (i 4).val) (4 * (i 2).val + (i 3).val) (64 * (i 1).val + (i 5).val) : ℝ) : EReal) := by
  have h3 : (i 3).val < 4 := (i 3).isLt
  have e : (4 * (i 2).val + (i 3).val) / 4 = (i 2).val := by omega
  have e1 : val_main_v32 (F := Ideal) a0 i = ((∑ d : Fin 64, (data a0 a1 a2).k (64 * (i 1).val + (i 5).val) (i 2).val d.val
        * (data a0 a1 a2).q (64 * (i 1).val + (i 4).val) (4 * (i 2).val + (i 3).val) d.val : ℝ) : EReal) :=
    (val_main_v32_apply a0 i).trans (v31 h _)
  have e2 : val_main_v33 (F := Ideal) i = ((1 / 8 : ℝ) : EReal) := (val_main_v33_apply i).trans eighth_f32
  rw [val_main_v34_apply, e1, e2]
  unfold Data.score
  rw [e]
  exact (EReal.coe_mul _ _).symm

/-- A masked score. -/
theorem v48 (i : S1x128x4x4x64x192.Idx) : val_main_v48_0 (F := Ideal) a0 i
    = if 128 ≤ 64 * (i 1).val + (i 5).val
      then (((data a0 a1 a2).score (64 * (i 1).val + (i 4).val) (4 * (i 2).val + (i 3).val) (64 * (i 1).val + (i 5).val) : ℝ) : EReal)
      else ⊥ := by
  rw [val_main_v48_0_apply, v48_1, v34 h]
  split
  · rfl
  · exact (val_main_call1_v2_apply i).trans ninf_f32

/-! ## The row's maximum -/

omit h in
theorem fold_max (n : ℕ) (f : Fin n → EReal) (k0 : Fin n) :
    ∃ k : Fin n, (Finset.univ : Finset (Fin n)).fold max ⊥ f = f k ∧ f k0 ≤ f k := by
  obtain ⟨k, _, hk⟩ := Finset.exists_max_image Finset.univ f ⟨k0, Finset.mem_univ k0⟩
  refine ⟨k, le_antisymm ?_ ?_, hk k0 (Finset.mem_univ k0)⟩
  · exact (Finset.fold_max_le _).mpr ⟨bot_le, fun x hx => hk x hx⟩
  · exact (Finset.le_fold_max _).mpr (Or.inr ⟨k, Finset.mem_univ k, le_rfl⟩)

theorem v50 (i : S1x128x4x4x64.Idx) : ∃ (m : ℝ) (k : Fin 192), val_main_v50 (F := Ideal) a0 i = (m : EReal)
    ∧ val_main_v48_0 (F := Ideal) a0 (idx_main_v55 i k) = (m : EReal) := by
  have h1 : (i 1).val < 128 := (i 1).isLt
  obtain ⟨k, hk, hle⟩ := fold_max 192 (fun k => val_main_v48_0 (F := Ideal) a0 (idx_main_v55 i k)) ⟨191, by omega⟩
  have e : val_main_v50 (F := Ideal) a0 i = val_main_v48_0 (F := Ideal) a0 (idx_main_v55 i k) := by
    rw [← hk]
    unfold val_main_v50
    generalize val_main_v48_0 (F := Ideal) a0 = x
    rw [Host.reduce_eq_fold_single (FloatOps.maximumf (F := Ideal) (φ := .f32)) x _ reducesTo_S1x128x4x4x64x192_S1x128x4x4x64_d5 (by decide) h_S_ i]
    have e0 : val_main_cst_8 (F := Ideal) (Shape.Idx.first h_S_) = (⊥ : EReal) := ninf_f32
    rw [e0]
    refine congrArg (Finset.fold _ _ · _) (funext fun k => congrArg x (funext fun a => Fin.ext ?_))
    match a with | ⟨0, _⟩ => rfl | ⟨1, _⟩ => rfl | ⟨2, _⟩ => rfl | ⟨3, _⟩ => rfl | ⟨4, _⟩ => rfl | ⟨5, _⟩ => rfl
  have hlast : val_main_v48_0 (F := Ideal) a0 (idx_main_v55 i ⟨191, by omega⟩) ≠ ⊥ := by
    rw [v48 h, if_pos (by show 128 ≤ 64 * (i 1).val + 191; omega)]
    exact EReal.coe_ne_bot _
  have hk' : val_main_v48_0 (F := Ideal) a0 (idx_main_v55 i k) ≠ ⊥ := fun e => hlast (le_bot_iff.mp (e ▸ hle))
  rw [v48 h] at hk'
  by_cases c : 128 ≤ 64 * ((idx_main_v55 i k) 1).val + ((idx_main_v55 i k) 5).val
  · exact ⟨_, k, e.trans ((v48 h _).trans (if_pos c)), (v48 h _).trans (if_pos c)⟩
  · rw [if_neg c] at hk'
    exact absurd rfl hk'

theorem v49 (i : S1x1x4x4x1x1.Idx) : val_main_v49 (F := Ideal) a1 i = (((data a0 a1 a2).s (4 * (i 2).val + (i 3).val) : ℝ) : EReal) := by
  have h0 : (i 0).val < 1 := (i 0).isLt
  have h1 : (i 1).val < 1 := (i 1).isLt
  have h2 : (i 2).val < 4 := (i 2).isLt
  have h3 : (i 3).val < 4 := (i 3).isLt
  have h4 : (i 4).val < 1 := (i 4).isLt
  have h5 : (i 5).val < 1 := (i 5).isLt
  unfold val_main_v49
  rw [shapeCast_apply (t := S1x1x4x4x1x1) (s := S16) _ _ i (ValueIdx.ix1 ⟨4 * (i 2).val + (i 3).val, by omega⟩)
    (by
      rw [Shape.rowMajor_val_one, rowMajor_six]
      show 4 * (i 2).val + (i 3).val
        = (((((i 0).val * 1 + (i 1).val) * 4 + (i 2).val) * 4 + (i 3).val) * 1 + (i 4).val) * 1 + (i 5).val
      omega), v13 h]

theorem v58 (i : S1x128x4x4x64x1.Idx) : val_main_v58 (F := Ideal) a0 a1 i
    = (((data a0 a1 a2).μ (64 * (i 1).val + (i 4).val) (4 * (i 2).val + (i 3).val) : ℝ) : EReal) := by
  have h0 : (i 0).val < 1 := (i 0).isLt
  have h1 : (i 1).val < 128 := (i 1).isLt
  have h2 : (i 2).val < 4 := (i 2).isLt
  have h3 : (i 3).val < 4 := (i 3).isLt
  have h4 : (i 4).val < 64 := (i 4).isLt
  have h5 : (i 5).val < 1 := (i 5).isLt
  have real : ∃ r : ℝ, val_main_v58 (F := Ideal) a0 a1 i = (r : EReal) := by
    obtain ⟨m, k, hm, _⟩ := v50 h (idx_main_v56 i)
    have e1 : val_main_v56 (F := Ideal) a0 i = (m : EReal) := (val_main_v56_apply a0 i).trans hm
    have e2 : val_main_v57 (F := Ideal) a1 i = _ := (val_main_v57_apply a1 i).trans (v49 h _)
    rw [val_main_v58_apply, e1, e2]
    exact ⟨max m _, EReal.coe_strictMono.monotone.map_max.symm⟩
  have ei : row6 ((64 * (i 1).val + (i 4).val) / 64) ((4 * (i 2).val + (i 3).val) / 4) ((4 * (i 2).val + (i 3).val) % 4)
      ((64 * (i 1).val + (i 4).val) % 64) (by omega) (by omega) (by omega) (by omega) = i := funext fun a => Fin.ext (by
    match a with
    | ⟨0, _⟩ => show 0 = (i 0).val; omega
    | ⟨1, _⟩ => show (64 * (i 1).val + (i 4).val) / 64 = (i 1).val; omega
    | ⟨2, _⟩ => show (4 * (i 2).val + (i 3).val) / 4 = (i 2).val; omega
    | ⟨3, _⟩ => show (4 * (i 2).val + (i 3).val) % 4 = (i 3).val; omega
    | ⟨4, _⟩ => show (64 * (i 1).val + (i 4).val) % 64 = (i 4).val; omega
    | ⟨5, _⟩ => show 0 = (i 5).val; omega)
  obtain ⟨r, e⟩ := real
  show _ = ((mu a0 a1 _ _ : ℝ) : EReal)
  unfold mu
  rw [dif_pos ⟨by omega, by omega⟩, ei, e, EReal.toReal_coe]

/-! ## The weights, their sums, the output -/

theorem v79 (i : S1x128x4x4x64x192.Idx) : val_main_v79 (F := Ideal) a0 a1 i
    = (((data a0 a1 a2).P (64 * (i 1).val + (i 4).val) (4 * (i 2).val + (i 3).val) (64 * (i 1).val + (i 5).val) : ℝ) : EReal) := by
  have e1 : val_main_v77 (F := Ideal) a0 a1 i = (((data a0 a1 a2).μ (64 * (i 1).val + (i 4).val) (4 * (i 2).val + (i 3).val) : ℝ) : EReal) :=
    (val_main_v77_apply a0 a1 i).trans (v58 h _)
  rw [val_main_v79_apply, val_main_v78_apply, v48 h, e1]
  show Ideal.exp (_ - _) = _
  unfold Data.P
  split
  · rw [← EReal.coe_sub, Ideal.exp_coe]
  · rw [EReal.bot_sub, Ideal.exp_bot]
    rfl

theorem v80 (i : S1x128x4x4x64.Idx) : val_main_v80 (F := Ideal) a0 a1 i
    = (((data a0 a1 a2).S (64 * (i 1).val + (i 4).val) (4 * (i 2).val + (i 3).val) : ℝ) : EReal) := by
  have h4 : (i 4).val < 64 := (i 4).isLt
  have e : (64 * (i 1).val + (i 4).val) / 64 = (i 1).val := by omega
  have e0 : val_main_cst_16 (F := Ideal) (Shape.Idx.first h_S_) = ((0 : ℝ) : EReal) := zero_f32
  rw [val_main_v80_apply, e0, EReal.coe_zero, zero_add]
  unfold Data.S key
  rw [e]
  exact (Finset.sum_congr rfl fun k _ => v79 h _).trans (coe_sum _)

theorem v84 (i : S1x128x4x4x64x1.Idx) : val_main_v84 (F := Ideal) a0 a1 i
    = (((data a0 a1 a2).E (64 * (i 1).val + (i 4).val) (4 * (i 2).val + (i 3).val) : ℝ) : EReal) := by
  have e1 : val_main_v82 (F := Ideal) a1 i = (((data a0 a1 a2).s (4 * (i 2).val + (i 3).val) : ℝ) : EReal) :=
    (val_main_v82_apply a1 i).trans (v49 h _)
  rw [val_main_v84_apply, val_main_v83_apply, e1, v58 h]
  exact exp_sub _ _

theorem v85 (i : S1x128x4x4x64x1.Idx) : val_main_v85 (F := Ideal) a0 a1 i
    = (((data a0 a1 a2).D (64 * (i 1).val + (i 4).val) (4 * (i 2).val + (i 3).val) : ℝ) : EReal) := by
  have e1 : val_main_v81 (F := Ideal) a0 a1 i = (((data a0 a1 a2).S (64 * (i 1).val + (i 4).val) (4 * (i 2).val + (i 3).val) : ℝ) : EReal) :=
    (val_main_v81_apply a0 a1 i).trans (v80 h _)
  rw [val_main_v85_apply, e1, v84 h]
  exact (EReal.coe_add _ _).symm

theorem v87 (i : S1x128x4x4x64x192.Idx) : val_main_v87 (F := Ideal) a0 a1 i
    = (((data a0 a1 a2).P (64 * (i 1).val + (i 4).val) (4 * (i 2).val + (i 3).val) (64 * (i 1).val + (i 5).val)
        / (data a0 a1 a2).D (64 * (i 1).val + (i 4).val) (4 * (i 2).val + (i 3).val) : ℝ) : EReal) := by
  have e1 : val_main_v86 (F := Ideal) a0 a1 i = (((data a0 a1 a2).D (64 * (i 1).val + (i 4).val) (4 * (i 2).val + (i 3).val) : ℝ) : EReal) :=
    (val_main_v86_apply a0 a1 i).trans (v85 h _)
  rw [val_main_v87_apply, v79 h, e1]
  exact div_real _ _ (Data.D_ne _ _ _)

theorem v90 (i : S1x128x4x4x64x1.Idx) : val_main_v90 (F := Ideal) a0 a1 i
    = ((1 / ((data a0 a1 a2).D (64 * (i 1).val + (i 4).val) (4 * (i 2).val + (i 3).val)
        * (data a0 a1 a2).D (64 * (i 1).val + (i 4).val) (4 * (i 2).val + (i 3).val)) : ℝ) : EReal) := by
  have e1 : val_main_v89 (F := Ideal) i = ((1 : ℝ) : EReal) := (val_main_v89_apply i).trans one_f32
  rw [val_main_v90_apply, val_main_v88_apply, e1, v85 h]
  refine Eq.trans ?_ (div_real _ _ (mul_ne_zero (Data.D_ne _ _ _) (Data.D_ne _ _ _)))
  rw [EReal.coe_mul]
  rfl

theorem v91 (i : S1x128x4x64x4x64.Idx) : val_main_v91 (F := Ideal) a0 a1 i
    = (((data a0 a1 a2).O (64 * (i 1).val + (i 5).val) (4 * (i 2).val + (i 4).val) (i 3).val : ℝ) : EReal) := by
  have h5 : (i 5).val < 64 := (i 5).isLt
  have h4 : (i 4).val < 4 := (i 4).isLt
  have e : (64 * (i 1).val + (i 5).val) / 64 = (i 1).val := by omega
  have e' : (4 * (i 2).val + (i 4).val) / 4 = (i 2).val := by omega
  rw [val_main_v91_apply]
  unfold Data.O key
  rw [e, e']
  exact (Finset.sum_congr rfl fun d _ => (congrArg₂ (fun x y : EReal => x * y) (v30 h _) (v87 h _)).trans (EReal.coe_mul _ _).symm).trans (coe_sum _)

theorem v92 (i : S1x128x64x4x4x64.Idx) : val_main_v92 (F := Ideal) a0 a1 i
    = (((data a0 a1 a2).O (64 * (i 1).val + (i 2).val) (4 * (i 3).val + (i 4).val) (i 5).val : ℝ) : EReal) :=
  (val_main_v92_apply a0 a1 i).trans (v91 h _)

theorem v93 (i : S1x8192x1024.Idx) : val_main_v93 (F := Ideal) a0 a1 i
    = (((data a0 a1 a2).O (i 1).val ((i 2).val / 64) ((i 2).val % 64) : ℝ) : EReal) := by
  have h0 : (i 0).val < 1 := (i 0).isLt
  have h1 : (i 1).val < 8192 := (i 1).isLt
  have h2 : (i 2).val < 1024 := (i 2).isLt
  unfold val_main_v93
  rw [shapeCast_apply (t := S1x8192x1024) (s := S1x128x64x4x4x64) _ _ i
    (ix6 (d := ![1, 128, 64, 4, 4, 64]) ⟨0, Nat.one_pos⟩ ⟨(i 1).val / 64, by show _ < 128; omega⟩ ⟨(i 1).val % 64, by show _ < 64; omega⟩ ⟨(i 2).val / 256, by show _ < 4; omega⟩
      ⟨(i 2).val / 64 % 4, by show _ < 4; omega⟩ ⟨(i 2).val % 64, by show _ < 64; omega⟩)
    (by
      rw [Shape.rowMajor_val_three, rowMajor_six]
      show ((((0 * 128 + (i 1).val / 64) * 64 + (i 1).val % 64) * 4 + (i 2).val / 256) * 4 + (i 2).val / 64 % 4) * 64 + (i 2).val % 64
        = ((i 0).val * 8192 + (i 1).val) * 1024 + (i 2).val
      omega), v92 h]
  show (((data a0 a1 a2).O (64 * ((i 1).val / 64) + (i 1).val % 64) (4 * ((i 2).val / 256) + (i 2).val / 64 % 4) ((i 2).val % 64) : ℝ) : EReal) = _
  rw [show 64 * ((i 1).val / 64) + (i 1).val % 64 = (i 1).val from by omega,
    show 4 * ((i 2).val / 256) + (i 2).val / 64 % 4 = (i 2).val / 64 from by omega]

theorem v95 (i : S1x128x4x4x64x1.Idx) : val_main_v95 (F := Ideal) a0 a1 i
    = (((data a0 a1 a2).L (64 * (i 1).val + (i 4).val) (4 * (i 2).val + (i 3).val) : ℝ) : EReal) := by
  rw [val_main_v95_apply, val_main_v94_apply, v58 h, v85 h]
  exact add_log _ _ (Data.D_pos _ _ _)

end Stages

end Cert.Own.Attn.Ref

end
-- ==== Proof.AttnEntry.lean ====
/- The kernel's host prefix: the output and the rows' log-sums that the backward pass is given. Its stages are the reference's (AttnRefFwd). -/
module

public import proofs.«01_k».proof.Proof.Gen.Kernel12Ideal.Frame
public import Idealize.ShloMosaic.Lib.Claim
public import proofs.«01_k».proof.Proof.AttnRefFwd

@[expose] public section

set_option maxRecDepth 65536

noncomputable section

namespace Cert.Own.Attn.Entry

open Idealize.ShloMosaic Idealize.ShloMosaic.TcCoe Idealize.ShloMosaic.Tactic
open Cert.Kernel12Ideal Cert.Kernel12Ideal.Gen

variable (m : (ℓ : Loc nD τ sig) → Buf (Elt Ideal) ℓ) (c : Dev nD)

theorem after_app {Val : EltTy → Type} (k l : List (HloOp τ sig Val)) (σ : Valuation τ sig Val) :
    StableHlo.after (k ++ l) σ = StableHlo.after l (StableHlo.after k σ) := by
  induction k generalizing σ with
  | nil => rfl
  | cons op k ih => exact ih _

/-- The projection's output. -/
abbrev a0 : (⟨S8192x13824, .bf16⟩ : BufTy).Contents (Elt Ideal) := m ((c.tc : Thread nD τ).loc main_arg0)
/-- The sinks. -/
abbrev a1 : (⟨S16, .f32⟩ : BufTy).Contents (Elt Ideal) := m ((c.tc : Thread nD τ).loc main_arg1)
/-- The gradient of the attention's output. -/
abbrev a2 : (⟨S8192x1024, .bf16⟩ : BufTy).Contents (Elt Ideal) := m ((c.tc : Thread nD τ).loc main_arg2)

/-! ## The host's line, in parts -/

/-- q, k and v split off. -/
def split : Valuation τ sig (Elt Ideal) := StableHlo.after (List.take 10 hostOps0) (fun b => m (c, b))
/-- The keys with zeros before them. -/
def padK : Valuation τ sig (Elt Ideal) := StableHlo.after (List.take 5 (List.drop 10 hostOps0)) (split m c)
/-- The keys' chunks, each row's own and the two before. -/
def cutK : Valuation τ sig (Elt Ideal) := StableHlo.after (List.take 3 (List.drop 15 hostOps0)) (padK m c)
/-- The bands of keys. -/
def bandK : Valuation τ sig (Elt Ideal) := StableHlo.after (List.take 1 (List.drop 18 hostOps0)) (cutK m c)
/-- The values with zeros before them. -/
def padV : Valuation τ sig (Elt Ideal) := StableHlo.after (List.take 4 (List.drop 19 hostOps0)) (bandK m c)
/-- The values' chunks. -/
def cutV : Valuation τ sig (Elt Ideal) := StableHlo.after (List.take 3 (List.drop 23 hostOps0)) (padV m c)
/-- The bands of values. -/
def bands : Valuation τ sig (Elt Ideal) := StableHlo.after (List.take 1 (List.drop 26 hostOps0)) (cutV m c)
/-- The scores. -/
def scores : Valuation τ sig (Elt Ideal) := StableHlo.after (List.drop 27 hostOps0) (bands m c)
/-- The chunk of a position in the band. -/
def chunks : Valuation τ sig (Elt Ideal) := StableHlo.after hostOps0_1 (scores m c)
/-- Whether a position in the band is a row. -/
def inside : Valuation τ sig (Elt Ideal) := StableHlo.after hostOps0_2 (chunks m c)
/-- The masked scores. -/
def masked : Valuation τ sig (Elt Ideal) := StableHlo.after hostOps0_3 (inside m c)
/-- The output and the log-sums. -/
def attended : Valuation τ sig (Elt Ideal) := StableHlo.after hostOps0_4 (masked m c)

theorem V_eq (b : Ref sig .tc) : V m c b = StableHlo.after hostOps0_5 (attended m c) b := by
  show StableHlo.after (hostOps0 ++ (hostOps0_1 ++ (hostOps0_2 ++ (hostOps0_3 ++ (hostOps0_4 ++ (hostOps0_5 ++ [])))))) _ _ = _
  rw [after_app, after_app, after_app, after_app, after_app, List.append_nil]
  rfl

/-! ## Their contents -/

theorem split_v7 : split m c main_v7 = Cert.Reference12Ideal.Read.val_main_v2 (a0 m c) := by
  unfold split
  simp only [List.take_succ_cons, List.take_zero]
  entry_read
  funext i
  have h0 : (i 0).val < 1 := (i 0).isLt
  have h1 : (i 1).val < 8192 := (i 1).isLt
  have h2 : (i 2).val < 16 := (i 2).isLt
  have h3 : (i 3).val < 64 := (i 3).isLt
  have e1 : ((Cert.Reference12Ideal.Read.idx_main_v2 i) 1).val = 64 * (i 2).val + (i 3).val := by show _ % 1024 = _; omega
  have e0 : ((Cert.Reference12Ideal.Read.idx_main_v2 i) 0).val = (i 1).val := by show _ / _ = _; omega
  rw [Cert.Reference12Ideal.Read.val_main_v2_apply, Cert.Reference12Ideal.Read.val_main_v1_apply, Cert.Reference12Ideal.Read.val_main_v0_apply]
  refine Eq.trans (shapeCast_apply (t := S1x8192x16x64) (s := S1x8192x1024) _ _ i
    (ValueIdx.ix3 ⟨0, Nat.one_pos⟩ ⟨(i 1).val, h1⟩ ⟨64 * (i 2).val + (i 3).val, by show _ < 1024; omega⟩) (by
      rw [Shape.rowMajor_val_three, Shape.rowMajor_val_four]
      show (0 * 8192 + (i 1).val) * 1024 + (64 * (i 2).val + (i 3).val) = (((i 0).val * 8192 + (i 1).val) * 16 + (i 2).val) * 64 + (i 3).val
      omega)) ?_
  refine Eq.trans (extractStridedSlice_apply _ _ _ _
    (ValueIdx.ix3 ⟨0, Nat.one_pos⟩ ⟨(i 1).val, h1⟩ ⟨0 + (64 * (i 2).val + (i 3).val), by show _ < 2560; omega⟩) (fun a => match a with
    | ⟨0, _⟩ => rfl
    | ⟨1, _⟩ => (Nat.zero_add _).symm
    | ⟨2, _⟩ => rfl)) ?_
  refine Eq.trans (broadcastInDim_apply _ _ _ _
    (ValueIdx.ix2 ⟨(i 1).val, h1⟩ ⟨0 + (64 * (i 2).val + (i 3).val), by show _ < 2560; omega⟩) (fun a => match a with
    | ⟨0, _⟩ => rfl
    | ⟨1, _⟩ => rfl)) ?_
  refine Eq.trans (extractStridedSlice_apply _ _ _ _
    (ValueIdx.ix2 ⟨(i 1).val, h1⟩ ⟨2048 + (0 + (64 * (i 2).val + (i 3).val)), by show _ < 13824; omega⟩) (fun a => match a with
    | ⟨0, _⟩ => (Nat.zero_add _).symm
    | ⟨1, _⟩ => rfl)) ?_
  refine congrArg (a0 m c) (funext fun a => Fin.ext ?_)
  match a with
  | ⟨0, _⟩ => exact e0.symm
  | ⟨1, _⟩ => show 2048 + (0 + _) = 2048 + _; rw [e1]; omega

theorem split_v8 : split m c main_v8 = Cert.Reference12Ideal.Read.val_main_v5 (a0 m c) := by
  unfold split
  simp only [List.take_succ_cons, List.take_zero]
  entry_read
  funext i
  have h0 : (i 0).val < 1 := (i 0).isLt
  have h1 : (i 1).val < 8192 := (i 1).isLt
  have h2 : (i 2).val < 4 := (i 2).isLt
  have h3 : (i 3).val < 64 := (i 3).isLt
  have e1 : ((Cert.Reference12Ideal.Read.idx_main_v5 i) 1).val = 64 * (i 2).val + (i 3).val := by show _ % 256 = _; omega
  have e0 : ((Cert.Reference12Ideal.Read.idx_main_v5 i) 0).val = (i 1).val := by show _ / _ = _; omega
  rw [Cert.Reference12Ideal.Read.val_main_v5_apply, Cert.Reference12Ideal.Read.val_main_v4_apply, Cert.Reference12Ideal.Read.val_main_v3_apply]
  refine Eq.trans (shapeCast_apply (t := S1x8192x4x64) (s := S1x8192x256) _ _ i
    (ValueIdx.ix3 ⟨0, Nat.one_pos⟩ ⟨(i 1).val, h1⟩ ⟨64 * (i 2).val + (i 3).val, by show _ < 256; omega⟩) (by
      rw [Shape.rowMajor_val_three, Shape.rowMajor_val_four]
      show (0 * 8192 + (i 1).val) * 256 + (64 * (i 2).val + (i 3).val) = (((i 0).val * 8192 + (i 1).val) * 4 + (i 2).val) * 64 + (i 3).val
      omega)) ?_
  refine Eq.trans (extractStridedSlice_apply _ _ _ _
    (ValueIdx.ix3 ⟨0, Nat.one_pos⟩ ⟨(i 1).val, h1⟩ ⟨1024 + (64 * (i 2).val + (i 3).val), by show _ < 2560; omega⟩) (fun a => match a with
    | ⟨0, _⟩ => rfl
    | ⟨1, _⟩ => (Nat.zero_add _).symm
    | ⟨2, _⟩ => rfl)) ?_
  refine Eq.trans (broadcastInDim_apply _ _ _ _
    (ValueIdx.ix2 ⟨(i 1).val, h1⟩ ⟨1024 + (64 * (i 2).val + (i 3).val), by show _ < 2560; omega⟩) (fun a => match a with
    | ⟨0, _⟩ => rfl
    | ⟨1, _⟩ => rfl)) ?_
  refine Eq.trans (extractStridedSlice_apply _ _ _ _
    (ValueIdx.ix2 ⟨(i 1).val, h1⟩ ⟨2048 + (1024 + (64 * (i 2).val + (i 3).val)), by show _ < 13824; omega⟩) (fun a => match a with
    | ⟨0, _⟩ => (Nat.zero_add _).symm
    | ⟨1, _⟩ => rfl)) ?_
  refine congrArg (a0 m c) (funext fun a => Fin.ext ?_)
  match a with
  | ⟨0, _⟩ => exact e0.symm
  | ⟨1, _⟩ => show 2048 + (1024 + _) = 3072 + _; rw [e1]; omega

theorem split_v9 : split m c main_v9 = Cert.Reference12Ideal.Read.val_main_v8 (a0 m c) := by
  unfold split
  simp only [List.take_succ_cons, List.take_zero]
  entry_read
  funext i
  have h0 : (i 0).val < 1 := (i 0).isLt
  have h1 : (i 1).val < 8192 := (i 1).isLt
  have h2 : (i 2).val < 4 := (i 2).isLt
  have h3 : (i 3).val < 64 := (i 3).isLt
  have e1 : ((Cert.Reference12Ideal.Read.idx_main_v8 i) 1).val = 64 * (i 2).val + (i 3).val := by show _ % 256 = _; omega
  have e0 : ((Cert.Reference12Ideal.Read.idx_main_v8 i) 0).val = (i 1).val := by show _ / _ = _; omega
  rw [Cert.Reference12Ideal.Read.val_main_v8_apply, Cert.Reference12Ideal.Read.val_main_v7_apply, Cert.Reference12Ideal.Read.val_main_v6_apply]
  refine Eq.trans (shapeCast_apply (t := S1x8192x4x64) (s := S1x8192x256) _ _ i
    (ValueIdx.ix3 ⟨0, Nat.one_pos⟩ ⟨(i 1).val, h1⟩ ⟨64 * (i 2).val + (i 3).val, by show _ < 256; omega⟩) (by
      rw [Shape.rowMajor_val_three, Shape.rowMajor_val_four]
      show (0 * 8192 + (i 1).val) * 256 + (64 * (i 2).val + (i 3).val) = (((i 0).val * 8192 + (i 1).val) * 4 + (i 2).val) * 64 + (i 3).val
      omega)) ?_
  refine Eq.trans (extractStridedSlice_apply _ _ _ _
    (ValueIdx.ix3 ⟨0, Nat.one_pos⟩ ⟨(i 1).val, h1⟩ ⟨1280 + (64 * (i 2).val + (i 3).val), by show _ < 2560; omega⟩) (fun a => match a with
    | ⟨0, _⟩ => rfl
    | ⟨1, _⟩ => (Nat.zero_add _).symm
    | ⟨2, _⟩ => rfl)) ?_
  refine Eq.trans (broadcastInDim_apply _ _ _ _
    (ValueIdx.ix2 ⟨(i 1).val, h1⟩ ⟨1280 + (64 * (i 2).val + (i 3).val), by show _ < 2560; omega⟩) (fun a => match a with
    | ⟨0, _⟩ => rfl
    | ⟨1, _⟩ => rfl)) ?_
  refine Eq.trans (extractStridedSlice_apply _ _ _ _
    (ValueIdx.ix2 ⟨(i 1).val, h1⟩ ⟨2048 + (1280 + (64 * (i 2).val + (i 3).val)), by show _ < 13824; omega⟩) (fun a => match a with
    | ⟨0, _⟩ => (Nat.zero_add _).symm
    | ⟨1, _⟩ => rfl)) ?_
  refine congrArg (a0 m c) (funext fun a => Fin.ext ?_)
  match a with
  | ⟨0, _⟩ => exact e0.symm
  | ⟨1, _⟩ => show 2048 + (1280 + _) = 3328 + _; rw [e1]; omega

theorem split_arg1 : split m c main_arg1 = a1 m c := by
  unfold split
  simp only [List.take_succ_cons, List.take_zero]
  entry_read
  rfl

set_option maxHeartbeats 4000000 in
theorem padK_v10 : padK m c main_v10 = Cert.Reference12Ideal.Read.val_main_v14 (a0 m c) := by
  unfold padK
  simp only [List.take_succ_cons, List.take_zero, List.drop_succ_cons, List.drop_zero]
  entry_read
  rw [split_v7]
  rfl

set_option maxHeartbeats 4000000 in
theorem padK_v13 : padK m c main_v13 = Cert.Reference12Ideal.Read.val_main_v18 (a0 m c) := by
  unfold padK
  simp only [List.take_succ_cons, List.take_zero, List.drop_succ_cons, List.drop_zero]
  entry_read
  rw [split_v8]
  rfl

set_option maxHeartbeats 4000000 in
theorem padK_v9 : padK m c main_v9 = Cert.Reference12Ideal.Read.val_main_v8 (a0 m c) := by
  unfold padK
  simp only [List.take_succ_cons, List.take_zero, List.drop_succ_cons, List.drop_zero]
  entry_read
  rw [split_v9]

set_option maxHeartbeats 4000000 in
theorem padK_arg1 : padK m c main_arg1 = a1 m c := by
  unfold padK
  simp only [List.take_succ_cons, List.take_zero, List.drop_succ_cons, List.drop_zero]
  entry_read
  rw [split_arg1]

set_option maxHeartbeats 4000000 in
theorem cutK_v14 : cutK m c main_v14 = Cert.Reference12Ideal.Read.val_main_v19 (a0 m c) := by
  unfold cutK
  simp only [List.take_succ_cons, List.take_zero, List.drop_succ_cons, List.drop_zero]
  entry_read
  rw [padK_v13]
  rfl

set_option maxHeartbeats 4000000 in
theorem cutK_v15 : cutK m c main_v15 = Cert.Reference12Ideal.Read.val_main_v20 (a0 m c) := by
  unfold cutK
  simp only [List.take_succ_cons, List.take_zero, List.drop_succ_cons, List.drop_zero]
  entry_read
  rw [padK_v13]
  rfl

set_option maxHeartbeats 4000000 in
theorem cutK_v16 : cutK m c main_v16 = Cert.Reference12Ideal.Read.val_main_v21 (a0 m c) := by
  unfold cutK
  simp only [List.take_succ_cons, List.take_zero, List.drop_succ_cons, List.drop_zero]
  entry_read
  rw [padK_v13]
  rfl

set_option maxHeartbeats 4000000 in
theorem cutK_v9 : cutK m c main_v9 = Cert.Reference12Ideal.Read.val_main_v8 (a0 m c) := by
  unfold cutK
  simp only [List.take_succ_cons, List.take_zero, List.drop_succ_cons, List.drop_zero]
  entry_read
  rw [padK_v9]

set_option maxHeartbeats 4000000 in
theorem cutK_v10 : cutK m c main_v10 = Cert.Reference12Ideal.Read.val_main_v14 (a0 m c) := by
  unfold cutK
  simp only [List.take_succ_cons, List.take_zero, List.drop_succ_cons, List.drop_zero]
  entry_read
  rw [padK_v10]

set_option maxHeartbeats 4000000 in
theorem cutK_arg1 : cutK m c main_arg1 = a1 m c := by
  unfold cutK
  simp only [List.take_succ_cons, List.take_zero, List.drop_succ_cons, List.drop_zero]
  entry_read
  rw [padK_arg1]

theorem bandK_v17 : bandK m c main_v17 = Cert.Reference12Ideal.Read.val_main_v22 (a0 m c) := by
  unfold bandK
  simp only [List.take_succ_cons, List.take_zero, List.drop_succ_cons, List.drop_zero, StableHlo.after_cons, StableHlo.after_nil]
  refine (StableHlo.nary_result (τ := τ) ![main_v14, main_v15, main_v16] main_v17 _ _ _ _).trans ?_
  show concatenate S1x128x192x4x64 2 [⟨S1x128x64x4x64, (cutK m c main_v14 : (⟨S1x128x64x4x64, .f32⟩ : BufTy).Contents (Elt Ideal))⟩, ⟨S1x128x64x4x64, (cutK m c main_v15 : (⟨S1x128x64x4x64, .f32⟩ : BufTy).Contents (Elt Ideal))⟩, ⟨S1x128x64x4x64, (cutK m c main_v16 : (⟨S1x128x64x4x64, .f32⟩ : BufTy).Contents (Elt Ideal))⟩] concatenates_S1x128x64x4x64_S1x128x64x4x64_S1x128x64x4x64_S1x128x192x4x64_d2 = _
  rw [cutK_v14, cutK_v15, cutK_v16]
  rfl

set_option maxHeartbeats 4000000 in
theorem bandK_v9 : bandK m c main_v9 = Cert.Reference12Ideal.Read.val_main_v8 (a0 m c) := by
  unfold bandK
  simp only [List.take_succ_cons, List.take_zero, List.drop_succ_cons, List.drop_zero]
  entry_read
  rw [cutK_v9]

set_option maxHeartbeats 4000000 in
theorem bandK_v10 : bandK m c main_v10 = Cert.Reference12Ideal.Read.val_main_v14 (a0 m c) := by
  unfold bandK
  simp only [List.take_succ_cons, List.take_zero, List.drop_succ_cons, List.drop_zero]
  entry_read
  rw [cutK_v10]

set_option maxHeartbeats 4000000 in
theorem bandK_arg1 : bandK m c main_arg1 = a1 m c := by
  unfold bandK
  simp only [List.take_succ_cons, List.take_zero, List.drop_succ_cons, List.drop_zero]
  entry_read
  rw [cutK_arg1]

set_option maxHeartbeats 4000000 in
theorem padV_v20 : padV m c main_v20 = Cert.Reference12Ideal.Read.val_main_v26 (a0 m c) := by
  unfold padV
  simp only [List.take_succ_cons, List.take_zero, List.drop_succ_cons, List.drop_zero]
  entry_read
  rw [bandK_v9]
  rfl

set_option maxHeartbeats 4000000 in
theorem padV_v10 : padV m c main_v10 = Cert.Reference12Ideal.Read.val_main_v14 (a0 m c) := by
  unfold padV
  simp only [List.take_succ_cons, List.take_zero, List.drop_succ_cons, List.drop_zero]
  entry_read
  rw [bandK_v10]

set_option maxHeartbeats 4000000 in
theorem padV_v17 : padV m c main_v17 = Cert.Reference12Ideal.Read.val_main_v22 (a0 m c) := by
  unfold padV
  simp only [List.take_succ_cons, List.take_zero, List.drop_succ_cons, List.drop_zero]
  entry_read
  rw [bandK_v17]

set_option maxHeartbeats 4000000 in
theorem padV_arg1 : padV m c main_arg1 = a1 m c := by
  unfold padV
  simp only [List.take_succ_cons, List.take_zero, List.drop_succ_cons, List.drop_zero]
  entry_read
  rw [bandK_arg1]

set_option maxHeartbeats 4000000 in
theorem cutV_v21 : cutV m c main_v21 = Cert.Reference12Ideal.Read.val_main_v27 (a0 m c) := by
  unfold cutV
  simp only [List.take_succ_cons, List.take_zero, List.drop_succ_cons, List.drop_zero]
  entry_read
  rw [padV_v20]
  rfl

set_option maxHeartbeats 4000000 in
theorem cutV_v22 : cutV m c main_v22 = Cert.Reference12Ideal.Read.val_main_v28 (a0 m c) := by
  unfold cutV
  simp only [List.take_succ_cons, List.take_zero, List.drop_succ_cons, List.drop_zero]
  entry_read
  rw [padV_v20]
  rfl

set_option maxHeartbeats 4000000 in
theorem cutV_v23 : cutV m c main_v23 = Cert.Reference12Ideal.Read.val_main_v29 (a0 m c) := by
  unfold cutV
  simp only [List.take_succ_cons, List.take_zero, List.drop_succ_cons, List.drop_zero]
  entry_read
  rw [padV_v20]
  rfl

set_option maxHeartbeats 4000000 in
theorem cutV_v10 : cutV m c main_v10 = Cert.Reference12Ideal.Read.val_main_v14 (a0 m c) := by
  unfold cutV
  simp only [List.take_succ_cons, List.take_zero, List.drop_succ_cons, List.drop_zero]
  entry_read
  rw [padV_v10]

set_option maxHeartbeats 4000000 in
theorem cutV_v17 : cutV m c main_v17 = Cert.Reference12Ideal.Read.val_main_v22 (a0 m c) := by
  unfold cutV
  simp only [List.take_succ_cons, List.take_zero, List.drop_succ_cons, List.drop_zero]
  entry_read
  rw [padV_v17]

set_option maxHeartbeats 4000000 in
theorem cutV_arg1 : cutV m c main_arg1 = a1 m c := by
  unfold cutV
  simp only [List.take_succ_cons, List.take_zero, List.drop_succ_cons, List.drop_zero]
  entry_read
  rw [padV_arg1]

theorem bands_v24 : bands m c main_v24 = Cert.Reference12Ideal.Read.val_main_v30 (a0 m c) := by
  unfold bands
  simp only [List.take_succ_cons, List.take_zero, List.drop_succ_cons, List.drop_zero, StableHlo.after_cons, StableHlo.after_nil]
  refine (StableHlo.nary_result (τ := τ) ![main_v21, main_v22, main_v23] main_v24 _ _ _ _).trans ?_
  show concatenate S1x128x192x4x64 2 [⟨S1x128x64x4x64, (cutV m c main_v21 : (⟨S1x128x64x4x64, .f32⟩ : BufTy).Contents (Elt Ideal))⟩, ⟨S1x128x64x4x64, (cutV m c main_v22 : (⟨S1x128x64x4x64, .f32⟩ : BufTy).Contents (Elt Ideal))⟩, ⟨S1x128x64x4x64, (cutV m c main_v23 : (⟨S1x128x64x4x64, .f32⟩ : BufTy).Contents (Elt Ideal))⟩] concatenates_S1x128x64x4x64_S1x128x64x4x64_S1x128x64x4x64_S1x128x192x4x64_d2 = _
  rw [cutV_v21, cutV_v22, cutV_v23]
  rfl

set_option maxHeartbeats 4000000 in
theorem bands_v10 : bands m c main_v10 = Cert.Reference12Ideal.Read.val_main_v14 (a0 m c) := by
  unfold bands
  simp only [List.take_succ_cons, List.take_zero, List.drop_succ_cons, List.drop_zero]
  entry_read
  rw [cutV_v10]

set_option maxHeartbeats 4000000 in
theorem bands_v17 : bands m c main_v17 = Cert.Reference12Ideal.Read.val_main_v22 (a0 m c) := by
  unfold bands
  simp only [List.take_succ_cons, List.take_zero, List.drop_succ_cons, List.drop_zero]
  entry_read
  rw [cutV_v17]

set_option maxHeartbeats 4000000 in
theorem bands_arg1 : bands m c main_arg1 = a1 m c := by
  unfold bands
  simp only [List.take_succ_cons, List.take_zero, List.drop_succ_cons, List.drop_zero]
  entry_read
  rw [cutV_arg1]

theorem scores_v28 : scores m c main_v28 = Cert.Reference12Ideal.Read.val_main_v34 (a0 m c) := by
  unfold scores
  simp only [List.drop_succ_cons, List.drop_zero]
  entry_read
  rw [bands_v17, bands_v10]
  rfl

theorem scores_v24 : scores m c main_v24 = Cert.Reference12Ideal.Read.val_main_v30 (a0 m c) := by
  unfold scores
  simp only [List.drop_succ_cons, List.drop_zero]
  entry_read
  rw [bands_v24]

theorem scores_arg1 : scores m c main_arg1 = a1 m c := by
  unfold scores
  simp only [List.drop_succ_cons, List.drop_zero]
  entry_read
  rw [bands_arg1]

theorem scores_v32 : scores m c main_v32 = Cert.Reference12Ideal.Read.val_main_v38 (F := Ideal) := by
  unfold scores
  simp only [List.drop_succ_cons, List.drop_zero]
  entry_read
  rfl

theorem scores_v34 : scores m c main_v34 = Cert.Reference12Ideal.Read.val_main_v40 (F := Ideal) := by
  unfold scores
  simp only [List.drop_succ_cons, List.drop_zero]
  entry_read
  rfl

theorem scores_c_2 : scores m c main_c_2 = Cert.Reference12Ideal.Read.val_main_c_5 (F := Ideal) := by
  unfold scores
  simp only [List.drop_succ_cons, List.drop_zero]
  entry_read
  rfl

theorem chunks_v24 : chunks m c main_v24 = Cert.Reference12Ideal.Read.val_main_v30 (a0 m c) := by
  unfold chunks
  entry_read
  rw [scores_v24]

theorem chunks_v28 : chunks m c main_v28 = Cert.Reference12Ideal.Read.val_main_v34 (a0 m c) := by
  unfold chunks
  entry_read
  rw [scores_v28]

theorem chunks_v32 : chunks m c main_v32 = Cert.Reference12Ideal.Read.val_main_v38 (F := Ideal) := by
  unfold chunks
  entry_read
  rw [scores_v32]

theorem chunks_arg1 : chunks m c main_arg1 = a1 m c := by
  unfold chunks
  entry_read
  rw [scores_arg1]

theorem chunks_v35 : chunks m c main_v35 = Cert.Reference12Ideal.Read.val_main_v41 (F := Ideal) := by
  unfold chunks
  entry_read
  rw [scores_v34, scores_c_2]
  rfl

theorem inside_v24 : inside m c main_v24 = Cert.Reference12Ideal.Read.val_main_v30 (a0 m c) := by
  unfold inside
  entry_read
  rw [chunks_v24]

theorem inside_v28 : inside m c main_v28 = Cert.Reference12Ideal.Read.val_main_v34 (a0 m c) := by
  unfold inside
  entry_read
  rw [chunks_v28]

theorem inside_arg1 : inside m c main_arg1 = a1 m c := by
  unfold inside
  entry_read
  rw [chunks_arg1]

theorem inside_v41 : inside m c main_v41 = Cert.Reference12Ideal.Read.val_main_v47 (F := Ideal) := by
  unfold inside
  entry_read
  rw [chunks_v32, chunks_v35]
  rfl

theorem inside_cst_4 : inside m c main_cst_4 = Cert.Reference12Ideal.Read.val_main_cst_7 (F := Ideal) := by
  unfold inside
  entry_read
  rfl

theorem masked_v24 : masked m c main_v24 = Cert.Reference12Ideal.Read.val_main_v30 (a0 m c) := by
  unfold masked
  entry_read
  rw [inside_v24]

theorem masked_arg1 : masked m c main_arg1 = a1 m c := by
  unfold masked
  entry_read
  rw [inside_arg1]

theorem masked_v42 : masked m c main_v42 = Cert.Reference12Ideal.Read.val_main_v48_0 (a0 m c) := by
  unfold masked
  entry_read
  rw [inside_v41, inside_v28, inside_cst_4]
  rfl

theorem sink_eq (x : (⟨S16, .f32⟩ : BufTy).Contents (Elt Ideal)) : Cert.Reference12Ideal.Read.val_main_v13 (F := Ideal) x = x := by
  funext i
  rw [Cert.Reference12Ideal.Read.val_main_v13_apply, Cert.Reference12Ideal.Read.val_main_v12_apply]
  show Ideal.ofBits .f32 0x3F800000#32 * x i = _
  rw [Ref.one_f32, EReal.coe_one, one_mul]

theorem sink_shape (x : (⟨S16, .f32⟩ : BufTy).Contents (Elt Ideal)) :
    shapeCast S1x1x4x4x1x1 x shapeCasts_S16_S1x1x4x4x1x1 = Cert.Reference12Ideal.Read.val_main_v49 (F := Ideal) x := by
  unfold Cert.Reference12Ideal.Read.val_main_v49
  rw [sink_eq]

set_option maxHeartbeats 4000000 in
theorem attended_v61 : attended m c main_v61 = Cert.Reference12Ideal.Read.val_main_v93 (a0 m c) (a1 m c) := by
  unfold attended
  entry_read
  rw [masked_v42, masked_v24, masked_arg1]
  rw [show (fun i => shapeCast main_v43.ty.shape (a1 m c) shapeCasts_S16_S1x1x4x4x1x1 i) = Cert.Reference12Ideal.Read.val_main_v49 (F := Ideal) (a1 m c) from sink_shape _]
  rfl

set_option maxHeartbeats 4000000 in
theorem attended_v67 : attended m c main_v67 = truncf (F := Ideal) .bf16 (shapeCast S8192x1024 (Cert.Reference12Ideal.Read.val_main_v93 (F := Ideal) (a0 m c) (a1 m c)) shapeCasts_S1x8192x1024_S8192x1024) bitsLt_bf16_f32 := by
  unfold attended
  entry_read
  rw [masked_v42, masked_v24, masked_arg1]
  rw [show (fun i => shapeCast main_v43.ty.shape (a1 m c) shapeCasts_S16_S1x1x4x4x1x1 i) = Cert.Reference12Ideal.Read.val_main_v49 (F := Ideal) (a1 m c) from sink_shape _]
  rfl

set_option maxHeartbeats 4000000 in
theorem attended_v65 : attended m c main_v65 = shapeCast S8192x16 (transpose S1x128x64x4x4x1 [0, 1, 4, 2, 3, 5] (Cert.Reference12Ideal.Read.val_main_v95 (F := Ideal) (a0 m c) (a1 m c)) transposes_S1x128x4x4x64x1_S1x128x64x4x4x1_0_1_4_2_3_5) shapeCasts_S1x128x64x4x4x1_S8192x16 := by
  unfold attended
  entry_read
  rw [masked_v42, masked_arg1]
  rw [show (fun i => shapeCast main_v43.ty.shape (a1 m c) shapeCasts_S16_S1x1x4x4x1x1 i) = Cert.Reference12Ideal.Read.val_main_v49 (F := Ideal) (a1 m c) from sink_shape _]
  rfl

set_option maxHeartbeats 4000000 in
theorem attended_c_7 : attended m c main_c_7 = constantI S_ 32 0#32 := by
  unfold attended
  entry_read
  rfl

theorem V_v67 : V m c main_v67 = attended m c main_v67 := by
  rw [V_eq]; entry_read; rfl

theorem pad_lse (σ : Valuation τ sig (Elt Ideal)) : StableHlo.after hostOps0_5 σ main_v68
    = pad S8192x128 ![0, 0] ![0, 112] ![0, 0] (σ main_v65 : (⟨S8192x16, .f32⟩ : BufTy).Contents (Elt Ideal))
        (sitofp (F := Ideal) .f32 (σ main_c_7 : (⟨S_, .i32⟩ : BufTy).Contents (Elt Ideal))) pads_S8192x16_S8192x128_000_01120 h_S_ := by
  entry_read
  rfl

theorem V_v68 : V m c main_v68 = pad S8192x128 ![0, 0] ![0, 112] ![0, 0]
    (shapeCast S8192x16 (transpose S1x128x64x4x4x1 [0, 1, 4, 2, 3, 5] (Cert.Reference12Ideal.Read.val_main_v95 (F := Ideal) (a0 m c) (a1 m c)) transposes_S1x128x4x4x64x1_S1x128x64x4x4x1_0_1_4_2_3_5) shapeCasts_S1x128x64x4x4x1_S8192x16)
    (sitofp (F := Ideal) .f32 (constantI S_ 32 0#32)) pads_S8192x16_S8192x128_000_01120 h_S_ := by
  rw [V_eq, pad_lse, attended_v65, attended_c_7]

/-! ## Over the reals -/

variable {m c}
variable (h : Ref.Reals (a0 m c) (a1 m c) (a2 m c))

/-- The operands as reals. -/
abbrev dt (m : (ℓ : Loc nD τ sig) → Buf (Elt Ideal) ℓ) (c : Dev nD) : Data := Ref.data (a0 m c) (a1 m c) (a2 m c)

include h

/-- The output that the backward pass is given. -/
theorem o_eq (i : S8192x1024.Idx) : V m c main_v67 i = (((dt m c).O (i 0).val ((i 1).val / 64) ((i 1).val % 64) : ℝ) : EReal) := by
  have h0 : (i 0).val < 8192 := (i 0).isLt
  have h1 : (i 1).val < 1024 := (i 1).isLt
  rw [V_v67, attended_v67]
  change shapeCast S8192x1024 (Cert.Reference12Ideal.Read.val_main_v93 (F := Ideal) (a0 m c) (a1 m c)) shapeCasts_S1x8192x1024_S8192x1024 i = _
  refine Eq.trans (shapeCast_apply (t := S8192x1024) (s := S1x8192x1024) _ _ i (ValueIdx.ix3 ⟨0, Nat.one_pos⟩ (i 0) (i 1)) (by
    rw [Shape.rowMajor_val_three, Shape.rowMajor_val_two]
    show (0 * 8192 + (i 0).val) * 1024 + (i 1).val = (i 0).val * 1024 + (i 1).val
    omega)) ?_
  exact Ref.v93 h _

/-- The rows' log-sums that the backward pass is given, by head, in a tile of 128 lanes. -/
theorem lse_eq (i : S8192x128.Idx) : V m c main_v68 i = (((if (i 1).val < 16 then (dt m c).L (i 0).val (i 1).val else 0) : ℝ) : EReal) := by
  have h0 : (i 0).val < 8192 := (i 0).isLt
  have h1 : (i 1).val < 128 := (i 1).isLt
  rw [V_v68]
  by_cases w : (i 1).val < 16
  · refine Eq.trans (pad_apply_of_inside _ _ _ _ _ _ _ _ (ValueIdx.ix2 (i 0) ⟨(i 1).val, w⟩ : S8192x16.Idx) (fun a => by
      match a with
      | ⟨0, _⟩ => show (i 0).val = 0 + (i 0).val * (0 + 1); omega
      | ⟨1, _⟩ => show (i 1).val = 0 + (i 1).val * (0 + 1); omega)) ?_
    refine Eq.trans (shapeCast_apply (t := S8192x16) (s := S1x128x64x4x4x1) _ _ _
      (Ref.ix6 (d := ![1, 128, 64, 4, 4, 1]) ⟨0, Nat.one_pos⟩ ⟨(i 0).val / 64, by show _ < 128; omega⟩ ⟨(i 0).val % 64, by show _ < 64; omega⟩
        ⟨(i 1).val / 4, by show _ < 4; omega⟩ ⟨(i 1).val % 4, by show _ < 4; omega⟩ ⟨0, Nat.one_pos⟩) (by
      rw [Ref.rowMajor_six, Shape.rowMajor_val_two]
      show ((((0 * 128 + (i 0).val / 64) * 64 + (i 0).val % 64) * 4 + (i 1).val / 4) * 4 + (i 1).val % 4) * 1 + 0 = (i 0).val * 16 + (i 1).val
      omega)) ?_
    refine Eq.trans (transpose_apply _ _ _ _
      (Ref.ix6 (d := ![1, 128, 4, 4, 64, 1]) ⟨0, Nat.one_pos⟩ ⟨(i 0).val / 64, by show _ < 128; omega⟩
        ⟨(i 1).val / 4, by show _ < 4; omega⟩ ⟨(i 1).val % 4, by show _ < 4; omega⟩ ⟨(i 0).val % 64, by show _ < 64; omega⟩ ⟨0, Nat.one_pos⟩) (fun b => by
      match b with | ⟨0, _⟩ => rfl | ⟨1, _⟩ => rfl | ⟨2, _⟩ => rfl | ⟨3, _⟩ => rfl | ⟨4, _⟩ => rfl | ⟨5, _⟩ => rfl)) ?_
    refine Eq.trans (Ref.v95 h _) ?_
    rw [if_pos w]
    show ((((dt m c).L (64 * ((i 0).val / 64) + (i 0).val % 64) (4 * ((i 1).val / 4) + (i 1).val % 4)) : ℝ) : EReal) = _
    rw [Nat.div_add_mod, Nat.div_add_mod]
  · refine Eq.trans (pad_apply_of_not_inside _ _ _ _ _ _ _ _ (1 : Fin S8192x16.rank)
      (by show ¬(0 ≤ (i 1).val ∧ ((i 1).val - 0) % (0 + 1) = 0 ∧ ((i 1).val - 0) / (0 + 1) < 16); omega)) ?_
    rw [if_neg w]
    show (((0#32 : BitVec 32).toInt : ℝ) : EReal) = _
    simp

end Cert.Own.Attn.Entry

end
-- ==== Proof.AttnBlockReal.lean ====
/- A block's values over the reals (AttnBlock, AttnReal). -/
module

public import proofs.«01_k».proof.Proof.AttnBlock
public import proofs.«01_k».proof.Proof.AttnRefIn

@[expose] public section

noncomputable section

namespace Cert.Own.Attn

open Cert.Kernel12Ideal
open Idealize.ShloMosaic Idealize.ShloMosaic.TcCoe Idealize.SL.Sem

/-- The block's operands are those of rows `256 b …` of the data; a key or a value before the sequence's first row is
    any real. -/
structure Blk.Holds (B : Blk) (X : Data) : Prop where
  sink : ∀ n : Fin 16, B.sink (ix1 n) = ((X.s n.val : ℝ) : EReal)
  q : ∀ (r : Fin 256) (h : Fin 16) (d : Fin 64), B.q (ix2 r (qcol h d)) = ((X.q (256 * B.b + r.val) h.val d.val : ℝ) : EReal)
  k : ∀ (j : Fin 384) (h : Fin 16) (d : Fin 64), ∃ x : ℝ, rows B.kp B.kc j (kcol h d) = (x : EReal) ∧ (128 ≤ 256 * B.b + j.val → x = X.k (256 * B.b + j.val) (h.val / 4) d.val)
  v : ∀ (j : Fin 384) (h : Fin 16) (d : Fin 64), ∃ x : ℝ, rows B.vp B.vc j (kcol h d) = (x : EReal) ∧ (128 ≤ 256 * B.b + j.val → x = X.v (256 * B.b + j.val) (h.val / 4) d.val)
  z : ∀ (r : Fin 256) (h : Fin 16) (d : Fin 64), B.z h r d = ((X.z (256 * B.b + r.val) h.val d.val : ℝ) : EReal)
  o : ∀ (r : Fin 256) (h : Fin 16) (d : Fin 64), B.o (ix2 r (qcol h d)) = ((X.O (256 * B.b + r.val) h.val d.val : ℝ) : EReal)
  lse : ∀ (r : Fin 256) (h : Fin 16), B.lse (ix2 r (lane h)) = ((X.L (256 * B.b + r.val) h.val : ℝ) : EReal)
  dy : ∀ (r : Fin 256) (h : Fin 16) (d : Fin 64), B.dy (ix2 r (qcol h d)) = ((X.dy (256 * B.b + r.val) h.val d.val : ℝ) : EReal)

theorem live_iff (b : ℕ) (r : Fin 256) (j : Fin 384) : live b r.val j.val ↔ sees (256 * b + r.val) (256 * b + j.val) ∧ 128 ≤ 256 * b + j.val := by
  have h := r.isLt
  have h' := j.isLt
  unfold live sees
  omega

namespace Blk

variable {B : Blk} {X : Data} (H : B.Holds X)

include H

/-- A probability, none where the row doesn't see the key. -/
theorem prob_real (h : Fin 16) (r : Fin 256) (j : Fin 384) : B.prob h r j
    = (((if sees (256 * B.b + r.val) (256 * B.b + j.val) then X.P (256 * B.b + r.val) h.val (256 * B.b + j.val) / X.D (256 * B.b + r.val) h.val else 0) : ℝ) : EReal) := by
  unfold prob
  rw [H.lse]
  by_cases l : live B.b r.val j.val
  · obtain ⟨hs, hp⟩ := (live_iff _ _ _).mp l
    have e : B.score h r j = ((∑ d : Fin 64, X.k (256 * B.b + j.val) (h.val / 4) d.val * X.q (256 * B.b + r.val) h.val d.val : ℝ) : EReal) := by
      unfold score
      rw [← Ref.coe_sum]
      refine Finset.sum_congr rfl fun d _ => ?_
      obtain ⟨x, hx, hx'⟩ := H.k j h d
      rw [hx, H.q, hx' hp, ← EReal.coe_mul, mul_comm]
    rw [if_pos l, if_pos hs, e, Ref.eighth_f32, ← EReal.coe_mul, ← EReal.coe_sub, Ideal.exp_coe, ← X.prob_eq _ _ _ hp]
    rfl
  · rw [if_neg l, EReal.bot_sub, Ideal.exp_bot]
    by_cases hs : sees (256 * B.b + r.val) (256 * B.b + j.val)
    · rw [if_pos hs, X.P_masked _ _ _ fun hp => l ((live_iff _ _ _).mpr ⟨hs, hp⟩), zero_div, EReal.coe_zero]
    · rw [if_neg hs, EReal.coe_zero]

theorem sg_real (h : Fin 16) (r : Fin 256) (d : Fin 64) : Ideal.logistic (B.z h r d) = ((X.sg (256 * B.b + r.val) h.val d.val : ℝ) : EReal) := by
  rw [H.z, Ideal.logistic_coe, Data.sg, one_div]

theorem do_real (h : Fin 16) (r : Fin 256) (d : Fin 64) : B.do' h r d = ((X.g (256 * B.b + r.val) h.val d.val : ℝ) : EReal) := by
  unfold do'
  rw [sg_real H, H.z, H.dy, ← EReal.coe_mul, ← EReal.coe_mul]
  rfl

theorem drow_real (h : Fin 16) (r : Fin 256) : B.drow h r = ((X.drow (256 * B.b + r.val) h.val : ℝ) : EReal) := by
  unfold drow Data.drow
  rw [← Ref.coe_sum]
  refine Finset.sum_congr rfl fun d _ => ?_
  rw [do_real H, H.o, ← EReal.coe_mul]

theorem dp_real (h : Fin 16) (r : Fin 256) (j : Fin 384) : ∃ x : ℝ, B.dp h r j = (x : EReal)
    ∧ (128 ≤ 256 * B.b + j.val → x = X.dP (256 * B.b + r.val) h.val (256 * B.b + j.val)) := by
  choose f hf hf' using fun d => H.v j h d
  refine ⟨∑ d : Fin 64, X.g (256 * B.b + r.val) h.val d.val * f d, ?_, fun hp => ?_⟩
  · unfold dp
    rw [← Ref.coe_sum]
    refine Finset.sum_congr rfl fun d _ => ?_
    rw [do_real H, hf, ← EReal.coe_mul]
  · unfold Data.dP
    exact Finset.sum_congr rfl fun d _ => by rw [hf' d hp]

/-- A score's gradient before the scale. -/
theorem ds_real (h : Fin 16) (r : Fin 256) (j : Fin 384) : B.ds h r j
    = (((if sees (256 * B.b + r.val) (256 * B.b + j.val) then X.ds (256 * B.b + r.val) h.val (256 * B.b + j.val) * 8 else 0) : ℝ) : EReal) := by
  obtain ⟨x, hx, hx'⟩ := dp_real H h r j
  unfold ds
  rw [prob_real H, hx, drow_real H, ← EReal.coe_sub, ← EReal.coe_mul]
  refine congrArg (fun y : ℝ => (y : EReal)) ?_
  by_cases hs : sees (256 * B.b + r.val) (256 * B.b + j.val)
  · rw [if_pos hs, if_pos hs]
    by_cases hp : 128 ≤ 256 * B.b + j.val
    · rw [hx' hp, ← X.ds_eq _ _ _ hp]
      ring
    · rw [X.P_masked _ _ _ hp, X.ds_masked _ _ _ hp]
      ring
  · rw [if_neg hs, if_neg hs, zero_mul]

/-- The gradient of the queries. -/
theorem dq_real (h : Fin 16) (r : Fin 256) (d : Fin 64) : B.dq h r d = ((X.dq (256 * B.b + r.val) h.val d.val : ℝ) : EReal) := by
  unfold dq
  choose f hf hf' using fun j => H.k j h d
  have e : ∑ j : Fin 384, B.ds h r j * rows B.kp B.kc j (kcol h d) = ((X.dq (256 * B.b + r.val) h.val d.val * 8 : ℝ) : EReal) := by
    have e1 : X.dq (256 * B.b + r.val) h.val d.val * 8
        = ∑ j : Fin 384, if sees (256 * B.b + r.val) (256 * B.b + j.val)
            then X.ds (256 * B.b + r.val) h.val (256 * B.b + j.val) * X.k (256 * B.b + j.val) (h.val / 4) d.val * 8 else 0 := by
      rw [sum_block B.b r.val r.isLt (fun p => X.ds (256 * B.b + r.val) h.val p * X.k p (h.val / 4) d.val * 8), ← Finset.sum_mul]
      rfl
    rw [e1, ← Ref.coe_sum]
    refine Finset.sum_congr rfl fun j _ => ?_
    rw [ds_real H, hf, ← EReal.coe_mul]
    refine congrArg (fun y : ℝ => (y : EReal)) ?_
    by_cases hs : sees (256 * B.b + r.val) (256 * B.b + j.val)
    · rw [if_pos hs, if_pos hs]
      by_cases hp : 128 ≤ 256 * B.b + j.val
      · rw [hf' j hp]
        ring
      · rw [X.ds_masked _ _ _ hp]
        ring
    · rw [if_neg hs, if_neg hs, zero_mul]
  rw [e, Ref.eighth_f32, ← EReal.coe_mul]
  refine congrArg (fun y : ℝ => (y : EReal)) ?_
  ring

/-- The gradient of the gate's pre-activation. -/
theorem dz_real (h : Fin 16) (r : Fin 256) (d : Fin 64) : B.dz h r d = ((X.dz (256 * B.b + r.val) h.val d.val : ℝ) : EReal) := by
  unfold dz
  rw [sg_real H, H.z, H.o, H.dy, ← EReal.coe_one, ← EReal.coe_sub, ← EReal.coe_mul, ← EReal.coe_mul, ← EReal.coe_add, ← EReal.coe_mul, ← EReal.coe_mul]
  refine congrArg (fun y : ℝ => (y : EReal)) ?_
  unfold Data.dz
  ring

theorem partK_real (h : Fin 16) (j : Fin 384) (d : Fin 64) : B.partK h j d
    = ((∑ r : Fin 256, if sees (256 * B.b + r.val) (256 * B.b + j.val)
        then X.ds (256 * B.b + r.val) h.val (256 * B.b + j.val) * X.q (256 * B.b + r.val) h.val d.val else 0 : ℝ) : EReal) := by
  unfold partK
  have e : ∑ r : Fin 256, B.ds h r j * B.q (ix2 r (qcol h d)) = ((∑ r : Fin 256, (if sees (256 * B.b + r.val) (256 * B.b + j.val)
        then X.ds (256 * B.b + r.val) h.val (256 * B.b + j.val) * X.q (256 * B.b + r.val) h.val d.val else 0) * 8 : ℝ) : EReal) := by
    rw [← Ref.coe_sum]
    refine Finset.sum_congr rfl fun r _ => ?_
    rw [ds_real H, H.q, ← EReal.coe_mul]
    refine congrArg (fun y : ℝ => (y : EReal)) ?_
    by_cases hs : sees (256 * B.b + r.val) (256 * B.b + j.val)
    · rw [if_pos hs, if_pos hs]
      ring
    · rw [if_neg hs, if_neg hs]
      ring
  rw [e, Ref.eighth_f32, ← EReal.coe_mul, ← Finset.sum_mul]
  refine congrArg (fun y : ℝ => (y : EReal)) ?_
  ring

theorem partV_real (h : Fin 16) (j : Fin 384) (d : Fin 64) : B.partV h j d
    = ((∑ r : Fin 256, if sees (256 * B.b + r.val) (256 * B.b + j.val)
        then X.g (256 * B.b + r.val) h.val d.val * (X.P (256 * B.b + r.val) h.val (256 * B.b + j.val) / X.D (256 * B.b + r.val) h.val) else 0 : ℝ) : EReal) := by
  unfold partV
  rw [← Ref.coe_sum]
  refine Finset.sum_congr rfl fun r _ => ?_
  rw [prob_real H, do_real H, ← EReal.coe_mul]
  refine congrArg (fun y : ℝ => (y : EReal)) ?_
  by_cases hs : sees (256 * B.b + r.val) (256 * B.b + j.val)
  · rw [if_pos hs, if_pos hs]
    ring
  · rw [if_neg hs, if_neg hs]
    ring

omit H in
/-- Four sums under one condition. -/
theorem sum_four (p : Fin 256 → Prop) [DecidablePred p] (f : Fin 4 → Fin 256 → ℝ) :
    (((∑ r : Fin 256, if p r then f 0 r else 0 : ℝ) : EReal) + ((∑ r : Fin 256, if p r then f 1 r else 0 : ℝ) : EReal)
      + ((∑ r : Fin 256, if p r then f 2 r else 0 : ℝ) : EReal) + ((∑ r : Fin 256, if p r then f 3 r else 0 : ℝ) : EReal))
      = ((∑ r : Fin 256, if p r then ∑ i : Fin 4, f i r else 0 : ℝ) : EReal) := by
  rw [← EReal.coe_add, ← EReal.coe_add, ← EReal.coe_add, ← Finset.sum_add_distrib, ← Finset.sum_add_distrib, ← Finset.sum_add_distrib]
  refine congrArg (fun y : ℝ => (y : EReal)) (Finset.sum_congr rfl fun r _ => ?_)
  by_cases hp : p r
  · simp only [if_pos hp, Fin.sum_univ_four]
  · simp only [if_neg hp, add_zero]

/-- The gradient of a key from the block's rows. -/
theorem accK_real (g : Fin 4) (j : Fin 384) (d : Fin 64) : B.accK g j d
    = ((∑ r : Fin 256, if sees (256 * B.b + r.val) (256 * B.b + j.val)
        then ∑ i : Fin 4, X.ds (256 * B.b + r.val) (4 * g.val + i.val) (256 * B.b + j.val) * X.q (256 * B.b + r.val) (4 * g.val + i.val) d.val else 0 : ℝ) : EReal) := by
  unfold accK
  rw [partK_real H, partK_real H, partK_real H, partK_real H]
  exact sum_four _ fun (i : Fin 4) (r : Fin 256) => X.ds (256 * B.b + r.val) (4 * g.val + i.val) (256 * B.b + j.val) * X.q (256 * B.b + r.val) (4 * g.val + i.val) d.val

/-- The gradient of a value from the block's rows. -/
theorem accV_real (g : Fin 4) (j : Fin 384) (d : Fin 64) : B.accV g j d
    = ((∑ r : Fin 256, if sees (256 * B.b + r.val) (256 * B.b + j.val)
        then ∑ i : Fin 4, X.g (256 * B.b + r.val) (4 * g.val + i.val) d.val * (X.P (256 * B.b + r.val) (4 * g.val + i.val) (256 * B.b + j.val) / X.D (256 * B.b + r.val) (4 * g.val + i.val)) else 0 : ℝ) : EReal) := by
  unfold accV
  rw [partV_real H, partV_real H, partV_real H, partV_real H]
  exact sum_four _ fun (i : Fin 4) (r : Fin 256) => X.g (256 * B.b + r.val) (4 * g.val + i.val) d.val * (X.P (256 * B.b + r.val) (4 * g.val + i.val) (256 * B.b + j.val) / X.D (256 * B.b + r.val) (4 * g.val + i.val))

/-- The gradient of the sinks from the block's rows. -/
theorem dsink_real (l : Fin 128) : B.dsink l
    = (((if l.val < 16 then ∑ r : Fin 256, X.gden (256 * B.b + r.val) l.val * X.E (256 * B.b + r.val) l.val else 0) : ℝ) : EReal) := by
  unfold dsink
  by_cases hl : l.val < 16
  · rw [dif_pos hl, if_pos hl]
    have e : ∑ r : Fin 256, Ideal.exp (B.sink (ix1 ⟨l.val, hl⟩) - B.lse (ix2 r (lane ⟨l.val, hl⟩))) * B.drow ⟨l.val, hl⟩ r
        = ((∑ r : Fin 256, -(X.gden (256 * B.b + r.val) l.val * X.E (256 * B.b + r.val) l.val) : ℝ) : EReal) := by
      rw [← Ref.coe_sum]
      refine Finset.sum_congr rfl fun r _ => ?_
      rw [H.sink, H.lse, drow_real H, ← EReal.coe_sub, Ideal.exp_coe, X.exp_sub_L, ← EReal.coe_mul]
      refine congrArg (fun y : ℝ => (y : EReal)) ?_
      rw [X.gden_eq]
      show X.E _ _ / _ * _ = _
      ring
    rw [e, Finset.sum_neg_distrib, EReal.coe_neg, sub_eq_add_neg, neg_neg, zero_add]
  · rw [dif_neg hl, if_neg hl, EReal.coe_zero]

end Blk

/-- The rows of 32 blocks, the last block first. -/
theorem sum_back (f : ℕ → ℝ) : ∑ t : Fin 8192, f t.val = ∑ k ∈ Finset.range 32, ∑ r : Fin 256, f (256 * (31 - k) + r.val) := by
  have up : ∀ n : ℕ, ∑ t ∈ Finset.range (256 * n), f t = ∑ k ∈ Finset.range n, ∑ r : Fin 256, f (256 * k + r.val) := by
    intro n
    induction n with
    | zero => rfl
    | succ n ih => rw [Nat.mul_succ, Finset.sum_range_add, ih, Finset.sum_range_succ (fun k => ∑ r : Fin 256, f (256 * k + r.val)) n, Fin.sum_univ_eq_sum_range (fun r => f (256 * n + r)) 256]
  rw [Fin.sum_univ_eq_sum_range f 8192, show (8192 : ℕ) = 256 * 32 from rfl, up]
  exact (Finset.sum_range_reflect (fun k => ∑ r : Fin 256, f (256 * k + r.val)) 32).symm

end Cert.Own.Attn

end
-- ==== Proof.AttnValue.lean ====
/- The attention's gradient: every block read off the arrays is the data's, so each result of the call is the
   reference's (AttnBlockReal, AttnEntry, AttnRefOut). -/
module

public import proofs.«01_k».proof.Proof.AttnFrame
public import proofs.«01_k».proof.Proof.AttnEntry
public import proofs.«01_k».proof.Proof.AttnBlockReal
public import Idealize.ShloMosaic.Lib.Pipeline.ValueKit
public import Idealize.ShloMosaic.Lib.Pointwise

@[expose] public section

set_option maxRecDepth 8192

noncomputable section

namespace Cert.Kernel12Ideal.Own

open Cert.Kernel12Ideal Cert.Kernel12Ideal.Gen Cert.Own.Attn
open Idealize.ShloMosaic Idealize.ShloMosaic.TcCoe Idealize.SL.Sem
open Idealize.ShloMosaic.Pipeline (Dat)

variable (m : (ℓ : Loc nD τ sig) → Buf (Elt Ideal) ℓ)

/-! ## The windows' blocks in their arrays -/

theorem idx : ∀ t : Fin cfg0.N, win0_1.index t = ![31 - t.val, 2] ∧ win0_2.index t = ![31 - t.val, 12] ∧ win0_3.index t = ![2 * (31 - t.val) - 1, 12]
    ∧ win0_4.index t = ![31 - t.val, 13] ∧ win0_5.index t = ![2 * (31 - t.val) - 1, 13] ∧ win0_6.index t = ![31 - t.val, 7] ∧ win0_7.index t = ![31 - t.val, 8]
    ∧ win0_8.index t = ![31 - t.val, 0] ∧ win0_9.index t = ![31 - t.val, 0] ∧ win0_10.index t = ![31 - t.val, 0] ∧ win0_11.index t = ![31 - t.val, 0]
    ∧ win0_12.index t = ![31 - t.val, 0] ∧ win0_13.index t = ![31 - t.val, 0] ∧ win0_14.index t = ![31 - t.val, 0] ∧ win0_15.index t = ![0, 0] ∧ win0_0.index t = ![0] :=
  (by decide +kernel : ∀ t : Fin grid0.N, _)

theorem blk0 (x : FVec Ideal S16 .f32) (t : Fin cfg0.N) (n : Fin 16) : ((cfg0.win 0).blk t).view.read (Elt Ideal) x (ix1 n) = x (ix1 n) := by
  blk_point [idx t]

theorem blk1 (x : FVec Ideal S8192x13824 .bf16) (t : Fin cfg0.N) (r : Fin 256) (n : Fin 1024) :
    (cfg0.win 1).fill (cfg0.grid.coords t) dflt0_1 (((cfg0.win 1).blk t).view.read (Elt Ideal) x) (ix2 r n)
      = x (ix2 ⟨256 * (31 - t.val) + r.val, by omega⟩ ⟨2048 + n.val, by omega⟩) := by
  unfold Pipeline.Window.fill
  rw [dif_pos (moved0_1 t _)]
  blk_point [idx t]

theorem blk2 (x : FVec Ideal S8192x13824 .bf16) (t : Fin cfg0.N) (r : Fin 256) (n : Fin 256) :
    ((cfg0.win 2).blk t).view.read (Elt Ideal) x (ix2 r n) = x (ix2 ⟨256 * (31 - t.val) + r.val, by omega⟩ ⟨3072 + n.val, by omega⟩) := by
  blk_point [idx t]

theorem blk3 (x : FVec Ideal S8192x13824 .bf16) (t : Fin cfg0.N) (r : Fin 128) (n : Fin 256) :
    ((cfg0.win 3).blk t).view.read (Elt Ideal) x (ix2 r n) = x (ix2 ⟨128 * (2 * (31 - t.val) - 1) + r.val, by omega⟩ ⟨3072 + n.val, by omega⟩) := by
  blk_point [idx t]

theorem blk4 (x : FVec Ideal S8192x13824 .bf16) (t : Fin cfg0.N) (r : Fin 256) (n : Fin 256) :
    ((cfg0.win 4).blk t).view.read (Elt Ideal) x (ix2 r n) = x (ix2 ⟨256 * (31 - t.val) + r.val, by omega⟩ ⟨3328 + n.val, by omega⟩) := by
  blk_point [idx t]

theorem blk5 (x : FVec Ideal S8192x13824 .bf16) (t : Fin cfg0.N) (r : Fin 128) (n : Fin 256) :
    ((cfg0.win 5).blk t).view.read (Elt Ideal) x (ix2 r n) = x (ix2 ⟨128 * (2 * (31 - t.val) - 1) + r.val, by omega⟩ ⟨3328 + n.val, by omega⟩) := by
  blk_point [idx t]

theorem blk6 (x : FVec Ideal S8192x13824 .bf16) (t : Fin cfg0.N) (r : Fin 256) (n : Fin 512) :
    ((cfg0.win 6).blk t).view.read (Elt Ideal) x (ix2 r n) = x (ix2 ⟨256 * (31 - t.val) + r.val, by omega⟩ ⟨3584 + n.val, by omega⟩) := by
  blk_point [idx t]

theorem blk7 (x : FVec Ideal S8192x13824 .bf16) (t : Fin cfg0.N) (r : Fin 256) (n : Fin 512) :
    ((cfg0.win 7).blk t).view.read (Elt Ideal) x (ix2 r n) = x (ix2 ⟨256 * (31 - t.val) + r.val, by omega⟩ ⟨4096 + n.val, by omega⟩) := by
  blk_point [idx t]

theorem blk8 (x : FVec Ideal S8192x1024 .bf16) (t : Fin cfg0.N) (r : Fin 256) (n : Fin 1024) :
    ((cfg0.win 8).blk t).view.read (Elt Ideal) x (ix2 r n) = x (ix2 ⟨256 * (31 - t.val) + r.val, by omega⟩ n) := by
  blk_point [idx t]

theorem blk9 (x : FVec Ideal S8192x128 .f32) (t : Fin cfg0.N) (r : Fin 256) (n : Fin 128) :
    ((cfg0.win 9).blk t).view.read (Elt Ideal) x (ix2 r n) = x (ix2 ⟨256 * (31 - t.val) + r.val, by omega⟩ n) := by
  blk_point [idx t]

theorem blk10 (x : FVec Ideal S8192x1024 .bf16) (t : Fin cfg0.N) (r : Fin 256) (n : Fin 1024) :
    ((cfg0.win 10).blk t).view.read (Elt Ideal) x (ix2 r n) = x (ix2 ⟨256 * (31 - t.val) + r.val, by omega⟩ n) := by
  blk_point [idx t]

/-! ## The block at a point -/

theorem b_eq (c : Dev nD) (t : Fin cfg0.N) : (blkAt m c t).b = 31 - t.val := by
  show 31 - (grid0.coords t 0).val = _
  rw [coord_val]

variable {m}
variable {c : Dev nD} (h : Ref.Reals (Entry.a0 m c) (Entry.a1 m c) (Entry.a2 m c))

include h

theorem proj_at (i : S8192x13824.Idx) (o : ℕ) (n : ℕ) (e : (i 1).val = o + n) (lo : 2048 ≤ o + n) (hi : o + n < 4608) :
    Entry.a0 m c i = ((Ref.rd (Entry.a0 m c) (i 0).val (o + n) : ℝ) : EReal) := by
  rw [Ref.rd_eq h i (by omega) (by omega), e]

set_option maxHeartbeats 1600000 in
/-- The block's keys. -/
theorem k_at (t : Fin cfg0.N) (j : Fin 384) (e : Fin 16) (d : Fin 64) : ∃ x : ℝ, rows (blkAt m c t).kp (blkAt m c t).kc j (kcol e d) = (x : EReal)
    ∧ (128 ≤ 256 * (31 - t.val) + j.val → x = (Entry.dt m c).k (256 * (31 - t.val) + j.val) (e.val / 4) d.val) := by
  have ht : t.val < 32 := Nat.lt_of_lt_of_eq t.isLt N_0
  have hd := d.isLt
  have he := e.isLt
  have hj := j.isLt
  have hk : (kcol e d).val = 64 * (e.val / 4) + d.val := off_eq _ _
  have a0 := V_main_arg0 m c
  unfold rows
  by_cases p : j.val < 128
  · rw [dif_pos p]
    refine ⟨Ref.rd (Entry.a0 m c) (128 * (2 * (31 - t.val) - 1) + j.val) (3072 + (64 * (e.val / 4) + d.val)), ?_, fun hp => ?_⟩
    · show ((cfg0.win 3).blk t).view.read (Elt Ideal) (V m c main_arg0) (ix2 ⟨j.val, p⟩ (kcol e d)) = _
      rw [a0]
      refine (blk3 _ t ⟨j.val, p⟩ (kcol e d)).trans ?_
      exact proj_at h _ 3072 (64 * (e.val / 4) + d.val) (by show 3072 + (kcol e d).val = _; rw [hk]) (by omega) (by omega)
    · show _ = if 128 ≤ 256 * (31 - t.val) + j.val then Ref.rd (Entry.a0 m c) (256 * (31 - t.val) + j.val - 128) (3072 + (64 * (e.val / 4) + d.val)) else 0
      rw [if_pos hp, show 128 * (2 * (31 - t.val) - 1) + j.val = 256 * (31 - t.val) + j.val - 128 by omega]
  · rw [dif_neg p]
    refine ⟨Ref.rd (Entry.a0 m c) (256 * (31 - t.val) + (j.val - 128)) (3072 + (64 * (e.val / 4) + d.val)), ?_, fun hp => ?_⟩
    · show ((cfg0.win 2).blk t).view.read (Elt Ideal) (V m c main_arg0) (ix2 ⟨j.val - 128, by omega⟩ (kcol e d)) = _
      rw [a0]
      refine (blk2 _ t ⟨j.val - 128, by omega⟩ (kcol e d)).trans ?_
      exact proj_at h _ 3072 (64 * (e.val / 4) + d.val) (by show 3072 + (kcol e d).val = _; rw [hk]) (by omega) (by omega)
    · show _ = if 128 ≤ 256 * (31 - t.val) + j.val then Ref.rd (Entry.a0 m c) (256 * (31 - t.val) + j.val - 128) (3072 + (64 * (e.val / 4) + d.val)) else 0
      rw [if_pos hp, show 256 * (31 - t.val) + (j.val - 128) = 256 * (31 - t.val) + j.val - 128 by omega]

set_option maxHeartbeats 1600000 in
/-- The block's values. -/
theorem v_at (t : Fin cfg0.N) (j : Fin 384) (e : Fin 16) (d : Fin 64) : ∃ x : ℝ, rows (blkAt m c t).vp (blkAt m c t).vc j (kcol e d) = (x : EReal)
    ∧ (128 ≤ 256 * (31 - t.val) + j.val → x = (Entry.dt m c).v (256 * (31 - t.val) + j.val) (e.val / 4) d.val) := by
  have ht : t.val < 32 := Nat.lt_of_lt_of_eq t.isLt N_0
  have hd := d.isLt
  have he := e.isLt
  have hj := j.isLt
  have hk : (kcol e d).val = 64 * (e.val / 4) + d.val := off_eq _ _
  have a0 := V_main_arg0 m c
  unfold rows
  by_cases p : j.val < 128
  · rw [dif_pos p]
    refine ⟨Ref.rd (Entry.a0 m c) (128 * (2 * (31 - t.val) - 1) + j.val) (3328 + (64 * (e.val / 4) + d.val)), ?_, fun hp => ?_⟩
    · show ((cfg0.win 5).blk t).view.read (Elt Ideal) (V m c main_arg0) (ix2 ⟨j.val, p⟩ (kcol e d)) = _
      rw [a0]
      refine (blk5 _ t ⟨j.val, p⟩ (kcol e d)).trans ?_
      exact proj_at h _ 3328 (64 * (e.val / 4) + d.val) (by show 3328 + (kcol e d).val = _; rw [hk]) (by omega) (by omega)
    · show _ = if 128 ≤ 256 * (31 - t.val) + j.val then Ref.rd (Entry.a0 m c) (256 * (31 - t.val) + j.val - 128) (3328 + (64 * (e.val / 4) + d.val)) else 0
      rw [if_pos hp, show 128 * (2 * (31 - t.val) - 1) + j.val = 256 * (31 - t.val) + j.val - 128 by omega]
  · rw [dif_neg p]
    refine ⟨Ref.rd (Entry.a0 m c) (256 * (31 - t.val) + (j.val - 128)) (3328 + (64 * (e.val / 4) + d.val)), ?_, fun hp => ?_⟩
    · show ((cfg0.win 4).blk t).view.read (Elt Ideal) (V m c main_arg0) (ix2 ⟨j.val - 128, by omega⟩ (kcol e d)) = _
      rw [a0]
      refine (blk4 _ t ⟨j.val - 128, by omega⟩ (kcol e d)).trans ?_
      exact proj_at h _ 3328 (64 * (e.val / 4) + d.val) (by show 3328 + (kcol e d).val = _; rw [hk]) (by omega) (by omega)
    · show _ = if 128 ≤ 256 * (31 - t.val) + j.val then Ref.rd (Entry.a0 m c) (256 * (31 - t.val) + j.val - 128) (3328 + (64 * (e.val / 4) + d.val)) else 0
      rw [if_pos hp, show 256 * (31 - t.val) + (j.val - 128) = 256 * (31 - t.val) + j.val - 128 by omega]

set_option maxHeartbeats 1600000 in
theorem sink_at (t : Fin cfg0.N) (n : Fin 16) : (blkAt m c t).sink (ix1 n) = (((Entry.dt m c).s n.val : ℝ) : EReal) := by
  have ht : t.val < 32 := Nat.lt_of_lt_of_eq t.isLt N_0
  have a1 := V_main_arg1 m c
  show ((cfg0.win 0).blk t).view.read (Elt Ideal) (V m c main_arg1) (ix1 n) = _
  rw [a1]
  exact (blk0 _ t n).trans (Ref.rds_eq h _)

set_option maxHeartbeats 1600000 in
theorem q_at (t : Fin cfg0.N) (r : Fin 256) (e : Fin 16) (d : Fin 64) : (blkAt m c t).q (ix2 r (qcol e d)) = (((Entry.dt m c).q (256 * (31 - t.val) + r.val) e.val d.val : ℝ) : EReal) := by
  have ht : t.val < 32 := Nat.lt_of_lt_of_eq t.isLt N_0
  have a0 := V_main_arg0 m c
  have hd := d.isLt
  have he := e.isLt
  have hk : (qcol e d).val = 64 * e.val + d.val := off_eq _ _
  show (cfg0.win 1).fill (cfg0.grid.coords t) dflt0_1 (((cfg0.win 1).blk t).view.read (Elt Ideal) (V m c main_arg0)) (ix2 r (qcol e d)) = _
  rw [a0]
  refine (blk1 _ t r (qcol e d)).trans ?_
  exact proj_at h _ 2048 (64 * e.val + d.val) (by show 2048 + (qcol e d).val = _; rw [hk]) (by omega) (by omega)

set_option maxHeartbeats 1600000 in
theorem z_at (t : Fin cfg0.N) (r : Fin 256) (e : Fin 16) (d : Fin 64) : (blkAt m c t).z e r d = (((Entry.dt m c).z (256 * (31 - t.val) + r.val) e.val d.val : ℝ) : EReal) := by
  have ht : t.val < 32 := Nat.lt_of_lt_of_eq t.isLt N_0
  have a0 := V_main_arg0 m c
  have hd := d.isLt
  have he := e.isLt
  have hk : (zcol e d).val = 64 * (e.val % 8) + d.val := off_eq _ _
  unfold Blk.z
  by_cases p : e.val < 8
  · rw [if_pos p]
    show ((cfg0.win 6).blk t).view.read (Elt Ideal) (V m c main_arg0) (ix2 r (zcol e d)) = _
    rw [a0]
    refine (blk6 _ t r (zcol e d)).trans ?_
    exact proj_at h _ 3584 (64 * e.val + d.val) (by show 3584 + (zcol e d).val = _; rw [hk]; omega) (by omega) (by omega)
  · rw [if_neg p]
    show ((cfg0.win 7).blk t).view.read (Elt Ideal) (V m c main_arg0) (ix2 r (zcol e d)) = _
    rw [a0]
    refine (blk7 _ t r (zcol e d)).trans ?_
    exact proj_at h _ 3584 (64 * e.val + d.val) (by show 4096 + (zcol e d).val = _; rw [hk]; omega) (by omega) (by omega)

set_option maxHeartbeats 1600000 in
theorem o_at (t : Fin cfg0.N) (r : Fin 256) (e : Fin 16) (d : Fin 64) : (blkAt m c t).o (ix2 r (qcol e d)) = (((Entry.dt m c).O (256 * (31 - t.val) + r.val) e.val d.val : ℝ) : EReal) := by
  have ht : t.val < 32 := Nat.lt_of_lt_of_eq t.isLt N_0
  have hd := d.isLt
  have he := e.isLt
  have hk : (qcol e d).val = 64 * e.val + d.val := off_eq _ _
  show ((cfg0.win 8).blk t).view.read (Elt Ideal) (V m c (Pipeline.arrRef spec0 8)) (ix2 r (qcol e d)) = _
  refine (blk8 _ t r (qcol e d)).trans ?_
  refine (Entry.o_eq h _).trans ?_
  show (((Entry.dt m c).O (256 * (31 - t.val) + r.val) ((qcol e d).val / 64) ((qcol e d).val % 64) : ℝ) : EReal) = _
  rw [hk, show (64 * e.val + d.val) / 64 = e.val by omega, show (64 * e.val + d.val) % 64 = d.val by omega]

set_option maxHeartbeats 1600000 in
theorem lse_at (t : Fin cfg0.N) (r : Fin 256) (e : Fin 16) : (blkAt m c t).lse (ix2 r (lane e)) = (((Entry.dt m c).L (256 * (31 - t.val) + r.val) e.val : ℝ) : EReal) := by
  have ht : t.val < 32 := Nat.lt_of_lt_of_eq t.isLt N_0
  have he := e.isLt
  show ((cfg0.win 9).blk t).view.read (Elt Ideal) (V m c (Pipeline.arrRef spec0 9)) (ix2 r (lane e)) = _
  refine (blk9 _ t r (lane e)).trans ?_
  refine (Entry.lse_eq h _).trans ?_
  show (((if e.val < 16 then (Entry.dt m c).L (256 * (31 - t.val) + r.val) e.val else 0) : ℝ) : EReal) = _
  rw [if_pos he]

set_option maxHeartbeats 1600000 in
theorem dy_at (t : Fin cfg0.N) (r : Fin 256) (e : Fin 16) (d : Fin 64) : (blkAt m c t).dy (ix2 r (qcol e d)) = (((Entry.dt m c).dy (256 * (31 - t.val) + r.val) e.val d.val : ℝ) : EReal) := by
  have ht : t.val < 32 := Nat.lt_of_lt_of_eq t.isLt N_0
  have a2 := V_main_arg2 m c
  have hk : (qcol e d).val = 64 * e.val + d.val := off_eq _ _
  show ((cfg0.win 10).blk t).view.read (Elt Ideal) (V m c main_arg2) (ix2 r (qcol e d)) = _
  rw [a2]
  refine (blk10 _ t r (qcol e d)).trans ((Ref.rdy_eq h _).trans ?_)
  show ((Ref.rdy (Entry.a2 m c) (256 * (31 - t.val) + r.val) (qcol e d).val : ℝ) : EReal) = _
  rw [hk]
  rfl

/-- The block at a point holds the data of its rows. -/
theorem holds (t : Fin cfg0.N) : (blkAt m c t).Holds (Entry.dt m c) := by
  constructor
  · exact sink_at h t
  · rw [b_eq]
    exact q_at h t
  · rw [b_eq]
    exact k_at h t
  · rw [b_eq]
    exact v_at h t
  · rw [b_eq]
    intro r e d
    exact z_at h t r e d
  · rw [b_eq]
    exact o_at h t
  · rw [b_eq]
    exact lse_at h t
  · rw [b_eq]
    exact dy_at h t

end Cert.Kernel12Ideal.Own

end
-- ==== Proof.AttnRefBwd.lean ====
/- The reference's stages over the reals, from the output's gradient to the scores' (AttnRefFwd, AttnReal). -/
module

public import proofs.«01_k».proof.Proof.AttnRefFwd

@[expose] public section

set_option maxRecDepth 8192

noncomputable section

namespace Cert.Own.Attn.Ref

open Idealize.ShloMosaic Idealize.ShloMosaic.ValueIdx
open Cert.Reference12Ideal Cert.Reference12Ideal.Gen Cert.Reference12Ideal.Read

variable {a0 : (⟨S8192x13824, .bf16⟩ : BufTy).Contents (Elt Ideal)} {a1 : (⟨S16, .f32⟩ : BufTy).Contents (Elt Ideal)}
  {a2 : (⟨S8192x1024, .bf16⟩ : BufTy).Contents (Elt Ideal)}

/-! ## Sums over a row's axes -/

theorem drop14 (i : S1x128x4x4x64x1.Idx) (j : S1x4x4x1.Idx) (e : reducesTo_S1x128x4x4x64x1_S1x4x4x1_d1_4.drop i = j) :
    (i 2).val = (j 1).val ∧ (i 3).val = (j 2).val :=
  ⟨congrArg Fin.val (congrFun e 1), congrArg Fin.val (congrFun e 2)⟩

/-- A sum over the chunks and over their rows is the sum over the sequence. -/
theorem sum14 (x : S1x128x4x4x64x1.Idx → EReal) (j : S1x4x4x1.Idx) (f : ℕ → ℝ)
    (hx : ∀ i : S1x128x4x4x64x1.Idx, (i 2).val = (j 1).val → (i 3).val = (j 2).val → x i = ((f (64 * (i 1).val + (i 4).val) : ℝ) : EReal)) :
    Ideal.hostReduceAdd reducesTo_S1x128x4x4x64x1_S1x4x4x1_d1_4 x 0 j = ((∑ t : Fin 8192, f t.val : ℝ) : EReal) := by
  have j1 : (j 1).val < 4 := (j 1).isLt
  have j2 : (j 2).val < 4 := (j 2).isLt
  unfold Ideal.hostReduceAdd
  rw [zero_add, ← coe_sum]
  refine Finset.sum_bij' (fun i _ => (⟨64 * (i 1).val + (i 4).val, by
      have h1 : (i 1).val < 128 := (i 1).isLt
      have h4 : (i 4).val < 64 := (i 4).isLt
      omega⟩ : Fin 8192))
    (fun t _ => row6 (t.val / 64) (j 1).val (j 2).val (t.val % 64) (by have := t.isLt; omega) j1 j2 (by omega)) ?_ ?_ ?_ ?_ ?_
  · exact fun i _ => Finset.mem_univ _
  · intro t _
    refine Finset.mem_filter.mpr ⟨Finset.mem_univ _, funext fun a => Fin.ext ?_⟩
    have j0 : (j 0).val < 1 := (j 0).isLt
    have j3 : (j 3).val < 1 := (j 3).isLt
    match a with
    | ⟨0, _⟩ => show 0 = (j 0).val; omega
    | ⟨1, _⟩ => rfl
    | ⟨2, _⟩ => rfl
    | ⟨3, _⟩ => show 0 = (j 3).val; omega
  · intro i hi
    obtain ⟨e2, e3⟩ := drop14 i j (Finset.mem_filter.mp hi).2
    have h0 : (i 0).val < 1 := (i 0).isLt
    have h4 : (i 4).val < 64 := (i 4).isLt
    have h5 : (i 5).val < 1 := (i 5).isLt
    funext a
    apply Fin.ext
    match a with
    | ⟨0, _⟩ => show 0 = (i 0).val; omega
    | ⟨1, _⟩ => show (64 * (i 1).val + (i 4).val) / 64 = (i 1).val; omega
    | ⟨2, _⟩ => exact e2.symm
    | ⟨3, _⟩ => exact e3.symm
    | ⟨4, _⟩ => show (64 * (i 1).val + (i 4).val) % 64 = (i 4).val; omega
    | ⟨5, _⟩ => show 0 = (i 5).val; omega
  · intro t _
    apply Fin.ext
    show 64 * (t.val / 64) + t.val % 64 = t.val
    omega
  · intro i hi
    obtain ⟨e2, e3⟩ := drop14 i j (Finset.mem_filter.mp hi).2
    exact hx i e2 e3

/-- A sum over two axes of extent one is its only term. -/
theorem sum05 (x : S1x128x4x4x64x1.Idx → EReal) (j : S128x4x4x64.Idx) (y : EReal)
    (hx : ∀ i : S1x128x4x4x64x1.Idx, (i 1).val = (j 0).val → (i 2).val = (j 1).val → (i 3).val = (j 2).val → (i 4).val = (j 3).val → x i = y) :
    Ideal.hostReduceAdd reducesTo_S1x128x4x4x64x1_S128x4x4x64_d0_5 x 0 j = y := by
  unfold Ideal.hostReduceAdd
  rw [zero_add]
  have hi0 : row6 (j 0).val (j 1).val (j 2).val (j 3).val (j 0).isLt (j 1).isLt (j 2).isLt (j 3).isLt
      ∈ Finset.univ.filter (fun i => reducesTo_S1x128x4x4x64x1_S128x4x4x64_d0_5.drop i = j) :=
    Finset.mem_filter.mpr ⟨Finset.mem_univ _, funext fun a => Fin.ext (by
      match a with | ⟨0, _⟩ => rfl | ⟨1, _⟩ => rfl | ⟨2, _⟩ => rfl | ⟨3, _⟩ => rfl)⟩
  rw [Finset.sum_eq_single_of_mem _ hi0]
  · exact hx _ rfl rfl rfl rfl
  · intro i hi ne
    have e := (Finset.mem_filter.mp hi).2
    have h0 : (i 0).val < 1 := (i 0).isLt
    have h5 : (i 5).val < 1 := (i 5).isLt
    refine absurd (funext fun a => Fin.ext ?_) ne
    match a with
    | ⟨0, _⟩ => show (i 0).val = 0; omega
    | ⟨1, _⟩ => exact congrArg Fin.val (congrFun e 0)
    | ⟨2, _⟩ => exact congrArg Fin.val (congrFun e 1)
    | ⟨3, _⟩ => exact congrArg Fin.val (congrFun e 2)
    | ⟨4, _⟩ => exact congrArg Fin.val (congrFun e 3)
    | ⟨5, _⟩ => show (i 5).val = 0; omega

theorem neg_real (x : ℝ) : FloatOps.hostNegf (F := Ideal) (φ := .f32) (x : EReal) = ((-x : ℝ) : EReal) := (EReal.coe_neg x).symm
theorem mul_real (x y : ℝ) : FloatOps.mulf (F := Ideal) (φ := .f32) (x : EReal) (y : EReal) = ((x * y : ℝ) : EReal) := (EReal.coe_mul x y).symm
theorem add_real (x y : ℝ) : FloatOps.addf (F := Ideal) (φ := .f32) (x : EReal) (y : EReal) = ((x + y : ℝ) : EReal) := (EReal.coe_add x y).symm
theorem sub_real (x y : ℝ) : FloatOps.subf (F := Ideal) (φ := .f32) (x : EReal) (y : EReal) = ((x - y : ℝ) : EReal) := (EReal.coe_sub x y).symm
theorem exp_real (x : ℝ) : FloatOps.hostUnary (F := Ideal) (φ := .f32) .exp (x : EReal) = ((Real.exp x : ℝ) : EReal) := Ideal.exp_coe x
theorem quot_real (x y : ℝ) (h : y ≠ 0) : FloatOps.hostDivf (F := Ideal) (φ := .f32) (x : EReal) (y : EReal) = ((x / y : ℝ) : EReal) := div_real x y h
theorem zero_mul_any (y : EReal) : FloatOps.mulf (F := Ideal) (φ := .f32) ((0 : ℝ) : EReal) y = ((0 : ℝ) : EReal) := zero_mul y

section Stages
variable (h : Reals a0 a1 a2)
include h

/-! ## The gate and its gradient -/

theorem v96_2 (i : S1x8192x1024.Idx) : val_main_v96_2 (F := Ideal) a0 i
    = (((data a0 a1 a2).sg (i 1).val ((i 2).val / 64) ((i 2).val % 64) : ℝ) : EReal) := by
  have e1 : val_main_call2_v4 (F := Ideal) i = ((1 : ℝ) : EReal) := (val_main_call2_v4_apply i).trans one_f32
  have e2 : val_main_call2_v2 (F := Ideal) i = ((1 : ℝ) : EReal) := (val_main_call2_v2_apply i).trans one_f32
  rw [val_main_v96_2_apply, val_main_call2_v3_apply, val_main_call2_v1_apply, val_main_call2_v0_apply, e1, e2, v11 h, neg_real, exp_real,
    add_real, quot_real _ _ (by positivity)]
  rfl

theorem v99 (i : S1x8192x1024.Idx) : val_main_v99 (F := Ideal) a2 i
    = (((data a0 a1 a2).dy (i 1).val ((i 2).val / 64) ((i 2).val % 64) : ℝ) : EReal) := by
  have e : 64 * ((i 2).val / 64) + (i 2).val % 64 = (i 2).val := by omega
  refine (val_main_v99_apply a2 i).trans ((val_main_v98_apply a2 _).trans ((rdy_eq h _).trans ?_))
  show ((rdy a2 (i 1).val (i 2).val : ℝ) : EReal) = ((rdy a2 (i 1).val (64 * ((i 2).val / 64) + (i 2).val % 64) : ℝ) : EReal)
  rw [e]

theorem v101 (i : S1x8192x1024.Idx) : val_main_v101 (F := Ideal) a0 a2 i
    = (((data a0 a1 a2).g (i 1).val ((i 2).val / 64) ((i 2).val % 64) : ℝ) : EReal) := by
  rw [val_main_v101_apply, val_main_v96_0_apply, v99 h, v11 h, v96_2 h, mul_real, mul_real]
  rfl

theorem v102 (i : S1x8192x1024.Idx) : val_main_v102 (F := Ideal) a0 a1 a2 i
    = (((data a0 a1 a2).dz (i 1).val ((i 2).val / 64) ((i 2).val % 64) : ℝ) : EReal) := by
  have e1 : val_main_call2_v6 (F := Ideal) i = ((1 : ℝ) : EReal) := (val_main_call2_v6_apply i).trans one_f32
  rw [val_main_v102_apply, val_main_call3_v1_apply, val_main_call3_v2_apply, val_main_call3_v0_apply, val_main_v100_apply,
    val_main_v96_1_apply, val_main_call2_v7_apply, e1, v93 h, v99 h, v11 h, v96_2 h, sub_real, mul_real, mul_real, mul_real, mul_real,
    mul_real, add_real]
  rfl

theorem v103 (i : S1x128x64x4x4x64.Idx) : val_main_v103 (F := Ideal) a0 a2 i
    = (((data a0 a1 a2).g (64 * (i 1).val + (i 2).val) (4 * (i 3).val + (i 4).val) (i 5).val : ℝ) : EReal) := by
  have h0 : (i 0).val < 1 := (i 0).isLt
  have h1 : (i 1).val < 128 := (i 1).isLt
  have h2 : (i 2).val < 64 := (i 2).isLt
  have h3 : (i 3).val < 4 := (i 3).isLt
  have h4 : (i 4).val < 4 := (i 4).isLt
  have h5 : (i 5).val < 64 := (i 5).isLt
  unfold val_main_v103
  rw [shapeCast_apply (t := S1x128x64x4x4x64) (s := S1x8192x1024) _ _ i
    (ValueIdx.ix3 ⟨0, Nat.one_pos⟩ ⟨64 * (i 1).val + (i 2).val, by omega⟩ ⟨64 * (4 * (i 3).val + (i 4).val) + (i 5).val, by omega⟩)
    (by
      rw [Shape.rowMajor_val_three, rowMajor_six]
      show (0 * 8192 + (64 * (i 1).val + (i 2).val)) * 1024 + (64 * (4 * (i 3).val + (i 4).val) + (i 5).val)
        = (((((i 0).val * 128 + (i 1).val) * 64 + (i 2).val) * 4 + (i 3).val) * 4 + (i 4).val) * 64 + (i 5).val
      omega), v101 h]
  show (((data a0 a1 a2).g (64 * (i 1).val + (i 2).val) ((64 * (4 * (i 3).val + (i 4).val) + (i 5).val) / 64)
    ((64 * (4 * (i 3).val + (i 4).val) + (i 5).val) % 64) : ℝ) : EReal) = _
  rw [show (64 * (4 * (i 3).val + (i 4).val) + (i 5).val) / 64 = 4 * (i 3).val + (i 4).val from by omega,
    show (64 * (4 * (i 3).val + (i 4).val) + (i 5).val) % 64 = (i 5).val from by omega]

theorem v104 (i : S1x128x4x64x4x64.Idx) : val_main_v104 (F := Ideal) a0 a2 i
    = (((data a0 a1 a2).g (64 * (i 1).val + (i 5).val) (4 * (i 2).val + (i 4).val) (i 3).val : ℝ) : EReal) :=
  (val_main_v104_apply a0 a2 i).trans (v103 h _)

/-! ## The scores' gradient -/

theorem v105 (i : S1x128x4x4x64x192.Idx) : val_main_v105 (F := Ideal) a0 a2 i
    = (((data a0 a1 a2).dP (64 * (i 1).val + (i 4).val) (4 * (i 2).val + (i 3).val) (64 * (i 1).val + (i 5).val) : ℝ) : EReal) := by
  have h3 : (i 3).val < 4 := (i 3).isLt
  have e : (4 * (i 2).val + (i 3).val) / 4 = (i 2).val := by omega
  rw [val_main_v105_apply]
  unfold Data.dP
  rw [e]
  exact (Finset.sum_congr rfl fun d _ => (congrArg₂ (fun x y : EReal => x * y) (v104 h _) (v30 h _)).trans (EReal.coe_mul _ _).symm).trans (coe_sum _)

theorem v110 (i : S1x128x4x4x64x192.Idx) : val_main_v110 (F := Ideal) a0 a1 a2 i
    = (((data a0 a1 a2).dP (64 * (i 1).val + (i 4).val) (4 * (i 2).val + (i 3).val) (64 * (i 1).val + (i 5).val)
        * (1 / ((data a0 a1 a2).D (64 * (i 1).val + (i 4).val) (4 * (i 2).val + (i 3).val) * (data a0 a1 a2).D (64 * (i 1).val + (i 4).val) (4 * (i 2).val + (i 3).val)))
        * (data a0 a1 a2).P (64 * (i 1).val + (i 4).val) (4 * (i 2).val + (i 3).val) (64 * (i 1).val + (i 5).val) : ℝ) : EReal) := by
  have e := (val_main_v108_apply (F := Ideal) a0 a1 i).trans (v90 h _)
  rw [val_main_v110_apply, val_main_v109_apply, e, v105 h, v79 h]
  exact (congrArg (fun x : EReal => FloatOps.mulf (F := Ideal) (φ := .f32) x _) (mul_real _ _)).trans (mul_real _ _)

theorem v113 (i : S1x128x4x4x64x1.Idx) : val_main_v113 (F := Ideal) a0 a1 a2 i
    = (((data a0 a1 a2).gden (64 * (i 1).val + (i 4).val) (4 * (i 2).val + (i 3).val) : ℝ) : EReal) := by
  have h0 : (i 0).val < 1 := (i 0).isLt
  have h4 : (i 4).val < 64 := (i 4).isLt
  have h5 : (i 5).val < 1 := (i 5).isLt
  have e : (64 * (i 1).val + (i 4).val) / 64 = (i 1).val := by omega
  have e0 : val_main_cst_18 (F := Ideal) (Shape.Idx.first h_S_) = ((0 : ℝ) : EReal) := zero_f32
  have e1 : val_main_v112 (F := Ideal) a0 a1 a2 i = val_main_v111 (F := Ideal) a0 a1 a2
      (ValueIdx.ix5 ⟨(i 0).val, h0⟩ ⟨(i 1).val, (i 1).isLt⟩ ⟨(i 2).val, (i 2).isLt⟩ ⟨(i 3).val, (i 3).isLt⟩ ⟨(i 4).val, h4⟩) := by
    unfold val_main_v112
    exact shapeCast_apply (t := S1x128x4x4x64x1) (s := S1x128x4x4x64) _ _ i _ (by
      rw [Shape.rowMajor_val_five, rowMajor_six]
      show ((((i 0).val * 128 + (i 1).val) * 4 + (i 2).val) * 4 + (i 3).val) * 64 + (i 4).val
        = (((((i 0).val * 128 + (i 1).val) * 4 + (i 2).val) * 4 + (i 3).val) * 64 + (i 4).val) * 1 + (i 5).val
      omega)
  rw [val_main_v113_apply, e1, val_main_v111_apply, e0, EReal.coe_zero, zero_add]
  unfold Data.gden key
  rw [e]
  refine Eq.trans (congrArg (FloatOps.hostNegf (F := Ideal) (φ := .f32)) ?_) (neg_real _)
  exact (Finset.sum_congr rfl fun k _ => v110 h _).trans (coe_sum _)

theorem v116 (i : S1x128x4x4x64x1.Idx) : val_main_v116 (F := Ideal) a0 a1 a2 i
    = (((data a0 a1 a2).gden (64 * (i 1).val + (i 4).val) (4 * (i 2).val + (i 3).val)
        * (data a0 a1 a2).E (64 * (i 1).val + (i 4).val) (4 * (i 2).val + (i 3).val) : ℝ) : EReal) := by
  rw [val_main_v116_apply, v113 h, v84 h, mul_real]

theorem v122 (i : S1x128x4x4x64x192.Idx) : val_main_v122 (F := Ideal) a0 a1 a2 i
    = (((data a0 a1 a2).gden (64 * (i 1).val + (i 4).val) (4 * (i 2).val + (i 3).val) : ℝ) : EReal) := by
  refine (val_main_v122_apply a0 a1 a2 i).trans ((val_main_v121_apply a0 a1 a2 _).trans ?_)
  unfold val_main_v120
  have e0 : val_main_cst_20 (F := Ideal) (Shape.Idx.first h_S_) = (0 : EReal) := zero_f32.trans EReal.coe_zero
  rw [hostReduceAdd_apply, e0]
  refine sum05 _ _ _ fun k e1 e2 e3 e4 => ?_
  rw [v113 h, e1, e2, e3, e4]

theorem v124 (i : S1x128x4x4x64x192.Idx) : val_main_v124 (F := Ideal) a0 a1 a2 i
    = ((((data a0 a1 a2).dP (64 * (i 1).val + (i 4).val) (4 * (i 2).val + (i 3).val) (64 * (i 1).val + (i 5).val)
          / (data a0 a1 a2).D (64 * (i 1).val + (i 4).val) (4 * (i 2).val + (i 3).val)
        + (data a0 a1 a2).gden (64 * (i 1).val + (i 4).val) (4 * (i 2).val + (i 3).val))
        * (data a0 a1 a2).P (64 * (i 1).val + (i 4).val) (4 * (i 2).val + (i 3).val) (64 * (i 1).val + (i 5).val) : ℝ) : EReal) := by
  have e := (val_main_v114_apply (F := Ideal) a0 a1 i).trans (v85 h _)
  have e1 : val_main_v115 (F := Ideal) a0 a1 a2 i = _ :=
    (val_main_v115_apply (F := Ideal) a0 a1 a2 i).trans ((congrArg₂ (FloatOps.hostDivf (F := Ideal) (φ := .f32)) (v105 h i) e).trans (quot_real _ _ (Data.D_ne _ _ _)))
  rw [val_main_v124_apply, val_main_v123_apply, e1, v122 h, v79 h]
  exact (congrArg (fun x : EReal => FloatOps.mulf (F := Ideal) (φ := .f32) x _) (add_real _ _)).trans (mul_real _ _)

/-! ## Nothing reaches the row's maximum -/

theorem v128 (i : S1x128x4x4x64x1.Idx) : val_main_v128 (F := Ideal) a0 a1 a2 i = ((0 : ℝ) : EReal) := by
  have h0 : (i 0).val < 1 := (i 0).isLt
  have h4 : (i 4).val < 64 := (i 4).isLt
  have h5 : (i 5).val < 1 := (i 5).isLt
  have e : (64 * (i 1).val + (i 4).val) / 64 = (i 1).val := by omega
  have e0 : val_main_cst_21 (F := Ideal) (Shape.Idx.first h_S_) = ((0 : ℝ) : EReal) := zero_f32
  have e1 : val_main_v127 (F := Ideal) a0 a1 a2 i = val_main_v126 (F := Ideal) a0 a1 a2
      (ValueIdx.ix5 ⟨(i 0).val, h0⟩ ⟨(i 1).val, (i 1).isLt⟩ ⟨(i 2).val, (i 2).isLt⟩ ⟨(i 3).val, (i 3).isLt⟩ ⟨(i 4).val, h4⟩) := by
    unfold val_main_v127
    exact shapeCast_apply (t := S1x128x4x4x64x1) (s := S1x128x4x4x64) _ _ i _ (by
      rw [Shape.rowMajor_val_five, rowMajor_six]
      show ((((i 0).val * 128 + (i 1).val) * 4 + (i 2).val) * 4 + (i 3).val) * 64 + (i 4).val
        = (((((i 0).val * 128 + (i 1).val) * 4 + (i 2).val) * 4 + (i 3).val) * 64 + (i 4).val) * 1 + (i 5).val
      omega)
  have e2 : ∀ i : S1x128x4x4x64x192.Idx, val_main_v125 (F := Ideal) a0 a1 a2 i = _ := fun i =>
    (val_main_v125_apply (F := Ideal) a0 a1 a2 i).trans ((congrArg (FloatOps.hostNegf (F := Ideal) (φ := .f32)) (v124 h i)).trans (neg_real _))
  have e3 := (Finset.sum_congr rfl fun (k : Fin 192) _ => e2 (idx_main_v126
      (ValueIdx.ix5 ⟨(i 0).val, h0⟩ ⟨(i 1).val, (i 1).isLt⟩ ⟨(i 2).val, (i 2).isLt⟩ ⟨(i 3).val, (i 3).isLt⟩ ⟨(i 4).val, h4⟩) k)).trans (coe_sum _)
  rw [val_main_v128_apply, val_main_v119_apply, e1, val_main_v126_apply, e0, EReal.coe_zero, zero_add, e3, v116 h, neg_real, add_real]
  refine congrArg Real.toEReal ?_
  refine Eq.trans ?_ (Data.max_grad (data a0 a1 a2) (64 * (i 1).val + (i 4).val) (4 * (i 2).val + (i 3).val))
  unfold key
  rw [e]

theorem v55 (i : S1x128x4x4x64.Idx) : val_main_v55 (F := Ideal) a0 i ≠ 0 := by
  obtain ⟨m, k, hm, hk⟩ := v50 h i
  have e0 : val_main_cst_9 (F := Ideal) (Shape.Idx.first h_S_) = (0 : EReal) := zero_f32.trans EReal.coe_zero
  have nn : ∀ k : Fin 192, (0 : EReal) ≤ val_main_v54 (F := Ideal) a0 (idx_main_v55 i k) := fun k => by
    rw [val_main_v54_apply]
    show (0 : EReal) ≤ (((val_main_v53 (F := Ideal) a0 (idx_main_v55 i k)).toNat : ℝ) : EReal)
    exact EReal.coe_nonneg.mpr (Nat.cast_nonneg _)
  have one : val_main_v54 (F := Ideal) a0 (idx_main_v55 i k) = (1 : EReal) := by
    have e1 : val_main_v52 (F := Ideal) a0 (idx_main_v55 i k) = (m : EReal) := by
      rw [val_main_v52_apply]
      unfold val_main_v51
      have h0 : (i 0).val < 1 := (i 0).isLt
      refine Eq.trans (shapeCast_apply (t := S1x128x4x4x64x1) (s := S1x128x4x4x64) _ _ _ i ?_) hm
      rw [Shape.rowMajor_val_five, rowMajor_six]
      show ((((i 0).val * 128 + (i 1).val) * 4 + (i 2).val) * 4 + (i 3).val) * 64 + (i 4).val
        = (((((0 : ℕ) * 128 + (i 1).val) * 4 + (i 2).val) * 4 + (i 3).val) * 64 + (i 4).val) * 1 + 0
      omega
    rw [val_main_v54_apply, val_main_v53_apply, hk, e1]
    have e2 : FloatOps.cmpf (F := Ideal) (φ := .f32) .oeq (m : EReal) (m : EReal) = 1#1 := by
      show Ideal.cmp .oeq (m : EReal) (m : EReal) = 1#1
      simp [Ideal.cmp]
    rw [e2]
    show (((1#1 : BitVec 1).toNat : ℝ) : EReal) = 1
    simp
  rw [val_main_v55_apply, e0, zero_add]
  have le : (1 : EReal) ≤ ∑ k : Fin 192, val_main_v54 (F := Ideal) a0 (idx_main_v55 i k) := by
    rw [← one]
    exact Finset.single_le_sum (fun k _ => nn k) (Finset.mem_univ k)
  intro e
  rw [e] at le
  exact absurd le (by simp)

theorem v138 (i : S1x128x4x4x64x192.Idx) : val_main_v138 (F := Ideal) a0 a1 a2 i = ((0 : ℝ) : EReal) := by
  have e0 : val_main_cst_23 (F := Ideal) (Shape.Idx.first h_S_) = (0 : EReal) := zero_f32.trans EReal.coe_zero
  have e135 : ∀ j : S1x128x4x4x64.Idx, val_main_v135 (F := Ideal) a0 a1 a2 j = (0 : EReal) := fun j => by
    rw [val_main_v135_apply]
    unfold val_main_v134
    rw [hostReduceAdd_apply, e0]
    exact sum05 _ _ _ fun k _ _ _ _ => by
      rw [val_main_v133_apply, v128 h]
      exact (zero_mul_any _).trans EReal.coe_zero
  have e137 : val_main_v137 (F := Ideal) a0 a1 a2 i = ((0 : ℝ) : EReal) := by
    rw [val_main_v137_apply, val_main_v136_apply, e135]
    refine Eq.trans ?_ EReal.coe_zero.symm
    show Ideal.div 0 (_ : EReal) = 0
    unfold Ideal.div
    rw [if_neg (v55 h _), zero_mul]
  rw [val_main_v138_apply, e137]
  exact zero_mul_any _

/-- The gradient of the scaled score, the scale included. -/
theorem v143 (i : S1x128x4x4x64x192.Idx) : val_main_v143 (F := Ideal) a0 a1 a2 i
    = (((data a0 a1 a2).ds (64 * (i 1).val + (i 4).val) (4 * (i 2).val + (i 3).val) (64 * (i 1).val + (i 5).val) : ℝ) : EReal) := by
  have e1 : val_main_v142 (F := Ideal) i = ((1 / 8 : ℝ) : EReal) := (val_main_v142_apply i).trans eighth_f32
  have e2 : val_main_call4_v0 (F := Ideal) i = ((0 : ℝ) : EReal) := (val_main_call4_v0_apply i).trans zero_f32
  rw [val_main_v143_apply, val_main_v141_apply, v48_1, val_main_v139_apply, v138 h, v124 h, add_real, e1, e2, add_zero]
  unfold Data.ds
  split
  · exact mul_real _ _
  · exact zero_mul_any _

/-- A head's gradient of the sink. -/
theorem v140 (i : S16.Idx) : val_main_v140 (F := Ideal) a0 a1 a2 i = (((data a0 a1 a2).dsink (i 0).val : ℝ) : EReal) := by
  have hi : (i 0).val < 16 := (i 0).isLt
  have e0 : val_main_cst_19 (F := Ideal) (Shape.Idx.first h_S_) = (0 : EReal) := zero_f32.trans EReal.coe_zero
  have e0' : val_main_cst_22 (F := Ideal) (Shape.Idx.first h_S_) = (0 : EReal) := zero_f32.trans EReal.coe_zero
  have e118 : ∀ j : S1x1x4x4x1x1.Idx, val_main_v118 (F := Ideal) a0 a1 a2 j = (((data a0 a1 a2).dsink (4 * (j 2).val + (j 3).val) : ℝ) : EReal) := fun j => by
    have h0 : (j 0).val < 1 := (j 0).isLt
    have h1 : (j 1).val < 1 := (j 1).isLt
    have h4 : (j 4).val < 1 := (j 4).isLt
    have h5 : (j 5).val < 1 := (j 5).isLt
    unfold val_main_v118
    refine Eq.trans (shapeCast_apply (t := S1x1x4x4x1x1) (s := S1x4x4x1) _ _ j
      (ValueIdx.ix4 ⟨0, Nat.one_pos⟩ ⟨(j 2).val, (j 2).isLt⟩ ⟨(j 3).val, (j 3).isLt⟩ ⟨0, Nat.one_pos⟩) (by
        rw [Shape.rowMajor_val_four, rowMajor_six]
        show ((0 * 4 + (j 2).val) * 4 + (j 3).val) * 1 + 0
          = (((((j 0).val * 1 + (j 1).val) * 4 + (j 2).val) * 4 + (j 3).val) * 1 + (j 4).val) * 1 + (j 5).val
        omega)) ?_
    unfold val_main_v117
    rw [hostReduceAdd_apply, e0]
    exact sum14 _ _ (fun t => (data a0 a1 a2).gden t (4 * (j 2).val + (j 3).val) * (data a0 a1 a2).E t (4 * (j 2).val + (j 3).val)) fun k e2 e3 => by
      rw [v116 h, e2, e3]
  have e131 : ∀ j : S1x1x4x4x1x1.Idx, val_main_v131 (F := Ideal) a0 a1 a2 j = ((0 : ℝ) : EReal) := fun j => by
    have h0 : (j 0).val < 1 := (j 0).isLt
    have h1 : (j 1).val < 1 := (j 1).isLt
    have h4 : (j 4).val < 1 := (j 4).isLt
    have h5 : (j 5).val < 1 := (j 5).isLt
    unfold val_main_v131
    refine Eq.trans (shapeCast_apply (t := S1x1x4x4x1x1) (s := S1x4x4x1) _ _ j
      (ValueIdx.ix4 ⟨0, Nat.one_pos⟩ ⟨(j 2).val, (j 2).isLt⟩ ⟨(j 3).val, (j 3).isLt⟩ ⟨0, Nat.one_pos⟩) (by
        rw [Shape.rowMajor_val_four, rowMajor_six]
        show ((0 * 4 + (j 2).val) * 4 + (j 3).val) * 1 + 0
          = (((((j 0).val * 1 + (j 1).val) * 4 + (j 2).val) * 4 + (j 3).val) * 1 + (j 4).val) * 1 + (j 5).val
        omega)) ?_
    unfold val_main_v130
    rw [hostReduceAdd_apply, e0']
    refine (sum14 _ _ (fun _ => 0) fun k _ _ => ?_).trans (by rw [Finset.sum_const_zero])
    rw [val_main_v129_apply, v128 h]
    exact zero_mul_any _
  unfold val_main_v140
  refine Eq.trans (shapeCast_apply (t := S16) (s := S1x1x4x4x1x1) _ _ i
    (ix6 (d := ![1, 1, 4, 4, 1, 1]) ⟨0, Nat.one_pos⟩ ⟨0, Nat.one_pos⟩ ⟨(i 0).val / 4, by show _ < 4; omega⟩ ⟨(i 0).val % 4, by show _ < 4; omega⟩ ⟨0, Nat.one_pos⟩ ⟨0, Nat.one_pos⟩) (by
      rw [Shape.rowMajor_val_one, rowMajor_six]
      show ((((0 * 1 + 0) * 4 + (i 0).val / 4) * 4 + (i 0).val % 4) * 1 + 0) * 1 + 0 = (i 0).val
      omega)) ?_
  rw [val_main_v132_apply, e118, e131, add_real, add_zero]
  show (((data a0 a1 a2).dsink (4 * ((i 0).val / 4) + (i 0).val % 4) : ℝ) : EReal) = _
  rw [show 4 * ((i 0).val / 4) + (i 0).val % 4 = (i 0).val from by omega]

end Stages

end Cert.Own.Attn.Ref

end
-- ==== Proof.AttnRefOut.lean ====
/- The reference's stages over the reals, from the scores' gradient to the results (AttnRefBwd, AttnReal). -/
module

public import proofs.«01_k».proof.Proof.AttnRefBwd
public import Idealize.ShloMosaic.Lib.TwoAxisContraction

@[expose] public section

set_option maxRecDepth 8192

noncomputable section

namespace Cert.Own.Attn.Ref

open Idealize.ShloMosaic Idealize.ShloMosaic.ValueIdx
open Cert.Reference12Ideal Cert.Reference12Ideal.Gen Cert.Reference12Ideal.Read

variable {a0 : (⟨S8192x13824, .bf16⟩ : BufTy).Contents (Elt Ideal)} {a1 : (⟨S16, .f32⟩ : BufTy).Contents (Elt Ideal)}
  {a2 : (⟨S8192x1024, .bf16⟩ : BufTy).Contents (Elt Ideal)}

/-! ## The products over a key head's rows and query heads -/

/-- The operands' indices at one position of the contraction. -/
def dvLeft (i : S1x128x4x64x192.Idx) (p : Fin 4 × Fin 64) : S1x128x4x64x4x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => p.1
  | ⟨5, _⟩ => p.2
def dvRight (i : S1x128x4x64x192.Idx) (p : Fin 4 × Fin 64) : S1x128x4x4x64x192.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => p.1
  | ⟨4, _⟩ => p.2
  | ⟨5, _⟩ => ⟨(i 4).val, (i 4).isLt⟩
def dkLeft (i : S1x128x4x192x64.Idx) (p : Fin 64 × Fin 4) : S1x128x4x192x64x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => p.1
  | ⟨5, _⟩ => p.2
def dkRight (i : S1x128x4x192x64.Idx) (p : Fin 64 × Fin 4) : S1x128x64x4x4x64.Idx := fun a => match a with
  | ⟨0, _⟩ => ⟨(i 0).val, (i 0).isLt⟩
  | ⟨1, _⟩ => ⟨(i 1).val, (i 1).isLt⟩
  | ⟨2, _⟩ => p.1
  | ⟨3, _⟩ => ⟨(i 2).val, (i 2).isLt⟩
  | ⟨4, _⟩ => p.2
  | ⟨5, _⟩ => ⟨(i 4).val, (i 4).isLt⟩

theorem dv_dot (x : FVec Ideal S1x128x4x64x4x64 .f32) (y : FVec Ideal S1x128x4x4x64x192 .f32) (i : S1x128x4x64x192.Idx) :
    Host.dotGeneral dot_S1x128x4x64x4x64_S1x128x4x4x64x192_S1x128x4x64x192_45_34_3_5_012_012 none x y i = ∑ a : Fin 4, ∑ b : Fin 64, x (dvLeft i (a, b)) * y (dvRight i (a, b)) := by
  simp only [Host.dotGeneral]
  rw [Ideal.dotGeneral_apply, sum_contr2 dot_S1x128x4x64x4x64_S1x128x4x4x64x192_S1x128x4x64x192_45_34_3_5_012_012 4 64 rfl rfl rfl]
  refine Finset.sum_congr rfl fun a _ => Finset.sum_congr rfl fun b _ => ?_
  have h0 := contrEquiv2_symm_val0 dot_S1x128x4x64x4x64_S1x128x4x4x64x192_S1x128x4x64x192_45_34_3_5_012_012 4 64 rfl rfl rfl (a, b)
  have h1 := contrEquiv2_symm_val1 dot_S1x128x4x64x4x64_S1x128x4x4x64x192_S1x128x4x64x192_45_34_3_5_012_012 4 64 rfl rfl rfl (a, b)
  generalize (contrEquiv2 dot_S1x128x4x64x4x64_S1x128x4x4x64x192_S1x128x4x64x192_45_34_3_5_012_012 4 64 rfl rfl rfl).symm (a, b) = q at h0 h1
  have el : dot_S1x128x4x64x4x64_S1x128x4x4x64x192_S1x128x4x64x192_45_34_3_5_012_012.lhsIdx i q = dvLeft i (a, b) := funext fun c => Fin.ext (by
    match c with
    | ⟨0, _⟩ => rfl
    | ⟨1, _⟩ => rfl
    | ⟨2, _⟩ => rfl
    | ⟨3, _⟩ => rfl
    | ⟨4, _⟩ => exact h0
    | ⟨5, _⟩ => exact h1)
  have er : dot_S1x128x4x64x4x64_S1x128x4x4x64x192_S1x128x4x64x192_45_34_3_5_012_012.rhsIdx i q = dvRight i (a, b) := funext fun c => Fin.ext (by
    match c with
    | ⟨0, _⟩ => rfl
    | ⟨1, _⟩ => rfl
    | ⟨2, _⟩ => rfl
    | ⟨3, _⟩ => exact h0
    | ⟨4, _⟩ => exact h1
    | ⟨5, _⟩ => rfl)
  rw [el, er]

theorem dk_dot (x : FVec Ideal S1x128x4x192x64x4 .f32) (y : FVec Ideal S1x128x64x4x4x64 .f32) (i : S1x128x4x192x64.Idx) :
    Host.dotGeneral dot_S1x128x4x192x64x4_S1x128x64x4x4x64_S1x128x4x192x64_45_24_3_5_012_013 none x y i = ∑ a : Fin 64, ∑ b : Fin 4, x (dkLeft i (a, b)) * y (dkRight i (a, b)) := by
  simp only [Host.dotGeneral]
  rw [Ideal.dotGeneral_apply, sum_contr2 dot_S1x128x4x192x64x4_S1x128x64x4x4x64_S1x128x4x192x64_45_24_3_5_012_013 64 4 rfl rfl rfl]
  refine Finset.sum_congr rfl fun a _ => Finset.sum_congr rfl fun b _ => ?_
  have h0 := contrEquiv2_symm_val0 dot_S1x128x4x192x64x4_S1x128x64x4x4x64_S1x128x4x192x64_45_24_3_5_012_013 64 4 rfl rfl rfl (a, b)
  have h1 := contrEquiv2_symm_val1 dot_S1x128x4x192x64x4_S1x128x64x4x4x64_S1x128x4x192x64_45_24_3_5_012_013 64 4 rfl rfl rfl (a, b)
  generalize (contrEquiv2 dot_S1x128x4x192x64x4_S1x128x64x4x4x64_S1x128x4x192x64_45_24_3_5_012_013 64 4 rfl rfl rfl).symm (a, b) = q at h0 h1
  have el : dot_S1x128x4x192x64x4_S1x128x64x4x4x64_S1x128x4x192x64_45_24_3_5_012_013.lhsIdx i q = dkLeft i (a, b) := funext fun c => Fin.ext (by
    match c with
    | ⟨0, _⟩ => rfl
    | ⟨1, _⟩ => rfl
    | ⟨2, _⟩ => rfl
    | ⟨3, _⟩ => rfl
    | ⟨4, _⟩ => exact h0
    | ⟨5, _⟩ => exact h1)
  have er : dot_S1x128x4x192x64x4_S1x128x64x4x4x64_S1x128x4x192x64_45_24_3_5_012_013.rhsIdx i q = dkRight i (a, b) := funext fun c => Fin.ext (by
    match c with
    | ⟨0, _⟩ => rfl
    | ⟨1, _⟩ => rfl
    | ⟨2, _⟩ => exact h0
    | ⟨3, _⟩ => rfl
    | ⟨4, _⟩ => exact h1
    | ⟨5, _⟩ => rfl)
  rw [el, er]

/-- A row's term of the values' gradient, and of the keys'. -/
def termV (X : Data) (g d p t : ℕ) : ℝ := ∑ i : Fin 4, X.g t (4 * g + i.val) d * (X.P t (4 * g + i.val) p / X.D t (4 * g + i.val))
def termK (X : Data) (g d p t : ℕ) : ℝ := ∑ i : Fin 4, X.ds t (4 * g + i.val) p * X.q t (4 * g + i.val) d

section Stages
variable (h : Reals a0 a1 a2)
include h

theorem v144 (i : S1x128x4x192x64x4.Idx) : val_main_v144 (F := Ideal) a0 a1 a2 i
    = (((data a0 a1 a2).ds (64 * (i 1).val + (i 4).val) (4 * (i 2).val + (i 5).val) (64 * (i 1).val + (i 3).val) : ℝ) : EReal) :=
  (val_main_v144_apply a0 a1 a2 i).trans (v143 h _)

theorem v145 (i : S1x128x4x64x4x64.Idx) : val_main_v145 (F := Ideal) a0 a1 a2 i
    = (((data a0 a1 a2).dq (64 * (i 1).val + (i 3).val) (4 * (i 2).val + (i 4).val) (i 5).val : ℝ) : EReal) := by
  have h3 : (i 3).val < 64 := (i 3).isLt
  have h4 : (i 4).val < 4 := (i 4).isLt
  have e : (64 * (i 1).val + (i 3).val) / 64 = (i 1).val := by omega
  have e' : (4 * (i 2).val + (i 4).val) / 4 = (i 2).val := by omega
  rw [val_main_v145_apply]
  unfold Data.dq key
  rw [e, e']
  exact (Finset.sum_congr rfl fun d _ => (congrArg₂ (fun x y : EReal => x * y) (v144 h _) (v22 h _)).trans (EReal.coe_mul _ _).symm).trans (coe_sum _)

theorem v146 (i : S1x128x64x4x4x64.Idx) : val_main_v146 (F := Ideal) a0 a1 a2 i
    = (((data a0 a1 a2).dq (64 * (i 1).val + (i 2).val) (4 * (i 3).val + (i 4).val) (i 5).val : ℝ) : EReal) :=
  (val_main_v146_apply a0 a1 a2 i).trans (v145 h _)

theorem v171 (i : S1x8192x16x64.Idx) : val_main_v171 (F := Ideal) a0 a1 a2 i
    = (((data a0 a1 a2).dq (i 1).val (i 2).val (i 3).val : ℝ) : EReal) := by
  have h0 : (i 0).val < 1 := (i 0).isLt
  have h1 : (i 1).val < 8192 := (i 1).isLt
  have h2 : (i 2).val < 16 := (i 2).isLt
  have h3 : (i 3).val < 64 := (i 3).isLt
  unfold val_main_v171
  refine Eq.trans (shapeCast_apply (t := S1x8192x16x64) (s := S1x128x64x4x4x64) _ _ i
    (ix6 (d := ![1, 128, 64, 4, 4, 64]) ⟨0, Nat.one_pos⟩ ⟨(i 1).val / 64, by show _ < 128; omega⟩ ⟨(i 1).val % 64, by show _ < 64; omega⟩
      ⟨(i 2).val / 4, by show _ < 4; omega⟩ ⟨(i 2).val % 4, by show _ < 4; omega⟩ ⟨(i 3).val, h3⟩)
    (by
      rw [Shape.rowMajor_val_four, rowMajor_six]
      show ((((0 * 128 + (i 1).val / 64) * 64 + (i 1).val % 64) * 4 + (i 2).val / 4) * 4 + (i 2).val % 4) * 64 + (i 3).val
        = (((i 0).val * 8192 + (i 1).val) * 16 + (i 2).val) * 64 + (i 3).val
      omega)) ?_
  rw [v146 h]
  show (((data a0 a1 a2).dq (64 * ((i 1).val / 64) + (i 1).val % 64) (4 * ((i 2).val / 4) + (i 2).val % 4) (i 3).val : ℝ) : EReal) = _
  rw [show 64 * ((i 1).val / 64) + (i 1).val % 64 = (i 1).val from by omega, show 4 * ((i 2).val / 4) + (i 2).val % 4 = (i 2).val from by omega]

/-- The queries' gradient. -/
theorem v175 (i : S8192x1024.Idx) : val_main_v175 (F := Ideal) a0 a1 a2 i
    = (((data a0 a1 a2).dq (i 0).val ((i 1).val / 64) ((i 1).val % 64) : ℝ) : EReal) := by
  have h0 : (i 0).val < 8192 := (i 0).isLt
  have h1 : (i 1).val < 1024 := (i 1).isLt
  have e1 : ((idx_main_v174 i) 1).val = (i 0).val := by show _ % 8192 = _; omega
  have e2 : ((idx_main_v174 i) 2).val = (i 1).val / 64 := by show _ % 16 = _; omega
  have e3 : ((idx_main_v174 i) 3).val = (i 1).val % 64 := by show _ % 64 = _; omega
  rw [val_main_v175_apply, val_main_v174_apply, v171 h, e1, e2, e3]
  rfl

/-- The output gate's gradient. -/
theorem v181 (i : S8192x1024.Idx) : val_main_v181 (F := Ideal) a0 a1 a2 i
    = (((data a0 a1 a2).dz (i 0).val ((i 1).val / 64) ((i 1).val % 64) : ℝ) : EReal) := by
  have h0 : (i 0).val < 8192 := (i 0).isLt
  have h1 : (i 1).val < 1024 := (i 1).isLt
  have e1 : ((idx_main_v180 i) 1).val = (i 0).val := by show _ % 8192 = _; omega
  have e2 : ((idx_main_v180 i) 2).val = (i 1).val := by show _ % 1024 = _; omega
  rw [val_main_v181_apply, val_main_v180_apply, v102 h, e1, e2]
  rfl

theorem v106 (i : S1x128x4x64x192.Idx) : val_main_v106 (F := Ideal) a0 a1 a2 i
    = ((∑ r : Fin 64, termV (data a0 a1 a2) (i 2).val (i 3).val (64 * (i 1).val + (i 4).val) (64 * (i 1).val + r.val) : ℝ) : EReal) := by
  unfold val_main_v106
  rw [dv_dot, Finset.sum_comm]
  unfold termV
  exact (Finset.sum_congr rfl fun r _ => (Finset.sum_congr rfl fun m _ =>
    (congrArg₂ (fun x y : EReal => x * y) (v104 h _) (v87 h _)).trans (EReal.coe_mul _ _).symm).trans (coe_sum _)).trans (coe_sum _)

theorem v147 (i : S1x128x4x192x64.Idx) : val_main_v147 (F := Ideal) a0 a1 a2 i
    = ((∑ r : Fin 64, termK (data a0 a1 a2) (i 2).val (i 4).val (64 * (i 1).val + (i 3).val) (64 * (i 1).val + r.val) : ℝ) : EReal) := by
  unfold val_main_v147
  rw [dk_dot]
  unfold termK
  exact (Finset.sum_congr rfl fun r _ => (Finset.sum_congr rfl fun m _ =>
    (congrArg₂ (fun x y : EReal => x * y) (v144 h _) (v14 h _)).trans (EReal.coe_mul _ _).symm).trans (coe_sum _)).trans (coe_sum _)

theorem v107 (i : S1x128x192x4x64.Idx) : val_main_v107 (F := Ideal) a0 a1 a2 i
    = ((∑ r : Fin 64, termV (data a0 a1 a2) (i 3).val (i 4).val (64 * (i 1).val + (i 2).val) (64 * (i 1).val + r.val) : ℝ) : EReal) :=
  (val_main_v107_apply a0 a1 a2 i).trans (v106 h _)
theorem v148 (i : S1x128x192x4x64.Idx) : val_main_v148 (F := Ideal) a0 a1 a2 i
    = ((∑ r : Fin 64, termK (data a0 a1 a2) (i 3).val (i 4).val (64 * (i 1).val + (i 2).val) (64 * (i 1).val + r.val) : ℝ) : EReal) :=
  (val_main_v148_apply a0 a1 a2 i).trans (v147 h _)

/-! ## The bands put together -/

theorem v152 (i : S1x130x64x4x64.Idx) : val_main_v152 (F := Ideal) a0 a1 a2 i
    = (((if 2 ≤ (i 1).val ∧ (i 1).val - 2 < 128 then ∑ r : Fin 64, termV (data a0 a1 a2) (i 3).val (i 4).val (64 * (i 1).val + (i 2).val) (64 * ((i 1).val - 2) + r.val) else 0) : ℝ) : EReal) := by
  have h1 : (i 1).val < 130 := (i 1).isLt
  have h2 : (i 2).val < 64 := (i 2).isLt
  unfold val_main_v152
  by_cases c : 2 ≤ (i 1).val ∧ (i 1).val - 2 < 128
  · refine Eq.trans (pad_apply_of_inside _ _ _ _ _ _ _ i
      (ValueIdx.ix5 ⟨(i 0).val, (i 0).isLt⟩ ⟨((i 1).val - 2), by omega⟩ ⟨(i 2).val, h2⟩ ⟨(i 3).val, (i 3).isLt⟩ ⟨(i 4).val, (i 4).isLt⟩ : S1x128x64x4x64.Idx)
      (fun a => by
        match a with
        | ⟨0, _⟩ => show (i 0).val = 0 + (i 0).val * (0 + 1); omega
        | ⟨1, _⟩ => show (i 1).val = 2 + ((i 1).val - 2) * (0 + 1); omega
        | ⟨2, _⟩ => show (i 2).val = 0 + (i 2).val * (0 + 1); omega
        | ⟨3, _⟩ => show (i 3).val = 0 + (i 3).val * (0 + 1); omega
        | ⟨4, _⟩ => show (i 4).val = 0 + (i 4).val * (0 + 1); omega)) ?_
    rw [val_main_v151_apply, v107 h, if_pos c]
    show ((∑ r : Fin 64, termV (data a0 a1 a2) (i 3).val (i 4).val (64 * ((i 1).val - 2) + (128 + (i 2).val)) (64 * ((i 1).val - 2) + r.val) : ℝ) : EReal) = _
    rw [show 64 * ((i 1).val - 2) + (128 + (i 2).val) = 64 * (i 1).val + (i 2).val from by omega]
  · refine Eq.trans (pad_apply_of_not_inside _ _ _ _ _ _ _ i (1 : Fin S1x128x64x4x64.rank) (by show ¬(2 ≤ (i 1).val ∧ ((i 1).val - 2) % (0 + 1) = 0 ∧ ((i 1).val - 2) / (0 + 1) < 128); omega)) ?_
    rw [if_neg c]
    exact zero_f32

theorem v153 (i : S1x130x64x4x64.Idx) : val_main_v153 (F := Ideal) a0 a1 a2 i
    = (((if 1 ≤ (i 1).val ∧ (i 1).val - 1 < 128 then ∑ r : Fin 64, termV (data a0 a1 a2) (i 3).val (i 4).val (64 * (i 1).val + (i 2).val) (64 * ((i 1).val - 1) + r.val) else 0) : ℝ) : EReal) := by
  have h1 : (i 1).val < 130 := (i 1).isLt
  have h2 : (i 2).val < 64 := (i 2).isLt
  unfold val_main_v153
  by_cases c : 1 ≤ (i 1).val ∧ (i 1).val - 1 < 128
  · refine Eq.trans (pad_apply_of_inside _ _ _ _ _ _ _ i
      (ValueIdx.ix5 ⟨(i 0).val, (i 0).isLt⟩ ⟨((i 1).val - 1), by omega⟩ ⟨(i 2).val, h2⟩ ⟨(i 3).val, (i 3).isLt⟩ ⟨(i 4).val, (i 4).isLt⟩ : S1x128x64x4x64.Idx)
      (fun a => by
        match a with
        | ⟨0, _⟩ => show (i 0).val = 0 + (i 0).val * (0 + 1); omega
        | ⟨1, _⟩ => show (i 1).val = 1 + ((i 1).val - 1) * (0 + 1); omega
        | ⟨2, _⟩ => show (i 2).val = 0 + (i 2).val * (0 + 1); omega
        | ⟨3, _⟩ => show (i 3).val = 0 + (i 3).val * (0 + 1); omega
        | ⟨4, _⟩ => show (i 4).val = 0 + (i 4).val * (0 + 1); omega)) ?_
    rw [val_main_v150_apply, v107 h, if_pos c]
    show ((∑ r : Fin 64, termV (data a0 a1 a2) (i 3).val (i 4).val (64 * ((i 1).val - 1) + (64 + (i 2).val)) (64 * ((i 1).val - 1) + r.val) : ℝ) : EReal) = _
    rw [show 64 * ((i 1).val - 1) + (64 + (i 2).val) = 64 * (i 1).val + (i 2).val from by omega]
  · refine Eq.trans (pad_apply_of_not_inside _ _ _ _ _ _ _ i (1 : Fin S1x128x64x4x64.rank) (by show ¬(1 ≤ (i 1).val ∧ ((i 1).val - 1) % (0 + 1) = 0 ∧ ((i 1).val - 1) / (0 + 1) < 128); omega)) ?_
    rw [if_neg c]
    exact zero_f32

theorem v155 (i : S1x130x64x4x64.Idx) : val_main_v155 (F := Ideal) a0 a1 a2 i
    = (((if (i 1).val < 128 then ∑ r : Fin 64, termV (data a0 a1 a2) (i 3).val (i 4).val (64 * (i 1).val + (i 2).val) (64 * (i 1).val + r.val) else 0) : ℝ) : EReal) := by
  have h1 : (i 1).val < 130 := (i 1).isLt
  have h2 : (i 2).val < 64 := (i 2).isLt
  unfold val_main_v155
  by_cases c : (i 1).val < 128
  · refine Eq.trans (pad_apply_of_inside _ _ _ _ _ _ _ i
      (ValueIdx.ix5 ⟨(i 0).val, (i 0).isLt⟩ ⟨(i 1).val, by omega⟩ ⟨(i 2).val, h2⟩ ⟨(i 3).val, (i 3).isLt⟩ ⟨(i 4).val, (i 4).isLt⟩ : S1x128x64x4x64.Idx)
      (fun a => by
        match a with
        | ⟨0, _⟩ => show (i 0).val = 0 + (i 0).val * (0 + 1); omega
        | ⟨1, _⟩ => show (i 1).val = 0 + (i 1).val * (0 + 1); omega
        | ⟨2, _⟩ => show (i 2).val = 0 + (i 2).val * (0 + 1); omega
        | ⟨3, _⟩ => show (i 3).val = 0 + (i 3).val * (0 + 1); omega
        | ⟨4, _⟩ => show (i 4).val = 0 + (i 4).val * (0 + 1); omega)) ?_
    rw [val_main_v149_apply, v107 h, if_pos c]
  · refine Eq.trans (pad_apply_of_not_inside _ _ _ _ _ _ _ i (1 : Fin S1x128x64x4x64.rank) (by show ¬(0 ≤ (i 1).val ∧ ((i 1).val - 0) % (0 + 1) = 0 ∧ ((i 1).val - 0) / (0 + 1) < 128); omega)) ?_
    rw [if_neg c]
    exact zero_f32

theorem v156 (i : S1x130x64x4x64.Idx) : val_main_v156 (F := Ideal) a0 a1 a2 i
    = (((data a0 a1 a2).dv (64 * (i 1).val + (i 2).val) (i 3).val (i 4).val : ℝ) : EReal) := by
  have h2 : (i 2).val < 64 := (i 2).isLt
  have e : (64 * (i 1).val + (i 2).val) / 64 = (i 1).val := by omega
  have s := sum_rows_chunks (termV (data a0 a1 a2) (i 3).val (i 4).val (64 * (i 1).val + (i 2).val)) (64 * (i 1).val + (i 2).val)
  rw [e] at s
  rw [val_main_v156_apply, val_main_v154_apply, v152 h, v153 h, v155 h]
  refine ((congrArg (fun x : EReal => FloatOps.addf (F := Ideal) (φ := .f32) x _) (add_real _ _)).trans (add_real _ _)).trans (congrArg Real.toEReal ?_)
  exact s.symm

theorem v157 (i : S1x8320x4x64.Idx) : val_main_v157 (F := Ideal) a0 a1 a2 i
    = (((data a0 a1 a2).dv (i 1).val (i 2).val (i 3).val : ℝ) : EReal) := by
  have h0 : (i 0).val < 1 := (i 0).isLt
  have h1 : (i 1).val < 8320 := (i 1).isLt
  have h2 : (i 2).val < 4 := (i 2).isLt
  have h3 : (i 3).val < 64 := (i 3).isLt
  have e1 : ((idx_main_v157 i) 1).val = (i 1).val / 64 := by show _ % 130 = _; omega
  have e2 : ((idx_main_v157 i) 2).val = (i 1).val % 64 := by show _ % 64 = _; omega
  have e3 : ((idx_main_v157 i) 3).val = (i 2).val := by show _ % 4 = _; omega
  have e4 : ((idx_main_v157 i) 4).val = (i 3).val := by show _ % 64 = _; omega
  rw [val_main_v157_apply, v156 h, e1, e2, e3, e4, show 64 * ((i 1).val / 64) + (i 1).val % 64 = (i 1).val from by omega]

theorem v179 (i : S8192x256.Idx) : val_main_v179 (F := Ideal) a0 a1 a2 i
    = (((data a0 a1 a2).dv (128 + (i 0).val) ((i 1).val / 64) ((i 1).val % 64) : ℝ) : EReal) := by
  have h0 : (i 0).val < 8192 := (i 0).isLt
  have h1 : (i 1).val < 256 := (i 1).isLt
  have e1 : ((idx_main_v178 i) 1).val = (i 0).val := by show _ % 8192 = _; omega
  have e2 : ((idx_main_v178 i) 2).val = (i 1).val / 64 := by show _ % 4 = _; omega
  have e3 : ((idx_main_v178 i) 3).val = (i 1).val % 64 := by show _ % 64 = _; omega
  rw [val_main_v179_apply, val_main_v178_apply, val_main_v159_apply, v157 h]
  show ((((data a0 a1 a2).dv (128 + ((idx_main_v178 i) 1).val) ((idx_main_v178 i) 2).val ((idx_main_v178 i) 3).val : ℝ)) : EReal) = _
  rw [e1, e2, e3]

theorem v163 (i : S1x130x64x4x64.Idx) : val_main_v163 (F := Ideal) a0 a1 a2 i
    = (((if 2 ≤ (i 1).val ∧ (i 1).val - 2 < 128 then ∑ r : Fin 64, termK (data a0 a1 a2) (i 3).val (i 4).val (64 * (i 1).val + (i 2).val) (64 * ((i 1).val - 2) + r.val) else 0) : ℝ) : EReal) := by
  have h1 : (i 1).val < 130 := (i 1).isLt
  have h2 : (i 2).val < 64 := (i 2).isLt
  unfold val_main_v163
  by_cases c : 2 ≤ (i 1).val ∧ (i 1).val - 2 < 128
  · refine Eq.trans (pad_apply_of_inside _ _ _ _ _ _ _ i
      (ValueIdx.ix5 ⟨(i 0).val, (i 0).isLt⟩ ⟨((i 1).val - 2), by omega⟩ ⟨(i 2).val, h2⟩ ⟨(i 3).val, (i 3).isLt⟩ ⟨(i 4).val, (i 4).isLt⟩ : S1x128x64x4x64.Idx)
      (fun a => by
        match a with
        | ⟨0, _⟩ => show (i 0).val = 0 + (i 0).val * (0 + 1); omega
        | ⟨1, _⟩ => show (i 1).val = 2 + ((i 1).val - 2) * (0 + 1); omega
        | ⟨2, _⟩ => show (i 2).val = 0 + (i 2).val * (0 + 1); omega
        | ⟨3, _⟩ => show (i 3).val = 0 + (i 3).val * (0 + 1); omega
        | ⟨4, _⟩ => show (i 4).val = 0 + (i 4).val * (0 + 1); omega)) ?_
    rw [val_main_v162_apply, v148 h, if_pos c]
    show ((∑ r : Fin 64, termK (data a0 a1 a2) (i 3).val (i 4).val (64 * ((i 1).val - 2) + (128 + (i 2).val)) (64 * ((i 1).val - 2) + r.val) : ℝ) : EReal) = _
    rw [show 64 * ((i 1).val - 2) + (128 + (i 2).val) = 64 * (i 1).val + (i 2).val from by omega]
  · refine Eq.trans (pad_apply_of_not_inside _ _ _ _ _ _ _ i (1 : Fin S1x128x64x4x64.rank) (by show ¬(2 ≤ (i 1).val ∧ ((i 1).val - 2) % (0 + 1) = 0 ∧ ((i 1).val - 2) / (0 + 1) < 128); omega)) ?_
    rw [if_neg c]
    exact zero_f32

theorem v164 (i : S1x130x64x4x64.Idx) : val_main_v164 (F := Ideal) a0 a1 a2 i
    = (((if 1 ≤ (i 1).val ∧ (i 1).val - 1 < 128 then ∑ r : Fin 64, termK (data a0 a1 a2) (i 3).val (i 4).val (64 * (i 1).val + (i 2).val) (64 * ((i 1).val - 1) + r.val) else 0) : ℝ) : EReal) := by
  have h1 : (i 1).val < 130 := (i 1).isLt
  have h2 : (i 2).val < 64 := (i 2).isLt
  unfold val_main_v164
  by_cases c : 1 ≤ (i 1).val ∧ (i 1).val - 1 < 128
  · refine Eq.trans (pad_apply_of_inside _ _ _ _ _ _ _ i
      (ValueIdx.ix5 ⟨(i 0).val, (i 0).isLt⟩ ⟨((i 1).val - 1), by omega⟩ ⟨(i 2).val, h2⟩ ⟨(i 3).val, (i 3).isLt⟩ ⟨(i 4).val, (i 4).isLt⟩ : S1x128x64x4x64.Idx)
      (fun a => by
        match a with
        | ⟨0, _⟩ => show (i 0).val = 0 + (i 0).val * (0 + 1); omega
        | ⟨1, _⟩ => show (i 1).val = 1 + ((i 1).val - 1) * (0 + 1); omega
        | ⟨2, _⟩ => show (i 2).val = 0 + (i 2).val * (0 + 1); omega
        | ⟨3, _⟩ => show (i 3).val = 0 + (i 3).val * (0 + 1); omega
        | ⟨4, _⟩ => show (i 4).val = 0 + (i 4).val * (0 + 1); omega)) ?_
    rw [val_main_v161_apply, v148 h, if_pos c]
    show ((∑ r : Fin 64, termK (data a0 a1 a2) (i 3).val (i 4).val (64 * ((i 1).val - 1) + (64 + (i 2).val)) (64 * ((i 1).val - 1) + r.val) : ℝ) : EReal) = _
    rw [show 64 * ((i 1).val - 1) + (64 + (i 2).val) = 64 * (i 1).val + (i 2).val from by omega]
  · refine Eq.trans (pad_apply_of_not_inside _ _ _ _ _ _ _ i (1 : Fin S1x128x64x4x64.rank) (by show ¬(1 ≤ (i 1).val ∧ ((i 1).val - 1) % (0 + 1) = 0 ∧ ((i 1).val - 1) / (0 + 1) < 128); omega)) ?_
    rw [if_neg c]
    exact zero_f32

theorem v166 (i : S1x130x64x4x64.Idx) : val_main_v166 (F := Ideal) a0 a1 a2 i
    = (((if (i 1).val < 128 then ∑ r : Fin 64, termK (data a0 a1 a2) (i 3).val (i 4).val (64 * (i 1).val + (i 2).val) (64 * (i 1).val + r.val) else 0) : ℝ) : EReal) := by
  have h1 : (i 1).val < 130 := (i 1).isLt
  have h2 : (i 2).val < 64 := (i 2).isLt
  unfold val_main_v166
  by_cases c : (i 1).val < 128
  · refine Eq.trans (pad_apply_of_inside _ _ _ _ _ _ _ i
      (ValueIdx.ix5 ⟨(i 0).val, (i 0).isLt⟩ ⟨(i 1).val, by omega⟩ ⟨(i 2).val, h2⟩ ⟨(i 3).val, (i 3).isLt⟩ ⟨(i 4).val, (i 4).isLt⟩ : S1x128x64x4x64.Idx)
      (fun a => by
        match a with
        | ⟨0, _⟩ => show (i 0).val = 0 + (i 0).val * (0 + 1); omega
        | ⟨1, _⟩ => show (i 1).val = 0 + (i 1).val * (0 + 1); omega
        | ⟨2, _⟩ => show (i 2).val = 0 + (i 2).val * (0 + 1); omega
        | ⟨3, _⟩ => show (i 3).val = 0 + (i 3).val * (0 + 1); omega
        | ⟨4, _⟩ => show (i 4).val = 0 + (i 4).val * (0 + 1); omega)) ?_
    rw [val_main_v160_apply, v148 h, if_pos c]
  · refine Eq.trans (pad_apply_of_not_inside _ _ _ _ _ _ _ i (1 : Fin S1x128x64x4x64.rank) (by show ¬(0 ≤ (i 1).val ∧ ((i 1).val - 0) % (0 + 1) = 0 ∧ ((i 1).val - 0) / (0 + 1) < 128); omega)) ?_
    rw [if_neg c]
    exact zero_f32

theorem v167 (i : S1x130x64x4x64.Idx) : val_main_v167 (F := Ideal) a0 a1 a2 i
    = (((data a0 a1 a2).dk (64 * (i 1).val + (i 2).val) (i 3).val (i 4).val : ℝ) : EReal) := by
  have h2 : (i 2).val < 64 := (i 2).isLt
  have e : (64 * (i 1).val + (i 2).val) / 64 = (i 1).val := by omega
  have s := sum_rows_chunks (termK (data a0 a1 a2) (i 3).val (i 4).val (64 * (i 1).val + (i 2).val)) (64 * (i 1).val + (i 2).val)
  rw [e] at s
  rw [val_main_v167_apply, val_main_v165_apply, v163 h, v164 h, v166 h]
  refine ((congrArg (fun x : EReal => FloatOps.addf (F := Ideal) (φ := .f32) x _) (add_real _ _)).trans (add_real _ _)).trans (congrArg Real.toEReal ?_)
  exact s.symm

theorem v168 (i : S1x8320x4x64.Idx) : val_main_v168 (F := Ideal) a0 a1 a2 i
    = (((data a0 a1 a2).dk (i 1).val (i 2).val (i 3).val : ℝ) : EReal) := by
  have h0 : (i 0).val < 1 := (i 0).isLt
  have h1 : (i 1).val < 8320 := (i 1).isLt
  have h2 : (i 2).val < 4 := (i 2).isLt
  have h3 : (i 3).val < 64 := (i 3).isLt
  have e1 : ((idx_main_v168 i) 1).val = (i 1).val / 64 := by show _ % 130 = _; omega
  have e2 : ((idx_main_v168 i) 2).val = (i 1).val % 64 := by show _ % 64 = _; omega
  have e3 : ((idx_main_v168 i) 3).val = (i 2).val := by show _ % 4 = _; omega
  have e4 : ((idx_main_v168 i) 4).val = (i 3).val := by show _ % 64 = _; omega
  rw [val_main_v168_apply, v167 h, e1, e2, e3, e4, show 64 * ((i 1).val / 64) + (i 1).val % 64 = (i 1).val from by omega]

theorem v177 (i : S8192x256.Idx) : val_main_v177 (F := Ideal) a0 a1 a2 i
    = (((data a0 a1 a2).dk (128 + (i 0).val) ((i 1).val / 64) ((i 1).val % 64) : ℝ) : EReal) := by
  have h0 : (i 0).val < 8192 := (i 0).isLt
  have h1 : (i 1).val < 256 := (i 1).isLt
  have e1 : ((idx_main_v176 i) 1).val = (i 0).val := by show _ % 8192 = _; omega
  have e2 : ((idx_main_v176 i) 2).val = (i 1).val / 64 := by show _ % 4 = _; omega
  have e3 : ((idx_main_v176 i) 3).val = (i 1).val % 64 := by show _ % 64 = _; omega
  rw [val_main_v177_apply, val_main_v176_apply, val_main_v170_apply, v168 h]
  show ((((data a0 a1 a2).dk (128 + ((idx_main_v176 i) 1).val) ((idx_main_v176 i) 2).val ((idx_main_v176 i) 3).val : ℝ)) : EReal) = _
  rw [e1, e2, e3]

/-- The sinks' gradient, a row of lanes. -/
theorem v183 (i : S1x128.Idx) : val_main_v183 (F := Ideal) a0 a1 a2 i
    = (((if (i 1).val < 16 then (data a0 a1 a2).dsink (i 1).val else 0) : ℝ) : EReal) := by
  have h0 : (i 0).val < 1 := (i 0).isLt
  have h1 : (i 1).val < 128 := (i 1).isLt
  have e1 : ((idx_main_v183 i) 0).val = (i 1).val := by show (i 0).val * 128 + (i 1).val = _; omega
  rw [val_main_v183_apply]
  unfold val_main_v182
  by_cases c : (i 1).val < 16
  · refine Eq.trans (pad_apply_of_inside _ _ _ _ _ _ _ _ (ValueIdx.ix1 ⟨(i 1).val, c⟩ : S16.Idx) (fun a => by
      match a with | ⟨0, _⟩ => show ((idx_main_v183 i) 0).val = 0 + (i 1).val * (0 + 1); omega)) ?_
    have e2 : val_main_v172 (F := Ideal) (ValueIdx.ix1 ⟨(i 1).val, c⟩ : S16.Idx) = ((1 : ℝ) : EReal) := (val_main_v172_apply _).trans one_f32
    rw [val_main_v173_apply, e2, v140 h, mul_real, one_mul, if_pos c]
  · refine Eq.trans (pad_apply_of_not_inside _ _ _ _ _ _ _ _ (0 : Fin S16.rank)
      (by show ¬(0 ≤ ((idx_main_v183 i) 0).val ∧ (((idx_main_v183 i) 0).val - 0) % (0 + 1) = 0 ∧ (((idx_main_v183 i) 0).val - 0) / (0 + 1) < 16); omega)) ?_
    rw [if_neg c]
    show (((0#32 : BitVec 32).toInt : ℝ) : EReal) = _
    simp

end Stages

end Cert.Own.Attn.Ref

end
-- ==== Proof.AttnFinal.lean ====
/- The results of the attention's gradient: each is the reference's (AttnValue, AttnRefOut). -/
module

public import proofs.«01_k».proof.Proof.AttnValue
public import proofs.«01_k».proof.Proof.AttnRefOut
public import proofs.«01_k».proof.Proof.Finite
public import proofs.«01_k».proof.Proof.Gen.Pre_finite12

@[expose] public section

set_option maxRecDepth 8192

noncomputable section

namespace Cert.Kernel12Ideal.Own

open Idealize.ShloMosaic
open Cert.Kernel12Ideal Cert.Kernel12Ideal.Gen Cert.Own.Attn

theorem blk11 (x : FVec Ideal S8192x1024 .bf16) (t : Fin cfg0.N) (r : Fin 256) (n : Fin 1024) :
    ((cfg0.win 11).blk t).view.read (Elt Ideal) x (ix2 r n) = x (ix2 ⟨256 * (31 - t.val) + r.val, by omega⟩ n) := by
  blk_point [idx t]

theorem blk12 (x : FVec Ideal S8192x256 .bf16) (t : Fin cfg0.N) (r : Fin 256) (n : Fin 256) :
    ((cfg0.win 12).blk t).view.read (Elt Ideal) x (ix2 r n) = x (ix2 ⟨256 * (31 - t.val) + r.val, by omega⟩ n) := by
  blk_point [idx t]

theorem blk13 (x : FVec Ideal S8192x256 .bf16) (t : Fin cfg0.N) (r : Fin 256) (n : Fin 256) :
    ((cfg0.win 13).blk t).view.read (Elt Ideal) x (ix2 r n) = x (ix2 ⟨256 * (31 - t.val) + r.val, by omega⟩ n) := by
  blk_point [idx t]

theorem blk14 (x : FVec Ideal S8192x1024 .bf16) (t : Fin cfg0.N) (r : Fin 256) (n : Fin 1024) :
    ((cfg0.win 14).blk t).view.read (Elt Ideal) x (ix2 r n) = x (ix2 ⟨256 * (31 - t.val) + r.val, by omega⟩ n) := by
  blk_point [idx t]

theorem blk15 (x : FVec Ideal S1x128 .f32) (t : Fin cfg0.N) (r : Fin 1) (n : Fin 128) :
    ((cfg0.win 15).blk t).view.read (Elt Ideal) x (ix2 r n) = x (ix2 r n) := by
  blk_point [idx t]

variable {m : (ℓ : Loc nD τ sig) → Buf (Elt Ideal) ℓ} {c : Dev nD}
  (h : Ref.Reals (Entry.a0 m c) (Entry.a1 m c) (Entry.a2 m c))
include h

theorem final11_of (R : FVec Ideal S8192x1024 .bf16)
    (hR : ∀ i, R i = (((Entry.dt m c).dq ((i 0).val) ((i 1).val / 64) ((i 1).val % 64) : ℝ) : EReal)) : (dats m 0 c).arrAt 11 (cfgs 0).N = R := by
  refine (dats m 0 c).arrAt_eq_of_covers 11 _ (by decide +kernel) fun t hf y => ?_
  blk_simp
  obtain ⟨r, n, rfl⟩ : ∃ (r : Fin 256) (n : Fin 1024), y = ix2 r n := ⟨y 0, y 1, (ix_eq y).symm⟩
  refine Eq.trans ?_ (blk11 R t r n).symm
  rw [after0_11, hR]
  show (blkAt m c t).dq (qhead n) r (within n.val) = _
  rw [Blk.dq_real (holds h t), b_eq]
  rfl

theorem final11 : (dats m 0 c).arrAt 11 (cfgs 0).N
    = Cert.Reference12Ideal.Read.val_main_v175 (F := Ideal) (Entry.a0 m c) (Entry.a1 m c) (Entry.a2 m c) :=
  final11_of h _ (Ref.v175 h)

/-- A row of the keys' gradient: what the block's own rows give it and, from the upper half, what the point before carried. -/
theorem rowK_at (t : Fin cfg0.N) (r n : Fin 256) :
    rowK (blkAt m c t) ((grid0.coords t 0).val = 0) (carK (blkAt m c (prev t))) r n
      = (((Entry.dt m c).dk (128 + (256 * (31 - t.val) + r.val)) (n.val / 64) (n.val % 64) : ℝ) : EReal) := by
  have ht : t.val < 32 := Nat.lt_of_lt_of_eq t.isLt N_0
  have hr := r.isLt
  have split := sum_rows_blocks (fun u => Ref.termK (Entry.dt m c) (n.val / 64) (n.val % 64) (256 * (31 - t.val) + (128 + r.val)) u) (31 - t.val) (128 + r.val)
    (by omega) (by omega) (by omega)
  have whole : (Entry.dt m c).dk (128 + (256 * (31 - t.val) + r.val)) (n.val / 64) (n.val % 64) = _ :=
    (congrArg (fun p => (Entry.dt m c).dk p (n.val / 64) (n.val % 64)) (by omega : 128 + (256 * (31 - t.val) + r.val) = 256 * (31 - t.val) + (128 + r.val))).trans split
  rw [whole]
  unfold rowK
  by_cases p : r.val < 128
  · rw [dif_pos p, Blk.accK_real (holds h t), b_eq]
    refine congrArg (fun x : ℝ => (x : EReal)) ?_
    rw [sum_next_none _ _ _ (by omega), ite_self, add_zero]
    rfl
  · have own : (blkAt m c t).accK (khead n) ⟨256 + (r.val - 128), by omega⟩ (within n.val)
        = ((∑ u : Fin 256, if sees (256 * (31 - t.val) + u.val) (256 * (31 - t.val) + (128 + r.val))
          then Ref.termK (Entry.dt m c) (n.val / 64) (n.val % 64) (256 * (31 - t.val) + (128 + r.val)) (256 * (31 - t.val) + u.val) else 0 : ℝ) : EReal) := by
      rw [Blk.accK_real (holds h t), b_eq]
      refine congrArg (fun x : ℝ => (x : EReal)) ?_
      show (∑ u : Fin 256, if sees (256 * (31 - t.val) + u.val) (256 * (31 - t.val) + (256 + (r.val - 128)))
          then Ref.termK (Entry.dt m c) (n.val / 64) (n.val % 64) (256 * (31 - t.val) + (256 + (r.val - 128))) (256 * (31 - t.val) + u.val) else 0) = _
      rw [show 256 + (r.val - 128) = 128 + r.val by omega]
    rw [dif_neg p, own, coord_val]
    by_cases z : t.val = 0
    · rw [if_pos z, if_neg (by omega), add_zero, add_zero]
    · have carried : carK (blkAt m c (prev t)) (ix2 ⟨r.val - 128, by omega⟩ n)
          = ((∑ u : Fin 256, if sees (256 * (31 - t.val + 1) + u.val) (256 * (31 - t.val) + (128 + r.val))
            then Ref.termK (Entry.dt m c) (n.val / 64) (n.val % 64) (256 * (31 - t.val) + (128 + r.val)) (256 * (31 - t.val + 1) + u.val) else 0 : ℝ) : EReal) := by
        show (blkAt m c (prev t)).accK (khead n) ⟨r.val - 128, by omega⟩ (within n.val) = _
        rw [Blk.accK_real (holds h (prev t)), b_eq]
        refine congrArg (fun x : ℝ => (x : EReal)) ?_
        show (∑ u : Fin 256, if sees (256 * (31 - (t.val - 1)) + u.val) (256 * (31 - (t.val - 1)) + (r.val - 128))
            then Ref.termK (Entry.dt m c) (n.val / 64) (n.val % 64) (256 * (31 - (t.val - 1)) + (r.val - 128)) (256 * (31 - (t.val - 1)) + u.val) else 0) = _
        rw [show 256 * (31 - (t.val - 1)) + (r.val - 128) = 256 * (31 - t.val) + (128 + r.val) by omega, show 31 - (t.val - 1) = 31 - t.val + 1 by omega]
      rw [if_neg z, if_pos (by omega), carried, ← EReal.coe_add]

theorem final12_of (R : FVec Ideal S8192x256 .bf16)
    (hR : ∀ i, R i = (((Entry.dt m c).dk (128 + (i 0).val) ((i 1).val / 64) ((i 1).val % 64) : ℝ) : EReal)) : (dats m 0 c).arrAt 12 (cfgs 0).N = R := by
  refine (dats m 0 c).arrAt_eq_of_covers 12 _ (by decide +kernel) fun t hf y => ?_
  blk_simp
  obtain ⟨r, n, rfl⟩ : ∃ (r : Fin 256) (n : Fin 256), y = ix2 r n := ⟨y 0, y 1, (ix_eq y).symm⟩
  refine Eq.trans ?_ (blk12 R t r n).symm
  rw [after0_12, hR]
  exact rowK_at h t r n

theorem final12 : (dats m 0 c).arrAt 12 (cfgs 0).N
    = Cert.Reference12Ideal.Read.val_main_v177 (F := Ideal) (Entry.a0 m c) (Entry.a1 m c) (Entry.a2 m c) :=
  final12_of h _ (Ref.v177 h)

/-- A row of the values' gradient: what the block's own rows give it and, from the upper half, what the point before carried. -/
theorem rowV_at (t : Fin cfg0.N) (r n : Fin 256) :
    rowV (blkAt m c t) ((grid0.coords t 0).val = 0) (carV (blkAt m c (prev t))) r n
      = (((Entry.dt m c).dv (128 + (256 * (31 - t.val) + r.val)) (n.val / 64) (n.val % 64) : ℝ) : EReal) := by
  have ht : t.val < 32 := Nat.lt_of_lt_of_eq t.isLt N_0
  have hr := r.isLt
  have split := sum_rows_blocks (fun u => Ref.termV (Entry.dt m c) (n.val / 64) (n.val % 64) (256 * (31 - t.val) + (128 + r.val)) u) (31 - t.val) (128 + r.val)
    (by omega) (by omega) (by omega)
  have whole : (Entry.dt m c).dv (128 + (256 * (31 - t.val) + r.val)) (n.val / 64) (n.val % 64) = _ :=
    (congrArg (fun p => (Entry.dt m c).dv p (n.val / 64) (n.val % 64)) (by omega : 128 + (256 * (31 - t.val) + r.val) = 256 * (31 - t.val) + (128 + r.val))).trans split
  rw [whole]
  unfold rowV
  by_cases p : r.val < 128
  · rw [dif_pos p, Blk.accV_real (holds h t), b_eq]
    refine congrArg (fun x : ℝ => (x : EReal)) ?_
    rw [sum_next_none _ _ _ (by omega), ite_self, add_zero]
    rfl
  · have own : (blkAt m c t).accV (khead n) ⟨256 + (r.val - 128), by omega⟩ (within n.val)
        = ((∑ u : Fin 256, if sees (256 * (31 - t.val) + u.val) (256 * (31 - t.val) + (128 + r.val))
          then Ref.termV (Entry.dt m c) (n.val / 64) (n.val % 64) (256 * (31 - t.val) + (128 + r.val)) (256 * (31 - t.val) + u.val) else 0 : ℝ) : EReal) := by
      rw [Blk.accV_real (holds h t), b_eq]
      refine congrArg (fun x : ℝ => (x : EReal)) ?_
      show (∑ u : Fin 256, if sees (256 * (31 - t.val) + u.val) (256 * (31 - t.val) + (256 + (r.val - 128)))
          then Ref.termV (Entry.dt m c) (n.val / 64) (n.val % 64) (256 * (31 - t.val) + (256 + (r.val - 128))) (256 * (31 - t.val) + u.val) else 0) = _
      rw [show 256 + (r.val - 128) = 128 + r.val by omega]
    rw [dif_neg p, own, coord_val]
    by_cases z : t.val = 0
    · rw [if_pos z, if_neg (by omega), add_zero, add_zero]
    · have carried : carV (blkAt m c (prev t)) (ix2 ⟨r.val - 128, by omega⟩ n)
          = ((∑ u : Fin 256, if sees (256 * (31 - t.val + 1) + u.val) (256 * (31 - t.val) + (128 + r.val))
            then Ref.termV (Entry.dt m c) (n.val / 64) (n.val % 64) (256 * (31 - t.val) + (128 + r.val)) (256 * (31 - t.val + 1) + u.val) else 0 : ℝ) : EReal) := by
        show (blkAt m c (prev t)).accV (khead n) ⟨r.val - 128, by omega⟩ (within n.val) = _
        rw [Blk.accV_real (holds h (prev t)), b_eq]
        refine congrArg (fun x : ℝ => (x : EReal)) ?_
        show (∑ u : Fin 256, if sees (256 * (31 - (t.val - 1)) + u.val) (256 * (31 - (t.val - 1)) + (r.val - 128))
            then Ref.termV (Entry.dt m c) (n.val / 64) (n.val % 64) (256 * (31 - (t.val - 1)) + (r.val - 128)) (256 * (31 - (t.val - 1)) + u.val) else 0) = _
        rw [show 256 * (31 - (t.val - 1)) + (r.val - 128) = 256 * (31 - t.val) + (128 + r.val) by omega, show 31 - (t.val - 1) = 31 - t.val + 1 by omega]
      rw [if_neg z, if_pos (by omega), carried, ← EReal.coe_add]

theorem final13_of (R : FVec Ideal S8192x256 .bf16)
    (hR : ∀ i, R i = (((Entry.dt m c).dv (128 + (i 0).val) ((i 1).val / 64) ((i 1).val % 64) : ℝ) : EReal)) : (dats m 0 c).arrAt 13 (cfgs 0).N = R := by
  refine (dats m 0 c).arrAt_eq_of_covers 13 _ (by decide +kernel) fun t hf y => ?_
  blk_simp
  obtain ⟨r, n, rfl⟩ : ∃ (r : Fin 256) (n : Fin 256), y = ix2 r n := ⟨y 0, y 1, (ix_eq y).symm⟩
  refine Eq.trans ?_ (blk13 R t r n).symm
  rw [after0_13, hR]
  exact rowV_at h t r n

theorem final13 : (dats m 0 c).arrAt 13 (cfgs 0).N
    = Cert.Reference12Ideal.Read.val_main_v179 (F := Ideal) (Entry.a0 m c) (Entry.a1 m c) (Entry.a2 m c) :=
  final13_of h _ (Ref.v179 h)

theorem final14_of (R : FVec Ideal S8192x1024 .bf16)
    (hR : ∀ i, R i = (((Entry.dt m c).dz ((i 0).val) ((i 1).val / 64) ((i 1).val % 64) : ℝ) : EReal)) : (dats m 0 c).arrAt 14 (cfgs 0).N = R := by
  refine (dats m 0 c).arrAt_eq_of_covers 14 _ (by decide +kernel) fun t hf y => ?_
  blk_simp
  obtain ⟨r, n, rfl⟩ : ∃ (r : Fin 256) (n : Fin 1024), y = ix2 r n := ⟨y 0, y 1, (ix_eq y).symm⟩
  refine Eq.trans ?_ (blk14 R t r n).symm
  rw [after0_14, hR]
  show (blkAt m c t).dz (qhead n) r (within n.val) = _
  rw [Blk.dz_real (holds h t), b_eq]
  rfl

theorem final14 : (dats m 0 c).arrAt 14 (cfgs 0).N
    = Cert.Reference12Ideal.Read.val_main_v181 (F := Ideal) (Entry.a0 m c) (Entry.a1 m c) (Entry.a2 m c) :=
  final14_of h _ (Ref.v181 h)

/-- The sinks' gradient after a point: the rows of the blocks so far, from the last block down. -/
theorem sinks_real (l : Fin 128) (n : ℕ) (hn : n < cfg0.N) : sinks m c n hn l
    = (((if l.val < 16 then ∑ k ∈ Finset.range (n + 1), ∑ r : Fin 256,
        (Entry.dt m c).gden (256 * (31 - k) + r.val) l.val * (Entry.dt m c).E (256 * (31 - k) + r.val) l.val else 0) : ℝ) : EReal) := by
  induction n with
  | zero =>
    show (blkAt m c ⟨0, hn⟩).dsink l = _
    rw [Blk.dsink_real (holds h _), b_eq, Finset.sum_range_one]
  | succ n ih =>
    show sinks m c n (Nat.lt_of_succ_lt hn) l + (blkAt m c ⟨n + 1, hn⟩).dsink l = _
    rw [ih, Blk.dsink_real (holds h _), b_eq, ← EReal.coe_add]
    refine congrArg (fun x : ℝ => (x : EReal)) ?_
    by_cases hl : l.val < 16
    · rw [if_pos hl, if_pos hl, if_pos hl, Finset.sum_range_succ _ (n + 1)]
    · rw [if_neg hl, if_neg hl, if_neg hl, add_zero]

theorem final15_of (R : FVec Ideal S1x128 .f32)
    (hR : ∀ i, R i = (((if (i 1).val < 16 then (Entry.dt m c).dsink (i 1).val else 0) : ℝ) : EReal)) : (dats m 0 c).arrAt 15 (cfgs 0).N = R := by
  refine (dats m 0 c).arrAt_eq_of_covers 15 _ (by decide +kernel) fun t hf y => ?_
  have ht : t.val < 32 := Nat.lt_of_lt_of_eq t.isLt N_0
  have e : t.val % 32 = 31 := (flush0_15 t).mp hf
  blk_simp
  obtain ⟨r, n, rfl⟩ : ∃ (r : Fin 1) (n : Fin 128), y = ix2 r n := ⟨y 0, y 1, (ix_eq y).symm⟩
  refine Eq.trans ?_ (blk15 R t r n).symm
  rw [after0_15, hR]
  show sinks m c t.val t.isLt n = (((if n.val < 16 then (Entry.dt m c).dsink n.val else 0) : ℝ) : EReal)
  rw [sinks_real h, show t.val + 1 = 32 by omega]
  refine congrArg (fun x : ℝ => (x : EReal)) ?_
  by_cases hl : n.val < 16
  · rw [if_pos hl, if_pos hl]
    exact (sum_back fun u => (Entry.dt m c).gden u n.val * (Entry.dt m c).E u n.val).symm
  · rw [if_neg hl, if_neg hl]

theorem final15 : (dats m 0 c).arrAt 15 (cfgs 0).N
    = Cert.Reference12Ideal.Read.val_main_v183 (F := Ideal) (Entry.a0 m c) (Entry.a1 m c) (Entry.a2 m c) :=
  final15_of h _ (Ref.v183 h)

omit h in
/-- The precondition's bits say that the inputs are real numbers. -/
theorem reals (hp : (Cert.Pre_finite12.fn (F := Ideal) (Entry.a0 m c) (Entry.a1 m c) (Entry.a2 m c)).1 = (fun _ => 1#1)
    ∧ (Cert.Pre_finite12.fn (F := Ideal) (Entry.a0 m c) (Entry.a1 m c) (Entry.a2 m c)).2.1 = (fun _ => 1#1)
    ∧ (Cert.Pre_finite12.fn (F := Ideal) (Entry.a0 m c) (Entry.a1 m c) (Entry.a2 m c)).2.2 = (fun _ => 1#1)) : Ref.Reals (Entry.a0 m c) (Entry.a1 m c) (Entry.a2 m c) := by
  obtain ⟨h0, h1, h2⟩ := hp
  refine ⟨fun i lo hi => ?_, fun i => ?_, fun i => ?_⟩
  · have b := congrFun h0 (ix2 (i 0) ⟨(i 1).val - 2048, by omega⟩)
    pointwise [Cert.Pre_finite12.fn] at b
    obtain ⟨x, hx⟩ := Cert.Own.real_of_lt b
    refine ⟨x, Eq.trans (congrArg _ ?_) hx⟩
    funext a
    match a with
    | ⟨0, _⟩ => rfl
    | ⟨1, _⟩ => exact Fin.ext (by show (i 1).val = 2048 + ((i 1).val - 2048); omega)
  · have b := congrFun h1 i
    pointwise [Cert.Pre_finite12.fn] at b
    exact Cert.Own.real_of_lt b
  · have b := congrFun h2 i
    pointwise [Cert.Pre_finite12.fn] at b
    exact Cert.Own.real_of_lt b

end Cert.Kernel12Ideal.Own

end
-- ==== Proof.AttnRefRun.lean ====
/- The attention's gradient: the reference's run, its results in their stages. -/
module

public import proofs.«01_k».proof.Proof.Gen.Reference12Ideal
public import proofs.«01_k».proof.Proof.Gen.Reference12Ideal.Run
public import proofs.«01_k».proof.Proof.Gen.Reference12Ideal.Read
public import Idealize.ShloMosaic.Lib.Claim
public import Idealize.ShloMosaic.Adequacy
public import Idealize.ShloMosaic.Init

@[expose] public section

set_option maxRecDepth 16384

noncomputable section

namespace Cert.Own.AttnPair

open Idealize.ShloMosaic Idealize.SL.Sem

section Reference
open Cert.Reference12Ideal Cert.Reference12Ideal.Gen Cert.Reference12Ideal.Read

variable (m : (ℓ : Loc nD τ sig) → Buf (Elt Ideal) ℓ)

theorem v175_at (c : Dev nD) : val_main_v175 (F := Ideal) (StableHlo.launchContents m c (Proc.devRef .tc main_arg0)) (StableHlo.launchContents m c (Proc.devRef .tc main_arg1)) (StableHlo.launchContents m c (Proc.devRef .tc main_arg2))
    = val_main_v175 (F := Ideal) (m ((c.tc : Thread nD τ).loc main_arg0)) (m ((c.tc : Thread nD τ).loc main_arg1)) (m ((c.tc : Thread nD τ).loc main_arg2)) := rfl

theorem v177_at (c : Dev nD) : val_main_v177 (F := Ideal) (StableHlo.launchContents m c (Proc.devRef .tc main_arg0)) (StableHlo.launchContents m c (Proc.devRef .tc main_arg1)) (StableHlo.launchContents m c (Proc.devRef .tc main_arg2))
    = val_main_v177 (F := Ideal) (m ((c.tc : Thread nD τ).loc main_arg0)) (m ((c.tc : Thread nD τ).loc main_arg1)) (m ((c.tc : Thread nD τ).loc main_arg2)) := rfl

theorem v179_at (c : Dev nD) : val_main_v179 (F := Ideal) (StableHlo.launchContents m c (Proc.devRef .tc main_arg0)) (StableHlo.launchContents m c (Proc.devRef .tc main_arg1)) (StableHlo.launchContents m c (Proc.devRef .tc main_arg2))
    = val_main_v179 (F := Ideal) (m ((c.tc : Thread nD τ).loc main_arg0)) (m ((c.tc : Thread nD τ).loc main_arg1)) (m ((c.tc : Thread nD τ).loc main_arg2)) := rfl

theorem v181_at (c : Dev nD) : val_main_v181 (F := Ideal) (StableHlo.launchContents m c (Proc.devRef .tc main_arg0)) (StableHlo.launchContents m c (Proc.devRef .tc main_arg1)) (StableHlo.launchContents m c (Proc.devRef .tc main_arg2))
    = val_main_v181 (F := Ideal) (m ((c.tc : Thread nD τ).loc main_arg0)) (m ((c.tc : Thread nD τ).loc main_arg1)) (m ((c.tc : Thread nD τ).loc main_arg2)) := rfl

theorem v183_at (c : Dev nD) : val_main_v183 (F := Ideal) (StableHlo.launchContents m c (Proc.devRef .tc main_arg0)) (StableHlo.launchContents m c (Proc.devRef .tc main_arg1)) (StableHlo.launchContents m c (Proc.devRef .tc main_arg2))
    = val_main_v183 (F := Ideal) (m ((c.tc : Thread nD τ).loc main_arg0)) (m ((c.tc : Thread nD τ).loc main_arg1)) (m ((c.tc : Thread nD τ).loc main_arg2)) := rfl

set_option maxHeartbeats 1600000 in
theorem run (ρ : Dev nD → PrngReg) :
    θ_run defs (onTc (τ := τ) (main (F := Ideal))) ⟨m, fun _ => 0, ρ⟩ fun r => ∀ c : Dev nD,
      r.2.mem ((c.tc : Thread nD τ).loc main_v175) = val_main_v175 (F := Ideal) (m ((c.tc : Thread nD τ).loc main_arg0)) (m ((c.tc : Thread nD τ).loc main_arg1)) (m ((c.tc : Thread nD τ).loc main_arg2))
      ∧ r.2.mem ((c.tc : Thread nD τ).loc main_v177) = val_main_v177 (F := Ideal) (m ((c.tc : Thread nD τ).loc main_arg0)) (m ((c.tc : Thread nD τ).loc main_arg1)) (m ((c.tc : Thread nD τ).loc main_arg2))
      ∧ r.2.mem ((c.tc : Thread nD τ).loc main_v179) = val_main_v179 (F := Ideal) (m ((c.tc : Thread nD τ).loc main_arg0)) (m ((c.tc : Thread nD τ).loc main_arg1)) (m ((c.tc : Thread nD τ).loc main_arg2))
      ∧ r.2.mem ((c.tc : Thread nD τ).loc main_v181) = val_main_v181 (F := Ideal) (m ((c.tc : Thread nD τ).loc main_arg0)) (m ((c.tc : Thread nD τ).loc main_arg1)) (m ((c.tc : Thread nD τ).loc main_arg2))
      ∧ r.2.mem ((c.tc : Thread nD τ).loc main_v183) = val_main_v183 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v175_eq (StableHlo.launchContents m c)).trans (v175_at m c)),
    (h c).2.1.trans ((val_main_v177_eq (StableHlo.launchContents m c)).trans (v177_at m c)),
    (h c).2.2.1.trans ((val_main_v179_eq (StableHlo.launchContents m c)).trans (v179_at m c)),
    (h c).2.2.2.1.trans ((val_main_v181_eq (StableHlo.launchContents m c)).trans (v181_at m c)),
    (h c).2.2.2.2.1.trans ((val_main_v183_eq (StableHlo.launchContents m c)).trans (v183_at m c)),
    (h c).2.2.2.2.2⟩) (Cert.Reference12Ideal.Value.run m ρ)

end Reference

end Cert.Own.AttnPair

end
-- ==== Proof.AttnPair.lean ====
/- The attention's gradient against its reference: the two programs end with the same arrays. -/
module

public import proofs.«01_k».proof.Defs
public import proofs.«01_k».proof.Proof.AttnFinal
public import proofs.«01_k».proof.Proof.Gen.Kernel12Ideal
public import proofs.«01_k».proof.Proof.Gen.Reference12Ideal
public import proofs.«01_k».proof.Proof.AttnRefRun
public import proofs.«01_k».proof.Proof.Gen.Pre_finite12
public import Idealize.ShloMosaic.Lib.Claim
public import Idealize.ShloMosaic.Adequacy
public import Idealize.ShloMosaic.Init

@[expose] public section

set_option maxRecDepth 16384

noncomputable section

namespace Cert.Own.AttnPair

open Idealize.ShloMosaic Idealize.SL.Sem

set_option maxHeartbeats 3200000 in
theorem algebraic : Cert.algebraic_Kernel12Ideal_Reference12Ideal_pre_finite12 := by
  pair_intro
  · run_from Cert.Own.Attn.run_main m g
  · run_from Cert.Own.AttnPair.run m' g'
    · exact (Cert.Kernel12Ideal.Own.final11 (m := m) (c := c) (Cert.Kernel12Ideal.Own.reals (m := m) (c := c) (hpre c))).symm
    · exact (Cert.Kernel12Ideal.Own.final12 (m := m) (c := c) (Cert.Kernel12Ideal.Own.reals (m := m) (c := c) (hpre c))).symm
    · exact (Cert.Kernel12Ideal.Own.final13 (m := m) (c := c) (Cert.Kernel12Ideal.Own.reals (m := m) (c := c) (hpre c))).symm
    · exact (Cert.Kernel12Ideal.Own.final14 (m := m) (c := c) (Cert.Kernel12Ideal.Own.reals (m := m) (c := c) (hpre c))).symm
    · exact (Cert.Kernel12Ideal.Own.final15 (m := m) (c := c) (Cert.Kernel12Ideal.Own.reals (m := m) (c := c) (hpre c))).symm

end Cert.Own.AttnPair

end
-- ==== Proof.AdamAda.lean ====
/- The optimiser's update of the modulation's weight, a band of rows a grid point: the two moments and the step. -/
module

public import proofs.«01_k».proof.Proof.Gen.Kernel13Ideal.Frame
public import proofs.«01_k».proof.Proof.Gen.Reference13Ideal.Run
public import Idealize.ShloMosaic.Lib.Pipeline.ValueKit
public import Idealize.ShloMosaic.Lib.Claim
public import Idealize.ShloMosaic.Lib.Pointwise

@[expose] public section

set_option maxRecDepth 16384

noncomputable section

namespace Cert.Kernel13Ideal.Own

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- The layers' matrices one under the other. -/
def flat (X : FVec Ideal S4x2048x1536 .f32) : FVec Ideal S8192x1536 .f32 :=
  shapeCast Cert.Reference13Ideal.S8192x1536 X Cert.Reference13Ideal.Gen.shapeCasts_S4x2048x1536_S8192x1536

/-- The first moment's entry. -/
def mom1 (g a : EReal) : EReal :=
  (Scalar.ofBits .f32 0x3F666666#32 : Ideal .f32) * a + (Scalar.ofBits .f32 0x3DCCCCCD#32 : Ideal .f32) * g

/-- The second moment's entry. -/
def mom2 (g b : EReal) : EReal :=
  (Scalar.ofBits .f32 0x3F7FBE77#32 : Ideal .f32) * b + (Scalar.ofBits .f32 0x3A83126F#32 : Ideal .f32) * (g * g)

/-- The step's entry. -/
def step (w g a b : EReal) : EReal :=
  (Scalar.ofBits .f32 0xBA83126F#32 : Ideal .f32)
    * (Ideal.div (Ideal.div (mom1 g a) (Scalar.ofBits .f32 0x3F26BD02#32 : Ideal .f32))
        (Ideal.sqrt (Ideal.div (mom2 g b) (Scalar.ofBits .f32 0x3C231ACC#32 : Ideal .f32)) + (Scalar.ofBits .f32 0x322BCC77#32 : Ideal .f32))
      + (Scalar.ofBits .f32 0x3C23D70A#32 : Ideal .f32) * w)

/-- The reference's term: the step. -/
def REF5 (W G M V : FVec Ideal S4x2048x1536 .f32) : FVec Ideal S8192x1536 .f32 :=
  shapeCast Cert.Reference13Ideal.S8192x1536 (mulf (broadcastInDim Cert.Reference13Ideal.S4x2048x1536 ![] Cert.Reference13Ideal.Gen.bcast_S_S4x2048x1536 (constant Cert.Reference13Ideal.S_ .f32 0xBA83126F#32)) (addf (Host.divf (Host.divf (addf (mulf (broadcastInDim Cert.Reference13Ideal.S4x2048x1536 ![] Cert.Reference13Ideal.Gen.bcast_S_S4x2048x1536 (constant Cert.Reference13Ideal.S_ .f32 0x3F666666#32)) M) (mulf (broadcastInDim Cert.Reference13Ideal.S4x2048x1536 ![] Cert.Reference13Ideal.Gen.bcast_S_S4x2048x1536 (constant Cert.Reference13Ideal.S_ .f32 0x3DCCCCCD#32)) G)) (broadcastInDim Cert.Reference13Ideal.S4x2048x1536 ![] Cert.Reference13Ideal.Gen.bcast_S_S4x2048x1536 (constant Cert.Reference13Ideal.S_ .f32 0x3F26BD02#32))) (addf (Host.sqrt (Host.divf (addf (mulf (broadcastInDim Cert.Reference13Ideal.S4x2048x1536 ![] Cert.Reference13Ideal.Gen.bcast_S_S4x2048x1536 (constant Cert.Reference13Ideal.S_ .f32 0x3F7FBE77#32)) V) (mulf (broadcastInDim Cert.Reference13Ideal.S4x2048x1536 ![] Cert.Reference13Ideal.Gen.bcast_S_S4x2048x1536 (constant Cert.Reference13Ideal.S_ .f32 0x3A83126F#32)) (mulf G G))) (broadcastInDim Cert.Reference13Ideal.S4x2048x1536 ![] Cert.Reference13Ideal.Gen.bcast_S_S4x2048x1536 (constant Cert.Reference13Ideal.S_ .f32 0x3C231ACC#32)))) (broadcastInDim Cert.Reference13Ideal.S4x2048x1536 ![] Cert.Reference13Ideal.Gen.bcast_S_S4x2048x1536 (constant Cert.Reference13Ideal.S_ .f32 0x322BCC77#32)))) (mulf (broadcastInDim Cert.Reference13Ideal.S4x2048x1536 ![] Cert.Reference13Ideal.Gen.bcast_S_S4x2048x1536 (constant Cert.Reference13Ideal.S_ .f32 0x3C23D70A#32)) W))) Cert.Reference13Ideal.Gen.shapeCasts_S4x2048x1536_S8192x1536

/-- The reference's term: the first moment. -/
def REF6 (W G M V : FVec Ideal S4x2048x1536 .f32) : FVec Ideal S8192x1536 .f32 :=
  shapeCast Cert.Reference13Ideal.S8192x1536 (addf (mulf (broadcastInDim Cert.Reference13Ideal.S4x2048x1536 ![] Cert.Reference13Ideal.Gen.bcast_S_S4x2048x1536 (constant Cert.Reference13Ideal.S_ .f32 0x3F666666#32)) M) (mulf (broadcastInDim Cert.Reference13Ideal.S4x2048x1536 ![] Cert.Reference13Ideal.Gen.bcast_S_S4x2048x1536 (constant Cert.Reference13Ideal.S_ .f32 0x3DCCCCCD#32)) G)) Cert.Reference13Ideal.Gen.shapeCasts_S4x2048x1536_S8192x1536

/-- The reference's term: the second moment. -/
def REF7 (W G M V : FVec Ideal S4x2048x1536 .f32) : FVec Ideal S8192x1536 .f32 :=
  shapeCast Cert.Reference13Ideal.S8192x1536 (addf (mulf (broadcastInDim Cert.Reference13Ideal.S4x2048x1536 ![] Cert.Reference13Ideal.Gen.bcast_S_S4x2048x1536 (constant Cert.Reference13Ideal.S_ .f32 0x3F7FBE77#32)) V) (mulf (broadcastInDim Cert.Reference13Ideal.S4x2048x1536 ![] Cert.Reference13Ideal.Gen.bcast_S_S4x2048x1536 (constant Cert.Reference13Ideal.S_ .f32 0x3A83126F#32)) (mulf G G))) Cert.Reference13Ideal.Gen.shapeCasts_S4x2048x1536_S8192x1536

theorem ref5_at (W G M V : FVec Ideal S4x2048x1536 .f32) (j : S8192x1536.Idx) : REF5 W G M V j = step (flat W j) (flat G j) (flat M j) (flat V j) := by
  idx_vars j
  pointwise [REF5, flat]
  rfl

theorem ref6_at (W G M V : FVec Ideal S4x2048x1536 .f32) (j : S8192x1536.Idx) : REF6 W G M V j = mom1 (flat G j) (flat M j) := by
  idx_vars j
  pointwise [REF6, flat]
  rfl

theorem ref7_at (W G M V : FVec Ideal S4x2048x1536 .f32) (j : S8192x1536.Idx) : REF7 W G M V j = mom2 (flat G j) (flat V j) := by
  idx_vars j
  pointwise [REF7, flat]
  rfl

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem entry0 (c : Dev nD) : V m c (Pipeline.arrRef spec0 0) = flat (m ((c : Thread nD τ).loc main_arg0)) := by
  show V m c main_v0 = _
  entry_read
  rfl

theorem entry1 (c : Dev nD) : V m c (Pipeline.arrRef spec0 1) = flat (m ((c : Thread nD τ).loc main_arg2)) := by
  show V m c main_v1 = _
  entry_read
  rfl

theorem entry2 (c : Dev nD) : V m c (Pipeline.arrRef spec0 2) = flat (m ((c : Thread nD τ).loc main_arg3)) := by
  show V m c main_v2 = _
  entry_read
  rfl

theorem entry3 (c : Dev nD) : V m c (Pipeline.arrRef spec0 3) = flat (m ((c : Thread nD τ).loc main_arg1)) := by
  show V m c main_v3 = _
  entry_read
  rfl

theorem final4 (c : Dev nD) : (dats m 0 c).arrAt 4 (cfgs 0).N = flat (m ((c : Thread nD τ).loc main_arg1)) := by
  refine (dats m 0 c).arrAt_eq_of_covers 4 _ (by decide +kernel) fun t hf y => ?_
  blk_simp
  rw [after0_4]
  frame_out
  pointwise [k0_pay1]
  blk_point [iblk, entry3, idx t]

theorem final5 (c : Dev nD) : (dats m 0 c).arrAt 5 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, ref5_at]
  frame_out
  pointwise [k0_pay1, k0_pay2, k0_pay3, k0_pay4, step, mom1, mom2]
  blk_point [iblk, entry0, entry1, entry2, entry3, idx t]

theorem final6 (c : Dev nD) : (dats m 0 c).arrAt 6 (cfgs 0).N = REF6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, ref6_at]
  frame_out
  pointwise [k0_pay1, k0_pay2, mom1]
  blk_point [iblk, entry0, entry1, entry2, entry3, idx t]

theorem final7 (c : Dev nD) : (dats m 0 c).arrAt 7 (cfgs 0).N = REF7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, ref7_at]
  frame_out
  pointwise [k0_pay1, k0_pay3, mom2]
  blk_point [iblk, entry0, entry1, entry2, entry3, idx t]

end Cert.Kernel13Ideal.Own

end
-- ==== Proof.AdaGrad.lean ====
/- The gradient of the modulation's weight, a tile of a layer's matrix a grid point: an outer product per row of `c`, summed. -/
module

public import proofs.«01_k».proof.Proof.Gen.Kernel14Ideal.Frame
public import proofs.«01_k».proof.Proof.Gen.Reference14Ideal.Run
public import Idealize.ShloMosaic.Lib.Pipeline.ValueKit
public import Idealize.ShloMosaic.Lib.Claim
public import Idealize.ShloMosaic.Lib.Pointwise

@[expose] public section

set_option maxRecDepth 16384

noncomputable section

namespace Cert.Kernel14Ideal.Own

open Cert.Kernel14Ideal Cert.Kernel14Ideal.Gen
open Idealize.ShloMosaic Idealize.ShloMosaic.TcCoe Idealize.SL.Sem
open Idealize.ShloMosaic.Pipeline (Dat)

variable (m : (ℓ : Loc nD τ sig) → Buf (Elt Ideal) ℓ)

/-- The reference's term. -/
def REF (C : FVec Ideal S8x2048 .f32) (D : FVec Ideal S4x8x1536 .f32) : FVec Ideal S4x2048x1536 .f32 :=
  transpose Cert.Reference14Ideal.S4x2048x1536 [0, 2, 1] (Host.dotGeneral Cert.Reference14Ideal.dot_S4x1536x8_S8x2048_S4x1536x2048_2_0_01_1_n_n none (transpose Cert.Reference14Ideal.S4x1536x8 [0, 2, 1] D Cert.Reference14Ideal.Gen.transposes_S4x8x1536_S4x1536x8_0_2_1) (mulf C (Host.divf (broadcastInDim Cert.Reference14Ideal.S8x2048 ![] Cert.Reference14Ideal.Gen.bcast_S_S8x2048 (constant Cert.Reference14Ideal.S_ .f32 0x3F800000#32)) (addf (broadcastInDim Cert.Reference14Ideal.S8x2048 ![] Cert.Reference14Ideal.Gen.bcast_S_S8x2048 (constant Cert.Reference14Ideal.S_ .f32 0x3F800000#32)) (Host.exp (Host.negf C)))))) Cert.Reference14Ideal.Gen.transposes_S4x1536x2048_S4x2048x1536_0_2_1

/-- The activation's entry. -/
def act (c : EReal) : EReal := c * Ideal.logistic c

theorem ref_at (C : FVec Ideal S8x2048 .f32) (D : FVec Ideal S4x8x1536 .f32) (j : S4x2048x1536.Idx) :
    REF C D j = ∑ k : Fin 8, act (C (ix2 k (j 1))) * D (ix3 (j 0) k (j 2)) := by
  idx_vars j
  pointwise [REF]
  exact Finset.sum_congr rfl fun k _ => mul_comm _ _

theorem sum_ext (f g : Fin 8 → EReal) (h : ∀ k, f k = g k) : ∑ k, f k = ∑ k, g k := Finset.sum_congr rfl fun k _ => h k

/-- The rows of `c` as columns. -/
def cols (C : FVec Ideal S8x2048 .f32) : FVec Ideal S2048x8 .f32 := transpose S2048x8 [1, 0] C transposes_S8x2048_S2048x8_1_0

theorem entry0 (c : Dev nD) : V m c (Pipeline.arrRef spec0 0) = cols (m ((c : Thread nD τ).loc main_arg0)) := by
  show V m c main_v0 = _
  entry_read
  rfl

theorem pay_at (a : FVec Ideal S512x8 .f32) (d : FVec Ideal S1x8x512 .f32) (j : S1x512x512.Idx) :
    k0_pay1 (F := Ideal) (k0_pay3 d) (k0_pay4 a d) (k0_pay5 a) j = ∑ k : Fin 8, act (a (ix2 (j 1) k)) * d (ix3 0 k (j 2)) := by
  idx_vars j
  rw [Fin.sum_univ_eight]
  pointwise [k0_pay1, k0_pay2, k0_pay3, k0_pay4, k0_pay5]
  rfl

theorem idx : ∀ t : Fin cfg0.N, win0_0.index t = ![t.val / 3 % 4, 0] ∧ win0_1.index t = ![t.val / 12, 0, t.val % 3]
    ∧ win0_2.index t = ![t.val / 12, t.val / 3 % 4, t.val % 3] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, ref_at]
  frame_out
  rw [pay_at]
  refine sum_ext _ _ fun k => ?_
  pointwise [act, cols]
  blk_point [iblk, entry0, cols, V, idx t]

end Cert.Kernel14Ideal.Own

end
-- ==== Proof.AdamRows.lean ====
/- The optimiser's small weights laid out as the rows of one block, by its host code and by the reference. -/
module

public import proofs.«01_k».proof.Proof.Gen.Kernel15Ideal.Frame
public import proofs.«01_k».proof.Proof.AdamAda
public import proofs.«01_k».proof.Proof.Gen.Reference15Ideal.Run
public import Idealize.ShloMosaic.Lib.Pipeline.ValueKit
public import Idealize.ShloMosaic.Lib.Claim
public import Idealize.ShloMosaic.Lib.Pointwise

@[expose] public section

set_option maxRecDepth 16384

noncomputable section

namespace Cert.Kernel15Ideal.Own

open Cert.Kernel15Ideal Cert.Kernel15Ideal.Gen
open Idealize.ShloMosaic Idealize.ShloMosaic.TcCoe Idealize.SL.Sem
open Idealize.ShloMosaic.Pipeline (Dat)
open Cert.Kernel13Ideal.Own (mom1 mom2 step)

/-- Nine weights' entries, each in one row. -/
structure Parts where
  p0 : FVec Ideal S8192 .f32
  p1 : FVec Ideal S24576 .f32
  p2 : FVec Ideal S4096 .f32
  p3 : FVec Ideal S64 .f32
  p4 : FVec Ideal S31744 .f32
  p5 : FVec Ideal S4096 .f32
  p6 : FVec Ideal S4096 .f32
  p7 : FVec Ideal S4096 .f32
  p8 : FVec Ideal S2048 .f32

/-- The block as the reference lays it out: the entries in order, then zeros. -/
def block (P : Parts) : FVec Ideal S8x10496 .f32 :=
  shapeCast Cert.Reference15Ideal.S8x10496 (concatenate Cert.Reference15Ideal.S83968 0 [⟨Cert.Reference15Ideal.S8192, P.p0⟩, ⟨Cert.Reference15Ideal.S24576, P.p1⟩, ⟨Cert.Reference15Ideal.S4096, P.p2⟩, ⟨Cert.Reference15Ideal.S64, P.p3⟩, ⟨Cert.Reference15Ideal.S31744, P.p4⟩, ⟨Cert.Reference15Ideal.S4096, P.p5⟩, ⟨Cert.Reference15Ideal.S4096, P.p6⟩, ⟨Cert.Reference15Ideal.S4096, P.p7⟩, ⟨Cert.Reference15Ideal.S2048, P.p8⟩, ⟨Cert.Reference15Ideal.S960, broadcastInDim Cert.Reference15Ideal.S960 ![] Cert.Reference15Ideal.Gen.bcast_S_S960 (constant Cert.Reference15Ideal.S_ .f32 0x00000000#32)⟩] Cert.Reference15Ideal.Gen.concatenates_S8192_S24576_S4096_S64_S31744_S4096_S4096_S4096_S2048_S960_S83968_d0) Cert.Reference15Ideal.Gen.shapeCasts_S83968_S8x10496

theorem map_dite {c : Prop} [Decidable c] (f : EReal → EReal → EReal → EReal → EReal) {y w g a b : c → EReal} {y' w' g' a' b' : ¬ c → EReal}
    (h : ∀ h, y h = f (w h) (g h) (a h) (b h)) (h' : ∀ h, y' h = f (w' h) (g' h) (a' h) (b' h)) :
    dite c y y' = f (dite c w w') (dite c g g') (dite c a a') (dite c b b') := by
  by_cases hc : c
  · simp only [dif_pos hc, h]
  · simp only [dif_neg hc, h']

theorem zero_int : (FloatOps.sitofp FTy.f32 0#32 : Ideal .f32) = 0 := by
  show (((0#32 : BitVec 32).toInt : ℝ) : EReal) = 0
  simp

theorem block_map (f : EReal → EReal → EReal → EReal → EReal) (hf : f 0 0 0 0 = 0) (Y W G M V : Parts)
    (h0 : ∀ i, Y.p0 i = f (W.p0 i) (G.p0 i) (M.p0 i) (V.p0 i)) (h1 : ∀ i, Y.p1 i = f (W.p1 i) (G.p1 i) (M.p1 i) (V.p1 i))
    (h2 : ∀ i, Y.p2 i = f (W.p2 i) (G.p2 i) (M.p2 i) (V.p2 i)) (h3 : ∀ i, Y.p3 i = f (W.p3 i) (G.p3 i) (M.p3 i) (V.p3 i))
    (h4 : ∀ i, Y.p4 i = f (W.p4 i) (G.p4 i) (M.p4 i) (V.p4 i)) (h5 : ∀ i, Y.p5 i = f (W.p5 i) (G.p5 i) (M.p5 i) (V.p5 i))
    (h6 : ∀ i, Y.p6 i = f (W.p6 i) (G.p6 i) (M.p6 i) (V.p6 i)) (h7 : ∀ i, Y.p7 i = f (W.p7 i) (G.p7 i) (M.p7 i) (V.p7 i))
    (h8 : ∀ i, Y.p8 i = f (W.p8 i) (G.p8 i) (M.p8 i) (V.p8 i)) (j : S8x10496.Idx) :
    block Y j = f (block W j) (block G j) (block M j) (block V j) := by
  idx_vars j
  pointwise [block]
  refine map_dite f (fun h => h0 _) fun h => ?_
  refine map_dite f (fun h => h1 _) fun h => ?_
  refine map_dite f (fun h => h2 _) fun h => ?_
  refine map_dite f (fun h => h3 _) fun h => ?_
  refine map_dite f (fun h => h4 _) fun h => ?_
  refine map_dite f (fun h => h5 _) fun h => ?_
  refine map_dite f (fun h => h6 _) fun h => ?_
  refine map_dite f (fun h => h7 _) fun h => ?_
  refine map_dite f (fun h => h8 _) fun h => ?_
  exact hf.symm

/-- The block as the kernel's host code lays it out. -/
def packed (P : Parts) : FVec Ideal S8x10496 .f32 :=
  shapeCast S8x10496 (pad S83968 ![0] ![960] ![0] (concatenate S83008 0 [⟨S8192, P.p0⟩, ⟨S24576, P.p1⟩, ⟨S4096, P.p2⟩, ⟨S64, P.p3⟩, ⟨S31744, P.p4⟩, ⟨S4096, P.p5⟩, ⟨S4096, P.p6⟩, ⟨S4096, P.p7⟩, ⟨S2048, P.p8⟩] concatenates_S8192_S24576_S4096_S64_S31744_S4096_S4096_S4096_S2048_S83008_d0) (sitofp .f32 (constantI S_ 32 0#32)) pads_S83008_S83968_09600 h_S_) shapeCasts_S83968_S8x10496

theorem packed_eq (P : Parts) : packed P = block P := by
  funext j
  idx_vars j
  pointwise [packed, block]
  by_cases hn : (j0 : ℕ) * 10496 + (j1 : ℕ) < 83008
  · rw [dif_pos hn]
    refine dite_congr rfl (fun _ => rfl) fun h => ?_
    refine dite_congr rfl (fun _ => rfl) fun h => ?_
    refine dite_congr rfl (fun _ => rfl) fun h => ?_
    refine dite_congr rfl (fun _ => rfl) fun h => ?_
    refine dite_congr rfl (fun _ => rfl) fun h => ?_
    refine dite_congr rfl (fun _ => rfl) fun h => ?_
    refine dite_congr rfl (fun _ => rfl) fun h => ?_
    refine dite_congr rfl (fun _ => rfl) fun h => ?_
    rw [dif_pos (by omega)]
  · rw [dif_neg hn, dif_neg (by omega), dif_neg (by omega), dif_neg (by omega), dif_neg (by omega), dif_neg (by omega), dif_neg (by omega), dif_neg (by omega), dif_neg (by omega), dif_neg (by omega)]
    exact zero_int

/-- The weights' arrays, each flat. -/
def flats (a0 : FVec Ideal S4x2048 .f32) (a1 : FVec Ideal S4x6144 .f32) (a2 : FVec Ideal S4x1024 .f32) (a3 : FVec Ideal S4x16 .f32) (a4 : FVec Ideal S4x31x256 .f32) (a5 : FVec Ideal S4x1024 .f32) (a6 : FVec Ideal S4x1024 .f32) (a7 : FVec Ideal S4x1024 .f32) (a8 : FVec Ideal S2048 .f32) : Parts where
  p0 := shapeCast S8192 a0 shapeCasts_S4x2048_S8192
  p1 := shapeCast S24576 a1 shapeCasts_S4x6144_S24576
  p2 := shapeCast S4096 a2 shapeCasts_S4x1024_S4096
  p3 := shapeCast S64 a3 shapeCasts_S4x16_S64
  p4 := shapeCast S31744 a4 shapeCasts_S4x31x256_S31744
  p5 := shapeCast S4096 a5 shapeCasts_S4x1024_S4096
  p6 := shapeCast S4096 a6 shapeCasts_S4x1024_S4096
  p7 := shapeCast S4096 a7 shapeCasts_S4x1024_S4096
  p8 := a8

/-- A block computed entry by entry. -/
def upd (f : EReal → EReal → EReal → EReal → EReal) (W G M V : Parts) : FVec Ideal S8x10496 .f32 :=
  fun j => f (block W j) (block G j) (block M j) (block V j)

theorem div_of_zero {c : EReal} (h : c ≠ 0) : Ideal.div 0 c = 0 := by rw [Ideal.div, if_neg h, zero_mul]

theorem mom1_zero : mom1 0 0 = 0 := by simp [mom1]

theorem mom2_zero : mom2 0 0 = 0 := by simp [mom2]

theorem bias1 : (Scalar.ofBits .f32 0x3F26BD02#32 : Ideal .f32) ≠ 0 := by
  show Ideal.ofBits .f32 0x3F26BD02#32 ≠ 0
  simp [Ideal.ofBits, Ideal.ieee]

theorem bias2 : (Scalar.ofBits .f32 0x3C231ACC#32 : Ideal .f32) ≠ 0 := by
  show Ideal.ofBits .f32 0x3C231ACC#32 ≠ 0
  simp [Ideal.ofBits, Ideal.ieee]

theorem epsilon : (Scalar.ofBits .f32 0x322BCC77#32 : Ideal .f32) ≠ 0 := by
  show Ideal.ofBits .f32 0x322BCC77#32 ≠ 0
  simp [Ideal.ofBits, Ideal.ieee]

theorem sqrt_zero : Ideal.sqrt 0 = 0 := by
  show (if (0 : ℝ) < 0 then ⊥ else ((Real.sqrt 0 : ℝ) : EReal)) = 0
  simp

theorem step_zero : step 0 0 0 0 = 0 := by
  rw [step, mom1_zero, mom2_zero, div_of_zero bias1, div_of_zero bias2, sqrt_zero, zero_add, div_of_zero epsilon, mul_zero, add_zero, mul_zero]

end Cert.Kernel15Ideal.Own

end
-- ==== Proof.AdamSmall.lean ====
/- The optimiser's update of the small weights, packed as the rows of one block: the two moments and the step of each. -/
module

public import proofs.«01_k».proof.Proof.AdamRows
public import proofs.«01_k».proof.Proof.Gen.Kernel15Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel15Ideal.Own

open Cert.Kernel15Ideal Cert.Kernel15Ideal.Gen
open Idealize.ShloMosaic Idealize.ShloMosaic.TcCoe Idealize.SL.Sem
open Idealize.ShloMosaic.Pipeline (Dat)
open Cert.Kernel13Ideal.Own (mom1 mom2 step)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem entry0 (c : Dev nD) : V m c (Pipeline.arrRef spec0 0) = block (Cert.Kernel15Ideal.Own.flats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [← packed_eq]
  show V m c main_v10 = _
  entry_read
  rfl

theorem entry1 (c : Dev nD) : V m c (Pipeline.arrRef spec0 1) = block (Cert.Kernel15Ideal.Own.flats (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) := by
  rw [← packed_eq]
  show V m c main_v21 = _
  entry_read
  rfl

theorem entry2 (c : Dev nD) : V m c (Pipeline.arrRef spec0 2) = block (Cert.Kernel15Ideal.Own.flats (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) := by
  rw [← packed_eq]
  show V m c main_v32 = _
  entry_read
  rfl

theorem entry3 (c : Dev nD) : V m c (Pipeline.arrRef spec0 3) = block (Cert.Kernel15Ideal.Own.flats (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  rw [← packed_eq]
  show V m c main_v43 = _
  entry_read
  rfl

theorem final4_of (c : Dev nD) (W A B G : FVec Ideal S8x10496 .f32) (h0 : V m c (Pipeline.arrRef spec0 0) = W) (h1 : V m c (Pipeline.arrRef spec0 1) = A)
    (h2 : V m c (Pipeline.arrRef spec0 2) = B) (h3 : V m c (Pipeline.arrRef spec0 3) = G) : (dats m 0 c).arrAt 4 (cfgs 0).N
    = G := by
  refine (dats m 0 c).arrAt_eq_of_covers 4 _ (by decide +kernel) fun t hf y => ?_
  blk_simp
  rw [after0_4]
  frame_out
  pointwise [k0_pay1]
  blk_point [iblk, h0, h1, h2, h3, idx t]

theorem final4 (c : Dev nD) : (dats m 0 c).arrAt 4 (cfgs 0).N
    = block (Cert.Kernel15Ideal.Own.flats (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :=
  final4_of m c _ _ _ _ (entry0 m c) (entry1 m c) (entry2 m c) (entry3 m c)

theorem final5_of (c : Dev nD) (W A B G : FVec Ideal S8x10496 .f32) (h0 : V m c (Pipeline.arrRef spec0 0) = W) (h1 : V m c (Pipeline.arrRef spec0 1) = A)
    (h2 : V m c (Pipeline.arrRef spec0 2) = B) (h3 : V m c (Pipeline.arrRef spec0 3) = G) : (dats m 0 c).arrAt 5 (cfgs 0).N
    = fun j => step (W j) (G j) (A j) (B j) := by
  refine (dats m 0 c).arrAt_eq_of_covers 5 _ (by decide +kernel) fun t hf y => ?_
  blk_simp
  rw [after0_5]
  frame_out
  pointwise [k0_pay1, k0_pay2, k0_pay3, k0_pay4, step, mom1, mom2]
  blk_point [iblk, h0, h1, h2, h3, idx t]

theorem final5 (c : Dev nD) : (dats m 0 c).arrAt 5 (cfgs 0).N
    = upd step (Cert.Kernel15Ideal.Own.flats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Kernel15Ideal.Own.flats (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (Cert.Kernel15Ideal.Own.flats (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) (Cert.Kernel15Ideal.Own.flats (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) :=
  final5_of m c _ _ _ _ (entry0 m c) (entry1 m c) (entry2 m c) (entry3 m c)

theorem final6_of (c : Dev nD) (W A B G : FVec Ideal S8x10496 .f32) (h0 : V m c (Pipeline.arrRef spec0 0) = W) (h1 : V m c (Pipeline.arrRef spec0 1) = A)
    (h2 : V m c (Pipeline.arrRef spec0 2) = B) (h3 : V m c (Pipeline.arrRef spec0 3) = G) : (dats m 0 c).arrAt 6 (cfgs 0).N
    = fun j => (fun _ g a _ => mom1 g a) (W j) (G j) (A j) (B j) := by
  refine (dats m 0 c).arrAt_eq_of_covers 6 _ (by decide +kernel) fun t hf y => ?_
  blk_simp
  rw [after0_6]
  frame_out
  pointwise [k0_pay1, k0_pay2, mom1]
  blk_point [iblk, h0, h1, h2, h3, idx t]

theorem final6 (c : Dev nD) : (dats m 0 c).arrAt 6 (cfgs 0).N
    = upd (fun _ g a _ => mom1 g a) (Cert.Kernel15Ideal.Own.flats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Kernel15Ideal.Own.flats (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (Cert.Kernel15Ideal.Own.flats (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) (Cert.Kernel15Ideal.Own.flats (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) :=
  final6_of m c _ _ _ _ (entry0 m c) (entry1 m c) (entry2 m c) (entry3 m c)

theorem final7_of (c : Dev nD) (W A B G : FVec Ideal S8x10496 .f32) (h0 : V m c (Pipeline.arrRef spec0 0) = W) (h1 : V m c (Pipeline.arrRef spec0 1) = A)
    (h2 : V m c (Pipeline.arrRef spec0 2) = B) (h3 : V m c (Pipeline.arrRef spec0 3) = G) : (dats m 0 c).arrAt 7 (cfgs 0).N
    = fun j => (fun _ g _ b => mom2 g b) (W j) (G j) (A j) (B j) := by
  refine (dats m 0 c).arrAt_eq_of_covers 7 _ (by decide +kernel) fun t hf y => ?_
  blk_simp
  rw [after0_7]
  frame_out
  pointwise [k0_pay1, k0_pay3, mom2]
  blk_point [iblk, h0, h1, h2, h3, idx t]

theorem final7 (c : Dev nD) : (dats m 0 c).arrAt 7 (cfgs 0).N
    = upd (fun _ g _ b => mom2 g b) (Cert.Kernel15Ideal.Own.flats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Cert.Kernel15Ideal.Own.flats (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (Cert.Kernel15Ideal.Own.flats (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))) (Cert.Kernel15Ideal.Own.flats (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))) :=
  final7_of m c _ _ _ _ (entry0 m c) (entry1 m c) (entry2 m c) (entry3 m c)

end Cert.Kernel15Ideal.Own

end
-- ==== Proof.AdamSmallRef.lean ====
/- What the reference of the small weights' update leaves: each weight's two moments and step, in one block. -/
module

public import proofs.«01_k».proof.Proof.AdamRows
public import proofs.«01_k».proof.Proof.Gen.Reference15Ideal.Run

@[expose] public section

set_option maxRecDepth 16384

noncomputable section

namespace Cert.Own.AdamSmallRef

open Cert.Reference15Ideal Cert.Reference15Ideal.Gen Cert.Reference15Ideal.Value
open Idealize.ShloMosaic Idealize.ShloMosaic.TcCoe Idealize.SL.Sem
open Cert.Kernel13Ideal.Own (mom1 mom2 step)
open Cert.Kernel15Ideal.Own (Parts block block_map upd flats step_zero mom1_zero mom2_zero)

variable (m : (ℓ : Loc nD τ sig) → Buf (Elt Ideal) ℓ)

/-- The reference's weights before they are laid out. -/
def parts237 (c : Dev nD) : Parts := ⟨shapeCast S8192 (mulf (broadcastInDim S4x2048 ![] bcast_S_S4x2048 (constant S_ .f32 0xBA83126F#32)) (addf (Host.divf (Host.divf (res_main_v4 (StableHlo.launchContents m c)) (broadcastInDim S4x2048 ![] bcast_S_S4x2048 (constant S_ .f32 0x3F26BD02#32))) (addf (Host.sqrt (Host.divf (res_main_v10 (StableHlo.launchContents m c)) (broadcastInDim S4x2048 ![] bcast_S_S4x2048 (constant S_ .f32 0x3C231ACC#32)))) (broadcastInDim S4x2048 ![] bcast_S_S4x2048 (constant S_ .f32 0x322BCC77#32)))) (mulf (broadcastInDim S4x2048 ![] bcast_S_S4x2048 (constant S_ .f32 0x3C23D70A#32)) (StableHlo.launchContents m c (Proc.devRef .tc main_arg0))))) shapeCasts_S4x2048_S8192, shapeCast S24576 (mulf (broadcastInDim S4x6144 ![] bcast_S_S4x6144 (constant S_ .f32 0xBA83126F#32)) (addf (Host.divf (Host.divf (res_main_v28 (StableHlo.launchContents m c)) (broadcastInDim S4x6144 ![] bcast_S_S4x6144 (constant S_ .f32 0x3F26BD02#32))) (addf (Host.sqrt (Host.divf (res_main_v34 (StableHlo.launchContents m c)) (broadcastInDim S4x6144 ![] bcast_S_S4x6144 (constant S_ .f32 0x3C231ACC#32)))) (broadcastInDim S4x6144 ![] bcast_S_S4x6144 (constant S_ .f32 0x322BCC77#32)))) (mulf (broadcastInDim S4x6144 ![] bcast_S_S4x6144 (constant S_ .f32 0x3C23D70A#32)) (StableHlo.launchContents m c (Proc.devRef .tc main_arg1))))) shapeCasts_S4x6144_S24576, shapeCast S4096 (mulf (broadcastInDim S4x1024 ![] bcast_S_S4x1024 (constant S_ .f32 0xBA83126F#32)) (addf (Host.divf (Host.divf (res_main_v52 (StableHlo.launchContents m c)) (broadcastInDim S4x1024 ![] bcast_S_S4x1024 (constant S_ .f32 0x3F26BD02#32))) (addf (Host.sqrt (Host.divf (res_main_v58 (StableHlo.launchContents m c)) (broadcastInDim S4x1024 ![] bcast_S_S4x1024 (constant S_ .f32 0x3C231ACC#32)))) (broadcastInDim S4x1024 ![] bcast_S_S4x1024 (constant S_ .f32 0x322BCC77#32)))) (mulf (broadcastInDim S4x1024 ![] bcast_S_S4x1024 (constant S_ .f32 0x3C23D70A#32)) (StableHlo.launchContents m c (Proc.devRef .tc main_arg2))))) shapeCasts_S4x1024_S4096, shapeCast S64 (mulf (broadcastInDim S4x16 ![] bcast_S_S4x16 (constant S_ .f32 0xBA83126F#32)) (addf (Host.divf (Host.divf (res_main_v76 (StableHlo.launchContents m c)) (broadcastInDim S4x16 ![] bcast_S_S4x16 (constant S_ .f32 0x3F26BD02#32))) (addf (Host.sqrt (Host.divf (res_main_v82 (StableHlo.launchContents m c)) (broadcastInDim S4x16 ![] bcast_S_S4x16 (constant S_ .f32 0x3C231ACC#32)))) (broadcastInDim S4x16 ![] bcast_S_S4x16 (constant S_ .f32 0x322BCC77#32)))) (mulf (broadcastInDim S4x16 ![] bcast_S_S4x16 (constant S_ .f32 0x3C23D70A#32)) (StableHlo.launchContents m c (Proc.devRef .tc main_arg3))))) shapeCasts_S4x16_S64, shapeCast S31744 (mulf (broadcastInDim S4x31x256 ![] bcast_S_S4x31x256 (constant S_ .f32 0xBA83126F#32)) (addf (Host.divf (Host.divf (res_main_v100 (StableHlo.launchContents m c)) (broadcastInDim S4x31x256 ![] bcast_S_S4x31x256 (constant S_ .f32 0x3F26BD02#32))) (addf (Host.sqrt (Host.divf (res_main_v106 (StableHlo.launchContents m c)) (broadcastInDim S4x31x256 ![] bcast_S_S4x31x256 (constant S_ .f32 0x3C231ACC#32)))) (broadcastInDim S4x31x256 ![] bcast_S_S4x31x256 (constant S_ .f32 0x322BCC77#32)))) (mulf (broadcastInDim S4x31x256 ![] bcast_S_S4x31x256 (constant S_ .f32 0x3C23D70A#32)) (StableHlo.launchContents m c (Proc.devRef .tc main_arg4))))) shapeCasts_S4x31x256_S31744, shapeCast S4096 (mulf (broadcastInDim S4x1024 ![] bcast_S_S4x1024 (constant S_ .f32 0xBA83126F#32)) (addf (Host.divf (Host.divf (res_main_v124 (StableHlo.launchContents m c)) (broadcastInDim S4x1024 ![] bcast_S_S4x1024 (constant S_ .f32 0x3F26BD02#32))) (addf (Host.sqrt (Host.divf (res_main_v130 (StableHlo.launchContents m c)) (broadcastInDim S4x1024 ![] bcast_S_S4x1024 (constant S_ .f32 0x3C231ACC#32)))) (broadcastInDim S4x1024 ![] bcast_S_S4x1024 (constant S_ .f32 0x322BCC77#32)))) (mulf (broadcastInDim S4x1024 ![] bcast_S_S4x1024 (constant S_ .f32 0x3C23D70A#32)) (StableHlo.launchContents m c (Proc.devRef .tc main_arg5))))) shapeCasts_S4x1024_S4096, shapeCast S4096 (mulf (broadcastInDim S4x1024 ![] bcast_S_S4x1024 (constant S_ .f32 0xBA83126F#32)) (addf (Host.divf (Host.divf (res_main_v148 (StableHlo.launchContents m c)) (broadcastInDim S4x1024 ![] bcast_S_S4x1024 (constant S_ .f32 0x3F26BD02#32))) (addf (Host.sqrt (Host.divf (res_main_v154 (StableHlo.launchContents m c)) (broadcastInDim S4x1024 ![] bcast_S_S4x1024 (constant S_ .f32 0x3C231ACC#32)))) (broadcastInDim S4x1024 ![] bcast_S_S4x1024 (constant S_ .f32 0x322BCC77#32)))) (mulf (broadcastInDim S4x1024 ![] bcast_S_S4x1024 (constant S_ .f32 0x3C23D70A#32)) (StableHlo.launchContents m c (Proc.devRef .tc main_arg6))))) shapeCasts_S4x1024_S4096, shapeCast S4096 (mulf (broadcastInDim S4x1024 ![] bcast_S_S4x1024 (constant S_ .f32 0xBA83126F#32)) (addf (Host.divf (Host.divf (res_main_v172 (StableHlo.launchContents m c)) (broadcastInDim S4x1024 ![] bcast_S_S4x1024 (constant S_ .f32 0x3F26BD02#32))) (addf (Host.sqrt (Host.divf (res_main_v178 (StableHlo.launchContents m c)) (broadcastInDim S4x1024 ![] bcast_S_S4x1024 (constant S_ .f32 0x3C231ACC#32)))) (broadcastInDim S4x1024 ![] bcast_S_S4x1024 (constant S_ .f32 0x322BCC77#32)))) (mulf (broadcastInDim S4x1024 ![] bcast_S_S4x1024 (constant S_ .f32 0x3C23D70A#32)) (StableHlo.launchContents m c (Proc.devRef .tc main_arg7))))) shapeCasts_S4x1024_S4096, mulf (broadcastInDim S2048 ![] bcast_S_S2048 (constant S_ .f32 0xBA83126F#32)) (addf (Host.divf (Host.divf (res_main_v196 (StableHlo.launchContents m c)) (broadcastInDim S2048 ![] bcast_S_S2048 (constant S_ .f32 0x3F26BD02#32))) (addf (Host.sqrt (Host.divf (res_main_v202 (StableHlo.launchContents m c)) (broadcastInDim S2048 ![] bcast_S_S2048 (constant S_ .f32 0x3C231ACC#32)))) (broadcastInDim S2048 ![] bcast_S_S2048 (constant S_ .f32 0x322BCC77#32)))) (mulf (broadcastInDim S2048 ![] bcast_S_S2048 (constant S_ .f32 0x3C23D70A#32)) (StableHlo.launchContents m c (Proc.devRef .tc main_arg8))))⟩

theorem v237_eq (c : Dev nD) : block (parts237 m c) = Cert.Kernel15Ideal.Own.upd step
        (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
        (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
        (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35))) :=
  funext fun j => block_map step step_zero _
    (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
    (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
    (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)))
    (fun i => rfl) (fun i => rfl) (fun i => rfl) (fun i => rfl) (fun i => rfl) (fun i => rfl) (fun i => rfl) (fun i => rfl) (fun i => rfl) j

/-- The reference's weights before they are laid out. -/
def parts248 (c : Dev nD) : Parts := ⟨shapeCast S8192 (res_main_v4 (StableHlo.launchContents m c)) shapeCasts_S4x2048_S8192, shapeCast S24576 (res_main_v28 (StableHlo.launchContents m c)) shapeCasts_S4x6144_S24576, shapeCast S4096 (res_main_v52 (StableHlo.launchContents m c)) shapeCasts_S4x1024_S4096, shapeCast S64 (res_main_v76 (StableHlo.launchContents m c)) shapeCasts_S4x16_S64, shapeCast S31744 (res_main_v100 (StableHlo.launchContents m c)) shapeCasts_S4x31x256_S31744, shapeCast S4096 (res_main_v124 (StableHlo.launchContents m c)) shapeCasts_S4x1024_S4096, shapeCast S4096 (res_main_v148 (StableHlo.launchContents m c)) shapeCasts_S4x1024_S4096, shapeCast S4096 (res_main_v172 (StableHlo.launchContents m c)) shapeCasts_S4x1024_S4096, res_main_v196 (StableHlo.launchContents m c)⟩

theorem v248_eq (c : Dev nD) : block (parts248 m c) = Cert.Kernel15Ideal.Own.upd (fun _ g a _ => mom1 g a)
        (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
        (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
        (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35))) :=
  funext fun j => block_map (fun _ g a _ => mom1 g a) mom1_zero _
    (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
    (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
    (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)))
    (fun i => rfl) (fun i => rfl) (fun i => rfl) (fun i => rfl) (fun i => rfl) (fun i => rfl) (fun i => rfl) (fun i => rfl) (fun i => rfl) j

/-- The reference's weights before they are laid out. -/
def parts259 (c : Dev nD) : Parts := ⟨shapeCast S8192 (res_main_v10 (StableHlo.launchContents m c)) shapeCasts_S4x2048_S8192, shapeCast S24576 (res_main_v34 (StableHlo.launchContents m c)) shapeCasts_S4x6144_S24576, shapeCast S4096 (res_main_v58 (StableHlo.launchContents m c)) shapeCasts_S4x1024_S4096, shapeCast S64 (res_main_v82 (StableHlo.launchContents m c)) shapeCasts_S4x16_S64, shapeCast S31744 (res_main_v106 (StableHlo.launchContents m c)) shapeCasts_S4x31x256_S31744, shapeCast S4096 (res_main_v130 (StableHlo.launchContents m c)) shapeCasts_S4x1024_S4096, shapeCast S4096 (res_main_v154 (StableHlo.launchContents m c)) shapeCasts_S4x1024_S4096, shapeCast S4096 (res_main_v178 (StableHlo.launchContents m c)) shapeCasts_S4x1024_S4096, res_main_v202 (StableHlo.launchContents m c)⟩

theorem v259_eq (c : Dev nD) : block (parts259 m c) = Cert.Kernel15Ideal.Own.upd (fun _ g _ b => mom2 g b)
        (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
        (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
        (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35))) :=
  funext fun j => block_map (fun _ g _ b => mom2 g b) mom2_zero _
    (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
    (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
    (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)))
    (fun i => rfl) (fun i => rfl) (fun i => rfl) (fun i => rfl) (fun i => rfl) (fun i => rfl) (fun i => rfl) (fun i => rfl) (fun i => rfl) j

theorem run (ρ : Dev nD → PrngReg) :
    θ_run defs (onTc (τ := τ) (main (F := Ideal))) ⟨m, fun _ => 0, ρ⟩ fun r => ∀ c : Dev nD,
      r.2.mem ((c.tc : Thread nD τ).loc main_v226) = Cert.Kernel15Ideal.Own.block (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
      ∧ r.2.mem ((c.tc : Thread nD τ).loc main_v237) = Cert.Kernel15Ideal.Own.upd step
        (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
        (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
        (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)))
      ∧ r.2.mem ((c.tc : Thread nD τ).loc main_v248) = Cert.Kernel15Ideal.Own.upd (fun _ g a _ => mom1 g a)
        (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
        (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
        (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)))
      ∧ r.2.mem ((c.tc : Thread nD τ).loc main_v259) = Cert.Kernel15Ideal.Own.upd (fun _ g _ b => mom2 g b)
        (Cert.Kernel15Ideal.Own.flats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (Cert.Kernel15Ideal.Own.flats (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)))
        (Cert.Kernel15Ideal.Own.flats (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)))
        (Cert.Kernel15Ideal.Own.flats (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) :=
  (θ_run defs _ _).mono (fun r h c => ⟨(h c).1, (h c).2.1.trans (v237_eq m c), (h c).2.2.1.trans (v248_eq m c),
    (h c).2.2.2.1.trans (v259_eq m c), (h c).2.2.2.2⟩) (Cert.Reference15Ideal.Value.run m ρ)

end Cert.Own.AdamSmallRef

end
-- ==== Proof.AdamSmallPair.lean ====
/- The small weights' update against its reference: the two programs end with the same arrays. -/
module

public import proofs.«01_k».proof.Defs
public import proofs.«01_k».proof.Proof.AdamSmall
public import proofs.«01_k».proof.Proof.AdamSmallRef
public import proofs.«01_k».proof.Proof.Gen.Kernel15Ideal
public import proofs.«01_k».proof.Proof.Gen.Reference15Ideal
public import Idealize.ShloMosaic.Lib.Claim
public import Idealize.ShloMosaic.Adequacy
public import Idealize.ShloMosaic.Init

@[expose] public section

set_option maxRecDepth 16384

noncomputable section

namespace Cert.Own.AdamSmallPair

open Idealize.ShloMosaic Idealize.SL.Sem

set_option maxHeartbeats 3200000 in
theorem algebraic : Cert.algebraic_Kernel15Ideal_Reference15Ideal := by
  pair_intro
  · run_from Cert.Kernel15Ideal.Gen.run_main m g & Cert.Kernel15Ideal.Gen.unchanged m g
  · run_from Cert.Own.AdamSmallRef.run m' g'
    · exact (Cert.Kernel15Ideal.Own.final4 m c).symm
    · exact (Cert.Kernel15Ideal.Own.final5 m c).symm
    · exact (Cert.Kernel15Ideal.Own.final6 m c).symm
    · exact (Cert.Kernel15Ideal.Own.final7 m c).symm

end Cert.Own.AdamSmallPair

end
-- ==== Proof.AdamLayer.lean ====
/- The reference's update of one layer's matrix, at any shape: the two moments and the step, entry by entry. -/
module

public import proofs.«01_k».proof.Proof.AdamAda

@[expose] public section

noncomputable section

namespace Cert.Own.AdamLayer

open Cert.Reference13Ideal (S_)
open Cert.Kernel13Ideal.Own (mom1 mom2 step)
open Idealize.ShloMosaic

variable {s : Shape} (h : S_.BroadcastsInDim s (![] : Fin 0 → Fin s.rank))

/-- The two halves' sum. -/
def total (a b : EReal) : EReal := a + b

/-- One number everywhere. -/
def num (x : BitVec 32) : FVec Ideal s .f32 := broadcastInDim s ![] h (constant S_ .f32 x)

/-- The first moment. -/
def rowM (g a : FVec Ideal s .f32) : FVec Ideal s .f32 :=
  addf (mulf (num h 0x3F666666#32) a) (mulf (num h 0x3DCCCCCD#32) g)

/-- The second moment. -/
def rowV (g b : FVec Ideal s .f32) : FVec Ideal s .f32 :=
  addf (mulf (num h 0x3F7FBE77#32) b) (mulf (num h 0x3A83126F#32) (mulf g g))

/-- The step. -/
def rowD (w g a b : FVec Ideal s .f32) : FVec Ideal s .f32 :=
  mulf (num h 0xBA83126F#32) (addf (Host.divf (Host.divf (rowM h g a) (num h 0x3F26BD02#32))
    (addf (Host.sqrt (Host.divf (rowV h g b) (num h 0x3C231ACC#32))) (num h 0x322BCC77#32))) (mulf (num h 0x3C23D70A#32) w))

theorem rowM_at (g a : FVec Ideal s .f32) (i : s.Idx) : rowM h g a i = mom1 (g i) (a i) := rfl

theorem rowV_at (g b : FVec Ideal s .f32) (i : s.Idx) : rowV h g b i = mom2 (g i) (b i) := rfl

theorem rowD_at (w g a b : FVec Ideal s .f32) (i : s.Idx) : rowD h w g a b i = step (w i) (g i) (a i) (b i) := rfl

theorem cases : ∀ j : Fin 4, j = 0 ∨ j = 1 ∨ j = 2 ∨ j = 3 := by decide

end Cert.Own.AdamLayer

end
-- ==== Proof.AdamLayer16.lean ====
/- The optimiser's update of one layer of a weight: layer 0 of each result is written, the other layers keep what they hold. -/
module

public import proofs.«01_k».proof.Proof.Gen.Kernel16Ideal.Frame
public import proofs.«01_k».proof.Proof.Gen.Reference16Ideal.Run
public import proofs.«01_k».proof.Proof.AdamLayer

@[expose] public section

set_option maxRecDepth 16384

noncomputable section

open Cert.Own.AdamLayer
open Cert.Kernel13Ideal.Own (mom1 mom2 step)
open Idealize.ShloMosaic Idealize.ShloMosaic.TcCoe Idealize.SL.Sem

namespace Cert.Reference16Ideal.Own

open Cert.Reference16Ideal.Gen

variable (W M V O : FVec Ideal S4x1024x512 .f32) (A B : FVec Ideal S1024x512 .f32) (i : S4x1024x512.Idx)

/-- The layers of `O` with `row` in the place of layer 0. -/
def put (row : FVec Ideal S1024x512 .f32) : FVec Ideal S4x1024x512 .f32 :=
  concatenate S4x1024x512 0 [⟨S0x1024x512, extractStridedSlice S0x1024x512 ![0, 0, 0] O slices_S4x1024x512_S0x1024x512_0_0_0⟩, ⟨S1x1024x512, broadcastInDim S1x1024x512 ![1, 2] bcast_S1024x512_S1x1024x512_1_2 row⟩, ⟨S3x1024x512, extractStridedSlice S3x1024x512 ![1, 0, 0] O slices_S4x1024x512_S3x1024x512_1_0_0⟩] concatenates_S0x1024x512_S1x1024x512_S3x1024x512_S4x1024x512_d0

/-- Layer 0. -/
def lay : FVec Ideal S1024x512 .f32 :=
  shapeCast _ (extractStridedSlice S1x1024x512 ![0, 0, 0] W slices_S4x1024x512_S1x1024x512_0_0_0) shapeCasts_S1x1024x512_S1024x512

/-- A matrix read at every layer. -/
def tail : FVec Ideal S4x1024x512 .f32 := fun i => A (ix2 (i 1) (i 2))

def new0 : FVec Ideal S4x1024x512 .f32 := put O (addf A B)

theorem new0_at : new0 O A B i = if (i 0 : ℕ) = 0 then total (tail A i) (tail B i) else O i := by
  idx_vars i
  rcases cases i0 with rfl | rfl | rfl | rfl <;> pointwise [new0, put, lay, tail, total]

def new1 : FVec Ideal S4x1024x512 .f32 := put O (rowD bcast_S_S1024x512 (lay W) (addf A B) (lay M) (lay V))

theorem new1_at : new1 W M V O A B i = if (i 0 : ℕ) = 0 then step (W i) (total (tail A i) (tail B i)) (M i) (V i) else O i := by
  idx_vars i
  rcases cases i0 with rfl | rfl | rfl | rfl <;> pointwise [new1, put, rowD_at, lay, tail, total]

def new2 : FVec Ideal S4x1024x512 .f32 := put O (rowM bcast_S_S1024x512 (addf A B) (lay M))

theorem new2_at : new2 M O A B i = if (i 0 : ℕ) = 0 then mom1 (total (tail A i) (tail B i)) (M i) else O i := by
  idx_vars i
  rcases cases i0 with rfl | rfl | rfl | rfl <;> pointwise [new2, put, rowM_at, lay, tail, total]

def new3 : FVec Ideal S4x1024x512 .f32 := put O (rowV bcast_S_S1024x512 (addf A B) (lay V))

theorem new3_at : new3 V O A B i = if (i 0 : ℕ) = 0 then mom2 (total (tail A i) (tail B i)) (V i) else O i := by
  idx_vars i
  rcases cases i0 with rfl | rfl | rfl | rfl <;> pointwise [new3, put, rowV_at, lay, tail, total]

end Cert.Reference16Ideal.Own

namespace Cert.Kernel16Ideal.Own

open Cert.Kernel16Ideal Cert.Kernel16Ideal.Gen Cert.Reference16Ideal.Own

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, _)

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

theorem entry0 : V m c (Pipeline.arrRef spec0 0) = x0 m c := by
  show V m c main_arg0 = _
  entry_read
  rfl

theorem entry1 : V m c (Pipeline.arrRef spec0 1) = x1 m c := by
  show V m c main_arg1 = _
  entry_read
  rfl

theorem entry2 : V m c (Pipeline.arrRef spec0 2) = x2 m c := by
  show V m c main_arg2 = _
  entry_read
  rfl

theorem entry3 : V m c (Pipeline.arrRef spec0 3) = x3 m c := by
  show V m c main_arg3 = _
  entry_read
  rfl

theorem entry4 : V m c (Pipeline.arrRef spec0 4) = x4 m c := by
  show V m c main_arg4 = _
  entry_read
  rfl

theorem kept5 : V m c main_v0_0 = x5 m c := by
  entry_read
  try rfl

theorem final5 {O : FVec Ideal S4x1024x512 .f32} {A B : FVec Ideal S1024x512 .f32} (hO : O = x5 m c) (hA : A = x3 m c) (hB : B = x4 m c) : (dats m 0 c).arrAt 5 (cfgs 0).N = new0 O A B := by
  subst hO hA hB
  refine ((dats m 0 c).arrAt_eq_of_coversWhere 5 (fun i => total (tail (x3 m c) i) (tail (x4 m c) i)) (P := fun i => (i 0 : ℕ) = 0) (fun β => β 0 = 0) (by decide +kernel) (fun t hf y => ?_)
    (fun j => by blk_simp [Pipeline.Window.cell_apply]; try omega)).trans (funext fun i => ?_)
  · blk_simp
    rw [after0_5]
    dsimp only [outsAt0]
    frame_out
    pointwise [k0_pay1, k0_pay5, total]
    blk_point [iblk, entry3, entry4, idx t, tail]
  · rw [new0_at]
    exact if_congr Iff.rfl rfl (congrFun (kept5 m c) i)

theorem kept6 : V m c main_v0_1 = x6 m c := by
  entry_read
  try rfl

theorem final6 {W M V O : FVec Ideal S4x1024x512 .f32} {A B : FVec Ideal S1024x512 .f32} (hW : W = x0 m c) (hM : M = x1 m c) (hV : V = x2 m c) (hO : O = x6 m c) (hA : A = x3 m c) (hB : B = x4 m c) : (dats m 0 c).arrAt 6 (cfgs 0).N = new1 W M V O A B := by
  subst hW hM hV hO hA hB
  refine ((dats m 0 c).arrAt_eq_of_coversWhere 6 (fun i => step ((x0 m c) i) (total (tail (x3 m c) i) (tail (x4 m c) i)) ((x1 m c) i) ((x2 m c) i)) (P := fun i => (i 0 : ℕ) = 0) (fun β => β 0 = 0) (by decide +kernel) (fun t hf y => ?_)
    (fun j => by blk_simp [Pipeline.Window.cell_apply]; try omega)).trans (funext fun i => ?_)
  · blk_simp
    rw [after0_6]
    dsimp only [outsAt0]
    frame_out
    pointwise [k0_pay2, k0_pay8, k0_pay7, k0_pay6, k0_pay5, step, mom1, mom2, total]
    blk_point [iblk, entry0, entry1, entry2, entry3, entry4, idx t, tail]
  · rw [new1_at]
    exact if_congr Iff.rfl rfl (congrFun (kept6 m c) i)

theorem kept7 : V m c main_v0_2 = x7 m c := by
  entry_read
  try rfl

theorem final7 {M O : FVec Ideal S4x1024x512 .f32} {A B : FVec Ideal S1024x512 .f32} (hM : M = x1 m c) (hO : O = x7 m c) (hA : A = x3 m c) (hB : B = x4 m c) : (dats m 0 c).arrAt 7 (cfgs 0).N = new2 M O A B := by
  subst hM hO hA hB
  refine ((dats m 0 c).arrAt_eq_of_coversWhere 7 (fun i => mom1 (total (tail (x3 m c) i) (tail (x4 m c) i)) ((x1 m c) i)) (P := fun i => (i 0 : ℕ) = 0) (fun β => β 0 = 0) (by decide +kernel) (fun t hf y => ?_)
    (fun j => by blk_simp [Pipeline.Window.cell_apply]; try omega)).trans (funext fun i => ?_)
  · blk_simp
    rw [after0_7]
    dsimp only [outsAt0]
    frame_out
    pointwise [k0_pay3, k0_pay6, k0_pay5, mom1, total]
    blk_point [iblk, entry1, entry3, entry4, idx t, tail]
  · rw [new2_at]
    exact if_congr Iff.rfl rfl (congrFun (kept7 m c) i)

theorem kept8 : V m c main_v0_3 = x8 m c := by
  entry_read
  try rfl

theorem final8 {V O : FVec Ideal S4x1024x512 .f32} {A B : FVec Ideal S1024x512 .f32} (hV : V = x2 m c) (hO : O = x8 m c) (hA : A = x3 m c) (hB : B = x4 m c) : (dats m 0 c).arrAt 8 (cfgs 0).N = new3 V O A B := by
  subst hV hO hA hB
  refine ((dats m 0 c).arrAt_eq_of_coversWhere 8 (fun i => mom2 (total (tail (x3 m c) i) (tail (x4 m c) i)) ((x2 m c) i)) (P := fun i => (i 0 : ℕ) = 0) (fun β => β 0 = 0) (by decide +kernel) (fun t hf y => ?_)
    (fun j => by blk_simp [Pipeline.Window.cell_apply]; try omega)).trans (funext fun i => ?_)
  · blk_simp
    rw [after0_8]
    dsimp only [outsAt0]
    frame_out
    pointwise [k0_pay4, k0_pay7, k0_pay5, mom2, total]
    blk_point [iblk, entry2, entry3, entry4, idx t, tail]
  · rw [new3_at]
    exact if_congr Iff.rfl rfl (congrFun (kept8 m c) i)

end Cert.Kernel16Ideal.Own

end
-- ==== Proof.AdamLayer17.lean ====
/- The optimiser's update of one layer of a weight: layer 1 of each result is written, the other layers keep what they hold. -/
module

public import proofs.«01_k».proof.Proof.Gen.Kernel17Ideal.Frame
public import proofs.«01_k».proof.Proof.Gen.Reference17Ideal.Run
public import proofs.«01_k».proof.Proof.AdamLayer

@[expose] public section

set_option maxRecDepth 16384

noncomputable section

open Cert.Own.AdamLayer
open Cert.Kernel13Ideal.Own (mom1 mom2 step)
open Idealize.ShloMosaic Idealize.ShloMosaic.TcCoe Idealize.SL.Sem

namespace Cert.Reference17Ideal.Own

open Cert.Reference17Ideal.Gen

variable (W M V O : FVec Ideal S4x1024x512 .f32) (A B : FVec Ideal S1024x512 .f32) (i : S4x1024x512.Idx)

/-- The layers of `O` with `row` in the place of layer 1. -/
def put (row : FVec Ideal S1024x512 .f32) : FVec Ideal S4x1024x512 .f32 :=
  concatenate S4x1024x512 0 [⟨S1x1024x512, extractStridedSlice S1x1024x512 ![0, 0, 0] O slices_S4x1024x512_S1x1024x512_0_0_0⟩, ⟨S1x1024x512, broadcastInDim S1x1024x512 ![1, 2] bcast_S1024x512_S1x1024x512_1_2 row⟩, ⟨S2x1024x512, extractStridedSlice S2x1024x512 ![2, 0, 0] O slices_S4x1024x512_S2x1024x512_2_0_0⟩] concatenates_S1x1024x512_S1x1024x512_S2x1024x512_S4x1024x512_d0

/-- Layer 1. -/
def lay : FVec Ideal S1024x512 .f32 :=
  shapeCast _ (extractStridedSlice S1x1024x512 ![1, 0, 0] W slices_S4x1024x512_S1x1024x512_1_0_0) shapeCasts_S1x1024x512_S1024x512

/-- A matrix read at every layer. -/
def tail : FVec Ideal S4x1024x512 .f32 := fun i => A (ix2 (i 1) (i 2))

def new0 : FVec Ideal S4x1024x512 .f32 := put O (addf A B)

theorem new0_at : new0 O A B i = if (i 0 : ℕ) = 1 then total (tail A i) (tail B i) else O i := by
  idx_vars i
  rcases cases i0 with rfl | rfl | rfl | rfl <;> pointwise [new0, put, lay, tail, total]

def new1 : FVec Ideal S4x1024x512 .f32 := put O (rowD bcast_S_S1024x512 (lay W) (addf A B) (lay M) (lay V))

theorem new1_at : new1 W M V O A B i = if (i 0 : ℕ) = 1 then step (W i) (total (tail A i) (tail B i)) (M i) (V i) else O i := by
  idx_vars i
  rcases cases i0 with rfl | rfl | rfl | rfl <;> pointwise [new1, put, rowD_at, lay, tail, total]

def new2 : FVec Ideal S4x1024x512 .f32 := put O (rowM bcast_S_S1024x512 (addf A B) (lay M))

theorem new2_at : new2 M O A B i = if (i 0 : ℕ) = 1 then mom1 (total (tail A i) (tail B i)) (M i) else O i := by
  idx_vars i
  rcases cases i0 with rfl | rfl | rfl | rfl <;> pointwise [new2, put, rowM_at, lay, tail, total]

def new3 : FVec Ideal S4x1024x512 .f32 := put O (rowV bcast_S_S1024x512 (addf A B) (lay V))

theorem new3_at : new3 V O A B i = if (i 0 : ℕ) = 1 then mom2 (total (tail A i) (tail B i)) (V i) else O i := by
  idx_vars i
  rcases cases i0 with rfl | rfl | rfl | rfl <;> pointwise [new3, put, rowV_at, lay, tail, total]

end Cert.Reference17Ideal.Own

namespace Cert.Kernel17Ideal.Own

open Cert.Kernel17Ideal Cert.Kernel17Ideal.Gen Cert.Reference17Ideal.Own

variable (m : (ℓ : Loc nD τ sig) → Buf (Elt Ideal) ℓ) (c : Dev nD)

theorem idx : ∀ t : Fin cfg0.N, win0_0.index t = ![1, t.val, 0] ∧ win0_1.index t = ![1, t.val, 0] ∧ win0_2.index t = ![1, t.val, 0] ∧ win0_3.index t = ![t.val, 0] ∧ win0_4.index t = ![t.val, 0] ∧ win0_5.index t = ![1, t.val, 0] ∧ win0_6.index t = ![1, t.val, 0] ∧ win0_7.index t = ![1, t.val, 0] ∧ win0_8.index t = ![1, t.val, 0] :=
  (by decide +kernel : ∀ t : Fin grid0.N, _)

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

theorem entry0 : V m c (Pipeline.arrRef spec0 0) = x0 m c := by
  show V m c main_arg0 = _
  entry_read
  rfl

theorem entry1 : V m c (Pipeline.arrRef spec0 1) = x1 m c := by
  show V m c main_arg1 = _
  entry_read
  rfl

theorem entry2 : V m c (Pipeline.arrRef spec0 2) = x2 m c := by
  show V m c main_arg2 = _
  entry_read
  rfl

theorem entry3 : V m c (Pipeline.arrRef spec0 3) = x3 m c := by
  show V m c main_arg3 = _
  entry_read
  rfl

theorem entry4 : V m c (Pipeline.arrRef spec0 4) = x4 m c := by
  show V m c main_arg4 = _
  entry_read
  rfl

theorem kept5 : V m c main_v0_0 = x5 m c := by
  entry_read
  try rfl

theorem final5 {O : FVec Ideal S4x1024x512 .f32} {A B : FVec Ideal S1024x512 .f32} (hO : O = x5 m c) (hA : A = x3 m c) (hB : B = x4 m c) : (dats m 0 c).arrAt 5 (cfgs 0).N = new0 O A B := by
  subst hO hA hB
  refine ((dats m 0 c).arrAt_eq_of_coversWhere 5 (fun i => total (tail (x3 m c) i) (tail (x4 m c) i)) (P := fun i => (i 0 : ℕ) = 1) (fun β => β 0 = 1) (by decide +kernel) (fun t hf y => ?_)
    (fun j => by blk_simp [Pipeline.Window.cell_apply]; try omega)).trans (funext fun i => ?_)
  · blk_simp
    rw [after0_5]
    dsimp only [outsAt0]
    frame_out
    pointwise [k0_pay1, k0_pay5, total]
    blk_point [iblk, entry3, entry4, idx t, tail]
  · rw [new0_at]
    exact if_congr Iff.rfl rfl (congrFun (kept5 m c) i)

theorem kept6 : V m c main_v0_1 = x6 m c := by
  entry_read
  try rfl

theorem final6 {W M V O : FVec Ideal S4x1024x512 .f32} {A B : FVec Ideal S1024x512 .f32} (hW : W = x0 m c) (hM : M = x1 m c) (hV : V = x2 m c) (hO : O = x6 m c) (hA : A = x3 m c) (hB : B = x4 m c) : (dats m 0 c).arrAt 6 (cfgs 0).N = new1 W M V O A B := by
  subst hW hM hV hO hA hB
  refine ((dats m 0 c).arrAt_eq_of_coversWhere 6 (fun i => step ((x0 m c) i) (total (tail (x3 m c) i) (tail (x4 m c) i)) ((x1 m c) i) ((x2 m c) i)) (P := fun i => (i 0 : ℕ) = 1) (fun β => β 0 = 1) (by decide +kernel) (fun t hf y => ?_)
    (fun j => by blk_simp [Pipeline.Window.cell_apply]; try omega)).trans (funext fun i => ?_)
  · blk_simp
    rw [after0_6]
    dsimp only [outsAt0]
    frame_out
    pointwise [k0_pay2, k0_pay8, k0_pay7, k0_pay6, k0_pay5, step, mom1, mom2, total]
    blk_point [iblk, entry0, entry1, entry2, entry3, entry4, idx t, tail]
  · rw [new1_at]
    exact if_congr Iff.rfl rfl (congrFun (kept6 m c) i)

theorem kept7 : V m c main_v0_2 = x7 m c := by
  entry_read
  try rfl

theorem final7 {M O : FVec Ideal S4x1024x512 .f32} {A B : FVec Ideal S1024x512 .f32} (hM : M = x1 m c) (hO : O = x7 m c) (hA : A = x3 m c) (hB : B = x4 m c) : (dats m 0 c).arrAt 7 (cfgs 0).N = new2 M O A B := by
  subst hM hO hA hB
  refine ((dats m 0 c).arrAt_eq_of_coversWhere 7 (fun i => mom1 (total (tail (x3 m c) i) (tail (x4 m c) i)) ((x1 m c) i)) (P := fun i => (i 0 : ℕ) = 1) (fun β => β 0 = 1) (by decide +kernel) (fun t hf y => ?_)
    (fun j => by blk_simp [Pipeline.Window.cell_apply]; try omega)).trans (funext fun i => ?_)
  · blk_simp
    rw [after0_7]
    dsimp only [outsAt0]
    frame_out
    pointwise [k0_pay3, k0_pay6, k0_pay5, mom1, total]
    blk_point [iblk, entry1, entry3, entry4, idx t, tail]
  · rw [new2_at]
    exact if_congr Iff.rfl rfl (congrFun (kept7 m c) i)

theorem kept8 : V m c main_v0_3 = x8 m c := by
  entry_read
  try rfl

theorem final8 {V O : FVec Ideal S4x1024x512 .f32} {A B : FVec Ideal S1024x512 .f32} (hV : V = x2 m c) (hO : O = x8 m c) (hA : A = x3 m c) (hB : B = x4 m c) : (dats m 0 c).arrAt 8 (cfgs 0).N = new3 V O A B := by
  subst hV hO hA hB
  refine ((dats m 0 c).arrAt_eq_of_coversWhere 8 (fun i => mom2 (total (tail (x3 m c) i) (tail (x4 m c) i)) ((x2 m c) i)) (P := fun i => (i 0 : ℕ) = 1) (fun β => β 0 = 1) (by decide +kernel) (fun t hf y => ?_)
    (fun j => by blk_simp [Pipeline.Window.cell_apply]; try omega)).trans (funext fun i => ?_)
  · blk_simp
    rw [after0_8]
    dsimp only [outsAt0]
    frame_out
    pointwise [k0_pay4, k0_pay7, k0_pay5, mom2, total]
    blk_point [iblk, entry2, entry3, entry4, idx t, tail]
  · rw [new3_at]
    exact if_congr Iff.rfl rfl (congrFun (kept8 m c) i)

end Cert.Kernel17Ideal.Own

end
-- ==== Proof.AdamLayer18.lean ====
/- The optimiser's update of one layer of a weight: layer 2 of each result is written, the other layers keep what they hold. -/
module

public import proofs.«01_k».proof.Proof.Gen.Kernel18Ideal.Frame
public import proofs.«01_k».proof.Proof.Gen.Reference18Ideal.Run
public import proofs.«01_k».proof.Proof.AdamLayer

@[expose] public section

set_option maxRecDepth 16384

noncomputable section

open Cert.Own.AdamLayer
open Cert.Kernel13Ideal.Own (mom1 mom2 step)
open Idealize.ShloMosaic Idealize.ShloMosaic.TcCoe Idealize.SL.Sem

namespace Cert.Reference18Ideal.Own

open Cert.Reference18Ideal.Gen

variable (W M V O : FVec Ideal S4x1024x512 .f32) (A B : FVec Ideal S1024x512 .f32) (i : S4x1024x512.Idx)

/-- The layers of `O` with `row` in the place of layer 2. -/
def put (row : FVec Ideal S1024x512 .f32) : FVec Ideal S4x1024x512 .f32 :=
  concatenate S4x1024x512 0 [⟨S2x1024x512, extractStridedSlice S2x1024x512 ![0, 0, 0] O slices_S4x1024x512_S2x1024x512_0_0_0⟩, ⟨S1x1024x512, broadcastInDim S1x1024x512 ![1, 2] bcast_S1024x512_S1x1024x512_1_2 row⟩, ⟨S1x1024x512, extractStridedSlice S1x1024x512 ![3, 0, 0] O slices_S4x1024x512_S1x1024x512_3_0_0⟩] concatenates_S2x1024x512_S1x1024x512_S1x1024x512_S4x1024x512_d0

/-- Layer 2. -/
def lay : FVec Ideal S1024x512 .f32 :=
  shapeCast _ (extractStridedSlice S1x1024x512 ![2, 0, 0] W slices_S4x1024x512_S1x1024x512_2_0_0) shapeCasts_S1x1024x512_S1024x512

/-- A matrix read at every layer. -/
def tail : FVec Ideal S4x1024x512 .f32 := fun i => A (ix2 (i 1) (i 2))

def new0 : FVec Ideal S4x1024x512 .f32 := put O (addf A B)

theorem new0_at : new0 O A B i = if (i 0 : ℕ) = 2 then total (tail A i) (tail B i) else O i := by
  idx_vars i
  rcases cases i0 with rfl | rfl | rfl | rfl <;> pointwise [new0, put, lay, tail, total]

def new1 : FVec Ideal S4x1024x512 .f32 := put O (rowD bcast_S_S1024x512 (lay W) (addf A B) (lay M) (lay V))

theorem new1_at : new1 W M V O A B i = if (i 0 : ℕ) = 2 then step (W i) (total (tail A i) (tail B i)) (M i) (V i) else O i := by
  idx_vars i
  rcases cases i0 with rfl | rfl | rfl | rfl <;> pointwise [new1, put, rowD_at, lay, tail, total]

def new2 : FVec Ideal S4x1024x512 .f32 := put O (rowM bcast_S_S1024x512 (addf A B) (lay M))

theorem new2_at : new2 M O A B i = if (i 0 : ℕ) = 2 then mom1 (total (tail A i) (tail B i)) (M i) else O i := by
  idx_vars i
  rcases cases i0 with rfl | rfl | rfl | rfl <;> pointwise [new2, put, rowM_at, lay, tail, total]

def new3 : FVec Ideal S4x1024x512 .f32 := put O (rowV bcast_S_S1024x512 (addf A B) (lay V))

theorem new3_at : new3 V O A B i = if (i 0 : ℕ) = 2 then mom2 (total (tail A i) (tail B i)) (V i) else O i := by
  idx_vars i
  rcases cases i0 with rfl | rfl | rfl | rfl <;> pointwise [new3, put, rowV_at, lay, tail, total]

end Cert.Reference18Ideal.Own

namespace Cert.Kernel18Ideal.Own

open Cert.Kernel18Ideal Cert.Kernel18Ideal.Gen Cert.Reference18Ideal.Own

variable (m : (ℓ : Loc nD τ sig) → Buf (Elt Ideal) ℓ) (c : Dev nD)

theorem idx : ∀ t : Fin cfg0.N, win0_0.index t = ![2, t.val, 0] ∧ win0_1.index t = ![2, t.val, 0] ∧ win0_2.index t = ![2, t.val, 0] ∧ win0_3.index t = ![t.val, 0] ∧ win0_4.index t = ![t.val, 0] ∧ win0_5.index t = ![2, t.val, 0] ∧ win0_6.index t = ![2, t.val, 0] ∧ win0_7.index t = ![2, t.val, 0] ∧ win0_8.index t = ![2, t.val, 0] :=
  (by decide +kernel : ∀ t : Fin grid0.N, _)

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

theorem entry0 : V m c (Pipeline.arrRef spec0 0) = x0 m c := by
  show V m c main_arg0 = _
  entry_read
  rfl

theorem entry1 : V m c (Pipeline.arrRef spec0 1) = x1 m c := by
  show V m c main_arg1 = _
  entry_read
  rfl

theorem entry2 : V m c (Pipeline.arrRef spec0 2) = x2 m c := by
  show V m c main_arg2 = _
  entry_read
  rfl

theorem entry3 : V m c (Pipeline.arrRef spec0 3) = x3 m c := by
  show V m c main_arg3 = _
  entry_read
  rfl

theorem entry4 : V m c (Pipeline.arrRef spec0 4) = x4 m c := by
  show V m c main_arg4 = _
  entry_read
  rfl

theorem kept5 : V m c main_v0_0 = x5 m c := by
  entry_read
  try rfl

theorem final5 {O : FVec Ideal S4x1024x512 .f32} {A B : FVec Ideal S1024x512 .f32} (hO : O = x5 m c) (hA : A = x3 m c) (hB : B = x4 m c) : (dats m 0 c).arrAt 5 (cfgs 0).N = new0 O A B := by
  subst hO hA hB
  refine ((dats m 0 c).arrAt_eq_of_coversWhere 5 (fun i => total (tail (x3 m c) i) (tail (x4 m c) i)) (P := fun i => (i 0 : ℕ) = 2) (fun β => β 0 = 2) (by decide +kernel) (fun t hf y => ?_)
    (fun j => by blk_simp [Pipeline.Window.cell_apply]; try omega)).trans (funext fun i => ?_)
  · blk_simp
    rw [after0_5]
    dsimp only [outsAt0]
    frame_out
    pointwise [k0_pay1, k0_pay5, total]
    blk_point [iblk, entry3, entry4, idx t, tail]
  · rw [new0_at]
    exact if_congr Iff.rfl rfl (congrFun (kept5 m c) i)

theorem kept6 : V m c main_v0_1 = x6 m c := by
  entry_read
  try rfl

theorem final6 {W M V O : FVec Ideal S4x1024x512 .f32} {A B : FVec Ideal S1024x512 .f32} (hW : W = x0 m c) (hM : M = x1 m c) (hV : V = x2 m c) (hO : O = x6 m c) (hA : A = x3 m c) (hB : B = x4 m c) : (dats m 0 c).arrAt 6 (cfgs 0).N = new1 W M V O A B := by
  subst hW hM hV hO hA hB
  refine ((dats m 0 c).arrAt_eq_of_coversWhere 6 (fun i => step ((x0 m c) i) (total (tail (x3 m c) i) (tail (x4 m c) i)) ((x1 m c) i) ((x2 m c) i)) (P := fun i => (i 0 : ℕ) = 2) (fun β => β 0 = 2) (by decide +kernel) (fun t hf y => ?_)
    (fun j => by blk_simp [Pipeline.Window.cell_apply]; try omega)).trans (funext fun i => ?_)
  · blk_simp
    rw [after0_6]
    dsimp only [outsAt0]
    frame_out
    pointwise [k0_pay2, k0_pay8, k0_pay7, k0_pay6, k0_pay5, step, mom1, mom2, total]
    blk_point [iblk, entry0, entry1, entry2, entry3, entry4, idx t, tail]
  · rw [new1_at]
    exact if_congr Iff.rfl rfl (congrFun (kept6 m c) i)

theorem kept7 : V m c main_v0_2 = x7 m c := by
  entry_read
  try rfl

theorem final7 {M O : FVec Ideal S4x1024x512 .f32} {A B : FVec Ideal S1024x512 .f32} (hM : M = x1 m c) (hO : O = x7 m c) (hA : A = x3 m c) (hB : B = x4 m c) : (dats m 0 c).arrAt 7 (cfgs 0).N = new2 M O A B := by
  subst hM hO hA hB
  refine ((dats m 0 c).arrAt_eq_of_coversWhere 7 (fun i => mom1 (total (tail (x3 m c) i) (tail (x4 m c) i)) ((x1 m c) i)) (P := fun i => (i 0 : ℕ) = 2) (fun β => β 0 = 2) (by decide +kernel) (fun t hf y => ?_)
    (fun j => by blk_simp [Pipeline.Window.cell_apply]; try omega)).trans (funext fun i => ?_)
  · blk_simp
    rw [after0_7]
    dsimp only [outsAt0]
    frame_out
    pointwise [k0_pay3, k0_pay6, k0_pay5, mom1, total]
    blk_point [iblk, entry1, entry3, entry4, idx t, tail]
  · rw [new2_at]
    exact if_congr Iff.rfl rfl (congrFun (kept7 m c) i)

theorem kept8 : V m c main_v0_3 = x8 m c := by
  entry_read
  try rfl

theorem final8 {V O : FVec Ideal S4x1024x512 .f32} {A B : FVec Ideal S1024x512 .f32} (hV : V = x2 m c) (hO : O = x8 m c) (hA : A = x3 m c) (hB : B = x4 m c) : (dats m 0 c).arrAt 8 (cfgs 0).N = new3 V O A B := by
  subst hV hO hA hB
  refine ((dats m 0 c).arrAt_eq_of_coversWhere 8 (fun i => mom2 (total (tail (x3 m c) i) (tail (x4 m c) i)) ((x2 m c) i)) (P := fun i => (i 0 : ℕ) = 2) (fun β => β 0 = 2) (by decide +kernel) (fun t hf y => ?_)
    (fun j => by blk_simp [Pipeline.Window.cell_apply]; try omega)).trans (funext fun i => ?_)
  · blk_simp
    rw [after0_8]
    dsimp only [outsAt0]
    frame_out
    pointwise [k0_pay4, k0_pay7, k0_pay5, mom2, total]
    blk_point [iblk, entry2, entry3, entry4, idx t, tail]
  · rw [new3_at]
    exact if_congr Iff.rfl rfl (congrFun (kept8 m c) i)

end Cert.Kernel18Ideal.Own

end
-- ==== Proof.AdamLayer19.lean ====
/- The optimiser's update of one layer of a weight: layer 3 of each result is written, the other layers keep what they hold. -/
module

public import proofs.«01_k».proof.Proof.Gen.Kernel19Ideal.Frame
public import proofs.«01_k».proof.Proof.Gen.Reference19Ideal.Run
public import proofs.«01_k».proof.Proof.AdamLayer

@[expose] public section

set_option maxRecDepth 16384

noncomputable section

open Cert.Own.AdamLayer
open Cert.Kernel13Ideal.Own (mom1 mom2 step)
open Idealize.ShloMosaic Idealize.ShloMosaic.TcCoe Idealize.SL.Sem

namespace Cert.Reference19Ideal.Own

open Cert.Reference19Ideal.Gen

variable (W M V O : FVec Ideal S4x1024x512 .f32) (A B : FVec Ideal S1024x512 .f32) (i : S4x1024x512.Idx)

/-- The layers of `O` with `row` in the place of layer 3. -/
def put (row : FVec Ideal S1024x512 .f32) : FVec Ideal S4x1024x512 .f32 :=
  concatenate S4x1024x512 0 [⟨S3x1024x512, extractStridedSlice S3x1024x512 ![0, 0, 0] O slices_S4x1024x512_S3x1024x512_0_0_0⟩, ⟨S1x1024x512, broadcastInDim S1x1024x512 ![1, 2] bcast_S1024x512_S1x1024x512_1_2 row⟩, ⟨S0x1024x512, extractStridedSlice S0x1024x512 ![4, 0, 0] O slices_S4x1024x512_S0x1024x512_4_0_0⟩] concatenates_S3x1024x512_S1x1024x512_S0x1024x512_S4x1024x512_d0

/-- Layer 3. -/
def lay : FVec Ideal S1024x512 .f32 :=
  shapeCast _ (extractStridedSlice S1x1024x512 ![3, 0, 0] W slices_S4x1024x512_S1x1024x512_3_0_0) shapeCasts_S1x1024x512_S1024x512

/-- A matrix read at every layer. -/
def tail : FVec Ideal S4x1024x512 .f32 := fun i => A (ix2 (i 1) (i 2))

def new0 : FVec Ideal S4x1024x512 .f32 := put O (addf A B)

theorem new0_at : new0 O A B i = if (i 0 : ℕ) = 3 then total (tail A i) (tail B i) else O i := by
  idx_vars i
  rcases cases i0 with rfl | rfl | rfl | rfl <;> pointwise [new0, put, lay, tail, total]

def new1 : FVec Ideal S4x1024x512 .f32 := put O (rowD bcast_S_S1024x512 (lay W) (addf A B) (lay M) (lay V))

theorem new1_at : new1 W M V O A B i = if (i 0 : ℕ) = 3 then step (W i) (total (tail A i) (tail B i)) (M i) (V i) else O i := by
  idx_vars i
  rcases cases i0 with rfl | rfl | rfl | rfl <;> pointwise [new1, put, rowD_at, lay, tail, total]

def new2 : FVec Ideal S4x1024x512 .f32 := put O (rowM bcast_S_S1024x512 (addf A B) (lay M))

theorem new2_at : new2 M O A B i = if (i 0 : ℕ) = 3 then mom1 (total (tail A i) (tail B i)) (M i) else O i := by
  idx_vars i
  rcases cases i0 with rfl | rfl | rfl | rfl <;> pointwise [new2, put, rowM_at, lay, tail, total]

def new3 : FVec Ideal S4x1024x512 .f32 := put O (rowV bcast_S_S1024x512 (addf A B) (lay V))

theorem new3_at : new3 V O A B i = if (i 0 : ℕ) = 3 then mom2 (total (tail A i) (tail B i)) (V i) else O i := by
  idx_vars i
  rcases cases i0 with rfl | rfl | rfl | rfl <;> pointwise [new3, put, rowV_at, lay, tail, total]

end Cert.Reference19Ideal.Own

namespace Cert.Kernel19Ideal.Own

open Cert.Kernel19Ideal Cert.Kernel19Ideal.Gen Cert.Reference19Ideal.Own

variable (m : (ℓ : Loc nD τ sig) → Buf (Elt Ideal) ℓ) (c : Dev nD)

theorem idx : ∀ t : Fin cfg0.N, win0_0.index t = ![3, t.val, 0] ∧ win0_1.index t = ![3, t.val, 0] ∧ win0_2.index t = ![3, t.val, 0] ∧ win0_3.index t = ![t.val, 0] ∧ win0_4.index t = ![t.val, 0] ∧ win0_5.index t = ![3, t.val, 0] ∧ win0_6.index t = ![3, t.val, 0] ∧ win0_7.index t = ![3, t.val, 0] ∧ win0_8.index t = ![3, t.val, 0] :=
  (by decide +kernel : ∀ t : Fin grid0.N, _)

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

theorem entry0 : V m c (Pipeline.arrRef spec0 0) = x0 m c := by
  show V m c main_arg0 = _
  entry_read
  rfl

theorem entry1 : V m c (Pipeline.arrRef spec0 1) = x1 m c := by
  show V m c main_arg1 = _
  entry_read
  rfl

theorem entry2 : V m c (Pipeline.arrRef spec0 2) = x2 m c := by
  show V m c main_arg2 = _
  entry_read
  rfl

theorem entry3 : V m c (Pipeline.arrRef spec0 3) = x3 m c := by
  show V m c main_arg3 = _
  entry_read
  rfl

theorem entry4 : V m c (Pipeline.arrRef spec0 4) = x4 m c := by
  show V m c main_arg4 = _
  entry_read
  rfl

theorem kept5 : V m c main_v0_0 = x5 m c := by
  entry_read
  try rfl

theorem final5 {O : FVec Ideal S4x1024x512 .f32} {A B : FVec Ideal S1024x512 .f32} (hO : O = x5 m c) (hA : A = x3 m c) (hB : B = x4 m c) : (dats m 0 c).arrAt 5 (cfgs 0).N = new0 O A B := by
  subst hO hA hB
  refine ((dats m 0 c).arrAt_eq_of_coversWhere 5 (fun i => total (tail (x3 m c) i) (tail (x4 m c) i)) (P := fun i => (i 0 : ℕ) = 3) (fun β => β 0 = 3) (by decide +kernel) (fun t hf y => ?_)
    (fun j => by blk_simp [Pipeline.Window.cell_apply]; try omega)).trans (funext fun i => ?_)
  · blk_simp
    rw [after0_5]
    dsimp only [outsAt0]
    frame_out
    pointwise [k0_pay1, k0_pay5, total]
    blk_point [iblk, entry3, entry4, idx t, tail]
  · rw [new0_at]
    exact if_congr Iff.rfl rfl (congrFun (kept5 m c) i)

theorem kept6 : V m c main_v0_1 = x6 m c := by
  entry_read
  try rfl

theorem final6 {W M V O : FVec Ideal S4x1024x512 .f32} {A B : FVec Ideal S1024x512 .f32} (hW : W = x0 m c) (hM : M = x1 m c) (hV : V = x2 m c) (hO : O = x6 m c) (hA : A = x3 m c) (hB : B = x4 m c) : (dats m 0 c).arrAt 6 (cfgs 0).N = new1 W M V O A B := by
  subst hW hM hV hO hA hB
  refine ((dats m 0 c).arrAt_eq_of_coversWhere 6 (fun i => step ((x0 m c) i) (total (tail (x3 m c) i) (tail (x4 m c) i)) ((x1 m c) i) ((x2 m c) i)) (P := fun i => (i 0 : ℕ) = 3) (fun β => β 0 = 3) (by decide +kernel) (fun t hf y => ?_)
    (fun j => by blk_simp [Pipeline.Window.cell_apply]; try omega)).trans (funext fun i => ?_)
  · blk_simp
    rw [after0_6]
    dsimp only [outsAt0]
    frame_out
    pointwise [k0_pay2, k0_pay8, k0_pay7, k0_pay6, k0_pay5, step, mom1, mom2, total]
    blk_point [iblk, entry0, entry1, entry2, entry3, entry4, idx t, tail]
  · rw [new1_at]
    exact if_congr Iff.rfl rfl (congrFun (kept6 m c) i)

theorem kept7 : V m c main_v0_2 = x7 m c := by
  entry_read
  try rfl

theorem final7 {M O : FVec Ideal S4x1024x512 .f32} {A B : FVec Ideal S1024x512 .f32} (hM : M = x1 m c) (hO : O = x7 m c) (hA : A = x3 m c) (hB : B = x4 m c) : (dats m 0 c).arrAt 7 (cfgs 0).N = new2 M O A B := by
  subst hM hO hA hB
  refine ((dats m 0 c).arrAt_eq_of_coversWhere 7 (fun i => mom1 (total (tail (x3 m c) i) (tail (x4 m c) i)) ((x1 m c) i)) (P := fun i => (i 0 : ℕ) = 3) (fun β => β 0 = 3) (by decide +kernel) (fun t hf y => ?_)
    (fun j => by blk_simp [Pipeline.Window.cell_apply]; try omega)).trans (funext fun i => ?_)
  · blk_simp
    rw [after0_7]
    dsimp only [outsAt0]
    frame_out
    pointwise [k0_pay3, k0_pay6, k0_pay5, mom1, total]
    blk_point [iblk, entry1, entry3, entry4, idx t, tail]
  · rw [new2_at]
    exact if_congr Iff.rfl rfl (congrFun (kept7 m c) i)

theorem kept8 : V m c main_v0_3 = x8 m c := by
  entry_read
  try rfl

theorem final8 {V O : FVec Ideal S4x1024x512 .f32} {A B : FVec Ideal S1024x512 .f32} (hV : V = x2 m c) (hO : O = x8 m c) (hA : A = x3 m c) (hB : B = x4 m c) : (dats m 0 c).arrAt 8 (cfgs 0).N = new3 V O A B := by
  subst hV hO hA hB
  refine ((dats m 0 c).arrAt_eq_of_coversWhere 8 (fun i => mom2 (total (tail (x3 m c) i) (tail (x4 m c) i)) ((x2 m c) i)) (P := fun i => (i 0 : ℕ) = 3) (fun β => β 0 = 3) (by decide +kernel) (fun t hf y => ?_)
    (fun j => by blk_simp [Pipeline.Window.cell_apply]; try omega)).trans (funext fun i => ?_)
  · blk_simp
    rw [after0_8]
    dsimp only [outsAt0]
    frame_out
    pointwise [k0_pay4, k0_pay7, k0_pay5, mom2, total]
    blk_point [iblk, entry2, entry3, entry4, idx t, tail]
  · rw [new3_at]
    exact if_congr Iff.rfl rfl (congrFun (kept8 m c) i)

end Cert.Kernel19Ideal.Own

end
-- ==== Proof.lean ====
/- The certificate: every program's frame, and for each call of the backward pass that its idealized kernel
   ends with the arrays the reference's derivative computes. The mathematics is in the modules imported last. -/
module

public import proofs.«01_k».proof.Defs
public import proofs.«01_k».proof.Proof.Gen.Pre_finite11
public import proofs.«01_k».proof.Proof.Gen.Pre_finite12
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.MergeGrad
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.ProjGrad
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.WinGrad
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.OutGrad
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.OutWeightGrad
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.BranchGrad
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.BranchWeightGrad
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.PointwiseGrad
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.PointwiseWeightGrad
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Proj
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.GateGrad
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.AttnFrameBits
public import proofs.«01_k».proof.Proof.AttnPair
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.AdamAda
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.AdaGrad
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.AdamSmallPair
public import proofs.«01_k».proof.Proof.AdamSmall
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.AdamLayer16
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.AdamLayer17
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.AdamLayer18
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.AdamLayer19
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem quiet_ReferenceIdeal : Cert.quiescent_ReferenceIdeal := by
  intro m g _
  exact (θ_run Cert.ReferenceIdeal.defs _ _).mono (fun r h => ⟨fun c => (h c).2.2.2.2.2.2, sem_eq_zero_of_no_sems (by decide) r.2⟩)
    (Cert.ReferenceIdeal.Value.run m g)

set_option maxHeartbeats 3200000 in
theorem algebraic1 : Cert.algebraic_KernelIdeal_ReferenceIdeal := by
  pair_intro
  · run_from Cert.KernelIdeal.Gen.run_main m g
  · run_from Cert.ReferenceIdeal.Value.run m' g'
    · exact (Cert.KernelIdeal.Own.final7 m c).symm
    · exact (Cert.KernelIdeal.Own.final8 m c).symm
    · exact (Cert.KernelIdeal.Own.final9 m c).symm
    · exact (Cert.KernelIdeal.Own.final10 m c).symm
    · exact (Cert.KernelIdeal.Own.final11 m c).symm
    · exact (Cert.KernelIdeal.Own.final12 m c).symm

theorem quiet_Reference2Ideal : Cert.quiescent_Reference2Ideal := by
  intro m g _
  exact (θ_run Cert.Reference2Ideal.defs _ _).mono (fun r h => ⟨fun c => (h c).2, sem_eq_zero_of_no_sems (by decide) r.2⟩)
    (Cert.Reference2Ideal.Value.run m g)

set_option maxHeartbeats 3200000 in
theorem algebraic2 : Cert.algebraic_Kernel2Ideal_Reference2Ideal := by
  pair_intro
  · run_from Cert.Kernel2Ideal.Gen.run_main m g
  · run_from Cert.Reference2Ideal.Value.run m' g'
    · exact (Cert.Kernel2Ideal.Own.final m c).symm

theorem quiet_Reference3Ideal : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

set_option maxHeartbeats 3200000 in
theorem algebraic3 : Cert.algebraic_Kernel3Ideal_Reference3Ideal := by
  pair_intro
  · run_from Cert.Kernel3Ideal.Gen.run_main m g
  · run_from Cert.Reference3Ideal.Value.run m' g'
    · exact (Cert.Kernel3Ideal.Own.final m c).symm

theorem quiet_Reference4Ideal : Cert.quiescent_Reference4Ideal := by
  intro m g _
  exact (θ_run Cert.Reference4Ideal.defs _ _).mono (fun r h => ⟨fun c => (h c).2, sem_eq_zero_of_no_sems (by decide) r.2⟩)
    (Cert.Reference4Ideal.Value.run m g)

set_option maxHeartbeats 3200000 in
theorem algebraic4 : Cert.algebraic_Kernel4Ideal_Reference4Ideal := by
  pair_intro
  · run_from Cert.Kernel4Ideal.Gen.run_main m g
  · run_from Cert.Reference4Ideal.Value.run m' g'
    · exact (Cert.Kernel4Ideal.Own.final m c).symm

theorem quiet_Reference5Ideal : Cert.quiescent_Reference5Ideal := by
  intro m g _
  exact (θ_run Cert.Reference5Ideal.defs _ _).mono (fun r h => ⟨fun c => (h c).2, sem_eq_zero_of_no_sems (by decide) r.2⟩)
    (Cert.Reference5Ideal.Value.run m g)

set_option maxHeartbeats 3200000 in
theorem algebraic5 : Cert.algebraic_Kernel5Ideal_Reference5Ideal := by
  pair_intro
  · run_from Cert.Kernel5Ideal.Gen.run_main m g
  · run_from Cert.Reference5Ideal.Value.run m' g'
    · exact (Cert.Kernel5Ideal.Own.final m c).symm

theorem quiet_Reference6Ideal : Cert.quiescent_Reference6Ideal := by
  intro m g _
  exact (θ_run Cert.Reference6Ideal.defs _ _).mono (fun r h => ⟨fun c => (h c).2, sem_eq_zero_of_no_sems (by decide) r.2⟩)
    (Cert.Reference6Ideal.Value.run m g)

set_option maxHeartbeats 3200000 in
theorem algebraic6 : Cert.algebraic_Kernel6Ideal_Reference6Ideal := by
  pair_intro
  · run_from Cert.Kernel6Ideal.Gen.run_main m g
  · run_from Cert.Reference6Ideal.Value.run m' g'
    · exact (Cert.Kernel6Ideal.Own.final m c).symm

theorem quiet_Reference7Ideal : Cert.quiescent_Reference7Ideal := by
  intro m g _
  exact (θ_run Cert.Reference7Ideal.defs _ _).mono (fun r h => ⟨fun c => (h c).2, sem_eq_zero_of_no_sems (by decide) r.2⟩)
    (Cert.Reference7Ideal.Value.run m g)

set_option maxHeartbeats 3200000 in
theorem algebraic7 : Cert.algebraic_Kernel7Ideal_Reference7Ideal := by
  pair_intro
  · run_from Cert.Kernel7Ideal.Gen.run_main m g
  · run_from Cert.Reference7Ideal.Value.run m' g'
    · exact (Cert.Kernel7Ideal.Own.final m c).symm

theorem quiet_Reference8Ideal : Cert.quiescent_Reference8Ideal := by
  intro m g _
  exact (θ_run Cert.Reference8Ideal.defs _ _).mono (fun r h => ⟨fun c => (h c).2, sem_eq_zero_of_no_sems (by decide) r.2⟩)
    (Cert.Reference8Ideal.Value.run m g)

set_option maxHeartbeats 3200000 in
theorem algebraic8 : Cert.algebraic_Kernel8Ideal_Reference8Ideal := by
  pair_intro
  · run_from Cert.Kernel8Ideal.Gen.run_main m g
  · run_from Cert.Reference8Ideal.Value.run m' g'
    · exact (Cert.Kernel8Ideal.Own.final m c).symm

theorem quiet_Reference9Ideal : Cert.quiescent_Reference9Ideal := by
  intro m g _
  exact (θ_run Cert.Reference9Ideal.defs _ _).mono (fun r h => ⟨fun c => (h c).2, sem_eq_zero_of_no_sems (by decide) r.2⟩)
    (Cert.Reference9Ideal.Value.run m g)

set_option maxHeartbeats 3200000 in
theorem algebraic9 : Cert.algebraic_Kernel9Ideal_Reference9Ideal := by
  pair_intro
  · run_from Cert.Kernel9Ideal.Gen.run_main m g
  · run_from Cert.Reference9Ideal.Value.run m' g'
    · exact (Cert.Kernel9Ideal.Own.final m c).symm

theorem quiet_Reference10Ideal : Cert.quiescent_Reference10Ideal := by
  intro m g _
  exact (θ_run Cert.Reference10Ideal.defs _ _).mono (fun r h => ⟨fun c => (h c).2, sem_eq_zero_of_no_sems (by decide) r.2⟩)
    (Cert.Reference10Ideal.Value.run m g)

set_option maxHeartbeats 3200000 in
theorem algebraic10 : Cert.algebraic_Kernel10Ideal_Reference10Ideal := by
  pair_intro
  · run_from Cert.Kernel10Ideal.Gen.run_main m g
  · run_from Cert.Reference10Ideal.Value.run m' g'
    · exact (Cert.Kernel10Ideal.Own.final m c).symm

theorem quiet_Reference11Ideal_pre_finite11 : Cert.quiescent_Reference11Ideal_pre_finite11 := by
  intro m g _
  exact (θ_run Cert.Reference11Ideal.defs _ _).mono (fun r h => ⟨fun c => (h c).2.2, sem_eq_zero_of_no_sems (by decide) r.2⟩)
    (Cert.Reference11Ideal.Value.run m g)

theorem quiet_Reference11Ideal : Cert.quiescent_Reference11Ideal := by
  intro m g _
  exact (θ_run Cert.Reference11Ideal.defs _ _).mono (fun r h => ⟨fun c => (h c).2.2, sem_eq_zero_of_no_sems (by decide) r.2⟩)
    (Cert.Reference11Ideal.Value.run m g)

set_option maxHeartbeats 3200000 in
theorem algebraic11 : Cert.algebraic_Kernel11Ideal_Reference11Ideal_pre_finite11 := by
  pair_intro
  · run_from Cert.Kernel11Ideal.Gen.run_main m g
  · run_from Cert.Reference11Ideal.Value.run m' g'
    · exact (Cert.Kernel11Ideal.Own.final3 m c).symm
    · exact (Cert.Kernel11Ideal.Own.final4 m c (hpre c)).symm

theorem quiet_Reference12Ideal_pre_finite12 : Cert.quiescent_Reference12Ideal_pre_finite12 := by
  intro m g _
  exact (θ_run Cert.Reference12Ideal.defs _ _).mono (fun r h => ⟨fun c => (h c).2.2.2.2.2, sem_eq_zero_of_no_sems (by decide) r.2⟩)
    (Cert.Reference12Ideal.Value.run m g)

theorem quiet_Reference12Ideal : Cert.quiescent_Reference12Ideal := by
  intro m g _
  exact (θ_run Cert.Reference12Ideal.defs _ _).mono (fun r h => ⟨fun c => (h c).2.2.2.2.2, sem_eq_zero_of_no_sems (by decide) r.2⟩)
    (Cert.Reference12Ideal.Value.run m g)

theorem quiet_Reference13Ideal : Cert.quiescent_Reference13Ideal := by
  intro m g _
  exact (θ_run Cert.Reference13Ideal.defs _ _).mono (fun r h => ⟨fun c => (h c).2.2.2.2, sem_eq_zero_of_no_sems (by decide) r.2⟩)
    (Cert.Reference13Ideal.Value.run m g)

set_option maxHeartbeats 3200000 in
theorem algebraic13 : Cert.algebraic_Kernel13Ideal_Reference13Ideal := by
  pair_intro
  · run_from Cert.Kernel13Ideal.Gen.run_main m g
  · run_from Cert.Reference13Ideal.Value.run m' g'
    · exact (Cert.Kernel13Ideal.Own.final4 m c).symm
    · exact (Cert.Kernel13Ideal.Own.final5 m c).symm
    · exact (Cert.Kernel13Ideal.Own.final6 m c).symm
    · exact (Cert.Kernel13Ideal.Own.final7 m c).symm

theorem quiet_Reference14Ideal : Cert.quiescent_Reference14Ideal := by
  intro m g _
  exact (θ_run Cert.Reference14Ideal.defs _ _).mono (fun r h => ⟨fun c => (h c).2, sem_eq_zero_of_no_sems (by decide) r.2⟩)
    (Cert.Reference14Ideal.Value.run m g)

set_option maxHeartbeats 3200000 in
theorem algebraic14 : Cert.algebraic_Kernel14Ideal_Reference14Ideal := by
  pair_intro
  · run_from Cert.Kernel14Ideal.Gen.run_main m g
  · run_from Cert.Reference14Ideal.Value.run m' g'
    · exact (Cert.Kernel14Ideal.Own.final m c).symm

theorem quiet_Reference15Ideal : Cert.quiescent_Reference15Ideal := by
  intro m g _
  exact (θ_run Cert.Reference15Ideal.defs _ _).mono (fun r h => ⟨fun c => (h c).2.2.2.2, sem_eq_zero_of_no_sems (by decide) r.2⟩)
    (Cert.Reference15Ideal.Value.run m g)

theorem quiet_Reference16Ideal : Cert.quiescent_Reference16Ideal := by
  intro m g _
  exact (θ_run Cert.Reference16Ideal.defs _ _).mono (fun r h => ⟨fun c => (h c).2.2.2.2, sem_eq_zero_of_no_sems (by decide) r.2⟩)
    (Cert.Reference16Ideal.Value.run m g)

set_option maxHeartbeats 3200000 in
theorem algebraic16 : Cert.algebraic_Kernel16Ideal_Reference16Ideal := by
  pair_intro
  · run_from Cert.Kernel16Ideal.Gen.run_main m g
  · run_from Cert.Reference16Ideal.Value.run m' g'
    all_goals obtain ⟨e0, e1, e2, e3, e4, e5, e6, e7, e8⟩ := hagree c
    · exact (Cert.Kernel16Ideal.Own.final5 m c e5 e3 e4).symm
    · iterate 4 first | rw [← e0] | rw [← e1] | rw [← e2] | rw [← e3] | rw [← e4] | rw [← e6] | skip
      exact (Cert.Kernel16Ideal.Own.final6 m c e0 e1 e2 e6 e3 e4).symm
    · exact (Cert.Kernel16Ideal.Own.final7 m c e1 e7 e3 e4).symm
    · exact (Cert.Kernel16Ideal.Own.final8 m c e2 e8 e3 e4).symm

theorem quiet_Reference17Ideal : Cert.quiescent_Reference17Ideal := by
  intro m g _
  exact (θ_run Cert.Reference17Ideal.defs _ _).mono (fun r h => ⟨fun c => (h c).2.2.2.2, sem_eq_zero_of_no_sems (by decide) r.2⟩)
    (Cert.Reference17Ideal.Value.run m g)

set_option maxHeartbeats 3200000 in
theorem algebraic17 : Cert.algebraic_Kernel17Ideal_Reference17Ideal := by
  pair_intro
  · run_from Cert.Kernel17Ideal.Gen.run_main m g
  · run_from Cert.Reference17Ideal.Value.run m' g'
    all_goals obtain ⟨e0, e1, e2, e3, e4, e5, e6, e7, e8⟩ := hagree c
    · exact (Cert.Kernel17Ideal.Own.final5 m c e5 e3 e4).symm
    · iterate 4 first | rw [← e0] | rw [← e1] | rw [← e2] | rw [← e3] | rw [← e4] | rw [← e6] | skip
      exact (Cert.Kernel17Ideal.Own.final6 m c e0 e1 e2 e6 e3 e4).symm
    · exact (Cert.Kernel17Ideal.Own.final7 m c e1 e7 e3 e4).symm
    · exact (Cert.Kernel17Ideal.Own.final8 m c e2 e8 e3 e4).symm

theorem quiet_Reference18Ideal : Cert.quiescent_Reference18Ideal := by
  intro m g _
  exact (θ_run Cert.Reference18Ideal.defs _ _).mono (fun r h => ⟨fun c => (h c).2.2.2.2, sem_eq_zero_of_no_sems (by decide) r.2⟩)
    (Cert.Reference18Ideal.Value.run m g)

set_option maxHeartbeats 3200000 in
theorem algebraic18 : Cert.algebraic_Kernel18Ideal_Reference18Ideal := by
  pair_intro
  · run_from Cert.Kernel18Ideal.Gen.run_main m g
  · run_from Cert.Reference18Ideal.Value.run m' g'
    all_goals obtain ⟨e0, e1, e2, e3, e4, e5, e6, e7, e8⟩ := hagree c
    · exact (Cert.Kernel18Ideal.Own.final5 m c e5 e3 e4).symm
    · iterate 4 first | rw [← e0] | rw [← e1] | rw [← e2] | rw [← e3] | rw [← e4] | rw [← e6] | skip
      exact (Cert.Kernel18Ideal.Own.final6 m c e0 e1 e2 e6 e3 e4).symm
    · exact (Cert.Kernel18Ideal.Own.final7 m c e1 e7 e3 e4).symm
    · exact (Cert.Kernel18Ideal.Own.final8 m c e2 e8 e3 e4).symm

theorem quiet_Reference19Ideal : Cert.quiescent_Reference19Ideal := by
  intro m g _
  exact (θ_run Cert.Reference19Ideal.defs _ _).mono (fun r h => ⟨fun c => (h c).2.2.2.2, sem_eq_zero_of_no_sems (by decide) r.2⟩)
    (Cert.Reference19Ideal.Value.run m g)

set_option maxHeartbeats 3200000 in
theorem algebraic19 : Cert.algebraic_Kernel19Ideal_Reference19Ideal := by
  pair_intro
  · run_from Cert.Kernel19Ideal.Gen.run_main m g
  · run_from Cert.Reference19Ideal.Value.run m' g'
    all_goals obtain ⟨e0, e1, e2, e3, e4, e5, e6, e7, e8⟩ := hagree c
    · exact (Cert.Kernel19Ideal.Own.final5 m c e5 e3 e4).symm
    · iterate 4 first | rw [← e0] | rw [← e1] | rw [← e2] | rw [← e3] | rw [← e4] | rw [← e6] | skip
      exact (Cert.Kernel19Ideal.Own.final6 m c e0 e1 e2 e6 e3 e4).symm
    · exact (Cert.Kernel19Ideal.Own.final7 m c e1 e7 e3 e4).symm
    · exact (Cert.Kernel19Ideal.Own.final8 m c e2 e8 e3 e4).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Pre_finite11.Gen.facts, Cert.Pre_finite12.Gen.facts,
    fun m ρ _ => Cert.Kernel.Gen.frame m ρ,
    fun m ρ _ => Cert.KernelIdeal.Gen.frame m ρ,
    quiet_ReferenceIdeal,
    fun m ρ _ => Cert.Kernel2.Gen.frame m ρ,
    fun m ρ _ => Cert.Kernel2Ideal.Gen.frame m ρ,
    quiet_Reference2Ideal,
    fun m ρ _ => Cert.Kernel3.Gen.frame m ρ,
    fun m ρ _ => Cert.Kernel3Ideal.Gen.frame m ρ,
    quiet_Reference3Ideal,
    fun m ρ _ => Cert.Kernel4.Gen.frame m ρ,
    fun m ρ _ => Cert.Kernel4Ideal.Gen.frame m ρ,
    quiet_Reference4Ideal,
    fun m ρ _ => Cert.Kernel5.Gen.frame m ρ,
    fun m ρ _ => Cert.Kernel5Ideal.Gen.frame m ρ,
    quiet_Reference5Ideal,
    fun m ρ _ => Cert.Kernel6.Gen.frame m ρ,
    fun m ρ _ => Cert.Kernel6Ideal.Gen.frame m ρ,
    quiet_Reference6Ideal,
    fun m ρ _ => Cert.Kernel7.Gen.frame m ρ,
    fun m ρ _ => Cert.Kernel7Ideal.Gen.frame m ρ,
    quiet_Reference7Ideal,
    fun m ρ _ => Cert.Kernel8.Gen.frame m ρ,
    fun m ρ _ => Cert.Kernel8Ideal.Gen.frame m ρ,
    quiet_Reference8Ideal,
    fun m ρ _ => Cert.Kernel9.Gen.frame m ρ,
    fun m ρ _ => Cert.Kernel9Ideal.Gen.frame m ρ,
    quiet_Reference9Ideal,
    fun m ρ _ => Cert.Kernel10.Gen.frame m ρ,
    fun m ρ _ => Cert.Kernel10Ideal.Gen.frame m ρ,
    quiet_Reference10Ideal,
    fun m ρ _ => Cert.Kernel11.Gen.frame m ρ,
    fun m ρ _ => Cert.Kernel11Ideal.Gen.frame m ρ,
    fun m ρ _ => Cert.Kernel11Ideal.Gen.frame m ρ,
    quiet_Reference11Ideal,
    quiet_Reference11Ideal_pre_finite11,
    fun m ρ _ => Cert.Own.AttnBits.frame m ρ,
    fun m ρ _ => Cert.Own.Attn.frame m ρ,
    fun m ρ _ => Cert.Own.Attn.frame m ρ,
    quiet_Reference12Ideal,
    quiet_Reference12Ideal_pre_finite12,
    fun m ρ _ => Cert.Kernel13.Gen.frame m ρ,
    fun m ρ _ => Cert.Kernel13Ideal.Gen.frame m ρ,
    quiet_Reference13Ideal,
    fun m ρ _ => Cert.Kernel14.Gen.frame m ρ,
    fun m ρ _ => Cert.Kernel14Ideal.Gen.frame m ρ,
    quiet_Reference14Ideal,
    fun m ρ _ => Cert.Kernel15.Gen.frame m ρ,
    fun m ρ _ => Cert.Kernel15Ideal.Gen.frame m ρ,
    quiet_Reference15Ideal,
    fun m ρ _ => Cert.Kernel16.Gen.frame m ρ,
    fun m ρ _ => Cert.Kernel16Ideal.Gen.frame m ρ,
    quiet_Reference16Ideal,
    fun m ρ _ => Cert.Kernel17.Gen.frame m ρ,
    fun m ρ _ => Cert.Kernel17Ideal.Gen.frame m ρ,
    quiet_Reference17Ideal,
    fun m ρ _ => Cert.Kernel18.Gen.frame m ρ,
    fun m ρ _ => Cert.Kernel18Ideal.Gen.frame m ρ,
    quiet_Reference18Ideal,
    fun m ρ _ => Cert.Kernel19.Gen.frame m ρ,
    fun m ρ _ => Cert.Kernel19Ideal.Gen.frame m ρ,
    quiet_Reference19Ideal,
    trivial,
    algebraic1,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    IdealRules.named_const.statement Cert.Kernel12Ideal.κ "mask" .f32 0xF149F2CA#32 ⊥ rfl,
    Cert.Own.AttnPair.algebraic,
    trivial,
    algebraic13,
    trivial,
    algebraic14,
    trivial,
    Cert.Own.AdamSmallPair.algebraic,
    trivial,
    algebraic16,
    trivial,
    algebraic17,
    trivial,
    algebraic18,
    trivial,
    algebraic19⟩

end Cert.Proof

end
